-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S4096x32 : Shape := ⟨2, ![4096, 32]⟩
abbrev S100000x128 : Shape := ⟨2, ![100000, 128]⟩
abbrev S_ : Shape := ⟨0, ![]⟩

class Facts : Prop where
  bcast_S_S4096x32 : S_.BroadcastsInDim S4096x32 (![] : Fin 0 → Fin S4096x32.rank)

variable [Facts]

def fn {F : FTy → Type} [FloatOps F] (main_arg0 : IVec S4096x32 32) (main_arg1 : IVec S4096x32 32) (main_arg2 : FVec F S100000x128 .f32) : IVec S4096x32 1 :=
  let main_c : IVec S_ 32 := constantI S_ 32 0#32
  let main_v0 : IVec S4096x32 32 := broadcastInDim S4096x32 ![] bcast_S_S4096x32 main_c
  let main_v1 : IVec S4096x32 1 := cmpi .sge main_arg0 main_v0
  let main_c_0 : IVec S_ 32 := constantI S_ 32 100000#32
  let main_v2 : IVec S4096x32 32 := broadcastInDim S4096x32 ![] bcast_S_S4096x32 main_c_0
  let main_v3 : IVec S4096x32 1 := cmpi .slt main_arg0 main_v2
  let main_v4 : IVec S4096x32 1 := andi main_v1 main_v3
  let main_c_1 : IVec S_ 32 := constantI S_ 32 0#32
  let main_v5 : IVec S4096x32 32 := broadcastInDim S4096x32 ![] bcast_S_S4096x32 main_c_1
  let main_v6 : IVec S4096x32 1 := cmpi .sge main_arg1 main_v5
  let main_v7 : IVec S4096x32 1 := andi main_v4 main_v6
  let main_c_2 : IVec S_ 32 := constantI S_ 32 1#32
  let main_v8 : IVec S4096x32 32 := broadcastInDim S4096x32 ![] bcast_S_S4096x32 main_c_2
  let main_v9 : IVec S4096x32 1 := cmpi .sle main_arg1 main_v8
  let main_v10 : IVec S4096x32 1 := andi main_v7 main_v9
  main_v10
-- ==== Pre_in_range_finite.lean ====
abbrev S4096x32 : Shape := ⟨2, ![4096, 32]⟩
abbrev S100000x128 : Shape := ⟨2, ![100000, 128]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : IVec S4096x32 32) (main_arg1 : IVec S4096x32 32) (main_arg2 : FVec F S100000x128 .f32) : IVec S_ 1 :=
  let main_c : IVec S_ 32 := constantI S_ 32 0#32
  let main_v0 : IVec S4096x32 32 := broadcastInDim S4096x32 ![] bcast_S_S4096x32 main_c
  let main_v1 : IVec S4096x32 1 := cmpi .sge main_arg0 main_v0
  let main_c_0 : IVec S_ 32 := constantI S_ 32 100000#32
  let main_v2 : IVec S4096x32 32 := broadcastInDim S4096x32 ![] bcast_S_S4096x32 main_c_0
  let main_v3 : IVec S4096x32 1 := cmpi .slt main_arg0 main_v2
  let main_v4 : IVec S4096x32 1 := andi main_v1 main_v3
  let main_c_1 : IVec S_ 32 := constantI S_ 32 0#32
  let main_v5 : IVec S4096x32 32 := broadcastInDim S4096x32 ![] bcast_S_S4096x32 main_c_1
  let main_v6 : IVec S4096x32 1 := cmpi .sge main_arg1 main_v5
  let main_v7 : IVec S4096x32 1 := andi main_v4 main_v6
  let main_c_2 : IVec S_ 32 := constantI S_ 32 1#32
  let main_v8 : IVec S4096x32 32 := broadcastInDim S4096x32 ![] bcast_S_S4096x32 main_c_2
  let main_v9 : IVec S4096x32 1 := cmpi .sle main_arg1 main_v8
  let main_v10 : IVec S4096x32 1 := andi main_v7 main_v9
  let main_c_3 : IVec S_ 1 := constantI S_ 1 1#1
  let main_v11 : IVec S_ 1 := (fun x v => Host.reduce IntOp.andi x v reducesTo_S4096x32_S_d0_1 h_S_) main_v10 main_c_3
  let main_v12 : FVec F S100000x128 .f32 := Host.absf main_arg2
  let main_cst : FVec F S_ .f32 := constant S_ .f32 0x7F800000#32
  let main_v13 : FVec F S100000x128 .f32 := broadcastInDim S100000x128 ![] bcast_S_S100000x128 main_cst
  let main_v14 : IVec S100000x128 1 := cmpf .olt main_v12 main_v13
  let main_c_4 : IVec S_ 1 := constantI S_ 1 1#1
  let main_v15 : IVec S_ 1 := (fun x v => Host.reduce IntOp.andi x v reducesTo_S100000x128_S_d0_1 h_S_) main_v14 main_c_4
  let main_v16 : IVec S_ 1 := andi main_v11 main_v15
  main_v16
-- ==== Kernel.lean ====
abbrev S4096x32 : Shape := ⟨2, ![4096, 32]⟩
abbrev S100000x128 : Shape := ⟨2, ![100000, 128]⟩
abbrev S32x32x128 : Shape := ⟨3, ![32, 32, 128]⟩
abbrev S32x4096 : Shape := ⟨2, ![32, 4096]⟩
abbrev S4096x128 : Shape := ⟨2, ![4096, 128]⟩
abbrev S32x128 : Shape := ⟨2, ![32, 128]⟩
abbrev S4096 : Shape := ⟨1, ![4096]⟩
abbrev S2x128x128 : Shape := ⟨3, ![2, 128, 128]⟩
abbrev S1x128 : Shape := ⟨2, ![1, 128]⟩
abbrev S128x128 : Shape := ⟨2, ![128, 128]⟩
abbrev S128 : Shape := ⟨1, ![128]⟩
abbrev S_ : Shape := ⟨0, ![]⟩
abbrev S1x32x128 : Shape := ⟨3, ![1, 32, 128]⟩
abbrev S1x4096 : Shape := ⟨2, ![1, 4096]⟩
abbrev S16 : Shape := ⟨1, ![16]⟩
abbrev S1x16 : Shape := ⟨2, ![1, 16]⟩
abbrev S1x128x128 : Shape := ⟨3, ![1, 128, 128]⟩
abbrev S1x1x16 : Shape := ⟨3, ![1, 1, 16]⟩

abbrev nBuf : Table → Nat
  | .hbm => 6
  | .local .scVector .vmem => 6
  | _ => 0

abbrev bufTy : (tb : Table) → Fin (nBuf tb) → BufTy
  | .hbm, ⟨0, _⟩ => ⟨S4096x32, .i32⟩
  | .hbm, ⟨1, _⟩ => ⟨S4096x32, .i32⟩
  | .hbm, ⟨2, _⟩ => ⟨S100000x128, .f32⟩
  | .hbm, ⟨3, _⟩ => ⟨S32x32x128, .i32⟩
  | .hbm, ⟨4, _⟩ => ⟨S32x4096, .i32⟩
  | .hbm, ⟨5, _⟩ => ⟨S4096x128, .f32⟩
  | .local .scVector .vmem, ⟨0, _⟩ => ⟨S32x128, .i32⟩
  | .local .scVector .vmem, ⟨1, _⟩ => ⟨S4096, .i32⟩
  | .local .scVector .vmem, ⟨2, _⟩ => ⟨S2x128x128, .f32⟩
  | .local .scVector .vmem, ⟨3, _⟩ => ⟨S1x128, .f32⟩
  | .local .scVector .vmem, ⟨4, _⟩ => ⟨S128x128, .f32⟩
  | .local .scVector .vmem, ⟨5, _⟩ => ⟨S128, .f32⟩
  | _, _ => ⟨S4096x32, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg2_scv : Ref sig .scVector := ⟨.hbm, 2, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_586_r0 : BitVec 32 := 0#32
  let c0_i32_587_r0 : BitVec 32 := 0#32
  ![v1.toNat, 0, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_586_r1 : BitVec 32 := 0#32
  ![v1.toNat, 0]
@[reducible] def k0_t1_loop : Scf.Loop 32 :=
  let c0_i32_0 : BitVec 32 := 0#32
  let c256_i32 : BitVec 32 := 256#32
  let v2 : BitVec 32 := Scalar.addi c0_i32_0 c256_i32
  let c1_i32 : BitVec 32 := 1#32
  ⟨c0_i32_0, v2, c1_i32⟩
def k0_off3 (k0_t1 : Fin k0_t1_loop.trips) : Fin 1 → Nat :=
  let c0_i32_0 : BitVec 32 := 0#32
  let c1_i32 : BitVec 32 := 1#32
  let arg14 : BitVec 32 := Scf.iv c0_i32_0 c1_i32 k0_t1
  let c16_i32_600 : BitVec 32 := 16#32
  let v386 : BitVec 32 := Scalar.muli arg14 c16_i32_600
  let v387 : Index := Scalar.indexCast v386
  ![v387.toNat]
def k0_off4 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let c0_i32_587 : BitVec 32 := 0#32
  let v359 : BitVec 1 := Scalar.cmpi .sgt arg14 c0_i32_587
  let v360 : BitVec 32 := Scalar.extui v359
  let c0_i32_588 : BitVec 32 := 0#32
  let v361 : BitVec 1 := Scalar.cmpi .slt arg14 c0_i32_588
  let v362 : BitVec 32 := Scalar.extui v361
  let v363 : BitVec 32 := Scalar.subi v360 v362
  let c8_i32_586 : BitVec 32 := 8#32
  let c0_i32_589 : BitVec 32 := 0#32
  let v364 : BitVec 1 := Scalar.cmpi .sgt c8_i32_586 c0_i32_589
  let v365 : BitVec 32 := Scalar.extui v364
  let c0_i32_590 : BitVec 32 := 0#32
  let v366 : BitVec 1 := Scalar.cmpi .slt c8_i32_586 c0_i32_590
  let v367 : BitVec 32 := Scalar.extui v366
  let v368 : BitVec 32 := Scalar.subi v365 v367
  let v369 : BitVec 1 := Scalar.cmpi .ne v363 v368
  let v370 : BitVec 32 := Scalar.remsi arg14 c8_i32_586
  let c0_i32_591 : BitVec 32 := 0#32
  let v371 : BitVec 1 := Scalar.cmpi .ne v370 c0_i32_591
  let v372 : BitVec 1 := Scalar.andi v369 v371
  let v358 : BitVec 32 := Scalar.divsi arg14 c8_i32_586
  let c1_i32_592 : BitVec 32 := 1#32
  let v373 : BitVec 32 := Scalar.subi v358 c1_i32_592
  let v374 : BitVec 32 := Scalar.select v372 v373 v358
  let v389 : Index := Scalar.indexCast v374
  let c8_i32_593 : BitVec 32 := 8#32
  let c0_i32_594 : BitVec 32 := 0#32
  let v375 : BitVec 1 := Scalar.cmpi .eq c8_i32_593 c0_i32_594
  let c1_i32_595 : BitVec 32 := 1#32
  let v376 : BitVec 32 := Scalar.select v375 c1_i32_595 c8_i32_593
  let v377 : BitVec 32 := Scalar.remsi arg14 v376
  let c0_i32_597 : BitVec 32 := 0#32
  let v379 : BitVec 1 := Scalar.cmpi .slt v377 c0_i32_597
  let c0_i32_598 : BitVec 32 := 0#32
  let v380 : BitVec 1 := Scalar.cmpi .slt v376 c0_i32_598
  let v381 : BitVec 1 := Scalar.xori v379 v380
  let c0_i32_596 : BitVec 32 := 0#32
  let v378 : BitVec 1 := Scalar.cmpi .ne v377 c0_i32_596
  let v382 : BitVec 1 := Scalar.andi v381 v378
  let v383 : BitVec 32 := Scalar.addi v377 v376
  let v384 : BitVec 32 := Scalar.select v382 v383 v377
  let c16_i32_599 : BitVec 32 := 16#32
  let v385 : BitVec 32 := Scalar.muli v384 c16_i32_599
  let v390 : Index := Scalar.indexCast v385
  ![v389.toNat, v390.toNat]
@[reducible] def k0_t2_loop : Scf.Loop 32 :=
  let c0_i32_3 : BitVec 32 := 0#32
  let c8_i32 : BitVec 32 := 8#32
  let v4 : BitVec 32 := Scalar.addi c0_i32_3 c8_i32
  let c1_i32_4 : BitVec 32 := 1#32
  ⟨c0_i32_3, v4, c1_i32_4⟩
@[reducible] def k0_t3_loop : Scf.Loop 32 :=
  let c0_i32_587 : BitVec 32 := 0#32
  let c32_i32 : BitVec 32 := 32#32
  let v359 : BitVec 32 := Scalar.addi c0_i32_587 c32_i32
  let c1_i32_588 : BitVec 32 := 1#32
  ⟨c0_i32_587, v359, c1_i32_588⟩

def k0_chk1 (v370 : IVec S16 32) : Prop :=
  (∀ a x, ((![v370] : Fin 1 → IVec S16 32) a x).toNat < S4096.size a)
theorem k0_idx1_inb : ∀ (v370 : IVec S16 32) (k0_hw1 : k0_chk1 v370), ∀ a x, ((![v370] : Fin 1 → IVec S16 32) a x).toNat < S4096.size a := fun v370 k0_hw1 => k0_hw1
def k0_off5 (k0_t2 : Fin k0_t2_loop.trips) : Fin 1 → Nat :=
  let c0_i32_3 : BitVec 32 := 0#32
  let c1_i32_4 : BitVec 32 := 1#32
  let arg14 : BitVec 32 := Scf.iv c0_i32_3 c1_i32_4 k0_t2
  let c16_i32_590 : BitVec 32 := 16#32
  let v362 : BitVec 32 := Scalar.muli arg14 c16_i32_590
  let v363 : Index := Scalar.indexCast v362
  ![v363.toNat]
@[reducible] def k0_t4_loop : Scf.Loop 32 :=
  let c0_i32_28 : BitVec 32 := 0#32
  let c4_i32 : BitVec 32 := 4#32
  let v20 : BitVec 32 := Scalar.addi c0_i32_28 c4_i32
  let c1_i32_29 : BitVec 32 := 1#32
  ⟨c0_i32_28, v20, c1_i32_29⟩
@[reducible] def k0_t5_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off6 (k0_t4 : Fin k0_t4_loop.trips) (k0_t5 : Fin k0_t5_loop.trips) : Fin 3 → Nat :=
  let c0_i32_617 : BitVec 32 := 0#32
  let v435 : Index := Scalar.indexCast c0_i32_617
  let c0_i32_28 : BitVec 32 := 0#32
  let c1_i32_29 : BitVec 32 := 1#32
  let arg14 : BitVec 32 := Scf.iv c0_i32_28 c1_i32_29 k0_t4
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t5
  let v434 : BitVec 32 := Scalar.addi v358 arg15
  let v436 : Index := Scalar.indexCast v434
  let c0_618 : Index := 0#32
  ![0, v436.toNat, 0]
def k0_off7 (k0_t4 : Fin k0_t4_loop.trips) (k0_t5 : Fin k0_t5_loop.trips) : Fin 3 → Nat :=
  let c0_i32_619 : BitVec 32 := 0#32
  let v439 : Index := Scalar.indexCast c0_i32_619
  let c0_i32_28 : BitVec 32 := 0#32
  let c1_i32_29 : BitVec 32 := 1#32
  let arg14 : BitVec 32 := Scf.iv c0_i32_28 c1_i32_29 k0_t4
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t5
  let v434 : BitVec 32 := Scalar.addi v358 arg15
  let v440 : Index := Scalar.indexCast v434
  let c16_620 : Index := 16#32
  ![0, v440.toNat, 16]
def k0_off8 (k0_t4 : Fin k0_t4_loop.trips) (k0_t5 : Fin k0_t5_loop.trips) : Fin 3 → Nat :=
  let c0_i32_621 : BitVec 32 := 0#32
  let v443 : Index := Scalar.indexCast c0_i32_621
  let c0_i32_28 : BitVec 32 := 0#32
  let c1_i32_29 : BitVec 32 := 1#32
  let arg14 : BitVec 32 := Scf.iv c0_i32_28 c1_i32_29 k0_t4
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t5
  let v434 : BitVec 32 := Scalar.addi v358 arg15
  let v444 : Index := Scalar.indexCast v434
  let c32_622 : Index := 32#32
  ![0, v444.toNat, 32]
def k0_off9 (k0_t4 : Fin k0_t4_loop.trips) (k0_t5 : Fin k0_t5_loop.trips) : Fin 3 → Nat :=
  let c0_i32_623 : BitVec 32 := 0#32
  let v447 : Index := Scalar.indexCast c0_i32_623
  let c0_i32_28 : BitVec 32 := 0#32
  let c1_i32_29 : BitVec 32 := 1#32
  let arg14 : BitVec 32 := Scf.iv c0_i32_28 c1_i32_29 k0_t4
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t5
  let v434 : BitVec 32 := Scalar.addi v358 arg15
  let v448 : Index := Scalar.indexCast v434
  let c48_624 : Index := 48#32
  ![0, v448.toNat, 48]
def k0_off10 (k0_t4 : Fin k0_t4_loop.trips) (k0_t5 : Fin k0_t5_loop.trips) : Fin 3 → Nat :=
  let c0_i32_625 : BitVec 32 := 0#32
  let v451 : Index := Scalar.indexCast c0_i32_625
  let c0_i32_28 : BitVec 32 := 0#32
  let c1_i32_29 : BitVec 32 := 1#32
  let arg14 : BitVec 32 := Scf.iv c0_i32_28 c1_i32_29 k0_t4
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t5
  let v434 : BitVec 32 := Scalar.addi v358 arg15
  let v452 : Index := Scalar.indexCast v434
  let c64_626 : Index := 64#32
  ![0, v452.toNat, 64]
def k0_off11 (k0_t4 : Fin k0_t4_loop.trips) (k0_t5 : Fin k0_t5_loop.trips) : Fin 3 → Nat :=
  let c0_i32_627 : BitVec 32 := 0#32
  let v455 : Index := Scalar.indexCast c0_i32_627
  let c0_i32_28 : BitVec 32 := 0#32
  let c1_i32_29 : BitVec 32 := 1#32
  let arg14 : BitVec 32 := Scf.iv c0_i32_28 c1_i32_29 k0_t4
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t5
  let v434 : BitVec 32 := Scalar.addi v358 arg15
  let v456 : Index := Scalar.indexCast v434
  let c80_628 : Index := 80#32
  ![0, v456.toNat, 80]
def k0_off12 (k0_t4 : Fin k0_t4_loop.trips) (k0_t5 : Fin k0_t5_loop.trips) : Fin 3 → Nat :=
  let c0_i32_629 : BitVec 32 := 0#32
  let v459 : Index := Scalar.indexCast c0_i32_629
  let c0_i32_28 : BitVec 32 := 0#32
  let c1_i32_29 : BitVec 32 := 1#32
  let arg14 : BitVec 32 := Scf.iv c0_i32_28 c1_i32_29 k0_t4
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t5
  let v434 : BitVec 32 := Scalar.addi v358 arg15
  let v460 : Index := Scalar.indexCast v434
  let c96_630 : Index := 96#32
  ![0, v460.toNat, 96]
def k0_off13 (k0_t4 : Fin k0_t4_loop.trips) (k0_t5 : Fin k0_t5_loop.trips) : Fin 3 → Nat :=
  let c0_i32_631 : BitVec 32 := 0#32
  let v463 : Index := Scalar.indexCast c0_i32_631
  let c0_i32_28 : BitVec 32 := 0#32
  let c1_i32_29 : BitVec 32 := 1#32
  let arg14 : BitVec 32 := Scf.iv c0_i32_28 c1_i32_29 k0_t4
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t5
  let v434 : BitVec 32 := Scalar.addi v358 arg15
  let v464 : Index := Scalar.indexCast v434
  let c112_632 : Index := 112#32
  ![0, v464.toNat, 112]

def k0_chk2 (v370 : IVec S16 32) : Prop :=
  (∀ a x, ((![v370] : Fin 1 → IVec S16 32) a x).toNat < S128.size a)
theorem k0_idx2_inb : ∀ (v370 : IVec S16 32) (k0_hw2 : k0_chk2 v370), ∀ a x, ((![v370] : Fin 1 → IVec S16 32) a x).toNat < S128.size a := fun v370 k0_hw2 => k0_hw2
def k0_off14 (k0_t4 : Fin k0_t4_loop.trips) : Fin 2 → Nat :=
  let c0_i32_597 : BitVec 32 := 0#32
  let c0_i32_28 : BitVec 32 := 0#32
  let c1_i32_29 : BitVec 32 := 1#32
  let arg14 : BitVec 32 := Scf.iv c0_i32_28 c1_i32_29 k0_t4
  let v369 : BitVec 32 := Scalar.addi c0_i32_597 arg14
  let v383 : Index := Scalar.indexCast v369
  let c0_602 : Index := 0#32
  ![v383.toNat, 0]
def k0_off15 (k0_t4 : Fin k0_t4_loop.trips) : Fin 2 → Nat :=
  let c0_i32_597 : BitVec 32 := 0#32
  let c0_i32_28 : BitVec 32 := 0#32
  let c1_i32_29 : BitVec 32 := 1#32
  let arg14 : BitVec 32 := Scf.iv c0_i32_28 c1_i32_29 k0_t4
  let v369 : BitVec 32 := Scalar.addi c0_i32_597 arg14
  let v390 : Index := Scalar.indexCast v369
  let c16_604 : Index := 16#32
  ![v390.toNat, 16]
def k0_off16 (k0_t4 : Fin k0_t4_loop.trips) : Fin 2 → Nat :=
  let c0_i32_597 : BitVec 32 := 0#32
  let c0_i32_28 : BitVec 32 := 0#32
  let c1_i32_29 : BitVec 32 := 1#32
  let arg14 : BitVec 32 := Scf.iv c0_i32_28 c1_i32_29 k0_t4
  let v369 : BitVec 32 := Scalar.addi c0_i32_597 arg14
  let v397 : Index := Scalar.indexCast v369
  let c32_606 : Index := 32#32
  ![v397.toNat, 32]
def k0_off17 (k0_t4 : Fin k0_t4_loop.trips) : Fin 2 → Nat :=
  let c0_i32_597 : BitVec 32 := 0#32
  let c0_i32_28 : BitVec 32 := 0#32
  let c1_i32_29 : BitVec 32 := 1#32
  let arg14 : BitVec 32 := Scf.iv c0_i32_28 c1_i32_29 k0_t4
  let v369 : BitVec 32 := Scalar.addi c0_i32_597 arg14
  let v404 : Index := Scalar.indexCast v369
  let c48_608 : Index := 48#32
  ![v404.toNat, 48]
def k0_off18 (k0_t4 : Fin k0_t4_loop.trips) : Fin 2 → Nat :=
  let c0_i32_597 : BitVec 32 := 0#32
  let c0_i32_28 : BitVec 32 := 0#32
  let c1_i32_29 : BitVec 32 := 1#32
  let arg14 : BitVec 32 := Scf.iv c0_i32_28 c1_i32_29 k0_t4
  let v369 : BitVec 32 := Scalar.addi c0_i32_597 arg14
  let v411 : Index := Scalar.indexCast v369
  let c64_610 : Index := 64#32
  ![v411.toNat, 64]
def k0_off19 (k0_t4 : Fin k0_t4_loop.trips) : Fin 2 → Nat :=
  let c0_i32_597 : BitVec 32 := 0#32
  let c0_i32_28 : BitVec 32 := 0#32
  let c1_i32_29 : BitVec 32 := 1#32
  let arg14 : BitVec 32 := Scf.iv c0_i32_28 c1_i32_29 k0_t4
  let v369 : BitVec 32 := Scalar.addi c0_i32_597 arg14
  let v418 : Index := Scalar.indexCast v369
  let c80_612 : Index := 80#32
  ![v418.toNat, 80]
def k0_off20 (k0_t4 : Fin k0_t4_loop.trips) : Fin 2 → Nat :=
  let c0_i32_597 : BitVec 32 := 0#32
  let c0_i32_28 : BitVec 32 := 0#32
  let c1_i32_29 : BitVec 32 := 1#32
  let arg14 : BitVec 32 := Scf.iv c0_i32_28 c1_i32_29 k0_t4
  let v369 : BitVec 32 := Scalar.addi c0_i32_597 arg14
  let v425 : Index := Scalar.indexCast v369
  let c96_614 : Index := 96#32
  ![v425.toNat, 96]
def k0_off21 (k0_t4 : Fin k0_t4_loop.trips) : Fin 2 → Nat :=
  let c0_i32_597 : BitVec 32 := 0#32
  let c0_i32_28 : BitVec 32 := 0#32
  let c1_i32_29 : BitVec 32 := 1#32
  let arg14 : BitVec 32 := Scf.iv c0_i32_28 c1_i32_29 k0_t4
  let v369 : BitVec 32 := Scalar.addi c0_i32_597 arg14
  let v432 : Index := Scalar.indexCast v369
  let c112_616 : Index := 112#32
  ![v432.toNat, 112]
@[reducible] def k0_t6_loop : Scf.Loop 32 :=
  let c0_i32_46 : BitVec 32 := 0#32
  let c4_i32_47 : BitVec 32 := 4#32
  let v31 : BitVec 32 := Scalar.addi c0_i32_46 c4_i32_47
  let c1_i32_48 : BitVec 32 := 1#32
  ⟨c0_i32_46, v31, c1_i32_48⟩
@[reducible] def k0_t7_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off22 (k0_t6 : Fin k0_t6_loop.trips) (k0_t7 : Fin k0_t7_loop.trips) : Fin 3 → Nat :=
  let c1_i32_617 : BitVec 32 := 1#32
  let v435 : Index := Scalar.indexCast c1_i32_617
  let c0_i32_46 : BitVec 32 := 0#32
  let c1_i32_48 : BitVec 32 := 1#32
  let arg14 : BitVec 32 := Scf.iv c0_i32_46 c1_i32_48 k0_t6
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t7
  let v434 : BitVec 32 := Scalar.addi v358 arg15
  let v436 : Index := Scalar.indexCast v434
  let c0_618 : Index := 0#32
  ![1, v436.toNat, 0]
def k0_off23 (k0_t6 : Fin k0_t6_loop.trips) (k0_t7 : Fin k0_t7_loop.trips) : Fin 3 → Nat :=
  let c1_i32_619 : BitVec 32 := 1#32
  let v439 : Index := Scalar.indexCast c1_i32_619
  let c0_i32_46 : BitVec 32 := 0#32
  let c1_i32_48 : BitVec 32 := 1#32
  let arg14 : BitVec 32 := Scf.iv c0_i32_46 c1_i32_48 k0_t6
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t7
  let v434 : BitVec 32 := Scalar.addi v358 arg15
  let v440 : Index := Scalar.indexCast v434
  let c16_620 : Index := 16#32
  ![1, v440.toNat, 16]
def k0_off24 (k0_t6 : Fin k0_t6_loop.trips) (k0_t7 : Fin k0_t7_loop.trips) : Fin 3 → Nat :=
  let c1_i32_621 : BitVec 32 := 1#32
  let v443 : Index := Scalar.indexCast c1_i32_621
  let c0_i32_46 : BitVec 32 := 0#32
  let c1_i32_48 : BitVec 32 := 1#32
  let arg14 : BitVec 32 := Scf.iv c0_i32_46 c1_i32_48 k0_t6
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t7
  let v434 : BitVec 32 := Scalar.addi v358 arg15
  let v444 : Index := Scalar.indexCast v434
  let c32_622 : Index := 32#32
  ![1, v444.toNat, 32]
def k0_off25 (k0_t6 : Fin k0_t6_loop.trips) (k0_t7 : Fin k0_t7_loop.trips) : Fin 3 → Nat :=
  let c1_i32_623 : BitVec 32 := 1#32
  let v447 : Index := Scalar.indexCast c1_i32_623
  let c0_i32_46 : BitVec 32 := 0#32
  let c1_i32_48 : BitVec 32 := 1#32
  let arg14 : BitVec 32 := Scf.iv c0_i32_46 c1_i32_48 k0_t6
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t7
  let v434 : BitVec 32 := Scalar.addi v358 arg15
  let v448 : Index := Scalar.indexCast v434
  let c48_624 : Index := 48#32
  ![1, v448.toNat, 48]
def k0_off26 (k0_t6 : Fin k0_t6_loop.trips) (k0_t7 : Fin k0_t7_loop.trips) : Fin 3 → Nat :=
  let c1_i32_625 : BitVec 32 := 1#32
  let v451 : Index := Scalar.indexCast c1_i32_625
  let c0_i32_46 : BitVec 32 := 0#32
  let c1_i32_48 : BitVec 32 := 1#32
  let arg14 : BitVec 32 := Scf.iv c0_i32_46 c1_i32_48 k0_t6
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t7
  let v434 : BitVec 32 := Scalar.addi v358 arg15
  let v452 : Index := Scalar.indexCast v434
  let c64_626 : Index := 64#32
  ![1, v452.toNat, 64]
def k0_off27 (k0_t6 : Fin k0_t6_loop.trips) (k0_t7 : Fin k0_t7_loop.trips) : Fin 3 → Nat :=
  let c1_i32_627 : BitVec 32 := 1#32
  let v455 : Index := Scalar.indexCast c1_i32_627
  let c0_i32_46 : BitVec 32 := 0#32
  let c1_i32_48 : BitVec 32 := 1#32
  let arg14 : BitVec 32 := Scf.iv c0_i32_46 c1_i32_48 k0_t6
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t7
  let v434 : BitVec 32 := Scalar.addi v358 arg15
  let v456 : Index := Scalar.indexCast v434
  let c80_628 : Index := 80#32
  ![1, v456.toNat, 80]
def k0_off28 (k0_t6 : Fin k0_t6_loop.trips) (k0_t7 : Fin k0_t7_loop.trips) : Fin 3 → Nat :=
  let c1_i32_629 : BitVec 32 := 1#32
  let v459 : Index := Scalar.indexCast c1_i32_629
  let c0_i32_46 : BitVec 32 := 0#32
  let c1_i32_48 : BitVec 32 := 1#32
  let arg14 : BitVec 32 := Scf.iv c0_i32_46 c1_i32_48 k0_t6
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t7
  let v434 : BitVec 32 := Scalar.addi v358 arg15
  let v460 : Index := Scalar.indexCast v434
  let c96_630 : Index := 96#32
  ![1, v460.toNat, 96]
def k0_off29 (k0_t6 : Fin k0_t6_loop.trips) (k0_t7 : Fin k0_t7_loop.trips) : Fin 3 → Nat :=
  let c1_i32_631 : BitVec 32 := 1#32
  let v463 : Index := Scalar.indexCast c1_i32_631
  let c0_i32_46 : BitVec 32 := 0#32
  let c1_i32_48 : BitVec 32 := 1#32
  let arg14 : BitVec 32 := Scf.iv c0_i32_46 c1_i32_48 k0_t6
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t7
  let v434 : BitVec 32 := Scalar.addi v358 arg15
  let v464 : Index := Scalar.indexCast v434
  let c112_632 : Index := 112#32
  ![1, v464.toNat, 112]

def k0_chk3 (v370 : IVec S16 32) : Prop :=
  (∀ a x, ((![v370] : Fin 1 → IVec S16 32) a x).toNat < S128.size a)
theorem k0_idx3_inb : ∀ (v370 : IVec S16 32) (k0_hw3 : k0_chk3 v370), ∀ a x, ((![v370] : Fin 1 → IVec S16 32) a x).toNat < S128.size a := fun v370 k0_hw3 => k0_hw3
def k0_off30 (k0_t6 : Fin k0_t6_loop.trips) : Fin 2 → Nat :=
  let c4_i32_597 : BitVec 32 := 4#32
  let c0_i32_46 : BitVec 32 := 0#32
  let c1_i32_48 : BitVec 32 := 1#32
  let arg14 : BitVec 32 := Scf.iv c0_i32_46 c1_i32_48 k0_t6
  let v369 : BitVec 32 := Scalar.addi c4_i32_597 arg14
  let v383 : Index := Scalar.indexCast v369
  let c0_602 : Index := 0#32
  ![v383.toNat, 0]
def k0_off31 (k0_t6 : Fin k0_t6_loop.trips) : Fin 2 → Nat :=
  let c4_i32_597 : BitVec 32 := 4#32
  let c0_i32_46 : BitVec 32 := 0#32
  let c1_i32_48 : BitVec 32 := 1#32
  let arg14 : BitVec 32 := Scf.iv c0_i32_46 c1_i32_48 k0_t6
  let v369 : BitVec 32 := Scalar.addi c4_i32_597 arg14
  let v390 : Index := Scalar.indexCast v369
  let c16_604 : Index := 16#32
  ![v390.toNat, 16]
def k0_off32 (k0_t6 : Fin k0_t6_loop.trips) : Fin 2 → Nat :=
  let c4_i32_597 : BitVec 32 := 4#32
  let c0_i32_46 : BitVec 32 := 0#32
  let c1_i32_48 : BitVec 32 := 1#32
  let arg14 : BitVec 32 := Scf.iv c0_i32_46 c1_i32_48 k0_t6
  let v369 : BitVec 32 := Scalar.addi c4_i32_597 arg14
  let v397 : Index := Scalar.indexCast v369
  let c32_606 : Index := 32#32
  ![v397.toNat, 32]
def k0_off33 (k0_t6 : Fin k0_t6_loop.trips) : Fin 2 → Nat :=
  let c4_i32_597 : BitVec 32 := 4#32
  let c0_i32_46 : BitVec 32 := 0#32
  let c1_i32_48 : BitVec 32 := 1#32
  let arg14 : BitVec 32 := Scf.iv c0_i32_46 c1_i32_48 k0_t6
  let v369 : BitVec 32 := Scalar.addi c4_i32_597 arg14
  let v404 : Index := Scalar.indexCast v369
  let c48_608 : Index := 48#32
  ![v404.toNat, 48]
def k0_off34 (k0_t6 : Fin k0_t6_loop.trips) : Fin 2 → Nat :=
  let c4_i32_597 : BitVec 32 := 4#32
  let c0_i32_46 : BitVec 32 := 0#32
  let c1_i32_48 : BitVec 32 := 1#32
  let arg14 : BitVec 32 := Scf.iv c0_i32_46 c1_i32_48 k0_t6
  let v369 : BitVec 32 := Scalar.addi c4_i32_597 arg14
  let v411 : Index := Scalar.indexCast v369
  let c64_610 : Index := 64#32
  ![v411.toNat, 64]
def k0_off35 (k0_t6 : Fin k0_t6_loop.trips) : Fin 2 → Nat :=
  let c4_i32_597 : BitVec 32 := 4#32
  let c0_i32_46 : BitVec 32 := 0#32
  let c1_i32_48 : BitVec 32 := 1#32
  let arg14 : BitVec 32 := Scf.iv c0_i32_46 c1_i32_48 k0_t6
  let v369 : BitVec 32 := Scalar.addi c4_i32_597 arg14
  let v418 : Index := Scalar.indexCast v369
  let c80_612 : Index := 80#32
  ![v418.toNat, 80]
def k0_off36 (k0_t6 : Fin k0_t6_loop.trips) : Fin 2 → Nat :=
  let c4_i32_597 : BitVec 32 := 4#32
  let c0_i32_46 : BitVec 32 := 0#32
  let c1_i32_48 : BitVec 32 := 1#32
  let arg14 : BitVec 32 := Scf.iv c0_i32_46 c1_i32_48 k0_t6
  let v369 : BitVec 32 := Scalar.addi c4_i32_597 arg14
  let v425 : Index := Scalar.indexCast v369
  let c96_614 : Index := 96#32
  ![v425.toNat, 96]
def k0_off37 (k0_t6 : Fin k0_t6_loop.trips) : Fin 2 → Nat :=
  let c4_i32_597 : BitVec 32 := 4#32
  let c0_i32_46 : BitVec 32 := 0#32
  let c1_i32_48 : BitVec 32 := 1#32
  let arg14 : BitVec 32 := Scf.iv c0_i32_46 c1_i32_48 k0_t6
  let v369 : BitVec 32 := Scalar.addi c4_i32_597 arg14
  let v432 : Index := Scalar.indexCast v369
  let c112_616 : Index := 112#32
  ![v432.toNat, 112]
@[reducible] def k0_t8_loop : Scf.Loop 32 :=
  let c0_i32_64 : BitVec 32 := 0#32
  let c4_i32_65 : BitVec 32 := 4#32
  let v42 : BitVec 32 := Scalar.addi c0_i32_64 c4_i32_65
  let c1_i32_66 : BitVec 32 := 1#32
  ⟨c0_i32_64, v42, c1_i32_66⟩
@[reducible] def k0_t9_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off38 (k0_t8 : Fin k0_t8_loop.trips) (k0_t9 : Fin k0_t9_loop.trips) : Fin 3 → Nat :=
  let c0_i32_617 : BitVec 32 := 0#32
  let v435 : Index := Scalar.indexCast c0_i32_617
  let c0_i32_64 : BitVec 32 := 0#32
  let c1_i32_66 : BitVec 32 := 1#32
  let arg14 : BitVec 32 := Scf.iv c0_i32_64 c1_i32_66 k0_t8
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t9
  let v434 : BitVec 32 := Scalar.addi v358 arg15
  let v436 : Index := Scalar.indexCast v434
  let c0_618 : Index := 0#32
  ![0, v436.toNat, 0]
def k0_off39 (k0_t8 : Fin k0_t8_loop.trips) (k0_t9 : Fin k0_t9_loop.trips) : Fin 3 → Nat :=
  let c0_i32_619 : BitVec 32 := 0#32
  let v439 : Index := Scalar.indexCast c0_i32_619
  let c0_i32_64 : BitVec 32 := 0#32
  let c1_i32_66 : BitVec 32 := 1#32
  let arg14 : BitVec 32 := Scf.iv c0_i32_64 c1_i32_66 k0_t8
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t9
  let v434 : BitVec 32 := Scalar.addi v358 arg15
  let v440 : Index := Scalar.indexCast v434
  let c16_620 : Index := 16#32
  ![0, v440.toNat, 16]
def k0_off40 (k0_t8 : Fin k0_t8_loop.trips) (k0_t9 : Fin k0_t9_loop.trips) : Fin 3 → Nat :=
  let c0_i32_621 : BitVec 32 := 0#32
  let v443 : Index := Scalar.indexCast c0_i32_621
  let c0_i32_64 : BitVec 32 := 0#32
  let c1_i32_66 : BitVec 32 := 1#32
  let arg14 : BitVec 32 := Scf.iv c0_i32_64 c1_i32_66 k0_t8
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t9
  let v434 : BitVec 32 := Scalar.addi v358 arg15
  let v444 : Index := Scalar.indexCast v434
  let c32_622 : Index := 32#32
  ![0, v444.toNat, 32]
def k0_off41 (k0_t8 : Fin k0_t8_loop.trips) (k0_t9 : Fin k0_t9_loop.trips) : Fin 3 → Nat :=
  let c0_i32_623 : BitVec 32 := 0#32
  let v447 : Index := Scalar.indexCast c0_i32_623
  let c0_i32_64 : BitVec 32 := 0#32
  let c1_i32_66 : BitVec 32 := 1#32
  let arg14 : BitVec 32 := Scf.iv c0_i32_64 c1_i32_66 k0_t8
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t9
  let v434 : BitVec 32 := Scalar.addi v358 arg15
  let v448 : Index := Scalar.indexCast v434
  let c48_624 : Index := 48#32
  ![0, v448.toNat, 48]
def k0_off42 (k0_t8 : Fin k0_t8_loop.trips) (k0_t9 : Fin k0_t9_loop.trips) : Fin 3 → Nat :=
  let c0_i32_625 : BitVec 32 := 0#32
  let v451 : Index := Scalar.indexCast c0_i32_625
  let c0_i32_64 : BitVec 32 := 0#32
  let c1_i32_66 : BitVec 32 := 1#32
  let arg14 : BitVec 32 := Scf.iv c0_i32_64 c1_i32_66 k0_t8
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t9
  let v434 : BitVec 32 := Scalar.addi v358 arg15
  let v452 : Index := Scalar.indexCast v434
  let c64_626 : Index := 64#32
  ![0, v452.toNat, 64]
def k0_off43 (k0_t8 : Fin k0_t8_loop.trips) (k0_t9 : Fin k0_t9_loop.trips) : Fin 3 → Nat :=
  let c0_i32_627 : BitVec 32 := 0#32
  let v455 : Index := Scalar.indexCast c0_i32_627
  let c0_i32_64 : BitVec 32 := 0#32
  let c1_i32_66 : BitVec 32 := 1#32
  let arg14 : BitVec 32 := Scf.iv c0_i32_64 c1_i32_66 k0_t8
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t9
  let v434 : BitVec 32 := Scalar.addi v358 arg15
  let v456 : Index := Scalar.indexCast v434
  let c80_628 : Index := 80#32
  ![0, v456.toNat, 80]
def k0_off44 (k0_t8 : Fin k0_t8_loop.trips) (k0_t9 : Fin k0_t9_loop.trips) : Fin 3 → Nat :=
  let c0_i32_629 : BitVec 32 := 0#32
  let v459 : Index := Scalar.indexCast c0_i32_629
  let c0_i32_64 : BitVec 32 := 0#32
  let c1_i32_66 : BitVec 32 := 1#32
  let arg14 : BitVec 32 := Scf.iv c0_i32_64 c1_i32_66 k0_t8
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t9
  let v434 : BitVec 32 := Scalar.addi v358 arg15
  let v460 : Index := Scalar.indexCast v434
  let c96_630 : Index := 96#32
  ![0, v460.toNat, 96]
def k0_off45 (k0_t8 : Fin k0_t8_loop.trips) (k0_t9 : Fin k0_t9_loop.trips) : Fin 3 → Nat :=
  let c0_i32_631 : BitVec 32 := 0#32
  let v463 : Index := Scalar.indexCast c0_i32_631
  let c0_i32_64 : BitVec 32 := 0#32
  let c1_i32_66 : BitVec 32 := 1#32
  let arg14 : BitVec 32 := Scf.iv c0_i32_64 c1_i32_66 k0_t8
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t9
  let v434 : BitVec 32 := Scalar.addi v358 arg15
  let v464 : Index := Scalar.indexCast v434
  let c112_632 : Index := 112#32
  ![0, v464.toNat, 112]

def k0_chk4 (v370 : IVec S16 32) : Prop :=
  (∀ a x, ((![v370] : Fin 1 → IVec S16 32) a x).toNat < S128.size a)
theorem k0_idx4_inb : ∀ (v370 : IVec S16 32) (k0_hw4 : k0_chk4 v370), ∀ a x, ((![v370] : Fin 1 → IVec S16 32) a x).toNat < S128.size a := fun v370 k0_hw4 => k0_hw4
def k0_off46 (k0_t8 : Fin k0_t8_loop.trips) : Fin 2 → Nat :=
  let c8_i32_597 : BitVec 32 := 8#32
  let c0_i32_64 : BitVec 32 := 0#32
  let c1_i32_66 : BitVec 32 := 1#32
  let arg14 : BitVec 32 := Scf.iv c0_i32_64 c1_i32_66 k0_t8
  let v369 : BitVec 32 := Scalar.addi c8_i32_597 arg14
  let v383 : Index := Scalar.indexCast v369
  let c0_602 : Index := 0#32
  ![v383.toNat, 0]
def k0_off47 (k0_t8 : Fin k0_t8_loop.trips) : Fin 2 → Nat :=
  let c8_i32_597 : BitVec 32 := 8#32
  let c0_i32_64 : BitVec 32 := 0#32
  let c1_i32_66 : BitVec 32 := 1#32
  let arg14 : BitVec 32 := Scf.iv c0_i32_64 c1_i32_66 k0_t8
  let v369 : BitVec 32 := Scalar.addi c8_i32_597 arg14
  let v390 : Index := Scalar.indexCast v369
  let c16_604 : Index := 16#32
  ![v390.toNat, 16]
def k0_off48 (k0_t8 : Fin k0_t8_loop.trips) : Fin 2 → Nat :=
  let c8_i32_597 : BitVec 32 := 8#32
  let c0_i32_64 : BitVec 32 := 0#32
  let c1_i32_66 : BitVec 32 := 1#32
  let arg14 : BitVec 32 := Scf.iv c0_i32_64 c1_i32_66 k0_t8
  let v369 : BitVec 32 := Scalar.addi c8_i32_597 arg14
  let v397 : Index := Scalar.indexCast v369
  let c32_606 : Index := 32#32
  ![v397.toNat, 32]
def k0_off49 (k0_t8 : Fin k0_t8_loop.trips) : Fin 2 → Nat :=
  let c8_i32_597 : BitVec 32 := 8#32
  let c0_i32_64 : BitVec 32 := 0#32
  let c1_i32_66 : BitVec 32 := 1#32
  let arg14 : BitVec 32 := Scf.iv c0_i32_64 c1_i32_66 k0_t8
  let v369 : BitVec 32 := Scalar.addi c8_i32_597 arg14
  let v404 : Index := Scalar.indexCast v369
  let c48_608 : Index := 48#32
  ![v404.toNat, 48]
def k0_off50 (k0_t8 : Fin k0_t8_loop.trips) : Fin 2 → Nat :=
  let c8_i32_597 : BitVec 32 := 8#32
  let c0_i32_64 : BitVec 32 := 0#32
  let c1_i32_66 : BitVec 32 := 1#32
  let arg14 : BitVec 32 := Scf.iv c0_i32_64 c1_i32_66 k0_t8
  let v369 : BitVec 32 := Scalar.addi c8_i32_597 arg14
  let v411 : Index := Scalar.indexCast v369
  let c64_610 : Index := 64#32
  ![v411.toNat, 64]
def k0_off51 (k0_t8 : Fin k0_t8_loop.trips) : Fin 2 → Nat :=
  let c8_i32_597 : BitVec 32 := 8#32
  let c0_i32_64 : BitVec 32 := 0#32
  let c1_i32_66 : BitVec 32 := 1#32
  let arg14 : BitVec 32 := Scf.iv c0_i32_64 c1_i32_66 k0_t8
  let v369 : BitVec 32 := Scalar.addi c8_i32_597 arg14
  let v418 : Index := Scalar.indexCast v369
  let c80_612 : Index := 80#32
  ![v418.toNat, 80]
def k0_off52 (k0_t8 : Fin k0_t8_loop.trips) : Fin 2 → Nat :=
  let c8_i32_597 : BitVec 32 := 8#32
  let c0_i32_64 : BitVec 32 := 0#32
  let c1_i32_66 : BitVec 32 := 1#32
  let arg14 : BitVec 32 := Scf.iv c0_i32_64 c1_i32_66 k0_t8
  let v369 : BitVec 32 := Scalar.addi c8_i32_597 arg14
  let v425 : Index := Scalar.indexCast v369
  let c96_614 : Index := 96#32
  ![v425.toNat, 96]
def k0_off53 (k0_t8 : Fin k0_t8_loop.trips) : Fin 2 → Nat :=
  let c8_i32_597 : BitVec 32 := 8#32
  let c0_i32_64 : BitVec 32 := 0#32
  let c1_i32_66 : BitVec 32 := 1#32
  let arg14 : BitVec 32 := Scf.iv c0_i32_64 c1_i32_66 k0_t8
  let v369 : BitVec 32 := Scalar.addi c8_i32_597 arg14
  let v432 : Index := Scalar.indexCast v369
  let c112_616 : Index := 112#32
  ![v432.toNat, 112]
@[reducible] def k0_t10_loop : Scf.Loop 32 :=
  let c0_i32_83 : BitVec 32 := 0#32
  let c4_i32_84 : BitVec 32 := 4#32
  let v53 : BitVec 32 := Scalar.addi c0_i32_83 c4_i32_84
  let c1_i32_85 : BitVec 32 := 1#32
  ⟨c0_i32_83, v53, c1_i32_85⟩
@[reducible] def k0_t11_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off54 (k0_t10 : Fin k0_t10_loop.trips) (k0_t11 : Fin k0_t11_loop.trips) : Fin 3 → Nat :=
  let c1_i32_617 : BitVec 32 := 1#32
  let v435 : Index := Scalar.indexCast c1_i32_617
  let c0_i32_83 : BitVec 32 := 0#32
  let c1_i32_85 : BitVec 32 := 1#32
  let arg14 : BitVec 32 := Scf.iv c0_i32_83 c1_i32_85 k0_t10
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t11
  let v434 : BitVec 32 := Scalar.addi v358 arg15
  let v436 : Index := Scalar.indexCast v434
  let c0_618 : Index := 0#32
  ![1, v436.toNat, 0]
def k0_off55 (k0_t10 : Fin k0_t10_loop.trips) (k0_t11 : Fin k0_t11_loop.trips) : Fin 3 → Nat :=
  let c1_i32_619 : BitVec 32 := 1#32
  let v439 : Index := Scalar.indexCast c1_i32_619
  let c0_i32_83 : BitVec 32 := 0#32
  let c1_i32_85 : BitVec 32 := 1#32
  let arg14 : BitVec 32 := Scf.iv c0_i32_83 c1_i32_85 k0_t10
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t11
  let v434 : BitVec 32 := Scalar.addi v358 arg15
  let v440 : Index := Scalar.indexCast v434
  let c16_620 : Index := 16#32
  ![1, v440.toNat, 16]
def k0_off56 (k0_t10 : Fin k0_t10_loop.trips) (k0_t11 : Fin k0_t11_loop.trips) : Fin 3 → Nat :=
  let c1_i32_621 : BitVec 32 := 1#32
  let v443 : Index := Scalar.indexCast c1_i32_621
  let c0_i32_83 : BitVec 32 := 0#32
  let c1_i32_85 : BitVec 32 := 1#32
  let arg14 : BitVec 32 := Scf.iv c0_i32_83 c1_i32_85 k0_t10
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t11
  let v434 : BitVec 32 := Scalar.addi v358 arg15
  let v444 : Index := Scalar.indexCast v434
  let c32_622 : Index := 32#32
  ![1, v444.toNat, 32]
def k0_off57 (k0_t10 : Fin k0_t10_loop.trips) (k0_t11 : Fin k0_t11_loop.trips) : Fin 3 → Nat :=
  let c1_i32_623 : BitVec 32 := 1#32
  let v447 : Index := Scalar.indexCast c1_i32_623
  let c0_i32_83 : BitVec 32 := 0#32
  let c1_i32_85 : BitVec 32 := 1#32
  let arg14 : BitVec 32 := Scf.iv c0_i32_83 c1_i32_85 k0_t10
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t11
  let v434 : BitVec 32 := Scalar.addi v358 arg15
  let v448 : Index := Scalar.indexCast v434
  let c48_624 : Index := 48#32
  ![1, v448.toNat, 48]
def k0_off58 (k0_t10 : Fin k0_t10_loop.trips) (k0_t11 : Fin k0_t11_loop.trips) : Fin 3 → Nat :=
  let c1_i32_625 : BitVec 32 := 1#32
  let v451 : Index := Scalar.indexCast c1_i32_625
  let c0_i32_83 : BitVec 32 := 0#32
  let c1_i32_85 : BitVec 32 := 1#32
  let arg14 : BitVec 32 := Scf.iv c0_i32_83 c1_i32_85 k0_t10
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t11
  let v434 : BitVec 32 := Scalar.addi v358 arg15
  let v452 : Index := Scalar.indexCast v434
  let c64_626 : Index := 64#32
  ![1, v452.toNat, 64]
def k0_off59 (k0_t10 : Fin k0_t10_loop.trips) (k0_t11 : Fin k0_t11_loop.trips) : Fin 3 → Nat :=
  let c1_i32_627 : BitVec 32 := 1#32
  let v455 : Index := Scalar.indexCast c1_i32_627
  let c0_i32_83 : BitVec 32 := 0#32
  let c1_i32_85 : BitVec 32 := 1#32
  let arg14 : BitVec 32 := Scf.iv c0_i32_83 c1_i32_85 k0_t10
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t11
  let v434 : BitVec 32 := Scalar.addi v358 arg15
  let v456 : Index := Scalar.indexCast v434
  let c80_628 : Index := 80#32
  ![1, v456.toNat, 80]
def k0_off60 (k0_t10 : Fin k0_t10_loop.trips) (k0_t11 : Fin k0_t11_loop.trips) : Fin 3 → Nat :=
  let c1_i32_629 : BitVec 32 := 1#32
  let v459 : Index := Scalar.indexCast c1_i32_629
  let c0_i32_83 : BitVec 32 := 0#32
  let c1_i32_85 : BitVec 32 := 1#32
  let arg14 : BitVec 32 := Scf.iv c0_i32_83 c1_i32_85 k0_t10
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t11
  let v434 : BitVec 32 := Scalar.addi v358 arg15
  let v460 : Index := Scalar.indexCast v434
  let c96_630 : Index := 96#32
  ![1, v460.toNat, 96]
def k0_off61 (k0_t10 : Fin k0_t10_loop.trips) (k0_t11 : Fin k0_t11_loop.trips) : Fin 3 → Nat :=
  let c1_i32_631 : BitVec 32 := 1#32
  let v463 : Index := Scalar.indexCast c1_i32_631
  let c0_i32_83 : BitVec 32 := 0#32
  let c1_i32_85 : BitVec 32 := 1#32
  let arg14 : BitVec 32 := Scf.iv c0_i32_83 c1_i32_85 k0_t10
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t11
  let v434 : BitVec 32 := Scalar.addi v358 arg15
  let v464 : Index := Scalar.indexCast v434
  let c112_632 : Index := 112#32
  ![1, v464.toNat, 112]

def k0_chk5 (v370 : IVec S16 32) : Prop :=
  (∀ a x, ((![v370] : Fin 1 → IVec S16 32) a x).toNat < S128.size a)
theorem k0_idx5_inb : ∀ (v370 : IVec S16 32) (k0_hw5 : k0_chk5 v370), ∀ a x, ((![v370] : Fin 1 → IVec S16 32) a x).toNat < S128.size a := fun v370 k0_hw5 => k0_hw5
def k0_off62 (k0_t10 : Fin k0_t10_loop.trips) : Fin 2 → Nat :=
  let c12_i32_597 : BitVec 32 := 12#32
  let c0_i32_83 : BitVec 32 := 0#32
  let c1_i32_85 : BitVec 32 := 1#32
  let arg14 : BitVec 32 := Scf.iv c0_i32_83 c1_i32_85 k0_t10
  let v369 : BitVec 32 := Scalar.addi c12_i32_597 arg14
  let v383 : Index := Scalar.indexCast v369
  let c0_602 : Index := 0#32
  ![v383.toNat, 0]
def k0_off63 (k0_t10 : Fin k0_t10_loop.trips) : Fin 2 → Nat :=
  let c12_i32_597 : BitVec 32 := 12#32
  let c0_i32_83 : BitVec 32 := 0#32
  let c1_i32_85 : BitVec 32 := 1#32
  let arg14 : BitVec 32 := Scf.iv c0_i32_83 c1_i32_85 k0_t10
  let v369 : BitVec 32 := Scalar.addi c12_i32_597 arg14
  let v390 : Index := Scalar.indexCast v369
  let c16_604 : Index := 16#32
  ![v390.toNat, 16]
def k0_off64 (k0_t10 : Fin k0_t10_loop.trips) : Fin 2 → Nat :=
  let c12_i32_597 : BitVec 32 := 12#32
  let c0_i32_83 : BitVec 32 := 0#32
  let c1_i32_85 : BitVec 32 := 1#32
  let arg14 : BitVec 32 := Scf.iv c0_i32_83 c1_i32_85 k0_t10
  let v369 : BitVec 32 := Scalar.addi c12_i32_597 arg14
  let v397 : Index := Scalar.indexCast v369
  let c32_606 : Index := 32#32
  ![v397.toNat, 32]
def k0_off65 (k0_t10 : Fin k0_t10_loop.trips) : Fin 2 → Nat :=
  let c12_i32_597 : BitVec 32 := 12#32
  let c0_i32_83 : BitVec 32 := 0#32
  let c1_i32_85 : BitVec 32 := 1#32
  let arg14 : BitVec 32 := Scf.iv c0_i32_83 c1_i32_85 k0_t10
  let v369 : BitVec 32 := Scalar.addi c12_i32_597 arg14
  let v404 : Index := Scalar.indexCast v369
  let c48_608 : Index := 48#32
  ![v404.toNat, 48]
def k0_off66 (k0_t10 : Fin k0_t10_loop.trips) : Fin 2 → Nat :=
  let c12_i32_597 : BitVec 32 := 12#32
  let c0_i32_83 : BitVec 32 := 0#32
  let c1_i32_85 : BitVec 32 := 1#32
  let arg14 : BitVec 32 := Scf.iv c0_i32_83 c1_i32_85 k0_t10
  let v369 : BitVec 32 := Scalar.addi c12_i32_597 arg14
  let v411 : Index := Scalar.indexCast v369
  let c64_610 : Index := 64#32
  ![v411.toNat, 64]
def k0_off67 (k0_t10 : Fin k0_t10_loop.trips) : Fin 2 → Nat :=
  let c12_i32_597 : BitVec 32 := 12#32
  let c0_i32_83 : BitVec 32 := 0#32
  let c1_i32_85 : BitVec 32 := 1#32
  let arg14 : BitVec 32 := Scf.iv c0_i32_83 c1_i32_85 k0_t10
  let v369 : BitVec 32 := Scalar.addi c12_i32_597 arg14
  let v418 : Index := Scalar.indexCast v369
  let c80_612 : Index := 80#32
  ![v418.toNat, 80]
def k0_off68 (k0_t10 : Fin k0_t10_loop.trips) : Fin 2 → Nat :=
  let c12_i32_597 : BitVec 32 := 12#32
  let c0_i32_83 : BitVec 32 := 0#32
  let c1_i32_85 : BitVec 32 := 1#32
  let arg14 : BitVec 32 := Scf.iv c0_i32_83 c1_i32_85 k0_t10
  let v369 : BitVec 32 := Scalar.addi c12_i32_597 arg14
  let v425 : Index := Scalar.indexCast v369
  let c96_614 : Index := 96#32
  ![v425.toNat, 96]
def k0_off69 (k0_t10 : Fin k0_t10_loop.trips) : Fin 2 → Nat :=
  let c12_i32_597 : BitVec 32 := 12#32
  let c0_i32_83 : BitVec 32 := 0#32
  let c1_i32_85 : BitVec 32 := 1#32
  let arg14 : BitVec 32 := Scf.iv c0_i32_83 c1_i32_85 k0_t10
  let v369 : BitVec 32 := Scalar.addi c12_i32_597 arg14
  let v432 : Index := Scalar.indexCast v369
  let c112_616 : Index := 112#32
  ![v432.toNat, 112]
@[reducible] def k0_t12_loop : Scf.Loop 32 :=
  let c0_i32_101 : BitVec 32 := 0#32
  let c4_i32_102 : BitVec 32 := 4#32
  let v64 : BitVec 32 := Scalar.addi c0_i32_101 c4_i32_102
  let c1_i32_103 : BitVec 32 := 1#32
  ⟨c0_i32_101, v64, c1_i32_103⟩
@[reducible] def k0_t13_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off70 (k0_t12 : Fin k0_t12_loop.trips) (k0_t13 : Fin k0_t13_loop.trips) : Fin 3 → Nat :=
  let c0_i32_617 : BitVec 32 := 0#32
  let v435 : Index := Scalar.indexCast c0_i32_617
  let c0_i32_101 : BitVec 32 := 0#32
  let c1_i32_103 : BitVec 32 := 1#32
  let arg14 : BitVec 32 := Scf.iv c0_i32_101 c1_i32_103 k0_t12
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t13
  let v434 : BitVec 32 := Scalar.addi v358 arg15
  let v436 : Index := Scalar.indexCast v434
  let c0_618 : Index := 0#32
  ![0, v436.toNat, 0]
def k0_off71 (k0_t12 : Fin k0_t12_loop.trips) (k0_t13 : Fin k0_t13_loop.trips) : Fin 3 → Nat :=
  let c0_i32_619 : BitVec 32 := 0#32
  let v439 : Index := Scalar.indexCast c0_i32_619
  let c0_i32_101 : BitVec 32 := 0#32
  let c1_i32_103 : BitVec 32 := 1#32
  let arg14 : BitVec 32 := Scf.iv c0_i32_101 c1_i32_103 k0_t12
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t13
  let v434 : BitVec 32 := Scalar.addi v358 arg15
  let v440 : Index := Scalar.indexCast v434
  let c16_620 : Index := 16#32
  ![0, v440.toNat, 16]
def k0_off72 (k0_t12 : Fin k0_t12_loop.trips) (k0_t13 : Fin k0_t13_loop.trips) : Fin 3 → Nat :=
  let c0_i32_621 : BitVec 32 := 0#32
  let v443 : Index := Scalar.indexCast c0_i32_621
  let c0_i32_101 : BitVec 32 := 0#32
  let c1_i32_103 : BitVec 32 := 1#32
  let arg14 : BitVec 32 := Scf.iv c0_i32_101 c1_i32_103 k0_t12
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t13
  let v434 : BitVec 32 := Scalar.addi v358 arg15
  let v444 : Index := Scalar.indexCast v434
  let c32_622 : Index := 32#32
  ![0, v444.toNat, 32]
def k0_off73 (k0_t12 : Fin k0_t12_loop.trips) (k0_t13 : Fin k0_t13_loop.trips) : Fin 3 → Nat :=
  let c0_i32_623 : BitVec 32 := 0#32
  let v447 : Index := Scalar.indexCast c0_i32_623
  let c0_i32_101 : BitVec 32 := 0#32
  let c1_i32_103 : BitVec 32 := 1#32
  let arg14 : BitVec 32 := Scf.iv c0_i32_101 c1_i32_103 k0_t12
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t13
  let v434 : BitVec 32 := Scalar.addi v358 arg15
  let v448 : Index := Scalar.indexCast v434
  let c48_624 : Index := 48#32
  ![0, v448.toNat, 48]
def k0_off74 (k0_t12 : Fin k0_t12_loop.trips) (k0_t13 : Fin k0_t13_loop.trips) : Fin 3 → Nat :=
  let c0_i32_625 : BitVec 32 := 0#32
  let v451 : Index := Scalar.indexCast c0_i32_625
  let c0_i32_101 : BitVec 32 := 0#32
  let c1_i32_103 : BitVec 32 := 1#32
  let arg14 : BitVec 32 := Scf.iv c0_i32_101 c1_i32_103 k0_t12
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t13
  let v434 : BitVec 32 := Scalar.addi v358 arg15
  let v452 : Index := Scalar.indexCast v434
  let c64_626 : Index := 64#32
  ![0, v452.toNat, 64]
def k0_off75 (k0_t12 : Fin k0_t12_loop.trips) (k0_t13 : Fin k0_t13_loop.trips) : Fin 3 → Nat :=
  let c0_i32_627 : BitVec 32 := 0#32
  let v455 : Index := Scalar.indexCast c0_i32_627
  let c0_i32_101 : BitVec 32 := 0#32
  let c1_i32_103 : BitVec 32 := 1#32
  let arg14 : BitVec 32 := Scf.iv c0_i32_101 c1_i32_103 k0_t12
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t13
  let v434 : BitVec 32 := Scalar.addi v358 arg15
  let v456 : Index := Scalar.indexCast v434
  let c80_628 : Index := 80#32
  ![0, v456.toNat, 80]
def k0_off76 (k0_t12 : Fin k0_t12_loop.trips) (k0_t13 : Fin k0_t13_loop.trips) : Fin 3 → Nat :=
  let c0_i32_629 : BitVec 32 := 0#32
  let v459 : Index := Scalar.indexCast c0_i32_629
  let c0_i32_101 : BitVec 32 := 0#32
  let c1_i32_103 : BitVec 32 := 1#32
  let arg14 : BitVec 32 := Scf.iv c0_i32_101 c1_i32_103 k0_t12
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t13
  let v434 : BitVec 32 := Scalar.addi v358 arg15
  let v460 : Index := Scalar.indexCast v434
  let c96_630 : Index := 96#32
  ![0, v460.toNat, 96]
def k0_off77 (k0_t12 : Fin k0_t12_loop.trips) (k0_t13 : Fin k0_t13_loop.trips) : Fin 3 → Nat :=
  let c0_i32_631 : BitVec 32 := 0#32
  let v463 : Index := Scalar.indexCast c0_i32_631
  let c0_i32_101 : BitVec 32 := 0#32
  let c1_i32_103 : BitVec 32 := 1#32
  let arg14 : BitVec 32 := Scf.iv c0_i32_101 c1_i32_103 k0_t12
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t13
  let v434 : BitVec 32 := Scalar.addi v358 arg15
  let v464 : Index := Scalar.indexCast v434
  let c112_632 : Index := 112#32
  ![0, v464.toNat, 112]

def k0_chk6 (v370 : IVec S16 32) : Prop :=
  (∀ a x, ((![v370] : Fin 1 → IVec S16 32) a x).toNat < S128.size a)
theorem k0_idx6_inb : ∀ (v370 : IVec S16 32) (k0_hw6 : k0_chk6 v370), ∀ a x, ((![v370] : Fin 1 → IVec S16 32) a x).toNat < S128.size a := fun v370 k0_hw6 => k0_hw6
def k0_off78 (k0_t12 : Fin k0_t12_loop.trips) : Fin 2 → Nat :=
  let c16_i32_597 : BitVec 32 := 16#32
  let c0_i32_101 : BitVec 32 := 0#32
  let c1_i32_103 : BitVec 32 := 1#32
  let arg14 : BitVec 32 := Scf.iv c0_i32_101 c1_i32_103 k0_t12
  let v369 : BitVec 32 := Scalar.addi c16_i32_597 arg14
  let v383 : Index := Scalar.indexCast v369
  let c0_602 : Index := 0#32
  ![v383.toNat, 0]
def k0_off79 (k0_t12 : Fin k0_t12_loop.trips) : Fin 2 → Nat :=
  let c16_i32_597 : BitVec 32 := 16#32
  let c0_i32_101 : BitVec 32 := 0#32
  let c1_i32_103 : BitVec 32 := 1#32
  let arg14 : BitVec 32 := Scf.iv c0_i32_101 c1_i32_103 k0_t12
  let v369 : BitVec 32 := Scalar.addi c16_i32_597 arg14
  let v390 : Index := Scalar.indexCast v369
  let c16_604 : Index := 16#32
  ![v390.toNat, 16]
def k0_off80 (k0_t12 : Fin k0_t12_loop.trips) : Fin 2 → Nat :=
  let c16_i32_597 : BitVec 32 := 16#32
  let c0_i32_101 : BitVec 32 := 0#32
  let c1_i32_103 : BitVec 32 := 1#32
  let arg14 : BitVec 32 := Scf.iv c0_i32_101 c1_i32_103 k0_t12
  let v369 : BitVec 32 := Scalar.addi c16_i32_597 arg14
  let v397 : Index := Scalar.indexCast v369
  let c32_606 : Index := 32#32
  ![v397.toNat, 32]
def k0_off81 (k0_t12 : Fin k0_t12_loop.trips) : Fin 2 → Nat :=
  let c16_i32_597 : BitVec 32 := 16#32
  let c0_i32_101 : BitVec 32 := 0#32
  let c1_i32_103 : BitVec 32 := 1#32
  let arg14 : BitVec 32 := Scf.iv c0_i32_101 c1_i32_103 k0_t12
  let v369 : BitVec 32 := Scalar.addi c16_i32_597 arg14
  let v404 : Index := Scalar.indexCast v369
  let c48_608 : Index := 48#32
  ![v404.toNat, 48]
def k0_off82 (k0_t12 : Fin k0_t12_loop.trips) : Fin 2 → Nat :=
  let c16_i32_597 : BitVec 32 := 16#32
  let c0_i32_101 : BitVec 32 := 0#32
  let c1_i32_103 : BitVec 32 := 1#32
  let arg14 : BitVec 32 := Scf.iv c0_i32_101 c1_i32_103 k0_t12
  let v369 : BitVec 32 := Scalar.addi c16_i32_597 arg14
  let v411 : Index := Scalar.indexCast v369
  let c64_610 : Index := 64#32
  ![v411.toNat, 64]
def k0_off83 (k0_t12 : Fin k0_t12_loop.trips) : Fin 2 → Nat :=
  let c16_i32_597 : BitVec 32 := 16#32
  let c0_i32_101 : BitVec 32 := 0#32
  let c1_i32_103 : BitVec 32 := 1#32
  let arg14 : BitVec 32 := Scf.iv c0_i32_101 c1_i32_103 k0_t12
  let v369 : BitVec 32 := Scalar.addi c16_i32_597 arg14
  let v418 : Index := Scalar.indexCast v369
  let c80_612 : Index := 80#32
  ![v418.toNat, 80]
def k0_off84 (k0_t12 : Fin k0_t12_loop.trips) : Fin 2 → Nat :=
  let c16_i32_597 : BitVec 32 := 16#32
  let c0_i32_101 : BitVec 32 := 0#32
  let c1_i32_103 : BitVec 32 := 1#32
  let arg14 : BitVec 32 := Scf.iv c0_i32_101 c1_i32_103 k0_t12
  let v369 : BitVec 32 := Scalar.addi c16_i32_597 arg14
  let v425 : Index := Scalar.indexCast v369
  let c96_614 : Index := 96#32
  ![v425.toNat, 96]
def k0_off85 (k0_t12 : Fin k0_t12_loop.trips) : Fin 2 → Nat :=
  let c16_i32_597 : BitVec 32 := 16#32
  let c0_i32_101 : BitVec 32 := 0#32
  let c1_i32_103 : BitVec 32 := 1#32
  let arg14 : BitVec 32 := Scf.iv c0_i32_101 c1_i32_103 k0_t12
  let v369 : BitVec 32 := Scalar.addi c16_i32_597 arg14
  let v432 : Index := Scalar.indexCast v369
  let c112_616 : Index := 112#32
  ![v432.toNat, 112]
@[reducible] def k0_t14_loop : Scf.Loop 32 :=
  let c0_i32_119 : BitVec 32 := 0#32
  let c4_i32_120 : BitVec 32 := 4#32
  let v75 : BitVec 32 := Scalar.addi c0_i32_119 c4_i32_120
  let c1_i32_121 : BitVec 32 := 1#32
  ⟨c0_i32_119, v75, c1_i32_121⟩
@[reducible] def k0_t15_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off86 (k0_t14 : Fin k0_t14_loop.trips) (k0_t15 : Fin k0_t15_loop.trips) : Fin 3 → Nat :=
  let c1_i32_617 : BitVec 32 := 1#32
  let v435 : Index := Scalar.indexCast c1_i32_617
  let c0_i32_119 : BitVec 32 := 0#32
  let c1_i32_121 : BitVec 32 := 1#32
  let arg14 : BitVec 32 := Scf.iv c0_i32_119 c1_i32_121 k0_t14
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t15
  let v434 : BitVec 32 := Scalar.addi v358 arg15
  let v436 : Index := Scalar.indexCast v434
  let c0_618 : Index := 0#32
  ![1, v436.toNat, 0]
def k0_off87 (k0_t14 : Fin k0_t14_loop.trips) (k0_t15 : Fin k0_t15_loop.trips) : Fin 3 → Nat :=
  let c1_i32_619 : BitVec 32 := 1#32
  let v439 : Index := Scalar.indexCast c1_i32_619
  let c0_i32_119 : BitVec 32 := 0#32
  let c1_i32_121 : BitVec 32 := 1#32
  let arg14 : BitVec 32 := Scf.iv c0_i32_119 c1_i32_121 k0_t14
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t15
  let v434 : BitVec 32 := Scalar.addi v358 arg15
  let v440 : Index := Scalar.indexCast v434
  let c16_620 : Index := 16#32
  ![1, v440.toNat, 16]
def k0_off88 (k0_t14 : Fin k0_t14_loop.trips) (k0_t15 : Fin k0_t15_loop.trips) : Fin 3 → Nat :=
  let c1_i32_621 : BitVec 32 := 1#32
  let v443 : Index := Scalar.indexCast c1_i32_621
  let c0_i32_119 : BitVec 32 := 0#32
  let c1_i32_121 : BitVec 32 := 1#32
  let arg14 : BitVec 32 := Scf.iv c0_i32_119 c1_i32_121 k0_t14
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t15
  let v434 : BitVec 32 := Scalar.addi v358 arg15
  let v444 : Index := Scalar.indexCast v434
  let c32_622 : Index := 32#32
  ![1, v444.toNat, 32]
def k0_off89 (k0_t14 : Fin k0_t14_loop.trips) (k0_t15 : Fin k0_t15_loop.trips) : Fin 3 → Nat :=
  let c1_i32_623 : BitVec 32 := 1#32
  let v447 : Index := Scalar.indexCast c1_i32_623
  let c0_i32_119 : BitVec 32 := 0#32
  let c1_i32_121 : BitVec 32 := 1#32
  let arg14 : BitVec 32 := Scf.iv c0_i32_119 c1_i32_121 k0_t14
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t15
  let v434 : BitVec 32 := Scalar.addi v358 arg15
  let v448 : Index := Scalar.indexCast v434
  let c48_624 : Index := 48#32
  ![1, v448.toNat, 48]
def k0_off90 (k0_t14 : Fin k0_t14_loop.trips) (k0_t15 : Fin k0_t15_loop.trips) : Fin 3 → Nat :=
  let c1_i32_625 : BitVec 32 := 1#32
  let v451 : Index := Scalar.indexCast c1_i32_625
  let c0_i32_119 : BitVec 32 := 0#32
  let c1_i32_121 : BitVec 32 := 1#32
  let arg14 : BitVec 32 := Scf.iv c0_i32_119 c1_i32_121 k0_t14
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t15
  let v434 : BitVec 32 := Scalar.addi v358 arg15
  let v452 : Index := Scalar.indexCast v434
  let c64_626 : Index := 64#32
  ![1, v452.toNat, 64]
def k0_off91 (k0_t14 : Fin k0_t14_loop.trips) (k0_t15 : Fin k0_t15_loop.trips) : Fin 3 → Nat :=
  let c1_i32_627 : BitVec 32 := 1#32
  let v455 : Index := Scalar.indexCast c1_i32_627
  let c0_i32_119 : BitVec 32 := 0#32
  let c1_i32_121 : BitVec 32 := 1#32
  let arg14 : BitVec 32 := Scf.iv c0_i32_119 c1_i32_121 k0_t14
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t15
  let v434 : BitVec 32 := Scalar.addi v358 arg15
  let v456 : Index := Scalar.indexCast v434
  let c80_628 : Index := 80#32
  ![1, v456.toNat, 80]
def k0_off92 (k0_t14 : Fin k0_t14_loop.trips) (k0_t15 : Fin k0_t15_loop.trips) : Fin 3 → Nat :=
  let c1_i32_629 : BitVec 32 := 1#32
  let v459 : Index := Scalar.indexCast c1_i32_629
  let c0_i32_119 : BitVec 32 := 0#32
  let c1_i32_121 : BitVec 32 := 1#32
  let arg14 : BitVec 32 := Scf.iv c0_i32_119 c1_i32_121 k0_t14
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t15
  let v434 : BitVec 32 := Scalar.addi v358 arg15
  let v460 : Index := Scalar.indexCast v434
  let c96_630 : Index := 96#32
  ![1, v460.toNat, 96]
def k0_off93 (k0_t14 : Fin k0_t14_loop.trips) (k0_t15 : Fin k0_t15_loop.trips) : Fin 3 → Nat :=
  let c1_i32_631 : BitVec 32 := 1#32
  let v463 : Index := Scalar.indexCast c1_i32_631
  let c0_i32_119 : BitVec 32 := 0#32
  let c1_i32_121 : BitVec 32 := 1#32
  let arg14 : BitVec 32 := Scf.iv c0_i32_119 c1_i32_121 k0_t14
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t15
  let v434 : BitVec 32 := Scalar.addi v358 arg15
  let v464 : Index := Scalar.indexCast v434
  let c112_632 : Index := 112#32
  ![1, v464.toNat, 112]

def k0_chk7 (v370 : IVec S16 32) : Prop :=
  (∀ a x, ((![v370] : Fin 1 → IVec S16 32) a x).toNat < S128.size a)
theorem k0_idx7_inb : ∀ (v370 : IVec S16 32) (k0_hw7 : k0_chk7 v370), ∀ a x, ((![v370] : Fin 1 → IVec S16 32) a x).toNat < S128.size a := fun v370 k0_hw7 => k0_hw7
def k0_off94 (k0_t14 : Fin k0_t14_loop.trips) : Fin 2 → Nat :=
  let c20_i32_597 : BitVec 32 := 20#32
  let c0_i32_119 : BitVec 32 := 0#32
  let c1_i32_121 : BitVec 32 := 1#32
  let arg14 : BitVec 32 := Scf.iv c0_i32_119 c1_i32_121 k0_t14
  let v369 : BitVec 32 := Scalar.addi c20_i32_597 arg14
  let v383 : Index := Scalar.indexCast v369
  let c0_602 : Index := 0#32
  ![v383.toNat, 0]
def k0_off95 (k0_t14 : Fin k0_t14_loop.trips) : Fin 2 → Nat :=
  let c20_i32_597 : BitVec 32 := 20#32
  let c0_i32_119 : BitVec 32 := 0#32
  let c1_i32_121 : BitVec 32 := 1#32
  let arg14 : BitVec 32 := Scf.iv c0_i32_119 c1_i32_121 k0_t14
  let v369 : BitVec 32 := Scalar.addi c20_i32_597 arg14
  let v390 : Index := Scalar.indexCast v369
  let c16_604 : Index := 16#32
  ![v390.toNat, 16]
def k0_off96 (k0_t14 : Fin k0_t14_loop.trips) : Fin 2 → Nat :=
  let c20_i32_597 : BitVec 32 := 20#32
  let c0_i32_119 : BitVec 32 := 0#32
  let c1_i32_121 : BitVec 32 := 1#32
  let arg14 : BitVec 32 := Scf.iv c0_i32_119 c1_i32_121 k0_t14
  let v369 : BitVec 32 := Scalar.addi c20_i32_597 arg14
  let v397 : Index := Scalar.indexCast v369
  let c32_606 : Index := 32#32
  ![v397.toNat, 32]
def k0_off97 (k0_t14 : Fin k0_t14_loop.trips) : Fin 2 → Nat :=
  let c20_i32_597 : BitVec 32 := 20#32
  let c0_i32_119 : BitVec 32 := 0#32
  let c1_i32_121 : BitVec 32 := 1#32
  let arg14 : BitVec 32 := Scf.iv c0_i32_119 c1_i32_121 k0_t14
  let v369 : BitVec 32 := Scalar.addi c20_i32_597 arg14
  let v404 : Index := Scalar.indexCast v369
  let c48_608 : Index := 48#32
  ![v404.toNat, 48]
def k0_off98 (k0_t14 : Fin k0_t14_loop.trips) : Fin 2 → Nat :=
  let c20_i32_597 : BitVec 32 := 20#32
  let c0_i32_119 : BitVec 32 := 0#32
  let c1_i32_121 : BitVec 32 := 1#32
  let arg14 : BitVec 32 := Scf.iv c0_i32_119 c1_i32_121 k0_t14
  let v369 : BitVec 32 := Scalar.addi c20_i32_597 arg14
  let v411 : Index := Scalar.indexCast v369
  let c64_610 : Index := 64#32
  ![v411.toNat, 64]
def k0_off99 (k0_t14 : Fin k0_t14_loop.trips) : Fin 2 → Nat :=
  let c20_i32_597 : BitVec 32 := 20#32
  let c0_i32_119 : BitVec 32 := 0#32
  let c1_i32_121 : BitVec 32 := 1#32
  let arg14 : BitVec 32 := Scf.iv c0_i32_119 c1_i32_121 k0_t14
  let v369 : BitVec 32 := Scalar.addi c20_i32_597 arg14
  let v418 : Index := Scalar.indexCast v369
  let c80_612 : Index := 80#32
  ![v418.toNat, 80]
def k0_off100 (k0_t14 : Fin k0_t14_loop.trips) : Fin 2 → Nat :=
  let c20_i32_597 : BitVec 32 := 20#32
  let c0_i32_119 : BitVec 32 := 0#32
  let c1_i32_121 : BitVec 32 := 1#32
  let arg14 : BitVec 32 := Scf.iv c0_i32_119 c1_i32_121 k0_t14
  let v369 : BitVec 32 := Scalar.addi c20_i32_597 arg14
  let v425 : Index := Scalar.indexCast v369
  let c96_614 : Index := 96#32
  ![v425.toNat, 96]
def k0_off101 (k0_t14 : Fin k0_t14_loop.trips) : Fin 2 → Nat :=
  let c20_i32_597 : BitVec 32 := 20#32
  let c0_i32_119 : BitVec 32 := 0#32
  let c1_i32_121 : BitVec 32 := 1#32
  let arg14 : BitVec 32 := Scf.iv c0_i32_119 c1_i32_121 k0_t14
  let v369 : BitVec 32 := Scalar.addi c20_i32_597 arg14
  let v432 : Index := Scalar.indexCast v369
  let c112_616 : Index := 112#32
  ![v432.toNat, 112]
@[reducible] def k0_t16_loop : Scf.Loop 32 :=
  let c0_i32_137 : BitVec 32 := 0#32
  let c4_i32_138 : BitVec 32 := 4#32
  let v86 : BitVec 32 := Scalar.addi c0_i32_137 c4_i32_138
  let c1_i32_139 : BitVec 32 := 1#32
  ⟨c0_i32_137, v86, c1_i32_139⟩
@[reducible] def k0_t17_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off102 (k0_t16 : Fin k0_t16_loop.trips) (k0_t17 : Fin k0_t17_loop.trips) : Fin 3 → Nat :=
  let c0_i32_617 : BitVec 32 := 0#32
  let v435 : Index := Scalar.indexCast c0_i32_617
  let c0_i32_137 : BitVec 32 := 0#32
  let c1_i32_139 : BitVec 32 := 1#32
  let arg14 : BitVec 32 := Scf.iv c0_i32_137 c1_i32_139 k0_t16
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t17
  let v434 : BitVec 32 := Scalar.addi v358 arg15
  let v436 : Index := Scalar.indexCast v434
  let c0_618 : Index := 0#32
  ![0, v436.toNat, 0]
def k0_off103 (k0_t16 : Fin k0_t16_loop.trips) (k0_t17 : Fin k0_t17_loop.trips) : Fin 3 → Nat :=
  let c0_i32_619 : BitVec 32 := 0#32
  let v439 : Index := Scalar.indexCast c0_i32_619
  let c0_i32_137 : BitVec 32 := 0#32
  let c1_i32_139 : BitVec 32 := 1#32
  let arg14 : BitVec 32 := Scf.iv c0_i32_137 c1_i32_139 k0_t16
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t17
  let v434 : BitVec 32 := Scalar.addi v358 arg15
  let v440 : Index := Scalar.indexCast v434
  let c16_620 : Index := 16#32
  ![0, v440.toNat, 16]
def k0_off104 (k0_t16 : Fin k0_t16_loop.trips) (k0_t17 : Fin k0_t17_loop.trips) : Fin 3 → Nat :=
  let c0_i32_621 : BitVec 32 := 0#32
  let v443 : Index := Scalar.indexCast c0_i32_621
  let c0_i32_137 : BitVec 32 := 0#32
  let c1_i32_139 : BitVec 32 := 1#32
  let arg14 : BitVec 32 := Scf.iv c0_i32_137 c1_i32_139 k0_t16
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t17
  let v434 : BitVec 32 := Scalar.addi v358 arg15
  let v444 : Index := Scalar.indexCast v434
  let c32_622 : Index := 32#32
  ![0, v444.toNat, 32]
def k0_off105 (k0_t16 : Fin k0_t16_loop.trips) (k0_t17 : Fin k0_t17_loop.trips) : Fin 3 → Nat :=
  let c0_i32_623 : BitVec 32 := 0#32
  let v447 : Index := Scalar.indexCast c0_i32_623
  let c0_i32_137 : BitVec 32 := 0#32
  let c1_i32_139 : BitVec 32 := 1#32
  let arg14 : BitVec 32 := Scf.iv c0_i32_137 c1_i32_139 k0_t16
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t17
  let v434 : BitVec 32 := Scalar.addi v358 arg15
  let v448 : Index := Scalar.indexCast v434
  let c48_624 : Index := 48#32
  ![0, v448.toNat, 48]
def k0_off106 (k0_t16 : Fin k0_t16_loop.trips) (k0_t17 : Fin k0_t17_loop.trips) : Fin 3 → Nat :=
  let c0_i32_625 : BitVec 32 := 0#32
  let v451 : Index := Scalar.indexCast c0_i32_625
  let c0_i32_137 : BitVec 32 := 0#32
  let c1_i32_139 : BitVec 32 := 1#32
  let arg14 : BitVec 32 := Scf.iv c0_i32_137 c1_i32_139 k0_t16
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t17
  let v434 : BitVec 32 := Scalar.addi v358 arg15
  let v452 : Index := Scalar.indexCast v434
  let c64_626 : Index := 64#32
  ![0, v452.toNat, 64]
def k0_off107 (k0_t16 : Fin k0_t16_loop.trips) (k0_t17 : Fin k0_t17_loop.trips) : Fin 3 → Nat :=
  let c0_i32_627 : BitVec 32 := 0#32
  let v455 : Index := Scalar.indexCast c0_i32_627
  let c0_i32_137 : BitVec 32 := 0#32
  let c1_i32_139 : BitVec 32 := 1#32
  let arg14 : BitVec 32 := Scf.iv c0_i32_137 c1_i32_139 k0_t16
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t17
  let v434 : BitVec 32 := Scalar.addi v358 arg15
  let v456 : Index := Scalar.indexCast v434
  let c80_628 : Index := 80#32
  ![0, v456.toNat, 80]
def k0_off108 (k0_t16 : Fin k0_t16_loop.trips) (k0_t17 : Fin k0_t17_loop.trips) : Fin 3 → Nat :=
  let c0_i32_629 : BitVec 32 := 0#32
  let v459 : Index := Scalar.indexCast c0_i32_629
  let c0_i32_137 : BitVec 32 := 0#32
  let c1_i32_139 : BitVec 32 := 1#32
  let arg14 : BitVec 32 := Scf.iv c0_i32_137 c1_i32_139 k0_t16
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t17
  let v434 : BitVec 32 := Scalar.addi v358 arg15
  let v460 : Index := Scalar.indexCast v434
  let c96_630 : Index := 96#32
  ![0, v460.toNat, 96]
def k0_off109 (k0_t16 : Fin k0_t16_loop.trips) (k0_t17 : Fin k0_t17_loop.trips) : Fin 3 → Nat :=
  let c0_i32_631 : BitVec 32 := 0#32
  let v463 : Index := Scalar.indexCast c0_i32_631
  let c0_i32_137 : BitVec 32 := 0#32
  let c1_i32_139 : BitVec 32 := 1#32
  let arg14 : BitVec 32 := Scf.iv c0_i32_137 c1_i32_139 k0_t16
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t17
  let v434 : BitVec 32 := Scalar.addi v358 arg15
  let v464 : Index := Scalar.indexCast v434
  let c112_632 : Index := 112#32
  ![0, v464.toNat, 112]

def k0_chk8 (v370 : IVec S16 32) : Prop :=
  (∀ a x, ((![v370] : Fin 1 → IVec S16 32) a x).toNat < S128.size a)
theorem k0_idx8_inb : ∀ (v370 : IVec S16 32) (k0_hw8 : k0_chk8 v370), ∀ a x, ((![v370] : Fin 1 → IVec S16 32) a x).toNat < S128.size a := fun v370 k0_hw8 => k0_hw8
def k0_off110 (k0_t16 : Fin k0_t16_loop.trips) : Fin 2 → Nat :=
  let c24_i32_597 : BitVec 32 := 24#32
  let c0_i32_137 : BitVec 32 := 0#32
  let c1_i32_139 : BitVec 32 := 1#32
  let arg14 : BitVec 32 := Scf.iv c0_i32_137 c1_i32_139 k0_t16
  let v369 : BitVec 32 := Scalar.addi c24_i32_597 arg14
  let v383 : Index := Scalar.indexCast v369
  let c0_602 : Index := 0#32
  ![v383.toNat, 0]
def k0_off111 (k0_t16 : Fin k0_t16_loop.trips) : Fin 2 → Nat :=
  let c24_i32_597 : BitVec 32 := 24#32
  let c0_i32_137 : BitVec 32 := 0#32
  let c1_i32_139 : BitVec 32 := 1#32
  let arg14 : BitVec 32 := Scf.iv c0_i32_137 c1_i32_139 k0_t16
  let v369 : BitVec 32 := Scalar.addi c24_i32_597 arg14
  let v390 : Index := Scalar.indexCast v369
  let c16_604 : Index := 16#32
  ![v390.toNat, 16]
def k0_off112 (k0_t16 : Fin k0_t16_loop.trips) : Fin 2 → Nat :=
  let c24_i32_597 : BitVec 32 := 24#32
  let c0_i32_137 : BitVec 32 := 0#32
  let c1_i32_139 : BitVec 32 := 1#32
  let arg14 : BitVec 32 := Scf.iv c0_i32_137 c1_i32_139 k0_t16
  let v369 : BitVec 32 := Scalar.addi c24_i32_597 arg14
  let v397 : Index := Scalar.indexCast v369
  let c32_606 : Index := 32#32
  ![v397.toNat, 32]
def k0_off113 (k0_t16 : Fin k0_t16_loop.trips) : Fin 2 → Nat :=
  let c24_i32_597 : BitVec 32 := 24#32
  let c0_i32_137 : BitVec 32 := 0#32
  let c1_i32_139 : BitVec 32 := 1#32
  let arg14 : BitVec 32 := Scf.iv c0_i32_137 c1_i32_139 k0_t16
  let v369 : BitVec 32 := Scalar.addi c24_i32_597 arg14
  let v404 : Index := Scalar.indexCast v369
  let c48_608 : Index := 48#32
  ![v404.toNat, 48]
def k0_off114 (k0_t16 : Fin k0_t16_loop.trips) : Fin 2 → Nat :=
  let c24_i32_597 : BitVec 32 := 24#32
  let c0_i32_137 : BitVec 32 := 0#32
  let c1_i32_139 : BitVec 32 := 1#32
  let arg14 : BitVec 32 := Scf.iv c0_i32_137 c1_i32_139 k0_t16
  let v369 : BitVec 32 := Scalar.addi c24_i32_597 arg14
  let v411 : Index := Scalar.indexCast v369
  let c64_610 : Index := 64#32
  ![v411.toNat, 64]
def k0_off115 (k0_t16 : Fin k0_t16_loop.trips) : Fin 2 → Nat :=
  let c24_i32_597 : BitVec 32 := 24#32
  let c0_i32_137 : BitVec 32 := 0#32
  let c1_i32_139 : BitVec 32 := 1#32
  let arg14 : BitVec 32 := Scf.iv c0_i32_137 c1_i32_139 k0_t16
  let v369 : BitVec 32 := Scalar.addi c24_i32_597 arg14
  let v418 : Index := Scalar.indexCast v369
  let c80_612 : Index := 80#32
  ![v418.toNat, 80]
def k0_off116 (k0_t16 : Fin k0_t16_loop.trips) : Fin 2 → Nat :=
  let c24_i32_597 : BitVec 32 := 24#32
  let c0_i32_137 : BitVec 32 := 0#32
  let c1_i32_139 : BitVec 32 := 1#32
  let arg14 : BitVec 32 := Scf.iv c0_i32_137 c1_i32_139 k0_t16
  let v369 : BitVec 32 := Scalar.addi c24_i32_597 arg14
  let v425 : Index := Scalar.indexCast v369
  let c96_614 : Index := 96#32
  ![v425.toNat, 96]
def k0_off117 (k0_t16 : Fin k0_t16_loop.trips) : Fin 2 → Nat :=
  let c24_i32_597 : BitVec 32 := 24#32
  let c0_i32_137 : BitVec 32 := 0#32
  let c1_i32_139 : BitVec 32 := 1#32
  let arg14 : BitVec 32 := Scf.iv c0_i32_137 c1_i32_139 k0_t16
  let v369 : BitVec 32 := Scalar.addi c24_i32_597 arg14
  let v432 : Index := Scalar.indexCast v369
  let c112_616 : Index := 112#32
  ![v432.toNat, 112]
@[reducible] def k0_t18_loop : Scf.Loop 32 :=
  let c0_i32_156 : BitVec 32 := 0#32
  let c4_i32_157 : BitVec 32 := 4#32
  let v97 : BitVec 32 := Scalar.addi c0_i32_156 c4_i32_157
  let c1_i32_158 : BitVec 32 := 1#32
  ⟨c0_i32_156, v97, c1_i32_158⟩
@[reducible] def k0_t19_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off118 (k0_t18 : Fin k0_t18_loop.trips) (k0_t19 : Fin k0_t19_loop.trips) : Fin 3 → Nat :=
  let c1_i32_617 : BitVec 32 := 1#32
  let v435 : Index := Scalar.indexCast c1_i32_617
  let c0_i32_156 : BitVec 32 := 0#32
  let c1_i32_158 : BitVec 32 := 1#32
  let arg14 : BitVec 32 := Scf.iv c0_i32_156 c1_i32_158 k0_t18
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t19
  let v434 : BitVec 32 := Scalar.addi v358 arg15
  let v436 : Index := Scalar.indexCast v434
  let c0_618 : Index := 0#32
  ![1, v436.toNat, 0]
def k0_off119 (k0_t18 : Fin k0_t18_loop.trips) (k0_t19 : Fin k0_t19_loop.trips) : Fin 3 → Nat :=
  let c1_i32_619 : BitVec 32 := 1#32
  let v439 : Index := Scalar.indexCast c1_i32_619
  let c0_i32_156 : BitVec 32 := 0#32
  let c1_i32_158 : BitVec 32 := 1#32
  let arg14 : BitVec 32 := Scf.iv c0_i32_156 c1_i32_158 k0_t18
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t19
  let v434 : BitVec 32 := Scalar.addi v358 arg15
  let v440 : Index := Scalar.indexCast v434
  let c16_620 : Index := 16#32
  ![1, v440.toNat, 16]
def k0_off120 (k0_t18 : Fin k0_t18_loop.trips) (k0_t19 : Fin k0_t19_loop.trips) : Fin 3 → Nat :=
  let c1_i32_621 : BitVec 32 := 1#32
  let v443 : Index := Scalar.indexCast c1_i32_621
  let c0_i32_156 : BitVec 32 := 0#32
  let c1_i32_158 : BitVec 32 := 1#32
  let arg14 : BitVec 32 := Scf.iv c0_i32_156 c1_i32_158 k0_t18
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t19
  let v434 : BitVec 32 := Scalar.addi v358 arg15
  let v444 : Index := Scalar.indexCast v434
  let c32_622 : Index := 32#32
  ![1, v444.toNat, 32]
def k0_off121 (k0_t18 : Fin k0_t18_loop.trips) (k0_t19 : Fin k0_t19_loop.trips) : Fin 3 → Nat :=
  let c1_i32_623 : BitVec 32 := 1#32
  let v447 : Index := Scalar.indexCast c1_i32_623
  let c0_i32_156 : BitVec 32 := 0#32
  let c1_i32_158 : BitVec 32 := 1#32
  let arg14 : BitVec 32 := Scf.iv c0_i32_156 c1_i32_158 k0_t18
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t19
  let v434 : BitVec 32 := Scalar.addi v358 arg15
  let v448 : Index := Scalar.indexCast v434
  let c48_624 : Index := 48#32
  ![1, v448.toNat, 48]
def k0_off122 (k0_t18 : Fin k0_t18_loop.trips) (k0_t19 : Fin k0_t19_loop.trips) : Fin 3 → Nat :=
  let c1_i32_625 : BitVec 32 := 1#32
  let v451 : Index := Scalar.indexCast c1_i32_625
  let c0_i32_156 : BitVec 32 := 0#32
  let c1_i32_158 : BitVec 32 := 1#32
  let arg14 : BitVec 32 := Scf.iv c0_i32_156 c1_i32_158 k0_t18
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t19
  let v434 : BitVec 32 := Scalar.addi v358 arg15
  let v452 : Index := Scalar.indexCast v434
  let c64_626 : Index := 64#32
  ![1, v452.toNat, 64]
def k0_off123 (k0_t18 : Fin k0_t18_loop.trips) (k0_t19 : Fin k0_t19_loop.trips) : Fin 3 → Nat :=
  let c1_i32_627 : BitVec 32 := 1#32
  let v455 : Index := Scalar.indexCast c1_i32_627
  let c0_i32_156 : BitVec 32 := 0#32
  let c1_i32_158 : BitVec 32 := 1#32
  let arg14 : BitVec 32 := Scf.iv c0_i32_156 c1_i32_158 k0_t18
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t19
  let v434 : BitVec 32 := Scalar.addi v358 arg15
  let v456 : Index := Scalar.indexCast v434
  let c80_628 : Index := 80#32
  ![1, v456.toNat, 80]
def k0_off124 (k0_t18 : Fin k0_t18_loop.trips) (k0_t19 : Fin k0_t19_loop.trips) : Fin 3 → Nat :=
  let c1_i32_629 : BitVec 32 := 1#32
  let v459 : Index := Scalar.indexCast c1_i32_629
  let c0_i32_156 : BitVec 32 := 0#32
  let c1_i32_158 : BitVec 32 := 1#32
  let arg14 : BitVec 32 := Scf.iv c0_i32_156 c1_i32_158 k0_t18
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t19
  let v434 : BitVec 32 := Scalar.addi v358 arg15
  let v460 : Index := Scalar.indexCast v434
  let c96_630 : Index := 96#32
  ![1, v460.toNat, 96]
def k0_off125 (k0_t18 : Fin k0_t18_loop.trips) (k0_t19 : Fin k0_t19_loop.trips) : Fin 3 → Nat :=
  let c1_i32_631 : BitVec 32 := 1#32
  let v463 : Index := Scalar.indexCast c1_i32_631
  let c0_i32_156 : BitVec 32 := 0#32
  let c1_i32_158 : BitVec 32 := 1#32
  let arg14 : BitVec 32 := Scf.iv c0_i32_156 c1_i32_158 k0_t18
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t19
  let v434 : BitVec 32 := Scalar.addi v358 arg15
  let v464 : Index := Scalar.indexCast v434
  let c112_632 : Index := 112#32
  ![1, v464.toNat, 112]

def k0_chk9 (v370 : IVec S16 32) : Prop :=
  (∀ a x, ((![v370] : Fin 1 → IVec S16 32) a x).toNat < S128.size a)
theorem k0_idx9_inb : ∀ (v370 : IVec S16 32) (k0_hw9 : k0_chk9 v370), ∀ a x, ((![v370] : Fin 1 → IVec S16 32) a x).toNat < S128.size a := fun v370 k0_hw9 => k0_hw9
def k0_off126 (k0_t18 : Fin k0_t18_loop.trips) : Fin 2 → Nat :=
  let c28_i32_597 : BitVec 32 := 28#32
  let c0_i32_156 : BitVec 32 := 0#32
  let c1_i32_158 : BitVec 32 := 1#32
  let arg14 : BitVec 32 := Scf.iv c0_i32_156 c1_i32_158 k0_t18
  let v369 : BitVec 32 := Scalar.addi c28_i32_597 arg14
  let v383 : Index := Scalar.indexCast v369
  let c0_602 : Index := 0#32
  ![v383.toNat, 0]
def k0_off127 (k0_t18 : Fin k0_t18_loop.trips) : Fin 2 → Nat :=
  let c28_i32_597 : BitVec 32 := 28#32
  let c0_i32_156 : BitVec 32 := 0#32
  let c1_i32_158 : BitVec 32 := 1#32
  let arg14 : BitVec 32 := Scf.iv c0_i32_156 c1_i32_158 k0_t18
  let v369 : BitVec 32 := Scalar.addi c28_i32_597 arg14
  let v390 : Index := Scalar.indexCast v369
  let c16_604 : Index := 16#32
  ![v390.toNat, 16]
def k0_off128 (k0_t18 : Fin k0_t18_loop.trips) : Fin 2 → Nat :=
  let c28_i32_597 : BitVec 32 := 28#32
  let c0_i32_156 : BitVec 32 := 0#32
  let c1_i32_158 : BitVec 32 := 1#32
  let arg14 : BitVec 32 := Scf.iv c0_i32_156 c1_i32_158 k0_t18
  let v369 : BitVec 32 := Scalar.addi c28_i32_597 arg14
  let v397 : Index := Scalar.indexCast v369
  let c32_606 : Index := 32#32
  ![v397.toNat, 32]
def k0_off129 (k0_t18 : Fin k0_t18_loop.trips) : Fin 2 → Nat :=
  let c28_i32_597 : BitVec 32 := 28#32
  let c0_i32_156 : BitVec 32 := 0#32
  let c1_i32_158 : BitVec 32 := 1#32
  let arg14 : BitVec 32 := Scf.iv c0_i32_156 c1_i32_158 k0_t18
  let v369 : BitVec 32 := Scalar.addi c28_i32_597 arg14
  let v404 : Index := Scalar.indexCast v369
  let c48_608 : Index := 48#32
  ![v404.toNat, 48]
def k0_off130 (k0_t18 : Fin k0_t18_loop.trips) : Fin 2 → Nat :=
  let c28_i32_597 : BitVec 32 := 28#32
  let c0_i32_156 : BitVec 32 := 0#32
  let c1_i32_158 : BitVec 32 := 1#32
  let arg14 : BitVec 32 := Scf.iv c0_i32_156 c1_i32_158 k0_t18
  let v369 : BitVec 32 := Scalar.addi c28_i32_597 arg14
  let v411 : Index := Scalar.indexCast v369
  let c64_610 : Index := 64#32
  ![v411.toNat, 64]
def k0_off131 (k0_t18 : Fin k0_t18_loop.trips) : Fin 2 → Nat :=
  let c28_i32_597 : BitVec 32 := 28#32
  let c0_i32_156 : BitVec 32 := 0#32
  let c1_i32_158 : BitVec 32 := 1#32
  let arg14 : BitVec 32 := Scf.iv c0_i32_156 c1_i32_158 k0_t18
  let v369 : BitVec 32 := Scalar.addi c28_i32_597 arg14
  let v418 : Index := Scalar.indexCast v369
  let c80_612 : Index := 80#32
  ![v418.toNat, 80]
def k0_off132 (k0_t18 : Fin k0_t18_loop.trips) : Fin 2 → Nat :=
  let c28_i32_597 : BitVec 32 := 28#32
  let c0_i32_156 : BitVec 32 := 0#32
  let c1_i32_158 : BitVec 32 := 1#32
  let arg14 : BitVec 32 := Scf.iv c0_i32_156 c1_i32_158 k0_t18
  let v369 : BitVec 32 := Scalar.addi c28_i32_597 arg14
  let v425 : Index := Scalar.indexCast v369
  let c96_614 : Index := 96#32
  ![v425.toNat, 96]
def k0_off133 (k0_t18 : Fin k0_t18_loop.trips) : Fin 2 → Nat :=
  let c28_i32_597 : BitVec 32 := 28#32
  let c0_i32_156 : BitVec 32 := 0#32
  let c1_i32_158 : BitVec 32 := 1#32
  let arg14 : BitVec 32 := Scf.iv c0_i32_156 c1_i32_158 k0_t18
  let v369 : BitVec 32 := Scalar.addi c28_i32_597 arg14
  let v432 : Index := Scalar.indexCast v369
  let c112_616 : Index := 112#32
  ![v432.toNat, 112]
@[reducible] def k0_t20_loop : Scf.Loop 32 :=
  let c0_i32_174 : BitVec 32 := 0#32
  let c4_i32_175 : BitVec 32 := 4#32
  let v108 : BitVec 32 := Scalar.addi c0_i32_174 c4_i32_175
  let c1_i32_176 : BitVec 32 := 1#32
  ⟨c0_i32_174, v108, c1_i32_176⟩
@[reducible] def k0_t21_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off134 (k0_t20 : Fin k0_t20_loop.trips) (k0_t21 : Fin k0_t21_loop.trips) : Fin 3 → Nat :=
  let c0_i32_617 : BitVec 32 := 0#32
  let v435 : Index := Scalar.indexCast c0_i32_617
  let c0_i32_174 : BitVec 32 := 0#32
  let c1_i32_176 : BitVec 32 := 1#32
  let arg14 : BitVec 32 := Scf.iv c0_i32_174 c1_i32_176 k0_t20
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t21
  let v434 : BitVec 32 := Scalar.addi v358 arg15
  let v436 : Index := Scalar.indexCast v434
  let c0_618 : Index := 0#32
  ![0, v436.toNat, 0]
def k0_off135 (k0_t20 : Fin k0_t20_loop.trips) (k0_t21 : Fin k0_t21_loop.trips) : Fin 3 → Nat :=
  let c0_i32_619 : BitVec 32 := 0#32
  let v439 : Index := Scalar.indexCast c0_i32_619
  let c0_i32_174 : BitVec 32 := 0#32
  let c1_i32_176 : BitVec 32 := 1#32
  let arg14 : BitVec 32 := Scf.iv c0_i32_174 c1_i32_176 k0_t20
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t21
  let v434 : BitVec 32 := Scalar.addi v358 arg15
  let v440 : Index := Scalar.indexCast v434
  let c16_620 : Index := 16#32
  ![0, v440.toNat, 16]
def k0_off136 (k0_t20 : Fin k0_t20_loop.trips) (k0_t21 : Fin k0_t21_loop.trips) : Fin 3 → Nat :=
  let c0_i32_621 : BitVec 32 := 0#32
  let v443 : Index := Scalar.indexCast c0_i32_621
  let c0_i32_174 : BitVec 32 := 0#32
  let c1_i32_176 : BitVec 32 := 1#32
  let arg14 : BitVec 32 := Scf.iv c0_i32_174 c1_i32_176 k0_t20
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t21
  let v434 : BitVec 32 := Scalar.addi v358 arg15
  let v444 : Index := Scalar.indexCast v434
  let c32_622 : Index := 32#32
  ![0, v444.toNat, 32]
def k0_off137 (k0_t20 : Fin k0_t20_loop.trips) (k0_t21 : Fin k0_t21_loop.trips) : Fin 3 → Nat :=
  let c0_i32_623 : BitVec 32 := 0#32
  let v447 : Index := Scalar.indexCast c0_i32_623
  let c0_i32_174 : BitVec 32 := 0#32
  let c1_i32_176 : BitVec 32 := 1#32
  let arg14 : BitVec 32 := Scf.iv c0_i32_174 c1_i32_176 k0_t20
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t21
  let v434 : BitVec 32 := Scalar.addi v358 arg15
  let v448 : Index := Scalar.indexCast v434
  let c48_624 : Index := 48#32
  ![0, v448.toNat, 48]
def k0_off138 (k0_t20 : Fin k0_t20_loop.trips) (k0_t21 : Fin k0_t21_loop.trips) : Fin 3 → Nat :=
  let c0_i32_625 : BitVec 32 := 0#32
  let v451 : Index := Scalar.indexCast c0_i32_625
  let c0_i32_174 : BitVec 32 := 0#32
  let c1_i32_176 : BitVec 32 := 1#32
  let arg14 : BitVec 32 := Scf.iv c0_i32_174 c1_i32_176 k0_t20
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t21
  let v434 : BitVec 32 := Scalar.addi v358 arg15
  let v452 : Index := Scalar.indexCast v434
  let c64_626 : Index := 64#32
  ![0, v452.toNat, 64]
def k0_off139 (k0_t20 : Fin k0_t20_loop.trips) (k0_t21 : Fin k0_t21_loop.trips) : Fin 3 → Nat :=
  let c0_i32_627 : BitVec 32 := 0#32
  let v455 : Index := Scalar.indexCast c0_i32_627
  let c0_i32_174 : BitVec 32 := 0#32
  let c1_i32_176 : BitVec 32 := 1#32
  let arg14 : BitVec 32 := Scf.iv c0_i32_174 c1_i32_176 k0_t20
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t21
  let v434 : BitVec 32 := Scalar.addi v358 arg15
  let v456 : Index := Scalar.indexCast v434
  let c80_628 : Index := 80#32
  ![0, v456.toNat, 80]
def k0_off140 (k0_t20 : Fin k0_t20_loop.trips) (k0_t21 : Fin k0_t21_loop.trips) : Fin 3 → Nat :=
  let c0_i32_629 : BitVec 32 := 0#32
  let v459 : Index := Scalar.indexCast c0_i32_629
  let c0_i32_174 : BitVec 32 := 0#32
  let c1_i32_176 : BitVec 32 := 1#32
  let arg14 : BitVec 32 := Scf.iv c0_i32_174 c1_i32_176 k0_t20
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t21
  let v434 : BitVec 32 := Scalar.addi v358 arg15
  let v460 : Index := Scalar.indexCast v434
  let c96_630 : Index := 96#32
  ![0, v460.toNat, 96]
def k0_off141 (k0_t20 : Fin k0_t20_loop.trips) (k0_t21 : Fin k0_t21_loop.trips) : Fin 3 → Nat :=
  let c0_i32_631 : BitVec 32 := 0#32
  let v463 : Index := Scalar.indexCast c0_i32_631
  let c0_i32_174 : BitVec 32 := 0#32
  let c1_i32_176 : BitVec 32 := 1#32
  let arg14 : BitVec 32 := Scf.iv c0_i32_174 c1_i32_176 k0_t20
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t21
  let v434 : BitVec 32 := Scalar.addi v358 arg15
  let v464 : Index := Scalar.indexCast v434
  let c112_632 : Index := 112#32
  ![0, v464.toNat, 112]

def k0_chk10 (v370 : IVec S16 32) : Prop :=
  (∀ a x, ((![v370] : Fin 1 → IVec S16 32) a x).toNat < S128.size a)
theorem k0_idx10_inb : ∀ (v370 : IVec S16 32) (k0_hw10 : k0_chk10 v370), ∀ a x, ((![v370] : Fin 1 → IVec S16 32) a x).toNat < S128.size a := fun v370 k0_hw10 => k0_hw10
def k0_off142 (k0_t20 : Fin k0_t20_loop.trips) : Fin 2 → Nat :=
  let c32_i32_597 : BitVec 32 := 32#32
  let c0_i32_174 : BitVec 32 := 0#32
  let c1_i32_176 : BitVec 32 := 1#32
  let arg14 : BitVec 32 := Scf.iv c0_i32_174 c1_i32_176 k0_t20
  let v369 : BitVec 32 := Scalar.addi c32_i32_597 arg14
  let v383 : Index := Scalar.indexCast v369
  let c0_602 : Index := 0#32
  ![v383.toNat, 0]
def k0_off143 (k0_t20 : Fin k0_t20_loop.trips) : Fin 2 → Nat :=
  let c32_i32_597 : BitVec 32 := 32#32
  let c0_i32_174 : BitVec 32 := 0#32
  let c1_i32_176 : BitVec 32 := 1#32
  let arg14 : BitVec 32 := Scf.iv c0_i32_174 c1_i32_176 k0_t20
  let v369 : BitVec 32 := Scalar.addi c32_i32_597 arg14
  let v390 : Index := Scalar.indexCast v369
  let c16_604 : Index := 16#32
  ![v390.toNat, 16]
def k0_off144 (k0_t20 : Fin k0_t20_loop.trips) : Fin 2 → Nat :=
  let c32_i32_597 : BitVec 32 := 32#32
  let c0_i32_174 : BitVec 32 := 0#32
  let c1_i32_176 : BitVec 32 := 1#32
  let arg14 : BitVec 32 := Scf.iv c0_i32_174 c1_i32_176 k0_t20
  let v369 : BitVec 32 := Scalar.addi c32_i32_597 arg14
  let v397 : Index := Scalar.indexCast v369
  let c32_606 : Index := 32#32
  ![v397.toNat, 32]
def k0_off145 (k0_t20 : Fin k0_t20_loop.trips) : Fin 2 → Nat :=
  let c32_i32_597 : BitVec 32 := 32#32
  let c0_i32_174 : BitVec 32 := 0#32
  let c1_i32_176 : BitVec 32 := 1#32
  let arg14 : BitVec 32 := Scf.iv c0_i32_174 c1_i32_176 k0_t20
  let v369 : BitVec 32 := Scalar.addi c32_i32_597 arg14
  let v404 : Index := Scalar.indexCast v369
  let c48_608 : Index := 48#32
  ![v404.toNat, 48]
def k0_off146 (k0_t20 : Fin k0_t20_loop.trips) : Fin 2 → Nat :=
  let c32_i32_597 : BitVec 32 := 32#32
  let c0_i32_174 : BitVec 32 := 0#32
  let c1_i32_176 : BitVec 32 := 1#32
  let arg14 : BitVec 32 := Scf.iv c0_i32_174 c1_i32_176 k0_t20
  let v369 : BitVec 32 := Scalar.addi c32_i32_597 arg14
  let v411 : Index := Scalar.indexCast v369
  let c64_610 : Index := 64#32
  ![v411.toNat, 64]
def k0_off147 (k0_t20 : Fin k0_t20_loop.trips) : Fin 2 → Nat :=
  let c32_i32_597 : BitVec 32 := 32#32
  let c0_i32_174 : BitVec 32 := 0#32
  let c1_i32_176 : BitVec 32 := 1#32
  let arg14 : BitVec 32 := Scf.iv c0_i32_174 c1_i32_176 k0_t20
  let v369 : BitVec 32 := Scalar.addi c32_i32_597 arg14
  let v418 : Index := Scalar.indexCast v369
  let c80_612 : Index := 80#32
  ![v418.toNat, 80]
def k0_off148 (k0_t20 : Fin k0_t20_loop.trips) : Fin 2 → Nat :=
  let c32_i32_597 : BitVec 32 := 32#32
  let c0_i32_174 : BitVec 32 := 0#32
  let c1_i32_176 : BitVec 32 := 1#32
  let arg14 : BitVec 32 := Scf.iv c0_i32_174 c1_i32_176 k0_t20
  let v369 : BitVec 32 := Scalar.addi c32_i32_597 arg14
  let v425 : Index := Scalar.indexCast v369
  let c96_614 : Index := 96#32
  ![v425.toNat, 96]
def k0_off149 (k0_t20 : Fin k0_t20_loop.trips) : Fin 2 → Nat :=
  let c32_i32_597 : BitVec 32 := 32#32
  let c0_i32_174 : BitVec 32 := 0#32
  let c1_i32_176 : BitVec 32 := 1#32
  let arg14 : BitVec 32 := Scf.iv c0_i32_174 c1_i32_176 k0_t20
  let v369 : BitVec 32 := Scalar.addi c32_i32_597 arg14
  let v432 : Index := Scalar.indexCast v369
  let c112_616 : Index := 112#32
  ![v432.toNat, 112]
@[reducible] def k0_t22_loop : Scf.Loop 32 :=
  let c0_i32_192 : BitVec 32 := 0#32
  let c4_i32_193 : BitVec 32 := 4#32
  let v119 : BitVec 32 := Scalar.addi c0_i32_192 c4_i32_193
  let c1_i32_194 : BitVec 32 := 1#32
  ⟨c0_i32_192, v119, c1_i32_194⟩
@[reducible] def k0_t23_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off150 (k0_t22 : Fin k0_t22_loop.trips) (k0_t23 : Fin k0_t23_loop.trips) : Fin 3 → Nat :=
  let c1_i32_616 : BitVec 32 := 1#32
  let v435 : Index := Scalar.indexCast c1_i32_616
  let c0_i32_192 : BitVec 32 := 0#32
  let c1_i32_194 : BitVec 32 := 1#32
  let arg14 : BitVec 32 := Scf.iv c0_i32_192 c1_i32_194 k0_t22
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t23
  let v434 : BitVec 32 := Scalar.addi v358 arg15
  let v436 : Index := Scalar.indexCast v434
  let c0_617 : Index := 0#32
  ![1, v436.toNat, 0]
def k0_off151 (k0_t22 : Fin k0_t22_loop.trips) (k0_t23 : Fin k0_t23_loop.trips) : Fin 3 → Nat :=
  let c1_i32_618 : BitVec 32 := 1#32
  let v439 : Index := Scalar.indexCast c1_i32_618
  let c0_i32_192 : BitVec 32 := 0#32
  let c1_i32_194 : BitVec 32 := 1#32
  let arg14 : BitVec 32 := Scf.iv c0_i32_192 c1_i32_194 k0_t22
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t23
  let v434 : BitVec 32 := Scalar.addi v358 arg15
  let v440 : Index := Scalar.indexCast v434
  let c16_619 : Index := 16#32
  ![1, v440.toNat, 16]
def k0_off152 (k0_t22 : Fin k0_t22_loop.trips) (k0_t23 : Fin k0_t23_loop.trips) : Fin 3 → Nat :=
  let c1_i32_620 : BitVec 32 := 1#32
  let v443 : Index := Scalar.indexCast c1_i32_620
  let c0_i32_192 : BitVec 32 := 0#32
  let c1_i32_194 : BitVec 32 := 1#32
  let arg14 : BitVec 32 := Scf.iv c0_i32_192 c1_i32_194 k0_t22
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t23
  let v434 : BitVec 32 := Scalar.addi v358 arg15
  let v444 : Index := Scalar.indexCast v434
  let c32_621 : Index := 32#32
  ![1, v444.toNat, 32]
def k0_off153 (k0_t22 : Fin k0_t22_loop.trips) (k0_t23 : Fin k0_t23_loop.trips) : Fin 3 → Nat :=
  let c1_i32_622 : BitVec 32 := 1#32
  let v447 : Index := Scalar.indexCast c1_i32_622
  let c0_i32_192 : BitVec 32 := 0#32
  let c1_i32_194 : BitVec 32 := 1#32
  let arg14 : BitVec 32 := Scf.iv c0_i32_192 c1_i32_194 k0_t22
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t23
  let v434 : BitVec 32 := Scalar.addi v358 arg15
  let v448 : Index := Scalar.indexCast v434
  let c48_623 : Index := 48#32
  ![1, v448.toNat, 48]
def k0_off154 (k0_t22 : Fin k0_t22_loop.trips) (k0_t23 : Fin k0_t23_loop.trips) : Fin 3 → Nat :=
  let c1_i32_624 : BitVec 32 := 1#32
  let v451 : Index := Scalar.indexCast c1_i32_624
  let c0_i32_192 : BitVec 32 := 0#32
  let c1_i32_194 : BitVec 32 := 1#32
  let arg14 : BitVec 32 := Scf.iv c0_i32_192 c1_i32_194 k0_t22
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t23
  let v434 : BitVec 32 := Scalar.addi v358 arg15
  let v452 : Index := Scalar.indexCast v434
  let c64_625 : Index := 64#32
  ![1, v452.toNat, 64]
def k0_off155 (k0_t22 : Fin k0_t22_loop.trips) (k0_t23 : Fin k0_t23_loop.trips) : Fin 3 → Nat :=
  let c1_i32_626 : BitVec 32 := 1#32
  let v455 : Index := Scalar.indexCast c1_i32_626
  let c0_i32_192 : BitVec 32 := 0#32
  let c1_i32_194 : BitVec 32 := 1#32
  let arg14 : BitVec 32 := Scf.iv c0_i32_192 c1_i32_194 k0_t22
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t23
  let v434 : BitVec 32 := Scalar.addi v358 arg15
  let v456 : Index := Scalar.indexCast v434
  let c80_627 : Index := 80#32
  ![1, v456.toNat, 80]
def k0_off156 (k0_t22 : Fin k0_t22_loop.trips) (k0_t23 : Fin k0_t23_loop.trips) : Fin 3 → Nat :=
  let c1_i32_628 : BitVec 32 := 1#32
  let v459 : Index := Scalar.indexCast c1_i32_628
  let c0_i32_192 : BitVec 32 := 0#32
  let c1_i32_194 : BitVec 32 := 1#32
  let arg14 : BitVec 32 := Scf.iv c0_i32_192 c1_i32_194 k0_t22
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t23
  let v434 : BitVec 32 := Scalar.addi v358 arg15
  let v460 : Index := Scalar.indexCast v434
  let c96_629 : Index := 96#32
  ![1, v460.toNat, 96]
def k0_off157 (k0_t22 : Fin k0_t22_loop.trips) (k0_t23 : Fin k0_t23_loop.trips) : Fin 3 → Nat :=
  let c1_i32_630 : BitVec 32 := 1#32
  let v463 : Index := Scalar.indexCast c1_i32_630
  let c0_i32_192 : BitVec 32 := 0#32
  let c1_i32_194 : BitVec 32 := 1#32
  let arg14 : BitVec 32 := Scf.iv c0_i32_192 c1_i32_194 k0_t22
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t23
  let v434 : BitVec 32 := Scalar.addi v358 arg15
  let v464 : Index := Scalar.indexCast v434
  let c112_631 : Index := 112#32
  ![1, v464.toNat, 112]

def k0_chk11 (v370 : IVec S16 32) : Prop :=
  (∀ a x, ((![v370] : Fin 1 → IVec S16 32) a x).toNat < S128.size a)
theorem k0_idx11_inb : ∀ (v370 : IVec S16 32) (k0_hw11 : k0_chk11 v370), ∀ a x, ((![v370] : Fin 1 → IVec S16 32) a x).toNat < S128.size a := fun v370 k0_hw11 => k0_hw11
def k0_off158 (k0_t22 : Fin k0_t22_loop.trips) : Fin 2 → Nat :=
  let c36_i32 : BitVec 32 := 36#32
  let c0_i32_192 : BitVec 32 := 0#32
  let c1_i32_194 : BitVec 32 := 1#32
  let arg14 : BitVec 32 := Scf.iv c0_i32_192 c1_i32_194 k0_t22
  let v369 : BitVec 32 := Scalar.addi c36_i32 arg14
  let v383 : Index := Scalar.indexCast v369
  let c0_601 : Index := 0#32
  ![v383.toNat, 0]
def k0_off159 (k0_t22 : Fin k0_t22_loop.trips) : Fin 2 → Nat :=
  let c36_i32 : BitVec 32 := 36#32
  let c0_i32_192 : BitVec 32 := 0#32
  let c1_i32_194 : BitVec 32 := 1#32
  let arg14 : BitVec 32 := Scf.iv c0_i32_192 c1_i32_194 k0_t22
  let v369 : BitVec 32 := Scalar.addi c36_i32 arg14
  let v390 : Index := Scalar.indexCast v369
  let c16_603 : Index := 16#32
  ![v390.toNat, 16]
def k0_off160 (k0_t22 : Fin k0_t22_loop.trips) : Fin 2 → Nat :=
  let c36_i32 : BitVec 32 := 36#32
  let c0_i32_192 : BitVec 32 := 0#32
  let c1_i32_194 : BitVec 32 := 1#32
  let arg14 : BitVec 32 := Scf.iv c0_i32_192 c1_i32_194 k0_t22
  let v369 : BitVec 32 := Scalar.addi c36_i32 arg14
  let v397 : Index := Scalar.indexCast v369
  let c32_605 : Index := 32#32
  ![v397.toNat, 32]
def k0_off161 (k0_t22 : Fin k0_t22_loop.trips) : Fin 2 → Nat :=
  let c36_i32 : BitVec 32 := 36#32
  let c0_i32_192 : BitVec 32 := 0#32
  let c1_i32_194 : BitVec 32 := 1#32
  let arg14 : BitVec 32 := Scf.iv c0_i32_192 c1_i32_194 k0_t22
  let v369 : BitVec 32 := Scalar.addi c36_i32 arg14
  let v404 : Index := Scalar.indexCast v369
  let c48_607 : Index := 48#32
  ![v404.toNat, 48]
def k0_off162 (k0_t22 : Fin k0_t22_loop.trips) : Fin 2 → Nat :=
  let c36_i32 : BitVec 32 := 36#32
  let c0_i32_192 : BitVec 32 := 0#32
  let c1_i32_194 : BitVec 32 := 1#32
  let arg14 : BitVec 32 := Scf.iv c0_i32_192 c1_i32_194 k0_t22
  let v369 : BitVec 32 := Scalar.addi c36_i32 arg14
  let v411 : Index := Scalar.indexCast v369
  let c64_609 : Index := 64#32
  ![v411.toNat, 64]
def k0_off163 (k0_t22 : Fin k0_t22_loop.trips) : Fin 2 → Nat :=
  let c36_i32 : BitVec 32 := 36#32
  let c0_i32_192 : BitVec 32 := 0#32
  let c1_i32_194 : BitVec 32 := 1#32
  let arg14 : BitVec 32 := Scf.iv c0_i32_192 c1_i32_194 k0_t22
  let v369 : BitVec 32 := Scalar.addi c36_i32 arg14
  let v418 : Index := Scalar.indexCast v369
  let c80_611 : Index := 80#32
  ![v418.toNat, 80]
def k0_off164 (k0_t22 : Fin k0_t22_loop.trips) : Fin 2 → Nat :=
  let c36_i32 : BitVec 32 := 36#32
  let c0_i32_192 : BitVec 32 := 0#32
  let c1_i32_194 : BitVec 32 := 1#32
  let arg14 : BitVec 32 := Scf.iv c0_i32_192 c1_i32_194 k0_t22
  let v369 : BitVec 32 := Scalar.addi c36_i32 arg14
  let v425 : Index := Scalar.indexCast v369
  let c96_613 : Index := 96#32
  ![v425.toNat, 96]
def k0_off165 (k0_t22 : Fin k0_t22_loop.trips) : Fin 2 → Nat :=
  let c36_i32 : BitVec 32 := 36#32
  let c0_i32_192 : BitVec 32 := 0#32
  let c1_i32_194 : BitVec 32 := 1#32
  let arg14 : BitVec 32 := Scf.iv c0_i32_192 c1_i32_194 k0_t22
  let v369 : BitVec 32 := Scalar.addi c36_i32 arg14
  let v432 : Index := Scalar.indexCast v369
  let c112_615 : Index := 112#32
  ![v432.toNat, 112]
@[reducible] def k0_t24_loop : Scf.Loop 32 :=
  let c0_i32_210 : BitVec 32 := 0#32
  let c4_i32_211 : BitVec 32 := 4#32
  let v130 : BitVec 32 := Scalar.addi c0_i32_210 c4_i32_211
  let c1_i32_212 : BitVec 32 := 1#32
  ⟨c0_i32_210, v130, c1_i32_212⟩
@[reducible] def k0_t25_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off166 (k0_t24 : Fin k0_t24_loop.trips) (k0_t25 : Fin k0_t25_loop.trips) : Fin 3 → Nat :=
  let c0_i32_616 : BitVec 32 := 0#32
  let v435 : Index := Scalar.indexCast c0_i32_616
  let c0_i32_210 : BitVec 32 := 0#32
  let c1_i32_212 : BitVec 32 := 1#32
  let arg14 : BitVec 32 := Scf.iv c0_i32_210 c1_i32_212 k0_t24
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t25
  let v434 : BitVec 32 := Scalar.addi v358 arg15
  let v436 : Index := Scalar.indexCast v434
  let c0_617 : Index := 0#32
  ![0, v436.toNat, 0]
def k0_off167 (k0_t24 : Fin k0_t24_loop.trips) (k0_t25 : Fin k0_t25_loop.trips) : Fin 3 → Nat :=
  let c0_i32_618 : BitVec 32 := 0#32
  let v439 : Index := Scalar.indexCast c0_i32_618
  let c0_i32_210 : BitVec 32 := 0#32
  let c1_i32_212 : BitVec 32 := 1#32
  let arg14 : BitVec 32 := Scf.iv c0_i32_210 c1_i32_212 k0_t24
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t25
  let v434 : BitVec 32 := Scalar.addi v358 arg15
  let v440 : Index := Scalar.indexCast v434
  let c16_619 : Index := 16#32
  ![0, v440.toNat, 16]
def k0_off168 (k0_t24 : Fin k0_t24_loop.trips) (k0_t25 : Fin k0_t25_loop.trips) : Fin 3 → Nat :=
  let c0_i32_620 : BitVec 32 := 0#32
  let v443 : Index := Scalar.indexCast c0_i32_620
  let c0_i32_210 : BitVec 32 := 0#32
  let c1_i32_212 : BitVec 32 := 1#32
  let arg14 : BitVec 32 := Scf.iv c0_i32_210 c1_i32_212 k0_t24
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t25
  let v434 : BitVec 32 := Scalar.addi v358 arg15
  let v444 : Index := Scalar.indexCast v434
  let c32_621 : Index := 32#32
  ![0, v444.toNat, 32]
def k0_off169 (k0_t24 : Fin k0_t24_loop.trips) (k0_t25 : Fin k0_t25_loop.trips) : Fin 3 → Nat :=
  let c0_i32_622 : BitVec 32 := 0#32
  let v447 : Index := Scalar.indexCast c0_i32_622
  let c0_i32_210 : BitVec 32 := 0#32
  let c1_i32_212 : BitVec 32 := 1#32
  let arg14 : BitVec 32 := Scf.iv c0_i32_210 c1_i32_212 k0_t24
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t25
  let v434 : BitVec 32 := Scalar.addi v358 arg15
  let v448 : Index := Scalar.indexCast v434
  let c48_623 : Index := 48#32
  ![0, v448.toNat, 48]
def k0_off170 (k0_t24 : Fin k0_t24_loop.trips) (k0_t25 : Fin k0_t25_loop.trips) : Fin 3 → Nat :=
  let c0_i32_624 : BitVec 32 := 0#32
  let v451 : Index := Scalar.indexCast c0_i32_624
  let c0_i32_210 : BitVec 32 := 0#32
  let c1_i32_212 : BitVec 32 := 1#32
  let arg14 : BitVec 32 := Scf.iv c0_i32_210 c1_i32_212 k0_t24
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t25
  let v434 : BitVec 32 := Scalar.addi v358 arg15
  let v452 : Index := Scalar.indexCast v434
  let c64_625 : Index := 64#32
  ![0, v452.toNat, 64]
def k0_off171 (k0_t24 : Fin k0_t24_loop.trips) (k0_t25 : Fin k0_t25_loop.trips) : Fin 3 → Nat :=
  let c0_i32_626 : BitVec 32 := 0#32
  let v455 : Index := Scalar.indexCast c0_i32_626
  let c0_i32_210 : BitVec 32 := 0#32
  let c1_i32_212 : BitVec 32 := 1#32
  let arg14 : BitVec 32 := Scf.iv c0_i32_210 c1_i32_212 k0_t24
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t25
  let v434 : BitVec 32 := Scalar.addi v358 arg15
  let v456 : Index := Scalar.indexCast v434
  let c80_627 : Index := 80#32
  ![0, v456.toNat, 80]
def k0_off172 (k0_t24 : Fin k0_t24_loop.trips) (k0_t25 : Fin k0_t25_loop.trips) : Fin 3 → Nat :=
  let c0_i32_628 : BitVec 32 := 0#32
  let v459 : Index := Scalar.indexCast c0_i32_628
  let c0_i32_210 : BitVec 32 := 0#32
  let c1_i32_212 : BitVec 32 := 1#32
  let arg14 : BitVec 32 := Scf.iv c0_i32_210 c1_i32_212 k0_t24
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t25
  let v434 : BitVec 32 := Scalar.addi v358 arg15
  let v460 : Index := Scalar.indexCast v434
  let c96_629 : Index := 96#32
  ![0, v460.toNat, 96]
def k0_off173 (k0_t24 : Fin k0_t24_loop.trips) (k0_t25 : Fin k0_t25_loop.trips) : Fin 3 → Nat :=
  let c0_i32_630 : BitVec 32 := 0#32
  let v463 : Index := Scalar.indexCast c0_i32_630
  let c0_i32_210 : BitVec 32 := 0#32
  let c1_i32_212 : BitVec 32 := 1#32
  let arg14 : BitVec 32 := Scf.iv c0_i32_210 c1_i32_212 k0_t24
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t25
  let v434 : BitVec 32 := Scalar.addi v358 arg15
  let v464 : Index := Scalar.indexCast v434
  let c112_631 : Index := 112#32
  ![0, v464.toNat, 112]

def k0_chk12 (v370 : IVec S16 32) : Prop :=
  (∀ a x, ((![v370] : Fin 1 → IVec S16 32) a x).toNat < S128.size a)
theorem k0_idx12_inb : ∀ (v370 : IVec S16 32) (k0_hw12 : k0_chk12 v370), ∀ a x, ((![v370] : Fin 1 → IVec S16 32) a x).toNat < S128.size a := fun v370 k0_hw12 => k0_hw12
def k0_off174 (k0_t24 : Fin k0_t24_loop.trips) : Fin 2 → Nat :=
  let c40_i32 : BitVec 32 := 40#32
  let c0_i32_210 : BitVec 32 := 0#32
  let c1_i32_212 : BitVec 32 := 1#32
  let arg14 : BitVec 32 := Scf.iv c0_i32_210 c1_i32_212 k0_t24
  let v369 : BitVec 32 := Scalar.addi c40_i32 arg14
  let v383 : Index := Scalar.indexCast v369
  let c0_601 : Index := 0#32
  ![v383.toNat, 0]
def k0_off175 (k0_t24 : Fin k0_t24_loop.trips) : Fin 2 → Nat :=
  let c40_i32 : BitVec 32 := 40#32
  let c0_i32_210 : BitVec 32 := 0#32
  let c1_i32_212 : BitVec 32 := 1#32
  let arg14 : BitVec 32 := Scf.iv c0_i32_210 c1_i32_212 k0_t24
  let v369 : BitVec 32 := Scalar.addi c40_i32 arg14
  let v390 : Index := Scalar.indexCast v369
  let c16_603 : Index := 16#32
  ![v390.toNat, 16]
def k0_off176 (k0_t24 : Fin k0_t24_loop.trips) : Fin 2 → Nat :=
  let c40_i32 : BitVec 32 := 40#32
  let c0_i32_210 : BitVec 32 := 0#32
  let c1_i32_212 : BitVec 32 := 1#32
  let arg14 : BitVec 32 := Scf.iv c0_i32_210 c1_i32_212 k0_t24
  let v369 : BitVec 32 := Scalar.addi c40_i32 arg14
  let v397 : Index := Scalar.indexCast v369
  let c32_605 : Index := 32#32
  ![v397.toNat, 32]
def k0_off177 (k0_t24 : Fin k0_t24_loop.trips) : Fin 2 → Nat :=
  let c40_i32 : BitVec 32 := 40#32
  let c0_i32_210 : BitVec 32 := 0#32
  let c1_i32_212 : BitVec 32 := 1#32
  let arg14 : BitVec 32 := Scf.iv c0_i32_210 c1_i32_212 k0_t24
  let v369 : BitVec 32 := Scalar.addi c40_i32 arg14
  let v404 : Index := Scalar.indexCast v369
  let c48_607 : Index := 48#32
  ![v404.toNat, 48]
def k0_off178 (k0_t24 : Fin k0_t24_loop.trips) : Fin 2 → Nat :=
  let c40_i32 : BitVec 32 := 40#32
  let c0_i32_210 : BitVec 32 := 0#32
  let c1_i32_212 : BitVec 32 := 1#32
  let arg14 : BitVec 32 := Scf.iv c0_i32_210 c1_i32_212 k0_t24
  let v369 : BitVec 32 := Scalar.addi c40_i32 arg14
  let v411 : Index := Scalar.indexCast v369
  let c64_609 : Index := 64#32
  ![v411.toNat, 64]
def k0_off179 (k0_t24 : Fin k0_t24_loop.trips) : Fin 2 → Nat :=
  let c40_i32 : BitVec 32 := 40#32
  let c0_i32_210 : BitVec 32 := 0#32
  let c1_i32_212 : BitVec 32 := 1#32
  let arg14 : BitVec 32 := Scf.iv c0_i32_210 c1_i32_212 k0_t24
  let v369 : BitVec 32 := Scalar.addi c40_i32 arg14
  let v418 : Index := Scalar.indexCast v369
  let c80_611 : Index := 80#32
  ![v418.toNat, 80]
def k0_off180 (k0_t24 : Fin k0_t24_loop.trips) : Fin 2 → Nat :=
  let c40_i32 : BitVec 32 := 40#32
  let c0_i32_210 : BitVec 32 := 0#32
  let c1_i32_212 : BitVec 32 := 1#32
  let arg14 : BitVec 32 := Scf.iv c0_i32_210 c1_i32_212 k0_t24
  let v369 : BitVec 32 := Scalar.addi c40_i32 arg14
  let v425 : Index := Scalar.indexCast v369
  let c96_613 : Index := 96#32
  ![v425.toNat, 96]
def k0_off181 (k0_t24 : Fin k0_t24_loop.trips) : Fin 2 → Nat :=
  let c40_i32 : BitVec 32 := 40#32
  let c0_i32_210 : BitVec 32 := 0#32
  let c1_i32_212 : BitVec 32 := 1#32
  let arg14 : BitVec 32 := Scf.iv c0_i32_210 c1_i32_212 k0_t24
  let v369 : BitVec 32 := Scalar.addi c40_i32 arg14
  let v432 : Index := Scalar.indexCast v369
  let c112_615 : Index := 112#32
  ![v432.toNat, 112]
@[reducible] def k0_t26_loop : Scf.Loop 32 :=
  let c0_i32_228 : BitVec 32 := 0#32
  let c4_i32_229 : BitVec 32 := 4#32
  let v141 : BitVec 32 := Scalar.addi c0_i32_228 c4_i32_229
  let c1_i32_230 : BitVec 32 := 1#32
  ⟨c0_i32_228, v141, c1_i32_230⟩
@[reducible] def k0_t27_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off182 (k0_t26 : Fin k0_t26_loop.trips) (k0_t27 : Fin k0_t27_loop.trips) : Fin 3 → Nat :=
  let c1_i32_616 : BitVec 32 := 1#32
  let v435 : Index := Scalar.indexCast c1_i32_616
  let c0_i32_228 : BitVec 32 := 0#32
  let c1_i32_230 : BitVec 32 := 1#32
  let arg14 : BitVec 32 := Scf.iv c0_i32_228 c1_i32_230 k0_t26
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t27
  let v434 : BitVec 32 := Scalar.addi v358 arg15
  let v436 : Index := Scalar.indexCast v434
  let c0_617 : Index := 0#32
  ![1, v436.toNat, 0]
def k0_off183 (k0_t26 : Fin k0_t26_loop.trips) (k0_t27 : Fin k0_t27_loop.trips) : Fin 3 → Nat :=
  let c1_i32_618 : BitVec 32 := 1#32
  let v439 : Index := Scalar.indexCast c1_i32_618
  let c0_i32_228 : BitVec 32 := 0#32
  let c1_i32_230 : BitVec 32 := 1#32
  let arg14 : BitVec 32 := Scf.iv c0_i32_228 c1_i32_230 k0_t26
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t27
  let v434 : BitVec 32 := Scalar.addi v358 arg15
  let v440 : Index := Scalar.indexCast v434
  let c16_619 : Index := 16#32
  ![1, v440.toNat, 16]
def k0_off184 (k0_t26 : Fin k0_t26_loop.trips) (k0_t27 : Fin k0_t27_loop.trips) : Fin 3 → Nat :=
  let c1_i32_620 : BitVec 32 := 1#32
  let v443 : Index := Scalar.indexCast c1_i32_620
  let c0_i32_228 : BitVec 32 := 0#32
  let c1_i32_230 : BitVec 32 := 1#32
  let arg14 : BitVec 32 := Scf.iv c0_i32_228 c1_i32_230 k0_t26
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t27
  let v434 : BitVec 32 := Scalar.addi v358 arg15
  let v444 : Index := Scalar.indexCast v434
  let c32_621 : Index := 32#32
  ![1, v444.toNat, 32]
def k0_off185 (k0_t26 : Fin k0_t26_loop.trips) (k0_t27 : Fin k0_t27_loop.trips) : Fin 3 → Nat :=
  let c1_i32_622 : BitVec 32 := 1#32
  let v447 : Index := Scalar.indexCast c1_i32_622
  let c0_i32_228 : BitVec 32 := 0#32
  let c1_i32_230 : BitVec 32 := 1#32
  let arg14 : BitVec 32 := Scf.iv c0_i32_228 c1_i32_230 k0_t26
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t27
  let v434 : BitVec 32 := Scalar.addi v358 arg15
  let v448 : Index := Scalar.indexCast v434
  let c48_623 : Index := 48#32
  ![1, v448.toNat, 48]
def k0_off186 (k0_t26 : Fin k0_t26_loop.trips) (k0_t27 : Fin k0_t27_loop.trips) : Fin 3 → Nat :=
  let c1_i32_624 : BitVec 32 := 1#32
  let v451 : Index := Scalar.indexCast c1_i32_624
  let c0_i32_228 : BitVec 32 := 0#32
  let c1_i32_230 : BitVec 32 := 1#32
  let arg14 : BitVec 32 := Scf.iv c0_i32_228 c1_i32_230 k0_t26
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t27
  let v434 : BitVec 32 := Scalar.addi v358 arg15
  let v452 : Index := Scalar.indexCast v434
  let c64_625 : Index := 64#32
  ![1, v452.toNat, 64]
def k0_off187 (k0_t26 : Fin k0_t26_loop.trips) (k0_t27 : Fin k0_t27_loop.trips) : Fin 3 → Nat :=
  let c1_i32_626 : BitVec 32 := 1#32
  let v455 : Index := Scalar.indexCast c1_i32_626
  let c0_i32_228 : BitVec 32 := 0#32
  let c1_i32_230 : BitVec 32 := 1#32
  let arg14 : BitVec 32 := Scf.iv c0_i32_228 c1_i32_230 k0_t26
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t27
  let v434 : BitVec 32 := Scalar.addi v358 arg15
  let v456 : Index := Scalar.indexCast v434
  let c80_627 : Index := 80#32
  ![1, v456.toNat, 80]
def k0_off188 (k0_t26 : Fin k0_t26_loop.trips) (k0_t27 : Fin k0_t27_loop.trips) : Fin 3 → Nat :=
  let c1_i32_628 : BitVec 32 := 1#32
  let v459 : Index := Scalar.indexCast c1_i32_628
  let c0_i32_228 : BitVec 32 := 0#32
  let c1_i32_230 : BitVec 32 := 1#32
  let arg14 : BitVec 32 := Scf.iv c0_i32_228 c1_i32_230 k0_t26
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t27
  let v434 : BitVec 32 := Scalar.addi v358 arg15
  let v460 : Index := Scalar.indexCast v434
  let c96_629 : Index := 96#32
  ![1, v460.toNat, 96]
def k0_off189 (k0_t26 : Fin k0_t26_loop.trips) (k0_t27 : Fin k0_t27_loop.trips) : Fin 3 → Nat :=
  let c1_i32_630 : BitVec 32 := 1#32
  let v463 : Index := Scalar.indexCast c1_i32_630
  let c0_i32_228 : BitVec 32 := 0#32
  let c1_i32_230 : BitVec 32 := 1#32
  let arg14 : BitVec 32 := Scf.iv c0_i32_228 c1_i32_230 k0_t26
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t27
  let v434 : BitVec 32 := Scalar.addi v358 arg15
  let v464 : Index := Scalar.indexCast v434
  let c112_631 : Index := 112#32
  ![1, v464.toNat, 112]

def k0_chk13 (v370 : IVec S16 32) : Prop :=
  (∀ a x, ((![v370] : Fin 1 → IVec S16 32) a x).toNat < S128.size a)
theorem k0_idx13_inb : ∀ (v370 : IVec S16 32) (k0_hw13 : k0_chk13 v370), ∀ a x, ((![v370] : Fin 1 → IVec S16 32) a x).toNat < S128.size a := fun v370 k0_hw13 => k0_hw13
def k0_off190 (k0_t26 : Fin k0_t26_loop.trips) : Fin 2 → Nat :=
  let c44_i32 : BitVec 32 := 44#32
  let c0_i32_228 : BitVec 32 := 0#32
  let c1_i32_230 : BitVec 32 := 1#32
  let arg14 : BitVec 32 := Scf.iv c0_i32_228 c1_i32_230 k0_t26
  let v369 : BitVec 32 := Scalar.addi c44_i32 arg14
  let v383 : Index := Scalar.indexCast v369
  let c0_601 : Index := 0#32
  ![v383.toNat, 0]
def k0_off191 (k0_t26 : Fin k0_t26_loop.trips) : Fin 2 → Nat :=
  let c44_i32 : BitVec 32 := 44#32
  let c0_i32_228 : BitVec 32 := 0#32
  let c1_i32_230 : BitVec 32 := 1#32
  let arg14 : BitVec 32 := Scf.iv c0_i32_228 c1_i32_230 k0_t26
  let v369 : BitVec 32 := Scalar.addi c44_i32 arg14
  let v390 : Index := Scalar.indexCast v369
  let c16_603 : Index := 16#32
  ![v390.toNat, 16]
def k0_off192 (k0_t26 : Fin k0_t26_loop.trips) : Fin 2 → Nat :=
  let c44_i32 : BitVec 32 := 44#32
  let c0_i32_228 : BitVec 32 := 0#32
  let c1_i32_230 : BitVec 32 := 1#32
  let arg14 : BitVec 32 := Scf.iv c0_i32_228 c1_i32_230 k0_t26
  let v369 : BitVec 32 := Scalar.addi c44_i32 arg14
  let v397 : Index := Scalar.indexCast v369
  let c32_605 : Index := 32#32
  ![v397.toNat, 32]
def k0_off193 (k0_t26 : Fin k0_t26_loop.trips) : Fin 2 → Nat :=
  let c44_i32 : BitVec 32 := 44#32
  let c0_i32_228 : BitVec 32 := 0#32
  let c1_i32_230 : BitVec 32 := 1#32
  let arg14 : BitVec 32 := Scf.iv c0_i32_228 c1_i32_230 k0_t26
  let v369 : BitVec 32 := Scalar.addi c44_i32 arg14
  let v404 : Index := Scalar.indexCast v369
  let c48_607 : Index := 48#32
  ![v404.toNat, 48]
def k0_off194 (k0_t26 : Fin k0_t26_loop.trips) : Fin 2 → Nat :=
  let c44_i32 : BitVec 32 := 44#32
  let c0_i32_228 : BitVec 32 := 0#32
  let c1_i32_230 : BitVec 32 := 1#32
  let arg14 : BitVec 32 := Scf.iv c0_i32_228 c1_i32_230 k0_t26
  let v369 : BitVec 32 := Scalar.addi c44_i32 arg14
  let v411 : Index := Scalar.indexCast v369
  let c64_609 : Index := 64#32
  ![v411.toNat, 64]
def k0_off195 (k0_t26 : Fin k0_t26_loop.trips) : Fin 2 → Nat :=
  let c44_i32 : BitVec 32 := 44#32
  let c0_i32_228 : BitVec 32 := 0#32
  let c1_i32_230 : BitVec 32 := 1#32
  let arg14 : BitVec 32 := Scf.iv c0_i32_228 c1_i32_230 k0_t26
  let v369 : BitVec 32 := Scalar.addi c44_i32 arg14
  let v418 : Index := Scalar.indexCast v369
  let c80_611 : Index := 80#32
  ![v418.toNat, 80]
def k0_off196 (k0_t26 : Fin k0_t26_loop.trips) : Fin 2 → Nat :=
  let c44_i32 : BitVec 32 := 44#32
  let c0_i32_228 : BitVec 32 := 0#32
  let c1_i32_230 : BitVec 32 := 1#32
  let arg14 : BitVec 32 := Scf.iv c0_i32_228 c1_i32_230 k0_t26
  let v369 : BitVec 32 := Scalar.addi c44_i32 arg14
  let v425 : Index := Scalar.indexCast v369
  let c96_613 : Index := 96#32
  ![v425.toNat, 96]
def k0_off197 (k0_t26 : Fin k0_t26_loop.trips) : Fin 2 → Nat :=
  let c44_i32 : BitVec 32 := 44#32
  let c0_i32_228 : BitVec 32 := 0#32
  let c1_i32_230 : BitVec 32 := 1#32
  let arg14 : BitVec 32 := Scf.iv c0_i32_228 c1_i32_230 k0_t26
  let v369 : BitVec 32 := Scalar.addi c44_i32 arg14
  let v432 : Index := Scalar.indexCast v369
  let c112_615 : Index := 112#32
  ![v432.toNat, 112]
@[reducible] def k0_t28_loop : Scf.Loop 32 :=
  let c0_i32_246 : BitVec 32 := 0#32
  let c4_i32_247 : BitVec 32 := 4#32
  let v152 : BitVec 32 := Scalar.addi c0_i32_246 c4_i32_247
  let c1_i32_248 : BitVec 32 := 1#32
  ⟨c0_i32_246, v152, c1_i32_248⟩
@[reducible] def k0_t29_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off198 (k0_t28 : Fin k0_t28_loop.trips) (k0_t29 : Fin k0_t29_loop.trips) : Fin 3 → Nat :=
  let c0_i32_616 : BitVec 32 := 0#32
  let v435 : Index := Scalar.indexCast c0_i32_616
  let c0_i32_246 : BitVec 32 := 0#32
  let c1_i32_248 : BitVec 32 := 1#32
  let arg14 : BitVec 32 := Scf.iv c0_i32_246 c1_i32_248 k0_t28
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t29
  let v434 : BitVec 32 := Scalar.addi v358 arg15
  let v436 : Index := Scalar.indexCast v434
  let c0_617 : Index := 0#32
  ![0, v436.toNat, 0]
def k0_off199 (k0_t28 : Fin k0_t28_loop.trips) (k0_t29 : Fin k0_t29_loop.trips) : Fin 3 → Nat :=
  let c0_i32_618 : BitVec 32 := 0#32
  let v439 : Index := Scalar.indexCast c0_i32_618
  let c0_i32_246 : BitVec 32 := 0#32
  let c1_i32_248 : BitVec 32 := 1#32
  let arg14 : BitVec 32 := Scf.iv c0_i32_246 c1_i32_248 k0_t28
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t29
  let v434 : BitVec 32 := Scalar.addi v358 arg15
  let v440 : Index := Scalar.indexCast v434
  let c16_619 : Index := 16#32
  ![0, v440.toNat, 16]
def k0_off200 (k0_t28 : Fin k0_t28_loop.trips) (k0_t29 : Fin k0_t29_loop.trips) : Fin 3 → Nat :=
  let c0_i32_620 : BitVec 32 := 0#32
  let v443 : Index := Scalar.indexCast c0_i32_620
  let c0_i32_246 : BitVec 32 := 0#32
  let c1_i32_248 : BitVec 32 := 1#32
  let arg14 : BitVec 32 := Scf.iv c0_i32_246 c1_i32_248 k0_t28
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t29
  let v434 : BitVec 32 := Scalar.addi v358 arg15
  let v444 : Index := Scalar.indexCast v434
  let c32_621 : Index := 32#32
  ![0, v444.toNat, 32]
def k0_off201 (k0_t28 : Fin k0_t28_loop.trips) (k0_t29 : Fin k0_t29_loop.trips) : Fin 3 → Nat :=
  let c0_i32_622 : BitVec 32 := 0#32
  let v447 : Index := Scalar.indexCast c0_i32_622
  let c0_i32_246 : BitVec 32 := 0#32
  let c1_i32_248 : BitVec 32 := 1#32
  let arg14 : BitVec 32 := Scf.iv c0_i32_246 c1_i32_248 k0_t28
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t29
  let v434 : BitVec 32 := Scalar.addi v358 arg15
  let v448 : Index := Scalar.indexCast v434
  let c48_623 : Index := 48#32
  ![0, v448.toNat, 48]
def k0_off202 (k0_t28 : Fin k0_t28_loop.trips) (k0_t29 : Fin k0_t29_loop.trips) : Fin 3 → Nat :=
  let c0_i32_624 : BitVec 32 := 0#32
  let v451 : Index := Scalar.indexCast c0_i32_624
  let c0_i32_246 : BitVec 32 := 0#32
  let c1_i32_248 : BitVec 32 := 1#32
  let arg14 : BitVec 32 := Scf.iv c0_i32_246 c1_i32_248 k0_t28
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t29
  let v434 : BitVec 32 := Scalar.addi v358 arg15
  let v452 : Index := Scalar.indexCast v434
  let c64_625 : Index := 64#32
  ![0, v452.toNat, 64]
def k0_off203 (k0_t28 : Fin k0_t28_loop.trips) (k0_t29 : Fin k0_t29_loop.trips) : Fin 3 → Nat :=
  let c0_i32_626 : BitVec 32 := 0#32
  let v455 : Index := Scalar.indexCast c0_i32_626
  let c0_i32_246 : BitVec 32 := 0#32
  let c1_i32_248 : BitVec 32 := 1#32
  let arg14 : BitVec 32 := Scf.iv c0_i32_246 c1_i32_248 k0_t28
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t29
  let v434 : BitVec 32 := Scalar.addi v358 arg15
  let v456 : Index := Scalar.indexCast v434
  let c80_627 : Index := 80#32
  ![0, v456.toNat, 80]
def k0_off204 (k0_t28 : Fin k0_t28_loop.trips) (k0_t29 : Fin k0_t29_loop.trips) : Fin 3 → Nat :=
  let c0_i32_628 : BitVec 32 := 0#32
  let v459 : Index := Scalar.indexCast c0_i32_628
  let c0_i32_246 : BitVec 32 := 0#32
  let c1_i32_248 : BitVec 32 := 1#32
  let arg14 : BitVec 32 := Scf.iv c0_i32_246 c1_i32_248 k0_t28
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t29
  let v434 : BitVec 32 := Scalar.addi v358 arg15
  let v460 : Index := Scalar.indexCast v434
  let c96_629 : Index := 96#32
  ![0, v460.toNat, 96]
def k0_off205 (k0_t28 : Fin k0_t28_loop.trips) (k0_t29 : Fin k0_t29_loop.trips) : Fin 3 → Nat :=
  let c0_i32_630 : BitVec 32 := 0#32
  let v463 : Index := Scalar.indexCast c0_i32_630
  let c0_i32_246 : BitVec 32 := 0#32
  let c1_i32_248 : BitVec 32 := 1#32
  let arg14 : BitVec 32 := Scf.iv c0_i32_246 c1_i32_248 k0_t28
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t29
  let v434 : BitVec 32 := Scalar.addi v358 arg15
  let v464 : Index := Scalar.indexCast v434
  let c112_631 : Index := 112#32
  ![0, v464.toNat, 112]

def k0_chk14 (v370 : IVec S16 32) : Prop :=
  (∀ a x, ((![v370] : Fin 1 → IVec S16 32) a x).toNat < S128.size a)
theorem k0_idx14_inb : ∀ (v370 : IVec S16 32) (k0_hw14 : k0_chk14 v370), ∀ a x, ((![v370] : Fin 1 → IVec S16 32) a x).toNat < S128.size a := fun v370 k0_hw14 => k0_hw14
def k0_off206 (k0_t28 : Fin k0_t28_loop.trips) : Fin 2 → Nat :=
  let c48_i32 : BitVec 32 := 48#32
  let c0_i32_246 : BitVec 32 := 0#32
  let c1_i32_248 : BitVec 32 := 1#32
  let arg14 : BitVec 32 := Scf.iv c0_i32_246 c1_i32_248 k0_t28
  let v369 : BitVec 32 := Scalar.addi c48_i32 arg14
  let v383 : Index := Scalar.indexCast v369
  let c0_601 : Index := 0#32
  ![v383.toNat, 0]
def k0_off207 (k0_t28 : Fin k0_t28_loop.trips) : Fin 2 → Nat :=
  let c48_i32 : BitVec 32 := 48#32
  let c0_i32_246 : BitVec 32 := 0#32
  let c1_i32_248 : BitVec 32 := 1#32
  let arg14 : BitVec 32 := Scf.iv c0_i32_246 c1_i32_248 k0_t28
  let v369 : BitVec 32 := Scalar.addi c48_i32 arg14
  let v390 : Index := Scalar.indexCast v369
  let c16_603 : Index := 16#32
  ![v390.toNat, 16]
def k0_off208 (k0_t28 : Fin k0_t28_loop.trips) : Fin 2 → Nat :=
  let c48_i32 : BitVec 32 := 48#32
  let c0_i32_246 : BitVec 32 := 0#32
  let c1_i32_248 : BitVec 32 := 1#32
  let arg14 : BitVec 32 := Scf.iv c0_i32_246 c1_i32_248 k0_t28
  let v369 : BitVec 32 := Scalar.addi c48_i32 arg14
  let v397 : Index := Scalar.indexCast v369
  let c32_605 : Index := 32#32
  ![v397.toNat, 32]
def k0_off209 (k0_t28 : Fin k0_t28_loop.trips) : Fin 2 → Nat :=
  let c48_i32 : BitVec 32 := 48#32
  let c0_i32_246 : BitVec 32 := 0#32
  let c1_i32_248 : BitVec 32 := 1#32
  let arg14 : BitVec 32 := Scf.iv c0_i32_246 c1_i32_248 k0_t28
  let v369 : BitVec 32 := Scalar.addi c48_i32 arg14
  let v404 : Index := Scalar.indexCast v369
  let c48_607 : Index := 48#32
  ![v404.toNat, 48]
def k0_off210 (k0_t28 : Fin k0_t28_loop.trips) : Fin 2 → Nat :=
  let c48_i32 : BitVec 32 := 48#32
  let c0_i32_246 : BitVec 32 := 0#32
  let c1_i32_248 : BitVec 32 := 1#32
  let arg14 : BitVec 32 := Scf.iv c0_i32_246 c1_i32_248 k0_t28
  let v369 : BitVec 32 := Scalar.addi c48_i32 arg14
  let v411 : Index := Scalar.indexCast v369
  let c64_609 : Index := 64#32
  ![v411.toNat, 64]
def k0_off211 (k0_t28 : Fin k0_t28_loop.trips) : Fin 2 → Nat :=
  let c48_i32 : BitVec 32 := 48#32
  let c0_i32_246 : BitVec 32 := 0#32
  let c1_i32_248 : BitVec 32 := 1#32
  let arg14 : BitVec 32 := Scf.iv c0_i32_246 c1_i32_248 k0_t28
  let v369 : BitVec 32 := Scalar.addi c48_i32 arg14
  let v418 : Index := Scalar.indexCast v369
  let c80_611 : Index := 80#32
  ![v418.toNat, 80]
def k0_off212 (k0_t28 : Fin k0_t28_loop.trips) : Fin 2 → Nat :=
  let c48_i32 : BitVec 32 := 48#32
  let c0_i32_246 : BitVec 32 := 0#32
  let c1_i32_248 : BitVec 32 := 1#32
  let arg14 : BitVec 32 := Scf.iv c0_i32_246 c1_i32_248 k0_t28
  let v369 : BitVec 32 := Scalar.addi c48_i32 arg14
  let v425 : Index := Scalar.indexCast v369
  let c96_613 : Index := 96#32
  ![v425.toNat, 96]
def k0_off213 (k0_t28 : Fin k0_t28_loop.trips) : Fin 2 → Nat :=
  let c48_i32 : BitVec 32 := 48#32
  let c0_i32_246 : BitVec 32 := 0#32
  let c1_i32_248 : BitVec 32 := 1#32
  let arg14 : BitVec 32 := Scf.iv c0_i32_246 c1_i32_248 k0_t28
  let v369 : BitVec 32 := Scalar.addi c48_i32 arg14
  let v432 : Index := Scalar.indexCast v369
  let c112_615 : Index := 112#32
  ![v432.toNat, 112]
@[reducible] def k0_t30_loop : Scf.Loop 32 :=
  let c0_i32_264 : BitVec 32 := 0#32
  let c4_i32_265 : BitVec 32 := 4#32
  let v163 : BitVec 32 := Scalar.addi c0_i32_264 c4_i32_265
  let c1_i32_266 : BitVec 32 := 1#32
  ⟨c0_i32_264, v163, c1_i32_266⟩
@[reducible] def k0_t31_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off214 (k0_t30 : Fin k0_t30_loop.trips) (k0_t31 : Fin k0_t31_loop.trips) : Fin 3 → Nat :=
  let c1_i32_616 : BitVec 32 := 1#32
  let v435 : Index := Scalar.indexCast c1_i32_616
  let c0_i32_264 : BitVec 32 := 0#32
  let c1_i32_266 : BitVec 32 := 1#32
  let arg14 : BitVec 32 := Scf.iv c0_i32_264 c1_i32_266 k0_t30
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t31
  let v434 : BitVec 32 := Scalar.addi v358 arg15
  let v436 : Index := Scalar.indexCast v434
  let c0_617 : Index := 0#32
  ![1, v436.toNat, 0]
def k0_off215 (k0_t30 : Fin k0_t30_loop.trips) (k0_t31 : Fin k0_t31_loop.trips) : Fin 3 → Nat :=
  let c1_i32_618 : BitVec 32 := 1#32
  let v439 : Index := Scalar.indexCast c1_i32_618
  let c0_i32_264 : BitVec 32 := 0#32
  let c1_i32_266 : BitVec 32 := 1#32
  let arg14 : BitVec 32 := Scf.iv c0_i32_264 c1_i32_266 k0_t30
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t31
  let v434 : BitVec 32 := Scalar.addi v358 arg15
  let v440 : Index := Scalar.indexCast v434
  let c16_619 : Index := 16#32
  ![1, v440.toNat, 16]
def k0_off216 (k0_t30 : Fin k0_t30_loop.trips) (k0_t31 : Fin k0_t31_loop.trips) : Fin 3 → Nat :=
  let c1_i32_620 : BitVec 32 := 1#32
  let v443 : Index := Scalar.indexCast c1_i32_620
  let c0_i32_264 : BitVec 32 := 0#32
  let c1_i32_266 : BitVec 32 := 1#32
  let arg14 : BitVec 32 := Scf.iv c0_i32_264 c1_i32_266 k0_t30
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t31
  let v434 : BitVec 32 := Scalar.addi v358 arg15
  let v444 : Index := Scalar.indexCast v434
  let c32_621 : Index := 32#32
  ![1, v444.toNat, 32]
def k0_off217 (k0_t30 : Fin k0_t30_loop.trips) (k0_t31 : Fin k0_t31_loop.trips) : Fin 3 → Nat :=
  let c1_i32_622 : BitVec 32 := 1#32
  let v447 : Index := Scalar.indexCast c1_i32_622
  let c0_i32_264 : BitVec 32 := 0#32
  let c1_i32_266 : BitVec 32 := 1#32
  let arg14 : BitVec 32 := Scf.iv c0_i32_264 c1_i32_266 k0_t30
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t31
  let v434 : BitVec 32 := Scalar.addi v358 arg15
  let v448 : Index := Scalar.indexCast v434
  let c48_623 : Index := 48#32
  ![1, v448.toNat, 48]
def k0_off218 (k0_t30 : Fin k0_t30_loop.trips) (k0_t31 : Fin k0_t31_loop.trips) : Fin 3 → Nat :=
  let c1_i32_624 : BitVec 32 := 1#32
  let v451 : Index := Scalar.indexCast c1_i32_624
  let c0_i32_264 : BitVec 32 := 0#32
  let c1_i32_266 : BitVec 32 := 1#32
  let arg14 : BitVec 32 := Scf.iv c0_i32_264 c1_i32_266 k0_t30
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t31
  let v434 : BitVec 32 := Scalar.addi v358 arg15
  let v452 : Index := Scalar.indexCast v434
  let c64_625 : Index := 64#32
  ![1, v452.toNat, 64]
def k0_off219 (k0_t30 : Fin k0_t30_loop.trips) (k0_t31 : Fin k0_t31_loop.trips) : Fin 3 → Nat :=
  let c1_i32_626 : BitVec 32 := 1#32
  let v455 : Index := Scalar.indexCast c1_i32_626
  let c0_i32_264 : BitVec 32 := 0#32
  let c1_i32_266 : BitVec 32 := 1#32
  let arg14 : BitVec 32 := Scf.iv c0_i32_264 c1_i32_266 k0_t30
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t31
  let v434 : BitVec 32 := Scalar.addi v358 arg15
  let v456 : Index := Scalar.indexCast v434
  let c80_627 : Index := 80#32
  ![1, v456.toNat, 80]
def k0_off220 (k0_t30 : Fin k0_t30_loop.trips) (k0_t31 : Fin k0_t31_loop.trips) : Fin 3 → Nat :=
  let c1_i32_628 : BitVec 32 := 1#32
  let v459 : Index := Scalar.indexCast c1_i32_628
  let c0_i32_264 : BitVec 32 := 0#32
  let c1_i32_266 : BitVec 32 := 1#32
  let arg14 : BitVec 32 := Scf.iv c0_i32_264 c1_i32_266 k0_t30
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t31
  let v434 : BitVec 32 := Scalar.addi v358 arg15
  let v460 : Index := Scalar.indexCast v434
  let c96_629 : Index := 96#32
  ![1, v460.toNat, 96]
def k0_off221 (k0_t30 : Fin k0_t30_loop.trips) (k0_t31 : Fin k0_t31_loop.trips) : Fin 3 → Nat :=
  let c1_i32_630 : BitVec 32 := 1#32
  let v463 : Index := Scalar.indexCast c1_i32_630
  let c0_i32_264 : BitVec 32 := 0#32
  let c1_i32_266 : BitVec 32 := 1#32
  let arg14 : BitVec 32 := Scf.iv c0_i32_264 c1_i32_266 k0_t30
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t31
  let v434 : BitVec 32 := Scalar.addi v358 arg15
  let v464 : Index := Scalar.indexCast v434
  let c112_631 : Index := 112#32
  ![1, v464.toNat, 112]

def k0_chk15 (v370 : IVec S16 32) : Prop :=
  (∀ a x, ((![v370] : Fin 1 → IVec S16 32) a x).toNat < S128.size a)
theorem k0_idx15_inb : ∀ (v370 : IVec S16 32) (k0_hw15 : k0_chk15 v370), ∀ a x, ((![v370] : Fin 1 → IVec S16 32) a x).toNat < S128.size a := fun v370 k0_hw15 => k0_hw15
def k0_off222 (k0_t30 : Fin k0_t30_loop.trips) : Fin 2 → Nat :=
  let c52_i32 : BitVec 32 := 52#32
  let c0_i32_264 : BitVec 32 := 0#32
  let c1_i32_266 : BitVec 32 := 1#32
  let arg14 : BitVec 32 := Scf.iv c0_i32_264 c1_i32_266 k0_t30
  let v369 : BitVec 32 := Scalar.addi c52_i32 arg14
  let v383 : Index := Scalar.indexCast v369
  let c0_601 : Index := 0#32
  ![v383.toNat, 0]
def k0_off223 (k0_t30 : Fin k0_t30_loop.trips) : Fin 2 → Nat :=
  let c52_i32 : BitVec 32 := 52#32
  let c0_i32_264 : BitVec 32 := 0#32
  let c1_i32_266 : BitVec 32 := 1#32
  let arg14 : BitVec 32 := Scf.iv c0_i32_264 c1_i32_266 k0_t30
  let v369 : BitVec 32 := Scalar.addi c52_i32 arg14
  let v390 : Index := Scalar.indexCast v369
  let c16_603 : Index := 16#32
  ![v390.toNat, 16]
def k0_off224 (k0_t30 : Fin k0_t30_loop.trips) : Fin 2 → Nat :=
  let c52_i32 : BitVec 32 := 52#32
  let c0_i32_264 : BitVec 32 := 0#32
  let c1_i32_266 : BitVec 32 := 1#32
  let arg14 : BitVec 32 := Scf.iv c0_i32_264 c1_i32_266 k0_t30
  let v369 : BitVec 32 := Scalar.addi c52_i32 arg14
  let v397 : Index := Scalar.indexCast v369
  let c32_605 : Index := 32#32
  ![v397.toNat, 32]
def k0_off225 (k0_t30 : Fin k0_t30_loop.trips) : Fin 2 → Nat :=
  let c52_i32 : BitVec 32 := 52#32
  let c0_i32_264 : BitVec 32 := 0#32
  let c1_i32_266 : BitVec 32 := 1#32
  let arg14 : BitVec 32 := Scf.iv c0_i32_264 c1_i32_266 k0_t30
  let v369 : BitVec 32 := Scalar.addi c52_i32 arg14
  let v404 : Index := Scalar.indexCast v369
  let c48_607 : Index := 48#32
  ![v404.toNat, 48]
def k0_off226 (k0_t30 : Fin k0_t30_loop.trips) : Fin 2 → Nat :=
  let c52_i32 : BitVec 32 := 52#32
  let c0_i32_264 : BitVec 32 := 0#32
  let c1_i32_266 : BitVec 32 := 1#32
  let arg14 : BitVec 32 := Scf.iv c0_i32_264 c1_i32_266 k0_t30
  let v369 : BitVec 32 := Scalar.addi c52_i32 arg14
  let v411 : Index := Scalar.indexCast v369
  let c64_609 : Index := 64#32
  ![v411.toNat, 64]
def k0_off227 (k0_t30 : Fin k0_t30_loop.trips) : Fin 2 → Nat :=
  let c52_i32 : BitVec 32 := 52#32
  let c0_i32_264 : BitVec 32 := 0#32
  let c1_i32_266 : BitVec 32 := 1#32
  let arg14 : BitVec 32 := Scf.iv c0_i32_264 c1_i32_266 k0_t30
  let v369 : BitVec 32 := Scalar.addi c52_i32 arg14
  let v418 : Index := Scalar.indexCast v369
  let c80_611 : Index := 80#32
  ![v418.toNat, 80]
def k0_off228 (k0_t30 : Fin k0_t30_loop.trips) : Fin 2 → Nat :=
  let c52_i32 : BitVec 32 := 52#32
  let c0_i32_264 : BitVec 32 := 0#32
  let c1_i32_266 : BitVec 32 := 1#32
  let arg14 : BitVec 32 := Scf.iv c0_i32_264 c1_i32_266 k0_t30
  let v369 : BitVec 32 := Scalar.addi c52_i32 arg14
  let v425 : Index := Scalar.indexCast v369
  let c96_613 : Index := 96#32
  ![v425.toNat, 96]
def k0_off229 (k0_t30 : Fin k0_t30_loop.trips) : Fin 2 → Nat :=
  let c52_i32 : BitVec 32 := 52#32
  let c0_i32_264 : BitVec 32 := 0#32
  let c1_i32_266 : BitVec 32 := 1#32
  let arg14 : BitVec 32 := Scf.iv c0_i32_264 c1_i32_266 k0_t30
  let v369 : BitVec 32 := Scalar.addi c52_i32 arg14
  let v432 : Index := Scalar.indexCast v369
  let c112_615 : Index := 112#32
  ![v432.toNat, 112]
@[reducible] def k0_t32_loop : Scf.Loop 32 :=
  let c0_i32_282 : BitVec 32 := 0#32
  let c4_i32_283 : BitVec 32 := 4#32
  let v174 : BitVec 32 := Scalar.addi c0_i32_282 c4_i32_283
  let c1_i32_284 : BitVec 32 := 1#32
  ⟨c0_i32_282, v174, c1_i32_284⟩
@[reducible] def k0_t33_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off230 (k0_t32 : Fin k0_t32_loop.trips) (k0_t33 : Fin k0_t33_loop.trips) : Fin 3 → Nat :=
  let c0_i32_616 : BitVec 32 := 0#32
  let v435 : Index := Scalar.indexCast c0_i32_616
  let c0_i32_282 : BitVec 32 := 0#32
  let c1_i32_284 : BitVec 32 := 1#32
  let arg14 : BitVec 32 := Scf.iv c0_i32_282 c1_i32_284 k0_t32
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t33
  let v434 : BitVec 32 := Scalar.addi v358 arg15
  let v436 : Index := Scalar.indexCast v434
  let c0_617 : Index := 0#32
  ![0, v436.toNat, 0]
def k0_off231 (k0_t32 : Fin k0_t32_loop.trips) (k0_t33 : Fin k0_t33_loop.trips) : Fin 3 → Nat :=
  let c0_i32_618 : BitVec 32 := 0#32
  let v439 : Index := Scalar.indexCast c0_i32_618
  let c0_i32_282 : BitVec 32 := 0#32
  let c1_i32_284 : BitVec 32 := 1#32
  let arg14 : BitVec 32 := Scf.iv c0_i32_282 c1_i32_284 k0_t32
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t33
  let v434 : BitVec 32 := Scalar.addi v358 arg15
  let v440 : Index := Scalar.indexCast v434
  let c16_619 : Index := 16#32
  ![0, v440.toNat, 16]
def k0_off232 (k0_t32 : Fin k0_t32_loop.trips) (k0_t33 : Fin k0_t33_loop.trips) : Fin 3 → Nat :=
  let c0_i32_620 : BitVec 32 := 0#32
  let v443 : Index := Scalar.indexCast c0_i32_620
  let c0_i32_282 : BitVec 32 := 0#32
  let c1_i32_284 : BitVec 32 := 1#32
  let arg14 : BitVec 32 := Scf.iv c0_i32_282 c1_i32_284 k0_t32
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t33
  let v434 : BitVec 32 := Scalar.addi v358 arg15
  let v444 : Index := Scalar.indexCast v434
  let c32_621 : Index := 32#32
  ![0, v444.toNat, 32]
def k0_off233 (k0_t32 : Fin k0_t32_loop.trips) (k0_t33 : Fin k0_t33_loop.trips) : Fin 3 → Nat :=
  let c0_i32_622 : BitVec 32 := 0#32
  let v447 : Index := Scalar.indexCast c0_i32_622
  let c0_i32_282 : BitVec 32 := 0#32
  let c1_i32_284 : BitVec 32 := 1#32
  let arg14 : BitVec 32 := Scf.iv c0_i32_282 c1_i32_284 k0_t32
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t33
  let v434 : BitVec 32 := Scalar.addi v358 arg15
  let v448 : Index := Scalar.indexCast v434
  let c48_623 : Index := 48#32
  ![0, v448.toNat, 48]
def k0_off234 (k0_t32 : Fin k0_t32_loop.trips) (k0_t33 : Fin k0_t33_loop.trips) : Fin 3 → Nat :=
  let c0_i32_624 : BitVec 32 := 0#32
  let v451 : Index := Scalar.indexCast c0_i32_624
  let c0_i32_282 : BitVec 32 := 0#32
  let c1_i32_284 : BitVec 32 := 1#32
  let arg14 : BitVec 32 := Scf.iv c0_i32_282 c1_i32_284 k0_t32
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t33
  let v434 : BitVec 32 := Scalar.addi v358 arg15
  let v452 : Index := Scalar.indexCast v434
  let c64_625 : Index := 64#32
  ![0, v452.toNat, 64]
def k0_off235 (k0_t32 : Fin k0_t32_loop.trips) (k0_t33 : Fin k0_t33_loop.trips) : Fin 3 → Nat :=
  let c0_i32_626 : BitVec 32 := 0#32
  let v455 : Index := Scalar.indexCast c0_i32_626
  let c0_i32_282 : BitVec 32 := 0#32
  let c1_i32_284 : BitVec 32 := 1#32
  let arg14 : BitVec 32 := Scf.iv c0_i32_282 c1_i32_284 k0_t32
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t33
  let v434 : BitVec 32 := Scalar.addi v358 arg15
  let v456 : Index := Scalar.indexCast v434
  let c80_627 : Index := 80#32
  ![0, v456.toNat, 80]
def k0_off236 (k0_t32 : Fin k0_t32_loop.trips) (k0_t33 : Fin k0_t33_loop.trips) : Fin 3 → Nat :=
  let c0_i32_628 : BitVec 32 := 0#32
  let v459 : Index := Scalar.indexCast c0_i32_628
  let c0_i32_282 : BitVec 32 := 0#32
  let c1_i32_284 : BitVec 32 := 1#32
  let arg14 : BitVec 32 := Scf.iv c0_i32_282 c1_i32_284 k0_t32
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t33
  let v434 : BitVec 32 := Scalar.addi v358 arg15
  let v460 : Index := Scalar.indexCast v434
  let c96_629 : Index := 96#32
  ![0, v460.toNat, 96]
def k0_off237 (k0_t32 : Fin k0_t32_loop.trips) (k0_t33 : Fin k0_t33_loop.trips) : Fin 3 → Nat :=
  let c0_i32_630 : BitVec 32 := 0#32
  let v463 : Index := Scalar.indexCast c0_i32_630
  let c0_i32_282 : BitVec 32 := 0#32
  let c1_i32_284 : BitVec 32 := 1#32
  let arg14 : BitVec 32 := Scf.iv c0_i32_282 c1_i32_284 k0_t32
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t33
  let v434 : BitVec 32 := Scalar.addi v358 arg15
  let v464 : Index := Scalar.indexCast v434
  let c112_631 : Index := 112#32
  ![0, v464.toNat, 112]

def k0_chk16 (v370 : IVec S16 32) : Prop :=
  (∀ a x, ((![v370] : Fin 1 → IVec S16 32) a x).toNat < S128.size a)
theorem k0_idx16_inb : ∀ (v370 : IVec S16 32) (k0_hw16 : k0_chk16 v370), ∀ a x, ((![v370] : Fin 1 → IVec S16 32) a x).toNat < S128.size a := fun v370 k0_hw16 => k0_hw16
def k0_off238 (k0_t32 : Fin k0_t32_loop.trips) : Fin 2 → Nat :=
  let c56_i32 : BitVec 32 := 56#32
  let c0_i32_282 : BitVec 32 := 0#32
  let c1_i32_284 : BitVec 32 := 1#32
  let arg14 : BitVec 32 := Scf.iv c0_i32_282 c1_i32_284 k0_t32
  let v369 : BitVec 32 := Scalar.addi c56_i32 arg14
  let v383 : Index := Scalar.indexCast v369
  let c0_601 : Index := 0#32
  ![v383.toNat, 0]
def k0_off239 (k0_t32 : Fin k0_t32_loop.trips) : Fin 2 → Nat :=
  let c56_i32 : BitVec 32 := 56#32
  let c0_i32_282 : BitVec 32 := 0#32
  let c1_i32_284 : BitVec 32 := 1#32
  let arg14 : BitVec 32 := Scf.iv c0_i32_282 c1_i32_284 k0_t32
  let v369 : BitVec 32 := Scalar.addi c56_i32 arg14
  let v390 : Index := Scalar.indexCast v369
  let c16_603 : Index := 16#32
  ![v390.toNat, 16]
def k0_off240 (k0_t32 : Fin k0_t32_loop.trips) : Fin 2 → Nat :=
  let c56_i32 : BitVec 32 := 56#32
  let c0_i32_282 : BitVec 32 := 0#32
  let c1_i32_284 : BitVec 32 := 1#32
  let arg14 : BitVec 32 := Scf.iv c0_i32_282 c1_i32_284 k0_t32
  let v369 : BitVec 32 := Scalar.addi c56_i32 arg14
  let v397 : Index := Scalar.indexCast v369
  let c32_605 : Index := 32#32
  ![v397.toNat, 32]
def k0_off241 (k0_t32 : Fin k0_t32_loop.trips) : Fin 2 → Nat :=
  let c56_i32 : BitVec 32 := 56#32
  let c0_i32_282 : BitVec 32 := 0#32
  let c1_i32_284 : BitVec 32 := 1#32
  let arg14 : BitVec 32 := Scf.iv c0_i32_282 c1_i32_284 k0_t32
  let v369 : BitVec 32 := Scalar.addi c56_i32 arg14
  let v404 : Index := Scalar.indexCast v369
  let c48_607 : Index := 48#32
  ![v404.toNat, 48]
def k0_off242 (k0_t32 : Fin k0_t32_loop.trips) : Fin 2 → Nat :=
  let c56_i32 : BitVec 32 := 56#32
  let c0_i32_282 : BitVec 32 := 0#32
  let c1_i32_284 : BitVec 32 := 1#32
  let arg14 : BitVec 32 := Scf.iv c0_i32_282 c1_i32_284 k0_t32
  let v369 : BitVec 32 := Scalar.addi c56_i32 arg14
  let v411 : Index := Scalar.indexCast v369
  let c64_609 : Index := 64#32
  ![v411.toNat, 64]
def k0_off243 (k0_t32 : Fin k0_t32_loop.trips) : Fin 2 → Nat :=
  let c56_i32 : BitVec 32 := 56#32
  let c0_i32_282 : BitVec 32 := 0#32
  let c1_i32_284 : BitVec 32 := 1#32
  let arg14 : BitVec 32 := Scf.iv c0_i32_282 c1_i32_284 k0_t32
  let v369 : BitVec 32 := Scalar.addi c56_i32 arg14
  let v418 : Index := Scalar.indexCast v369
  let c80_611 : Index := 80#32
  ![v418.toNat, 80]
def k0_off244 (k0_t32 : Fin k0_t32_loop.trips) : Fin 2 → Nat :=
  let c56_i32 : BitVec 32 := 56#32
  let c0_i32_282 : BitVec 32 := 0#32
  let c1_i32_284 : BitVec 32 := 1#32
  let arg14 : BitVec 32 := Scf.iv c0_i32_282 c1_i32_284 k0_t32
  let v369 : BitVec 32 := Scalar.addi c56_i32 arg14
  let v425 : Index := Scalar.indexCast v369
  let c96_613 : Index := 96#32
  ![v425.toNat, 96]
def k0_off245 (k0_t32 : Fin k0_t32_loop.trips) : Fin 2 → Nat :=
  let c56_i32 : BitVec 32 := 56#32
  let c0_i32_282 : BitVec 32 := 0#32
  let c1_i32_284 : BitVec 32 := 1#32
  let arg14 : BitVec 32 := Scf.iv c0_i32_282 c1_i32_284 k0_t32
  let v369 : BitVec 32 := Scalar.addi c56_i32 arg14
  let v432 : Index := Scalar.indexCast v369
  let c112_615 : Index := 112#32
  ![v432.toNat, 112]
@[reducible] def k0_t34_loop : Scf.Loop 32 :=
  let c0_i32_300 : BitVec 32 := 0#32
  let c4_i32_301 : BitVec 32 := 4#32
  let v185 : BitVec 32 := Scalar.addi c0_i32_300 c4_i32_301
  let c1_i32_302 : BitVec 32 := 1#32
  ⟨c0_i32_300, v185, c1_i32_302⟩
@[reducible] def k0_t35_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off246 (k0_t34 : Fin k0_t34_loop.trips) (k0_t35 : Fin k0_t35_loop.trips) : Fin 3 → Nat :=
  let c1_i32_616 : BitVec 32 := 1#32
  let v435 : Index := Scalar.indexCast c1_i32_616
  let c0_i32_300 : BitVec 32 := 0#32
  let c1_i32_302 : BitVec 32 := 1#32
  let arg14 : BitVec 32 := Scf.iv c0_i32_300 c1_i32_302 k0_t34
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t35
  let v434 : BitVec 32 := Scalar.addi v358 arg15
  let v436 : Index := Scalar.indexCast v434
  let c0_617 : Index := 0#32
  ![1, v436.toNat, 0]
def k0_off247 (k0_t34 : Fin k0_t34_loop.trips) (k0_t35 : Fin k0_t35_loop.trips) : Fin 3 → Nat :=
  let c1_i32_618 : BitVec 32 := 1#32
  let v439 : Index := Scalar.indexCast c1_i32_618
  let c0_i32_300 : BitVec 32 := 0#32
  let c1_i32_302 : BitVec 32 := 1#32
  let arg14 : BitVec 32 := Scf.iv c0_i32_300 c1_i32_302 k0_t34
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t35
  let v434 : BitVec 32 := Scalar.addi v358 arg15
  let v440 : Index := Scalar.indexCast v434
  let c16_619 : Index := 16#32
  ![1, v440.toNat, 16]
def k0_off248 (k0_t34 : Fin k0_t34_loop.trips) (k0_t35 : Fin k0_t35_loop.trips) : Fin 3 → Nat :=
  let c1_i32_620 : BitVec 32 := 1#32
  let v443 : Index := Scalar.indexCast c1_i32_620
  let c0_i32_300 : BitVec 32 := 0#32
  let c1_i32_302 : BitVec 32 := 1#32
  let arg14 : BitVec 32 := Scf.iv c0_i32_300 c1_i32_302 k0_t34
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t35
  let v434 : BitVec 32 := Scalar.addi v358 arg15
  let v444 : Index := Scalar.indexCast v434
  let c32_621 : Index := 32#32
  ![1, v444.toNat, 32]
def k0_off249 (k0_t34 : Fin k0_t34_loop.trips) (k0_t35 : Fin k0_t35_loop.trips) : Fin 3 → Nat :=
  let c1_i32_622 : BitVec 32 := 1#32
  let v447 : Index := Scalar.indexCast c1_i32_622
  let c0_i32_300 : BitVec 32 := 0#32
  let c1_i32_302 : BitVec 32 := 1#32
  let arg14 : BitVec 32 := Scf.iv c0_i32_300 c1_i32_302 k0_t34
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t35
  let v434 : BitVec 32 := Scalar.addi v358 arg15
  let v448 : Index := Scalar.indexCast v434
  let c48_623 : Index := 48#32
  ![1, v448.toNat, 48]
def k0_off250 (k0_t34 : Fin k0_t34_loop.trips) (k0_t35 : Fin k0_t35_loop.trips) : Fin 3 → Nat :=
  let c1_i32_624 : BitVec 32 := 1#32
  let v451 : Index := Scalar.indexCast c1_i32_624
  let c0_i32_300 : BitVec 32 := 0#32
  let c1_i32_302 : BitVec 32 := 1#32
  let arg14 : BitVec 32 := Scf.iv c0_i32_300 c1_i32_302 k0_t34
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t35
  let v434 : BitVec 32 := Scalar.addi v358 arg15
  let v452 : Index := Scalar.indexCast v434
  let c64_625 : Index := 64#32
  ![1, v452.toNat, 64]
def k0_off251 (k0_t34 : Fin k0_t34_loop.trips) (k0_t35 : Fin k0_t35_loop.trips) : Fin 3 → Nat :=
  let c1_i32_626 : BitVec 32 := 1#32
  let v455 : Index := Scalar.indexCast c1_i32_626
  let c0_i32_300 : BitVec 32 := 0#32
  let c1_i32_302 : BitVec 32 := 1#32
  let arg14 : BitVec 32 := Scf.iv c0_i32_300 c1_i32_302 k0_t34
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t35
  let v434 : BitVec 32 := Scalar.addi v358 arg15
  let v456 : Index := Scalar.indexCast v434
  let c80_627 : Index := 80#32
  ![1, v456.toNat, 80]
def k0_off252 (k0_t34 : Fin k0_t34_loop.trips) (k0_t35 : Fin k0_t35_loop.trips) : Fin 3 → Nat :=
  let c1_i32_628 : BitVec 32 := 1#32
  let v459 : Index := Scalar.indexCast c1_i32_628
  let c0_i32_300 : BitVec 32 := 0#32
  let c1_i32_302 : BitVec 32 := 1#32
  let arg14 : BitVec 32 := Scf.iv c0_i32_300 c1_i32_302 k0_t34
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t35
  let v434 : BitVec 32 := Scalar.addi v358 arg15
  let v460 : Index := Scalar.indexCast v434
  let c96_629 : Index := 96#32
  ![1, v460.toNat, 96]
def k0_off253 (k0_t34 : Fin k0_t34_loop.trips) (k0_t35 : Fin k0_t35_loop.trips) : Fin 3 → Nat :=
  let c1_i32_630 : BitVec 32 := 1#32
  let v463 : Index := Scalar.indexCast c1_i32_630
  let c0_i32_300 : BitVec 32 := 0#32
  let c1_i32_302 : BitVec 32 := 1#32
  let arg14 : BitVec 32 := Scf.iv c0_i32_300 c1_i32_302 k0_t34
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t35
  let v434 : BitVec 32 := Scalar.addi v358 arg15
  let v464 : Index := Scalar.indexCast v434
  let c112_631 : Index := 112#32
  ![1, v464.toNat, 112]

def k0_chk17 (v370 : IVec S16 32) : Prop :=
  (∀ a x, ((![v370] : Fin 1 → IVec S16 32) a x).toNat < S128.size a)
theorem k0_idx17_inb : ∀ (v370 : IVec S16 32) (k0_hw17 : k0_chk17 v370), ∀ a x, ((![v370] : Fin 1 → IVec S16 32) a x).toNat < S128.size a := fun v370 k0_hw17 => k0_hw17
def k0_off254 (k0_t34 : Fin k0_t34_loop.trips) : Fin 2 → Nat :=
  let c60_i32 : BitVec 32 := 60#32
  let c0_i32_300 : BitVec 32 := 0#32
  let c1_i32_302 : BitVec 32 := 1#32
  let arg14 : BitVec 32 := Scf.iv c0_i32_300 c1_i32_302 k0_t34
  let v369 : BitVec 32 := Scalar.addi c60_i32 arg14
  let v383 : Index := Scalar.indexCast v369
  let c0_601 : Index := 0#32
  ![v383.toNat, 0]
def k0_off255 (k0_t34 : Fin k0_t34_loop.trips) : Fin 2 → Nat :=
  let c60_i32 : BitVec 32 := 60#32
  let c0_i32_300 : BitVec 32 := 0#32
  let c1_i32_302 : BitVec 32 := 1#32
  let arg14 : BitVec 32 := Scf.iv c0_i32_300 c1_i32_302 k0_t34
  let v369 : BitVec 32 := Scalar.addi c60_i32 arg14
  let v390 : Index := Scalar.indexCast v369
  let c16_603 : Index := 16#32
  ![v390.toNat, 16]
def k0_off256 (k0_t34 : Fin k0_t34_loop.trips) : Fin 2 → Nat :=
  let c60_i32 : BitVec 32 := 60#32
  let c0_i32_300 : BitVec 32 := 0#32
  let c1_i32_302 : BitVec 32 := 1#32
  let arg14 : BitVec 32 := Scf.iv c0_i32_300 c1_i32_302 k0_t34
  let v369 : BitVec 32 := Scalar.addi c60_i32 arg14
  let v397 : Index := Scalar.indexCast v369
  let c32_605 : Index := 32#32
  ![v397.toNat, 32]
def k0_off257 (k0_t34 : Fin k0_t34_loop.trips) : Fin 2 → Nat :=
  let c60_i32 : BitVec 32 := 60#32
  let c0_i32_300 : BitVec 32 := 0#32
  let c1_i32_302 : BitVec 32 := 1#32
  let arg14 : BitVec 32 := Scf.iv c0_i32_300 c1_i32_302 k0_t34
  let v369 : BitVec 32 := Scalar.addi c60_i32 arg14
  let v404 : Index := Scalar.indexCast v369
  let c48_607 : Index := 48#32
  ![v404.toNat, 48]
def k0_off258 (k0_t34 : Fin k0_t34_loop.trips) : Fin 2 → Nat :=
  let c60_i32 : BitVec 32 := 60#32
  let c0_i32_300 : BitVec 32 := 0#32
  let c1_i32_302 : BitVec 32 := 1#32
  let arg14 : BitVec 32 := Scf.iv c0_i32_300 c1_i32_302 k0_t34
  let v369 : BitVec 32 := Scalar.addi c60_i32 arg14
  let v411 : Index := Scalar.indexCast v369
  let c64_609 : Index := 64#32
  ![v411.toNat, 64]
def k0_off259 (k0_t34 : Fin k0_t34_loop.trips) : Fin 2 → Nat :=
  let c60_i32 : BitVec 32 := 60#32
  let c0_i32_300 : BitVec 32 := 0#32
  let c1_i32_302 : BitVec 32 := 1#32
  let arg14 : BitVec 32 := Scf.iv c0_i32_300 c1_i32_302 k0_t34
  let v369 : BitVec 32 := Scalar.addi c60_i32 arg14
  let v418 : Index := Scalar.indexCast v369
  let c80_611 : Index := 80#32
  ![v418.toNat, 80]
def k0_off260 (k0_t34 : Fin k0_t34_loop.trips) : Fin 2 → Nat :=
  let c60_i32 : BitVec 32 := 60#32
  let c0_i32_300 : BitVec 32 := 0#32
  let c1_i32_302 : BitVec 32 := 1#32
  let arg14 : BitVec 32 := Scf.iv c0_i32_300 c1_i32_302 k0_t34
  let v369 : BitVec 32 := Scalar.addi c60_i32 arg14
  let v425 : Index := Scalar.indexCast v369
  let c96_613 : Index := 96#32
  ![v425.toNat, 96]
def k0_off261 (k0_t34 : Fin k0_t34_loop.trips) : Fin 2 → Nat :=
  let c60_i32 : BitVec 32 := 60#32
  let c0_i32_300 : BitVec 32 := 0#32
  let c1_i32_302 : BitVec 32 := 1#32
  let arg14 : BitVec 32 := Scf.iv c0_i32_300 c1_i32_302 k0_t34
  let v369 : BitVec 32 := Scalar.addi c60_i32 arg14
  let v432 : Index := Scalar.indexCast v369
  let c112_615 : Index := 112#32
  ![v432.toNat, 112]
@[reducible] def k0_t36_loop : Scf.Loop 32 :=
  let c0_i32_318 : BitVec 32 := 0#32
  let c4_i32_319 : BitVec 32 := 4#32
  let v196 : BitVec 32 := Scalar.addi c0_i32_318 c4_i32_319
  let c1_i32_320 : BitVec 32 := 1#32
  ⟨c0_i32_318, v196, c1_i32_320⟩
@[reducible] def k0_t37_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off262 (k0_t36 : Fin k0_t36_loop.trips) (k0_t37 : Fin k0_t37_loop.trips) : Fin 3 → Nat :=
  let c0_i32_616 : BitVec 32 := 0#32
  let v435 : Index := Scalar.indexCast c0_i32_616
  let c0_i32_318 : BitVec 32 := 0#32
  let c1_i32_320 : BitVec 32 := 1#32
  let arg14 : BitVec 32 := Scf.iv c0_i32_318 c1_i32_320 k0_t36
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t37
  let v434 : BitVec 32 := Scalar.addi v358 arg15
  let v436 : Index := Scalar.indexCast v434
  let c0_617 : Index := 0#32
  ![0, v436.toNat, 0]
def k0_off263 (k0_t36 : Fin k0_t36_loop.trips) (k0_t37 : Fin k0_t37_loop.trips) : Fin 3 → Nat :=
  let c0_i32_618 : BitVec 32 := 0#32
  let v439 : Index := Scalar.indexCast c0_i32_618
  let c0_i32_318 : BitVec 32 := 0#32
  let c1_i32_320 : BitVec 32 := 1#32
  let arg14 : BitVec 32 := Scf.iv c0_i32_318 c1_i32_320 k0_t36
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t37
  let v434 : BitVec 32 := Scalar.addi v358 arg15
  let v440 : Index := Scalar.indexCast v434
  let c16_619 : Index := 16#32
  ![0, v440.toNat, 16]
def k0_off264 (k0_t36 : Fin k0_t36_loop.trips) (k0_t37 : Fin k0_t37_loop.trips) : Fin 3 → Nat :=
  let c0_i32_620 : BitVec 32 := 0#32
  let v443 : Index := Scalar.indexCast c0_i32_620
  let c0_i32_318 : BitVec 32 := 0#32
  let c1_i32_320 : BitVec 32 := 1#32
  let arg14 : BitVec 32 := Scf.iv c0_i32_318 c1_i32_320 k0_t36
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t37
  let v434 : BitVec 32 := Scalar.addi v358 arg15
  let v444 : Index := Scalar.indexCast v434
  let c32_621 : Index := 32#32
  ![0, v444.toNat, 32]
def k0_off265 (k0_t36 : Fin k0_t36_loop.trips) (k0_t37 : Fin k0_t37_loop.trips) : Fin 3 → Nat :=
  let c0_i32_622 : BitVec 32 := 0#32
  let v447 : Index := Scalar.indexCast c0_i32_622
  let c0_i32_318 : BitVec 32 := 0#32
  let c1_i32_320 : BitVec 32 := 1#32
  let arg14 : BitVec 32 := Scf.iv c0_i32_318 c1_i32_320 k0_t36
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t37
  let v434 : BitVec 32 := Scalar.addi v358 arg15
  let v448 : Index := Scalar.indexCast v434
  let c48_623 : Index := 48#32
  ![0, v448.toNat, 48]
def k0_off266 (k0_t36 : Fin k0_t36_loop.trips) (k0_t37 : Fin k0_t37_loop.trips) : Fin 3 → Nat :=
  let c0_i32_624 : BitVec 32 := 0#32
  let v451 : Index := Scalar.indexCast c0_i32_624
  let c0_i32_318 : BitVec 32 := 0#32
  let c1_i32_320 : BitVec 32 := 1#32
  let arg14 : BitVec 32 := Scf.iv c0_i32_318 c1_i32_320 k0_t36
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t37
  let v434 : BitVec 32 := Scalar.addi v358 arg15
  let v452 : Index := Scalar.indexCast v434
  let c64_625 : Index := 64#32
  ![0, v452.toNat, 64]
def k0_off267 (k0_t36 : Fin k0_t36_loop.trips) (k0_t37 : Fin k0_t37_loop.trips) : Fin 3 → Nat :=
  let c0_i32_626 : BitVec 32 := 0#32
  let v455 : Index := Scalar.indexCast c0_i32_626
  let c0_i32_318 : BitVec 32 := 0#32
  let c1_i32_320 : BitVec 32 := 1#32
  let arg14 : BitVec 32 := Scf.iv c0_i32_318 c1_i32_320 k0_t36
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t37
  let v434 : BitVec 32 := Scalar.addi v358 arg15
  let v456 : Index := Scalar.indexCast v434
  let c80_627 : Index := 80#32
  ![0, v456.toNat, 80]
def k0_off268 (k0_t36 : Fin k0_t36_loop.trips) (k0_t37 : Fin k0_t37_loop.trips) : Fin 3 → Nat :=
  let c0_i32_628 : BitVec 32 := 0#32
  let v459 : Index := Scalar.indexCast c0_i32_628
  let c0_i32_318 : BitVec 32 := 0#32
  let c1_i32_320 : BitVec 32 := 1#32
  let arg14 : BitVec 32 := Scf.iv c0_i32_318 c1_i32_320 k0_t36
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t37
  let v434 : BitVec 32 := Scalar.addi v358 arg15
  let v460 : Index := Scalar.indexCast v434
  let c96_629 : Index := 96#32
  ![0, v460.toNat, 96]
def k0_off269 (k0_t36 : Fin k0_t36_loop.trips) (k0_t37 : Fin k0_t37_loop.trips) : Fin 3 → Nat :=
  let c0_i32_630 : BitVec 32 := 0#32
  let v463 : Index := Scalar.indexCast c0_i32_630
  let c0_i32_318 : BitVec 32 := 0#32
  let c1_i32_320 : BitVec 32 := 1#32
  let arg14 : BitVec 32 := Scf.iv c0_i32_318 c1_i32_320 k0_t36
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t37
  let v434 : BitVec 32 := Scalar.addi v358 arg15
  let v464 : Index := Scalar.indexCast v434
  let c112_631 : Index := 112#32
  ![0, v464.toNat, 112]

def k0_chk18 (v370 : IVec S16 32) : Prop :=
  (∀ a x, ((![v370] : Fin 1 → IVec S16 32) a x).toNat < S128.size a)
theorem k0_idx18_inb : ∀ (v370 : IVec S16 32) (k0_hw18 : k0_chk18 v370), ∀ a x, ((![v370] : Fin 1 → IVec S16 32) a x).toNat < S128.size a := fun v370 k0_hw18 => k0_hw18
def k0_off270 (k0_t36 : Fin k0_t36_loop.trips) : Fin 2 → Nat :=
  let c64_i32 : BitVec 32 := 64#32
  let c0_i32_318 : BitVec 32 := 0#32
  let c1_i32_320 : BitVec 32 := 1#32
  let arg14 : BitVec 32 := Scf.iv c0_i32_318 c1_i32_320 k0_t36
  let v369 : BitVec 32 := Scalar.addi c64_i32 arg14
  let v383 : Index := Scalar.indexCast v369
  let c0_601 : Index := 0#32
  ![v383.toNat, 0]
def k0_off271 (k0_t36 : Fin k0_t36_loop.trips) : Fin 2 → Nat :=
  let c64_i32 : BitVec 32 := 64#32
  let c0_i32_318 : BitVec 32 := 0#32
  let c1_i32_320 : BitVec 32 := 1#32
  let arg14 : BitVec 32 := Scf.iv c0_i32_318 c1_i32_320 k0_t36
  let v369 : BitVec 32 := Scalar.addi c64_i32 arg14
  let v390 : Index := Scalar.indexCast v369
  let c16_603 : Index := 16#32
  ![v390.toNat, 16]
def k0_off272 (k0_t36 : Fin k0_t36_loop.trips) : Fin 2 → Nat :=
  let c64_i32 : BitVec 32 := 64#32
  let c0_i32_318 : BitVec 32 := 0#32
  let c1_i32_320 : BitVec 32 := 1#32
  let arg14 : BitVec 32 := Scf.iv c0_i32_318 c1_i32_320 k0_t36
  let v369 : BitVec 32 := Scalar.addi c64_i32 arg14
  let v397 : Index := Scalar.indexCast v369
  let c32_605 : Index := 32#32
  ![v397.toNat, 32]
def k0_off273 (k0_t36 : Fin k0_t36_loop.trips) : Fin 2 → Nat :=
  let c64_i32 : BitVec 32 := 64#32
  let c0_i32_318 : BitVec 32 := 0#32
  let c1_i32_320 : BitVec 32 := 1#32
  let arg14 : BitVec 32 := Scf.iv c0_i32_318 c1_i32_320 k0_t36
  let v369 : BitVec 32 := Scalar.addi c64_i32 arg14
  let v404 : Index := Scalar.indexCast v369
  let c48_607 : Index := 48#32
  ![v404.toNat, 48]
def k0_off274 (k0_t36 : Fin k0_t36_loop.trips) : Fin 2 → Nat :=
  let c64_i32 : BitVec 32 := 64#32
  let c0_i32_318 : BitVec 32 := 0#32
  let c1_i32_320 : BitVec 32 := 1#32
  let arg14 : BitVec 32 := Scf.iv c0_i32_318 c1_i32_320 k0_t36
  let v369 : BitVec 32 := Scalar.addi c64_i32 arg14
  let v411 : Index := Scalar.indexCast v369
  let c64_609 : Index := 64#32
  ![v411.toNat, 64]
def k0_off275 (k0_t36 : Fin k0_t36_loop.trips) : Fin 2 → Nat :=
  let c64_i32 : BitVec 32 := 64#32
  let c0_i32_318 : BitVec 32 := 0#32
  let c1_i32_320 : BitVec 32 := 1#32
  let arg14 : BitVec 32 := Scf.iv c0_i32_318 c1_i32_320 k0_t36
  let v369 : BitVec 32 := Scalar.addi c64_i32 arg14
  let v418 : Index := Scalar.indexCast v369
  let c80_611 : Index := 80#32
  ![v418.toNat, 80]
def k0_off276 (k0_t36 : Fin k0_t36_loop.trips) : Fin 2 → Nat :=
  let c64_i32 : BitVec 32 := 64#32
  let c0_i32_318 : BitVec 32 := 0#32
  let c1_i32_320 : BitVec 32 := 1#32
  let arg14 : BitVec 32 := Scf.iv c0_i32_318 c1_i32_320 k0_t36
  let v369 : BitVec 32 := Scalar.addi c64_i32 arg14
  let v425 : Index := Scalar.indexCast v369
  let c96_613 : Index := 96#32
  ![v425.toNat, 96]
def k0_off277 (k0_t36 : Fin k0_t36_loop.trips) : Fin 2 → Nat :=
  let c64_i32 : BitVec 32 := 64#32
  let c0_i32_318 : BitVec 32 := 0#32
  let c1_i32_320 : BitVec 32 := 1#32
  let arg14 : BitVec 32 := Scf.iv c0_i32_318 c1_i32_320 k0_t36
  let v369 : BitVec 32 := Scalar.addi c64_i32 arg14
  let v432 : Index := Scalar.indexCast v369
  let c112_615 : Index := 112#32
  ![v432.toNat, 112]
@[reducible] def k0_t38_loop : Scf.Loop 32 :=
  let c0_i32_336 : BitVec 32 := 0#32
  let c4_i32_337 : BitVec 32 := 4#32
  let v207 : BitVec 32 := Scalar.addi c0_i32_336 c4_i32_337
  let c1_i32_338 : BitVec 32 := 1#32
  ⟨c0_i32_336, v207, c1_i32_338⟩
@[reducible] def k0_t39_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off278 (k0_t38 : Fin k0_t38_loop.trips) (k0_t39 : Fin k0_t39_loop.trips) : Fin 3 → Nat :=
  let c1_i32_616 : BitVec 32 := 1#32
  let v435 : Index := Scalar.indexCast c1_i32_616
  let c0_i32_336 : BitVec 32 := 0#32
  let c1_i32_338 : BitVec 32 := 1#32
  let arg14 : BitVec 32 := Scf.iv c0_i32_336 c1_i32_338 k0_t38
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t39
  let v434 : BitVec 32 := Scalar.addi v358 arg15
  let v436 : Index := Scalar.indexCast v434
  let c0_617 : Index := 0#32
  ![1, v436.toNat, 0]
def k0_off279 (k0_t38 : Fin k0_t38_loop.trips) (k0_t39 : Fin k0_t39_loop.trips) : Fin 3 → Nat :=
  let c1_i32_618 : BitVec 32 := 1#32
  let v439 : Index := Scalar.indexCast c1_i32_618
  let c0_i32_336 : BitVec 32 := 0#32
  let c1_i32_338 : BitVec 32 := 1#32
  let arg14 : BitVec 32 := Scf.iv c0_i32_336 c1_i32_338 k0_t38
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t39
  let v434 : BitVec 32 := Scalar.addi v358 arg15
  let v440 : Index := Scalar.indexCast v434
  let c16_619 : Index := 16#32
  ![1, v440.toNat, 16]
def k0_off280 (k0_t38 : Fin k0_t38_loop.trips) (k0_t39 : Fin k0_t39_loop.trips) : Fin 3 → Nat :=
  let c1_i32_620 : BitVec 32 := 1#32
  let v443 : Index := Scalar.indexCast c1_i32_620
  let c0_i32_336 : BitVec 32 := 0#32
  let c1_i32_338 : BitVec 32 := 1#32
  let arg14 : BitVec 32 := Scf.iv c0_i32_336 c1_i32_338 k0_t38
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t39
  let v434 : BitVec 32 := Scalar.addi v358 arg15
  let v444 : Index := Scalar.indexCast v434
  let c32_621 : Index := 32#32
  ![1, v444.toNat, 32]
def k0_off281 (k0_t38 : Fin k0_t38_loop.trips) (k0_t39 : Fin k0_t39_loop.trips) : Fin 3 → Nat :=
  let c1_i32_622 : BitVec 32 := 1#32
  let v447 : Index := Scalar.indexCast c1_i32_622
  let c0_i32_336 : BitVec 32 := 0#32
  let c1_i32_338 : BitVec 32 := 1#32
  let arg14 : BitVec 32 := Scf.iv c0_i32_336 c1_i32_338 k0_t38
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t39
  let v434 : BitVec 32 := Scalar.addi v358 arg15
  let v448 : Index := Scalar.indexCast v434
  let c48_623 : Index := 48#32
  ![1, v448.toNat, 48]
def k0_off282 (k0_t38 : Fin k0_t38_loop.trips) (k0_t39 : Fin k0_t39_loop.trips) : Fin 3 → Nat :=
  let c1_i32_624 : BitVec 32 := 1#32
  let v451 : Index := Scalar.indexCast c1_i32_624
  let c0_i32_336 : BitVec 32 := 0#32
  let c1_i32_338 : BitVec 32 := 1#32
  let arg14 : BitVec 32 := Scf.iv c0_i32_336 c1_i32_338 k0_t38
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t39
  let v434 : BitVec 32 := Scalar.addi v358 arg15
  let v452 : Index := Scalar.indexCast v434
  let c64_625 : Index := 64#32
  ![1, v452.toNat, 64]
def k0_off283 (k0_t38 : Fin k0_t38_loop.trips) (k0_t39 : Fin k0_t39_loop.trips) : Fin 3 → Nat :=
  let c1_i32_626 : BitVec 32 := 1#32
  let v455 : Index := Scalar.indexCast c1_i32_626
  let c0_i32_336 : BitVec 32 := 0#32
  let c1_i32_338 : BitVec 32 := 1#32
  let arg14 : BitVec 32 := Scf.iv c0_i32_336 c1_i32_338 k0_t38
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t39
  let v434 : BitVec 32 := Scalar.addi v358 arg15
  let v456 : Index := Scalar.indexCast v434
  let c80_627 : Index := 80#32
  ![1, v456.toNat, 80]
def k0_off284 (k0_t38 : Fin k0_t38_loop.trips) (k0_t39 : Fin k0_t39_loop.trips) : Fin 3 → Nat :=
  let c1_i32_628 : BitVec 32 := 1#32
  let v459 : Index := Scalar.indexCast c1_i32_628
  let c0_i32_336 : BitVec 32 := 0#32
  let c1_i32_338 : BitVec 32 := 1#32
  let arg14 : BitVec 32 := Scf.iv c0_i32_336 c1_i32_338 k0_t38
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t39
  let v434 : BitVec 32 := Scalar.addi v358 arg15
  let v460 : Index := Scalar.indexCast v434
  let c96_629 : Index := 96#32
  ![1, v460.toNat, 96]
def k0_off285 (k0_t38 : Fin k0_t38_loop.trips) (k0_t39 : Fin k0_t39_loop.trips) : Fin 3 → Nat :=
  let c1_i32_630 : BitVec 32 := 1#32
  let v463 : Index := Scalar.indexCast c1_i32_630
  let c0_i32_336 : BitVec 32 := 0#32
  let c1_i32_338 : BitVec 32 := 1#32
  let arg14 : BitVec 32 := Scf.iv c0_i32_336 c1_i32_338 k0_t38
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t39
  let v434 : BitVec 32 := Scalar.addi v358 arg15
  let v464 : Index := Scalar.indexCast v434
  let c112_631 : Index := 112#32
  ![1, v464.toNat, 112]

def k0_chk19 (v370 : IVec S16 32) : Prop :=
  (∀ a x, ((![v370] : Fin 1 → IVec S16 32) a x).toNat < S128.size a)
theorem k0_idx19_inb : ∀ (v370 : IVec S16 32) (k0_hw19 : k0_chk19 v370), ∀ a x, ((![v370] : Fin 1 → IVec S16 32) a x).toNat < S128.size a := fun v370 k0_hw19 => k0_hw19
def k0_off286 (k0_t38 : Fin k0_t38_loop.trips) : Fin 2 → Nat :=
  let c68_i32 : BitVec 32 := 68#32
  let c0_i32_336 : BitVec 32 := 0#32
  let c1_i32_338 : BitVec 32 := 1#32
  let arg14 : BitVec 32 := Scf.iv c0_i32_336 c1_i32_338 k0_t38
  let v369 : BitVec 32 := Scalar.addi c68_i32 arg14
  let v383 : Index := Scalar.indexCast v369
  let c0_601 : Index := 0#32
  ![v383.toNat, 0]
def k0_off287 (k0_t38 : Fin k0_t38_loop.trips) : Fin 2 → Nat :=
  let c68_i32 : BitVec 32 := 68#32
  let c0_i32_336 : BitVec 32 := 0#32
  let c1_i32_338 : BitVec 32 := 1#32
  let arg14 : BitVec 32 := Scf.iv c0_i32_336 c1_i32_338 k0_t38
  let v369 : BitVec 32 := Scalar.addi c68_i32 arg14
  let v390 : Index := Scalar.indexCast v369
  let c16_603 : Index := 16#32
  ![v390.toNat, 16]
def k0_off288 (k0_t38 : Fin k0_t38_loop.trips) : Fin 2 → Nat :=
  let c68_i32 : BitVec 32 := 68#32
  let c0_i32_336 : BitVec 32 := 0#32
  let c1_i32_338 : BitVec 32 := 1#32
  let arg14 : BitVec 32 := Scf.iv c0_i32_336 c1_i32_338 k0_t38
  let v369 : BitVec 32 := Scalar.addi c68_i32 arg14
  let v397 : Index := Scalar.indexCast v369
  let c32_605 : Index := 32#32
  ![v397.toNat, 32]
def k0_off289 (k0_t38 : Fin k0_t38_loop.trips) : Fin 2 → Nat :=
  let c68_i32 : BitVec 32 := 68#32
  let c0_i32_336 : BitVec 32 := 0#32
  let c1_i32_338 : BitVec 32 := 1#32
  let arg14 : BitVec 32 := Scf.iv c0_i32_336 c1_i32_338 k0_t38
  let v369 : BitVec 32 := Scalar.addi c68_i32 arg14
  let v404 : Index := Scalar.indexCast v369
  let c48_607 : Index := 48#32
  ![v404.toNat, 48]
def k0_off290 (k0_t38 : Fin k0_t38_loop.trips) : Fin 2 → Nat :=
  let c68_i32 : BitVec 32 := 68#32
  let c0_i32_336 : BitVec 32 := 0#32
  let c1_i32_338 : BitVec 32 := 1#32
  let arg14 : BitVec 32 := Scf.iv c0_i32_336 c1_i32_338 k0_t38
  let v369 : BitVec 32 := Scalar.addi c68_i32 arg14
  let v411 : Index := Scalar.indexCast v369
  let c64_609 : Index := 64#32
  ![v411.toNat, 64]
def k0_off291 (k0_t38 : Fin k0_t38_loop.trips) : Fin 2 → Nat :=
  let c68_i32 : BitVec 32 := 68#32
  let c0_i32_336 : BitVec 32 := 0#32
  let c1_i32_338 : BitVec 32 := 1#32
  let arg14 : BitVec 32 := Scf.iv c0_i32_336 c1_i32_338 k0_t38
  let v369 : BitVec 32 := Scalar.addi c68_i32 arg14
  let v418 : Index := Scalar.indexCast v369
  let c80_611 : Index := 80#32
  ![v418.toNat, 80]
def k0_off292 (k0_t38 : Fin k0_t38_loop.trips) : Fin 2 → Nat :=
  let c68_i32 : BitVec 32 := 68#32
  let c0_i32_336 : BitVec 32 := 0#32
  let c1_i32_338 : BitVec 32 := 1#32
  let arg14 : BitVec 32 := Scf.iv c0_i32_336 c1_i32_338 k0_t38
  let v369 : BitVec 32 := Scalar.addi c68_i32 arg14
  let v425 : Index := Scalar.indexCast v369
  let c96_613 : Index := 96#32
  ![v425.toNat, 96]
def k0_off293 (k0_t38 : Fin k0_t38_loop.trips) : Fin 2 → Nat :=
  let c68_i32 : BitVec 32 := 68#32
  let c0_i32_336 : BitVec 32 := 0#32
  let c1_i32_338 : BitVec 32 := 1#32
  let arg14 : BitVec 32 := Scf.iv c0_i32_336 c1_i32_338 k0_t38
  let v369 : BitVec 32 := Scalar.addi c68_i32 arg14
  let v432 : Index := Scalar.indexCast v369
  let c112_615 : Index := 112#32
  ![v432.toNat, 112]
@[reducible] def k0_t40_loop : Scf.Loop 32 :=
  let c0_i32_354 : BitVec 32 := 0#32
  let c4_i32_355 : BitVec 32 := 4#32
  let v218 : BitVec 32 := Scalar.addi c0_i32_354 c4_i32_355
  let c1_i32_356 : BitVec 32 := 1#32
  ⟨c0_i32_354, v218, c1_i32_356⟩
@[reducible] def k0_t41_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off294 (k0_t40 : Fin k0_t40_loop.trips) (k0_t41 : Fin k0_t41_loop.trips) : Fin 3 → Nat :=
  let c0_i32_616 : BitVec 32 := 0#32
  let v435 : Index := Scalar.indexCast c0_i32_616
  let c0_i32_354 : BitVec 32 := 0#32
  let c1_i32_356 : BitVec 32 := 1#32
  let arg14 : BitVec 32 := Scf.iv c0_i32_354 c1_i32_356 k0_t40
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t41
  let v434 : BitVec 32 := Scalar.addi v358 arg15
  let v436 : Index := Scalar.indexCast v434
  let c0_617 : Index := 0#32
  ![0, v436.toNat, 0]
def k0_off295 (k0_t40 : Fin k0_t40_loop.trips) (k0_t41 : Fin k0_t41_loop.trips) : Fin 3 → Nat :=
  let c0_i32_618 : BitVec 32 := 0#32
  let v439 : Index := Scalar.indexCast c0_i32_618
  let c0_i32_354 : BitVec 32 := 0#32
  let c1_i32_356 : BitVec 32 := 1#32
  let arg14 : BitVec 32 := Scf.iv c0_i32_354 c1_i32_356 k0_t40
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t41
  let v434 : BitVec 32 := Scalar.addi v358 arg15
  let v440 : Index := Scalar.indexCast v434
  let c16_619 : Index := 16#32
  ![0, v440.toNat, 16]
def k0_off296 (k0_t40 : Fin k0_t40_loop.trips) (k0_t41 : Fin k0_t41_loop.trips) : Fin 3 → Nat :=
  let c0_i32_620 : BitVec 32 := 0#32
  let v443 : Index := Scalar.indexCast c0_i32_620
  let c0_i32_354 : BitVec 32 := 0#32
  let c1_i32_356 : BitVec 32 := 1#32
  let arg14 : BitVec 32 := Scf.iv c0_i32_354 c1_i32_356 k0_t40
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t41
  let v434 : BitVec 32 := Scalar.addi v358 arg15
  let v444 : Index := Scalar.indexCast v434
  let c32_621 : Index := 32#32
  ![0, v444.toNat, 32]
def k0_off297 (k0_t40 : Fin k0_t40_loop.trips) (k0_t41 : Fin k0_t41_loop.trips) : Fin 3 → Nat :=
  let c0_i32_622 : BitVec 32 := 0#32
  let v447 : Index := Scalar.indexCast c0_i32_622
  let c0_i32_354 : BitVec 32 := 0#32
  let c1_i32_356 : BitVec 32 := 1#32
  let arg14 : BitVec 32 := Scf.iv c0_i32_354 c1_i32_356 k0_t40
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t41
  let v434 : BitVec 32 := Scalar.addi v358 arg15
  let v448 : Index := Scalar.indexCast v434
  let c48_623 : Index := 48#32
  ![0, v448.toNat, 48]
def k0_off298 (k0_t40 : Fin k0_t40_loop.trips) (k0_t41 : Fin k0_t41_loop.trips) : Fin 3 → Nat :=
  let c0_i32_624 : BitVec 32 := 0#32
  let v451 : Index := Scalar.indexCast c0_i32_624
  let c0_i32_354 : BitVec 32 := 0#32
  let c1_i32_356 : BitVec 32 := 1#32
  let arg14 : BitVec 32 := Scf.iv c0_i32_354 c1_i32_356 k0_t40
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t41
  let v434 : BitVec 32 := Scalar.addi v358 arg15
  let v452 : Index := Scalar.indexCast v434
  let c64_625 : Index := 64#32
  ![0, v452.toNat, 64]
def k0_off299 (k0_t40 : Fin k0_t40_loop.trips) (k0_t41 : Fin k0_t41_loop.trips) : Fin 3 → Nat :=
  let c0_i32_626 : BitVec 32 := 0#32
  let v455 : Index := Scalar.indexCast c0_i32_626
  let c0_i32_354 : BitVec 32 := 0#32
  let c1_i32_356 : BitVec 32 := 1#32
  let arg14 : BitVec 32 := Scf.iv c0_i32_354 c1_i32_356 k0_t40
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t41
  let v434 : BitVec 32 := Scalar.addi v358 arg15
  let v456 : Index := Scalar.indexCast v434
  let c80_627 : Index := 80#32
  ![0, v456.toNat, 80]
def k0_off300 (k0_t40 : Fin k0_t40_loop.trips) (k0_t41 : Fin k0_t41_loop.trips) : Fin 3 → Nat :=
  let c0_i32_628 : BitVec 32 := 0#32
  let v459 : Index := Scalar.indexCast c0_i32_628
  let c0_i32_354 : BitVec 32 := 0#32
  let c1_i32_356 : BitVec 32 := 1#32
  let arg14 : BitVec 32 := Scf.iv c0_i32_354 c1_i32_356 k0_t40
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t41
  let v434 : BitVec 32 := Scalar.addi v358 arg15
  let v460 : Index := Scalar.indexCast v434
  let c96_629 : Index := 96#32
  ![0, v460.toNat, 96]
def k0_off301 (k0_t40 : Fin k0_t40_loop.trips) (k0_t41 : Fin k0_t41_loop.trips) : Fin 3 → Nat :=
  let c0_i32_630 : BitVec 32 := 0#32
  let v463 : Index := Scalar.indexCast c0_i32_630
  let c0_i32_354 : BitVec 32 := 0#32
  let c1_i32_356 : BitVec 32 := 1#32
  let arg14 : BitVec 32 := Scf.iv c0_i32_354 c1_i32_356 k0_t40
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t41
  let v434 : BitVec 32 := Scalar.addi v358 arg15
  let v464 : Index := Scalar.indexCast v434
  let c112_631 : Index := 112#32
  ![0, v464.toNat, 112]

def k0_chk20 (v370 : IVec S16 32) : Prop :=
  (∀ a x, ((![v370] : Fin 1 → IVec S16 32) a x).toNat < S128.size a)
theorem k0_idx20_inb : ∀ (v370 : IVec S16 32) (k0_hw20 : k0_chk20 v370), ∀ a x, ((![v370] : Fin 1 → IVec S16 32) a x).toNat < S128.size a := fun v370 k0_hw20 => k0_hw20
def k0_off302 (k0_t40 : Fin k0_t40_loop.trips) : Fin 2 → Nat :=
  let c72_i32 : BitVec 32 := 72#32
  let c0_i32_354 : BitVec 32 := 0#32
  let c1_i32_356 : BitVec 32 := 1#32
  let arg14 : BitVec 32 := Scf.iv c0_i32_354 c1_i32_356 k0_t40
  let v369 : BitVec 32 := Scalar.addi c72_i32 arg14
  let v383 : Index := Scalar.indexCast v369
  let c0_601 : Index := 0#32
  ![v383.toNat, 0]
def k0_off303 (k0_t40 : Fin k0_t40_loop.trips) : Fin 2 → Nat :=
  let c72_i32 : BitVec 32 := 72#32
  let c0_i32_354 : BitVec 32 := 0#32
  let c1_i32_356 : BitVec 32 := 1#32
  let arg14 : BitVec 32 := Scf.iv c0_i32_354 c1_i32_356 k0_t40
  let v369 : BitVec 32 := Scalar.addi c72_i32 arg14
  let v390 : Index := Scalar.indexCast v369
  let c16_603 : Index := 16#32
  ![v390.toNat, 16]
def k0_off304 (k0_t40 : Fin k0_t40_loop.trips) : Fin 2 → Nat :=
  let c72_i32 : BitVec 32 := 72#32
  let c0_i32_354 : BitVec 32 := 0#32
  let c1_i32_356 : BitVec 32 := 1#32
  let arg14 : BitVec 32 := Scf.iv c0_i32_354 c1_i32_356 k0_t40
  let v369 : BitVec 32 := Scalar.addi c72_i32 arg14
  let v397 : Index := Scalar.indexCast v369
  let c32_605 : Index := 32#32
  ![v397.toNat, 32]
def k0_off305 (k0_t40 : Fin k0_t40_loop.trips) : Fin 2 → Nat :=
  let c72_i32 : BitVec 32 := 72#32
  let c0_i32_354 : BitVec 32 := 0#32
  let c1_i32_356 : BitVec 32 := 1#32
  let arg14 : BitVec 32 := Scf.iv c0_i32_354 c1_i32_356 k0_t40
  let v369 : BitVec 32 := Scalar.addi c72_i32 arg14
  let v404 : Index := Scalar.indexCast v369
  let c48_607 : Index := 48#32
  ![v404.toNat, 48]
def k0_off306 (k0_t40 : Fin k0_t40_loop.trips) : Fin 2 → Nat :=
  let c72_i32 : BitVec 32 := 72#32
  let c0_i32_354 : BitVec 32 := 0#32
  let c1_i32_356 : BitVec 32 := 1#32
  let arg14 : BitVec 32 := Scf.iv c0_i32_354 c1_i32_356 k0_t40
  let v369 : BitVec 32 := Scalar.addi c72_i32 arg14
  let v411 : Index := Scalar.indexCast v369
  let c64_609 : Index := 64#32
  ![v411.toNat, 64]
def k0_off307 (k0_t40 : Fin k0_t40_loop.trips) : Fin 2 → Nat :=
  let c72_i32 : BitVec 32 := 72#32
  let c0_i32_354 : BitVec 32 := 0#32
  let c1_i32_356 : BitVec 32 := 1#32
  let arg14 : BitVec 32 := Scf.iv c0_i32_354 c1_i32_356 k0_t40
  let v369 : BitVec 32 := Scalar.addi c72_i32 arg14
  let v418 : Index := Scalar.indexCast v369
  let c80_611 : Index := 80#32
  ![v418.toNat, 80]
def k0_off308 (k0_t40 : Fin k0_t40_loop.trips) : Fin 2 → Nat :=
  let c72_i32 : BitVec 32 := 72#32
  let c0_i32_354 : BitVec 32 := 0#32
  let c1_i32_356 : BitVec 32 := 1#32
  let arg14 : BitVec 32 := Scf.iv c0_i32_354 c1_i32_356 k0_t40
  let v369 : BitVec 32 := Scalar.addi c72_i32 arg14
  let v425 : Index := Scalar.indexCast v369
  let c96_613 : Index := 96#32
  ![v425.toNat, 96]
def k0_off309 (k0_t40 : Fin k0_t40_loop.trips) : Fin 2 → Nat :=
  let c72_i32 : BitVec 32 := 72#32
  let c0_i32_354 : BitVec 32 := 0#32
  let c1_i32_356 : BitVec 32 := 1#32
  let arg14 : BitVec 32 := Scf.iv c0_i32_354 c1_i32_356 k0_t40
  let v369 : BitVec 32 := Scalar.addi c72_i32 arg14
  let v432 : Index := Scalar.indexCast v369
  let c112_615 : Index := 112#32
  ![v432.toNat, 112]
@[reducible] def k0_t42_loop : Scf.Loop 32 :=
  let c0_i32_372 : BitVec 32 := 0#32
  let c4_i32_373 : BitVec 32 := 4#32
  let v229 : BitVec 32 := Scalar.addi c0_i32_372 c4_i32_373
  let c1_i32_374 : BitVec 32 := 1#32
  ⟨c0_i32_372, v229, c1_i32_374⟩
@[reducible] def k0_t43_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off310 (k0_t42 : Fin k0_t42_loop.trips) (k0_t43 : Fin k0_t43_loop.trips) : Fin 3 → Nat :=
  let c1_i32_616 : BitVec 32 := 1#32
  let v435 : Index := Scalar.indexCast c1_i32_616
  let c0_i32_372 : BitVec 32 := 0#32
  let c1_i32_374 : BitVec 32 := 1#32
  let arg14 : BitVec 32 := Scf.iv c0_i32_372 c1_i32_374 k0_t42
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t43
  let v434 : BitVec 32 := Scalar.addi v358 arg15
  let v436 : Index := Scalar.indexCast v434
  let c0_617 : Index := 0#32
  ![1, v436.toNat, 0]
def k0_off311 (k0_t42 : Fin k0_t42_loop.trips) (k0_t43 : Fin k0_t43_loop.trips) : Fin 3 → Nat :=
  let c1_i32_618 : BitVec 32 := 1#32
  let v439 : Index := Scalar.indexCast c1_i32_618
  let c0_i32_372 : BitVec 32 := 0#32
  let c1_i32_374 : BitVec 32 := 1#32
  let arg14 : BitVec 32 := Scf.iv c0_i32_372 c1_i32_374 k0_t42
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t43
  let v434 : BitVec 32 := Scalar.addi v358 arg15
  let v440 : Index := Scalar.indexCast v434
  let c16_619 : Index := 16#32
  ![1, v440.toNat, 16]
def k0_off312 (k0_t42 : Fin k0_t42_loop.trips) (k0_t43 : Fin k0_t43_loop.trips) : Fin 3 → Nat :=
  let c1_i32_620 : BitVec 32 := 1#32
  let v443 : Index := Scalar.indexCast c1_i32_620
  let c0_i32_372 : BitVec 32 := 0#32
  let c1_i32_374 : BitVec 32 := 1#32
  let arg14 : BitVec 32 := Scf.iv c0_i32_372 c1_i32_374 k0_t42
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t43
  let v434 : BitVec 32 := Scalar.addi v358 arg15
  let v444 : Index := Scalar.indexCast v434
  let c32_621 : Index := 32#32
  ![1, v444.toNat, 32]
def k0_off313 (k0_t42 : Fin k0_t42_loop.trips) (k0_t43 : Fin k0_t43_loop.trips) : Fin 3 → Nat :=
  let c1_i32_622 : BitVec 32 := 1#32
  let v447 : Index := Scalar.indexCast c1_i32_622
  let c0_i32_372 : BitVec 32 := 0#32
  let c1_i32_374 : BitVec 32 := 1#32
  let arg14 : BitVec 32 := Scf.iv c0_i32_372 c1_i32_374 k0_t42
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t43
  let v434 : BitVec 32 := Scalar.addi v358 arg15
  let v448 : Index := Scalar.indexCast v434
  let c48_623 : Index := 48#32
  ![1, v448.toNat, 48]
def k0_off314 (k0_t42 : Fin k0_t42_loop.trips) (k0_t43 : Fin k0_t43_loop.trips) : Fin 3 → Nat :=
  let c1_i32_624 : BitVec 32 := 1#32
  let v451 : Index := Scalar.indexCast c1_i32_624
  let c0_i32_372 : BitVec 32 := 0#32
  let c1_i32_374 : BitVec 32 := 1#32
  let arg14 : BitVec 32 := Scf.iv c0_i32_372 c1_i32_374 k0_t42
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t43
  let v434 : BitVec 32 := Scalar.addi v358 arg15
  let v452 : Index := Scalar.indexCast v434
  let c64_625 : Index := 64#32
  ![1, v452.toNat, 64]
def k0_off315 (k0_t42 : Fin k0_t42_loop.trips) (k0_t43 : Fin k0_t43_loop.trips) : Fin 3 → Nat :=
  let c1_i32_626 : BitVec 32 := 1#32
  let v455 : Index := Scalar.indexCast c1_i32_626
  let c0_i32_372 : BitVec 32 := 0#32
  let c1_i32_374 : BitVec 32 := 1#32
  let arg14 : BitVec 32 := Scf.iv c0_i32_372 c1_i32_374 k0_t42
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t43
  let v434 : BitVec 32 := Scalar.addi v358 arg15
  let v456 : Index := Scalar.indexCast v434
  let c80_627 : Index := 80#32
  ![1, v456.toNat, 80]
def k0_off316 (k0_t42 : Fin k0_t42_loop.trips) (k0_t43 : Fin k0_t43_loop.trips) : Fin 3 → Nat :=
  let c1_i32_628 : BitVec 32 := 1#32
  let v459 : Index := Scalar.indexCast c1_i32_628
  let c0_i32_372 : BitVec 32 := 0#32
  let c1_i32_374 : BitVec 32 := 1#32
  let arg14 : BitVec 32 := Scf.iv c0_i32_372 c1_i32_374 k0_t42
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t43
  let v434 : BitVec 32 := Scalar.addi v358 arg15
  let v460 : Index := Scalar.indexCast v434
  let c96_629 : Index := 96#32
  ![1, v460.toNat, 96]
def k0_off317 (k0_t42 : Fin k0_t42_loop.trips) (k0_t43 : Fin k0_t43_loop.trips) : Fin 3 → Nat :=
  let c1_i32_630 : BitVec 32 := 1#32
  let v463 : Index := Scalar.indexCast c1_i32_630
  let c0_i32_372 : BitVec 32 := 0#32
  let c1_i32_374 : BitVec 32 := 1#32
  let arg14 : BitVec 32 := Scf.iv c0_i32_372 c1_i32_374 k0_t42
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t43
  let v434 : BitVec 32 := Scalar.addi v358 arg15
  let v464 : Index := Scalar.indexCast v434
  let c112_631 : Index := 112#32
  ![1, v464.toNat, 112]

def k0_chk21 (v370 : IVec S16 32) : Prop :=
  (∀ a x, ((![v370] : Fin 1 → IVec S16 32) a x).toNat < S128.size a)
theorem k0_idx21_inb : ∀ (v370 : IVec S16 32) (k0_hw21 : k0_chk21 v370), ∀ a x, ((![v370] : Fin 1 → IVec S16 32) a x).toNat < S128.size a := fun v370 k0_hw21 => k0_hw21
def k0_off318 (k0_t42 : Fin k0_t42_loop.trips) : Fin 2 → Nat :=
  let c76_i32 : BitVec 32 := 76#32
  let c0_i32_372 : BitVec 32 := 0#32
  let c1_i32_374 : BitVec 32 := 1#32
  let arg14 : BitVec 32 := Scf.iv c0_i32_372 c1_i32_374 k0_t42
  let v369 : BitVec 32 := Scalar.addi c76_i32 arg14
  let v383 : Index := Scalar.indexCast v369
  let c0_601 : Index := 0#32
  ![v383.toNat, 0]
def k0_off319 (k0_t42 : Fin k0_t42_loop.trips) : Fin 2 → Nat :=
  let c76_i32 : BitVec 32 := 76#32
  let c0_i32_372 : BitVec 32 := 0#32
  let c1_i32_374 : BitVec 32 := 1#32
  let arg14 : BitVec 32 := Scf.iv c0_i32_372 c1_i32_374 k0_t42
  let v369 : BitVec 32 := Scalar.addi c76_i32 arg14
  let v390 : Index := Scalar.indexCast v369
  let c16_603 : Index := 16#32
  ![v390.toNat, 16]
def k0_off320 (k0_t42 : Fin k0_t42_loop.trips) : Fin 2 → Nat :=
  let c76_i32 : BitVec 32 := 76#32
  let c0_i32_372 : BitVec 32 := 0#32
  let c1_i32_374 : BitVec 32 := 1#32
  let arg14 : BitVec 32 := Scf.iv c0_i32_372 c1_i32_374 k0_t42
  let v369 : BitVec 32 := Scalar.addi c76_i32 arg14
  let v397 : Index := Scalar.indexCast v369
  let c32_605 : Index := 32#32
  ![v397.toNat, 32]
def k0_off321 (k0_t42 : Fin k0_t42_loop.trips) : Fin 2 → Nat :=
  let c76_i32 : BitVec 32 := 76#32
  let c0_i32_372 : BitVec 32 := 0#32
  let c1_i32_374 : BitVec 32 := 1#32
  let arg14 : BitVec 32 := Scf.iv c0_i32_372 c1_i32_374 k0_t42
  let v369 : BitVec 32 := Scalar.addi c76_i32 arg14
  let v404 : Index := Scalar.indexCast v369
  let c48_607 : Index := 48#32
  ![v404.toNat, 48]
def k0_off322 (k0_t42 : Fin k0_t42_loop.trips) : Fin 2 → Nat :=
  let c76_i32 : BitVec 32 := 76#32
  let c0_i32_372 : BitVec 32 := 0#32
  let c1_i32_374 : BitVec 32 := 1#32
  let arg14 : BitVec 32 := Scf.iv c0_i32_372 c1_i32_374 k0_t42
  let v369 : BitVec 32 := Scalar.addi c76_i32 arg14
  let v411 : Index := Scalar.indexCast v369
  let c64_609 : Index := 64#32
  ![v411.toNat, 64]
def k0_off323 (k0_t42 : Fin k0_t42_loop.trips) : Fin 2 → Nat :=
  let c76_i32 : BitVec 32 := 76#32
  let c0_i32_372 : BitVec 32 := 0#32
  let c1_i32_374 : BitVec 32 := 1#32
  let arg14 : BitVec 32 := Scf.iv c0_i32_372 c1_i32_374 k0_t42
  let v369 : BitVec 32 := Scalar.addi c76_i32 arg14
  let v418 : Index := Scalar.indexCast v369
  let c80_611 : Index := 80#32
  ![v418.toNat, 80]
def k0_off324 (k0_t42 : Fin k0_t42_loop.trips) : Fin 2 → Nat :=
  let c76_i32 : BitVec 32 := 76#32
  let c0_i32_372 : BitVec 32 := 0#32
  let c1_i32_374 : BitVec 32 := 1#32
  let arg14 : BitVec 32 := Scf.iv c0_i32_372 c1_i32_374 k0_t42
  let v369 : BitVec 32 := Scalar.addi c76_i32 arg14
  let v425 : Index := Scalar.indexCast v369
  let c96_613 : Index := 96#32
  ![v425.toNat, 96]
def k0_off325 (k0_t42 : Fin k0_t42_loop.trips) : Fin 2 → Nat :=
  let c76_i32 : BitVec 32 := 76#32
  let c0_i32_372 : BitVec 32 := 0#32
  let c1_i32_374 : BitVec 32 := 1#32
  let arg14 : BitVec 32 := Scf.iv c0_i32_372 c1_i32_374 k0_t42
  let v369 : BitVec 32 := Scalar.addi c76_i32 arg14
  let v432 : Index := Scalar.indexCast v369
  let c112_615 : Index := 112#32
  ![v432.toNat, 112]
@[reducible] def k0_t44_loop : Scf.Loop 32 :=
  let c0_i32_390 : BitVec 32 := 0#32
  let c4_i32_391 : BitVec 32 := 4#32
  let v240 : BitVec 32 := Scalar.addi c0_i32_390 c4_i32_391
  let c1_i32_392 : BitVec 32 := 1#32
  ⟨c0_i32_390, v240, c1_i32_392⟩
@[reducible] def k0_t45_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off326 (k0_t44 : Fin k0_t44_loop.trips) (k0_t45 : Fin k0_t45_loop.trips) : Fin 3 → Nat :=
  let c0_i32_616 : BitVec 32 := 0#32
  let v435 : Index := Scalar.indexCast c0_i32_616
  let c0_i32_390 : BitVec 32 := 0#32
  let c1_i32_392 : BitVec 32 := 1#32
  let arg14 : BitVec 32 := Scf.iv c0_i32_390 c1_i32_392 k0_t44
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t45
  let v434 : BitVec 32 := Scalar.addi v358 arg15
  let v436 : Index := Scalar.indexCast v434
  let c0_617 : Index := 0#32
  ![0, v436.toNat, 0]
def k0_off327 (k0_t44 : Fin k0_t44_loop.trips) (k0_t45 : Fin k0_t45_loop.trips) : Fin 3 → Nat :=
  let c0_i32_618 : BitVec 32 := 0#32
  let v439 : Index := Scalar.indexCast c0_i32_618
  let c0_i32_390 : BitVec 32 := 0#32
  let c1_i32_392 : BitVec 32 := 1#32
  let arg14 : BitVec 32 := Scf.iv c0_i32_390 c1_i32_392 k0_t44
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t45
  let v434 : BitVec 32 := Scalar.addi v358 arg15
  let v440 : Index := Scalar.indexCast v434
  let c16_619 : Index := 16#32
  ![0, v440.toNat, 16]
def k0_off328 (k0_t44 : Fin k0_t44_loop.trips) (k0_t45 : Fin k0_t45_loop.trips) : Fin 3 → Nat :=
  let c0_i32_620 : BitVec 32 := 0#32
  let v443 : Index := Scalar.indexCast c0_i32_620
  let c0_i32_390 : BitVec 32 := 0#32
  let c1_i32_392 : BitVec 32 := 1#32
  let arg14 : BitVec 32 := Scf.iv c0_i32_390 c1_i32_392 k0_t44
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t45
  let v434 : BitVec 32 := Scalar.addi v358 arg15
  let v444 : Index := Scalar.indexCast v434
  let c32_621 : Index := 32#32
  ![0, v444.toNat, 32]
def k0_off329 (k0_t44 : Fin k0_t44_loop.trips) (k0_t45 : Fin k0_t45_loop.trips) : Fin 3 → Nat :=
  let c0_i32_622 : BitVec 32 := 0#32
  let v447 : Index := Scalar.indexCast c0_i32_622
  let c0_i32_390 : BitVec 32 := 0#32
  let c1_i32_392 : BitVec 32 := 1#32
  let arg14 : BitVec 32 := Scf.iv c0_i32_390 c1_i32_392 k0_t44
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t45
  let v434 : BitVec 32 := Scalar.addi v358 arg15
  let v448 : Index := Scalar.indexCast v434
  let c48_623 : Index := 48#32
  ![0, v448.toNat, 48]
def k0_off330 (k0_t44 : Fin k0_t44_loop.trips) (k0_t45 : Fin k0_t45_loop.trips) : Fin 3 → Nat :=
  let c0_i32_624 : BitVec 32 := 0#32
  let v451 : Index := Scalar.indexCast c0_i32_624
  let c0_i32_390 : BitVec 32 := 0#32
  let c1_i32_392 : BitVec 32 := 1#32
  let arg14 : BitVec 32 := Scf.iv c0_i32_390 c1_i32_392 k0_t44
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t45
  let v434 : BitVec 32 := Scalar.addi v358 arg15
  let v452 : Index := Scalar.indexCast v434
  let c64_625 : Index := 64#32
  ![0, v452.toNat, 64]
def k0_off331 (k0_t44 : Fin k0_t44_loop.trips) (k0_t45 : Fin k0_t45_loop.trips) : Fin 3 → Nat :=
  let c0_i32_626 : BitVec 32 := 0#32
  let v455 : Index := Scalar.indexCast c0_i32_626
  let c0_i32_390 : BitVec 32 := 0#32
  let c1_i32_392 : BitVec 32 := 1#32
  let arg14 : BitVec 32 := Scf.iv c0_i32_390 c1_i32_392 k0_t44
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t45
  let v434 : BitVec 32 := Scalar.addi v358 arg15
  let v456 : Index := Scalar.indexCast v434
  let c80_627 : Index := 80#32
  ![0, v456.toNat, 80]
def k0_off332 (k0_t44 : Fin k0_t44_loop.trips) (k0_t45 : Fin k0_t45_loop.trips) : Fin 3 → Nat :=
  let c0_i32_628 : BitVec 32 := 0#32
  let v459 : Index := Scalar.indexCast c0_i32_628
  let c0_i32_390 : BitVec 32 := 0#32
  let c1_i32_392 : BitVec 32 := 1#32
  let arg14 : BitVec 32 := Scf.iv c0_i32_390 c1_i32_392 k0_t44
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t45
  let v434 : BitVec 32 := Scalar.addi v358 arg15
  let v460 : Index := Scalar.indexCast v434
  let c96_629 : Index := 96#32
  ![0, v460.toNat, 96]
def k0_off333 (k0_t44 : Fin k0_t44_loop.trips) (k0_t45 : Fin k0_t45_loop.trips) : Fin 3 → Nat :=
  let c0_i32_630 : BitVec 32 := 0#32
  let v463 : Index := Scalar.indexCast c0_i32_630
  let c0_i32_390 : BitVec 32 := 0#32
  let c1_i32_392 : BitVec 32 := 1#32
  let arg14 : BitVec 32 := Scf.iv c0_i32_390 c1_i32_392 k0_t44
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t45
  let v434 : BitVec 32 := Scalar.addi v358 arg15
  let v464 : Index := Scalar.indexCast v434
  let c112_631 : Index := 112#32
  ![0, v464.toNat, 112]

def k0_chk22 (v370 : IVec S16 32) : Prop :=
  (∀ a x, ((![v370] : Fin 1 → IVec S16 32) a x).toNat < S128.size a)
theorem k0_idx22_inb : ∀ (v370 : IVec S16 32) (k0_hw22 : k0_chk22 v370), ∀ a x, ((![v370] : Fin 1 → IVec S16 32) a x).toNat < S128.size a := fun v370 k0_hw22 => k0_hw22
def k0_off334 (k0_t44 : Fin k0_t44_loop.trips) : Fin 2 → Nat :=
  let c80_i32 : BitVec 32 := 80#32
  let c0_i32_390 : BitVec 32 := 0#32
  let c1_i32_392 : BitVec 32 := 1#32
  let arg14 : BitVec 32 := Scf.iv c0_i32_390 c1_i32_392 k0_t44
  let v369 : BitVec 32 := Scalar.addi c80_i32 arg14
  let v383 : Index := Scalar.indexCast v369
  let c0_601 : Index := 0#32
  ![v383.toNat, 0]
def k0_off335 (k0_t44 : Fin k0_t44_loop.trips) : Fin 2 → Nat :=
  let c80_i32 : BitVec 32 := 80#32
  let c0_i32_390 : BitVec 32 := 0#32
  let c1_i32_392 : BitVec 32 := 1#32
  let arg14 : BitVec 32 := Scf.iv c0_i32_390 c1_i32_392 k0_t44
  let v369 : BitVec 32 := Scalar.addi c80_i32 arg14
  let v390 : Index := Scalar.indexCast v369
  let c16_603 : Index := 16#32
  ![v390.toNat, 16]
def k0_off336 (k0_t44 : Fin k0_t44_loop.trips) : Fin 2 → Nat :=
  let c80_i32 : BitVec 32 := 80#32
  let c0_i32_390 : BitVec 32 := 0#32
  let c1_i32_392 : BitVec 32 := 1#32
  let arg14 : BitVec 32 := Scf.iv c0_i32_390 c1_i32_392 k0_t44
  let v369 : BitVec 32 := Scalar.addi c80_i32 arg14
  let v397 : Index := Scalar.indexCast v369
  let c32_605 : Index := 32#32
  ![v397.toNat, 32]
def k0_off337 (k0_t44 : Fin k0_t44_loop.trips) : Fin 2 → Nat :=
  let c80_i32 : BitVec 32 := 80#32
  let c0_i32_390 : BitVec 32 := 0#32
  let c1_i32_392 : BitVec 32 := 1#32
  let arg14 : BitVec 32 := Scf.iv c0_i32_390 c1_i32_392 k0_t44
  let v369 : BitVec 32 := Scalar.addi c80_i32 arg14
  let v404 : Index := Scalar.indexCast v369
  let c48_607 : Index := 48#32
  ![v404.toNat, 48]
def k0_off338 (k0_t44 : Fin k0_t44_loop.trips) : Fin 2 → Nat :=
  let c80_i32 : BitVec 32 := 80#32
  let c0_i32_390 : BitVec 32 := 0#32
  let c1_i32_392 : BitVec 32 := 1#32
  let arg14 : BitVec 32 := Scf.iv c0_i32_390 c1_i32_392 k0_t44
  let v369 : BitVec 32 := Scalar.addi c80_i32 arg14
  let v411 : Index := Scalar.indexCast v369
  let c64_609 : Index := 64#32
  ![v411.toNat, 64]
def k0_off339 (k0_t44 : Fin k0_t44_loop.trips) : Fin 2 → Nat :=
  let c80_i32 : BitVec 32 := 80#32
  let c0_i32_390 : BitVec 32 := 0#32
  let c1_i32_392 : BitVec 32 := 1#32
  let arg14 : BitVec 32 := Scf.iv c0_i32_390 c1_i32_392 k0_t44
  let v369 : BitVec 32 := Scalar.addi c80_i32 arg14
  let v418 : Index := Scalar.indexCast v369
  let c80_611 : Index := 80#32
  ![v418.toNat, 80]
def k0_off340 (k0_t44 : Fin k0_t44_loop.trips) : Fin 2 → Nat :=
  let c80_i32 : BitVec 32 := 80#32
  let c0_i32_390 : BitVec 32 := 0#32
  let c1_i32_392 : BitVec 32 := 1#32
  let arg14 : BitVec 32 := Scf.iv c0_i32_390 c1_i32_392 k0_t44
  let v369 : BitVec 32 := Scalar.addi c80_i32 arg14
  let v425 : Index := Scalar.indexCast v369
  let c96_613 : Index := 96#32
  ![v425.toNat, 96]
def k0_off341 (k0_t44 : Fin k0_t44_loop.trips) : Fin 2 → Nat :=
  let c80_i32 : BitVec 32 := 80#32
  let c0_i32_390 : BitVec 32 := 0#32
  let c1_i32_392 : BitVec 32 := 1#32
  let arg14 : BitVec 32 := Scf.iv c0_i32_390 c1_i32_392 k0_t44
  let v369 : BitVec 32 := Scalar.addi c80_i32 arg14
  let v432 : Index := Scalar.indexCast v369
  let c112_615 : Index := 112#32
  ![v432.toNat, 112]
@[reducible] def k0_t46_loop : Scf.Loop 32 :=
  let c0_i32_408 : BitVec 32 := 0#32
  let c4_i32_409 : BitVec 32 := 4#32
  let v251 : BitVec 32 := Scalar.addi c0_i32_408 c4_i32_409
  let c1_i32_410 : BitVec 32 := 1#32
  ⟨c0_i32_408, v251, c1_i32_410⟩
@[reducible] def k0_t47_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off342 (k0_t46 : Fin k0_t46_loop.trips) (k0_t47 : Fin k0_t47_loop.trips) : Fin 3 → Nat :=
  let c1_i32_616 : BitVec 32 := 1#32
  let v435 : Index := Scalar.indexCast c1_i32_616
  let c0_i32_408 : BitVec 32 := 0#32
  let c1_i32_410 : BitVec 32 := 1#32
  let arg14 : BitVec 32 := Scf.iv c0_i32_408 c1_i32_410 k0_t46
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t47
  let v434 : BitVec 32 := Scalar.addi v358 arg15
  let v436 : Index := Scalar.indexCast v434
  let c0_617 : Index := 0#32
  ![1, v436.toNat, 0]
def k0_off343 (k0_t46 : Fin k0_t46_loop.trips) (k0_t47 : Fin k0_t47_loop.trips) : Fin 3 → Nat :=
  let c1_i32_618 : BitVec 32 := 1#32
  let v439 : Index := Scalar.indexCast c1_i32_618
  let c0_i32_408 : BitVec 32 := 0#32
  let c1_i32_410 : BitVec 32 := 1#32
  let arg14 : BitVec 32 := Scf.iv c0_i32_408 c1_i32_410 k0_t46
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t47
  let v434 : BitVec 32 := Scalar.addi v358 arg15
  let v440 : Index := Scalar.indexCast v434
  let c16_619 : Index := 16#32
  ![1, v440.toNat, 16]
def k0_off344 (k0_t46 : Fin k0_t46_loop.trips) (k0_t47 : Fin k0_t47_loop.trips) : Fin 3 → Nat :=
  let c1_i32_620 : BitVec 32 := 1#32
  let v443 : Index := Scalar.indexCast c1_i32_620
  let c0_i32_408 : BitVec 32 := 0#32
  let c1_i32_410 : BitVec 32 := 1#32
  let arg14 : BitVec 32 := Scf.iv c0_i32_408 c1_i32_410 k0_t46
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t47
  let v434 : BitVec 32 := Scalar.addi v358 arg15
  let v444 : Index := Scalar.indexCast v434
  let c32_621 : Index := 32#32
  ![1, v444.toNat, 32]
def k0_off345 (k0_t46 : Fin k0_t46_loop.trips) (k0_t47 : Fin k0_t47_loop.trips) : Fin 3 → Nat :=
  let c1_i32_622 : BitVec 32 := 1#32
  let v447 : Index := Scalar.indexCast c1_i32_622
  let c0_i32_408 : BitVec 32 := 0#32
  let c1_i32_410 : BitVec 32 := 1#32
  let arg14 : BitVec 32 := Scf.iv c0_i32_408 c1_i32_410 k0_t46
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t47
  let v434 : BitVec 32 := Scalar.addi v358 arg15
  let v448 : Index := Scalar.indexCast v434
  let c48_623 : Index := 48#32
  ![1, v448.toNat, 48]
def k0_off346 (k0_t46 : Fin k0_t46_loop.trips) (k0_t47 : Fin k0_t47_loop.trips) : Fin 3 → Nat :=
  let c1_i32_624 : BitVec 32 := 1#32
  let v451 : Index := Scalar.indexCast c1_i32_624
  let c0_i32_408 : BitVec 32 := 0#32
  let c1_i32_410 : BitVec 32 := 1#32
  let arg14 : BitVec 32 := Scf.iv c0_i32_408 c1_i32_410 k0_t46
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t47
  let v434 : BitVec 32 := Scalar.addi v358 arg15
  let v452 : Index := Scalar.indexCast v434
  let c64_625 : Index := 64#32
  ![1, v452.toNat, 64]
def k0_off347 (k0_t46 : Fin k0_t46_loop.trips) (k0_t47 : Fin k0_t47_loop.trips) : Fin 3 → Nat :=
  let c1_i32_626 : BitVec 32 := 1#32
  let v455 : Index := Scalar.indexCast c1_i32_626
  let c0_i32_408 : BitVec 32 := 0#32
  let c1_i32_410 : BitVec 32 := 1#32
  let arg14 : BitVec 32 := Scf.iv c0_i32_408 c1_i32_410 k0_t46
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t47
  let v434 : BitVec 32 := Scalar.addi v358 arg15
  let v456 : Index := Scalar.indexCast v434
  let c80_627 : Index := 80#32
  ![1, v456.toNat, 80]
def k0_off348 (k0_t46 : Fin k0_t46_loop.trips) (k0_t47 : Fin k0_t47_loop.trips) : Fin 3 → Nat :=
  let c1_i32_628 : BitVec 32 := 1#32
  let v459 : Index := Scalar.indexCast c1_i32_628
  let c0_i32_408 : BitVec 32 := 0#32
  let c1_i32_410 : BitVec 32 := 1#32
  let arg14 : BitVec 32 := Scf.iv c0_i32_408 c1_i32_410 k0_t46
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t47
  let v434 : BitVec 32 := Scalar.addi v358 arg15
  let v460 : Index := Scalar.indexCast v434
  let c96_629 : Index := 96#32
  ![1, v460.toNat, 96]
def k0_off349 (k0_t46 : Fin k0_t46_loop.trips) (k0_t47 : Fin k0_t47_loop.trips) : Fin 3 → Nat :=
  let c1_i32_630 : BitVec 32 := 1#32
  let v463 : Index := Scalar.indexCast c1_i32_630
  let c0_i32_408 : BitVec 32 := 0#32
  let c1_i32_410 : BitVec 32 := 1#32
  let arg14 : BitVec 32 := Scf.iv c0_i32_408 c1_i32_410 k0_t46
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t47
  let v434 : BitVec 32 := Scalar.addi v358 arg15
  let v464 : Index := Scalar.indexCast v434
  let c112_631 : Index := 112#32
  ![1, v464.toNat, 112]

def k0_chk23 (v370 : IVec S16 32) : Prop :=
  (∀ a x, ((![v370] : Fin 1 → IVec S16 32) a x).toNat < S128.size a)
theorem k0_idx23_inb : ∀ (v370 : IVec S16 32) (k0_hw23 : k0_chk23 v370), ∀ a x, ((![v370] : Fin 1 → IVec S16 32) a x).toNat < S128.size a := fun v370 k0_hw23 => k0_hw23
def k0_off350 (k0_t46 : Fin k0_t46_loop.trips) : Fin 2 → Nat :=
  let c84_i32 : BitVec 32 := 84#32
  let c0_i32_408 : BitVec 32 := 0#32
  let c1_i32_410 : BitVec 32 := 1#32
  let arg14 : BitVec 32 := Scf.iv c0_i32_408 c1_i32_410 k0_t46
  let v369 : BitVec 32 := Scalar.addi c84_i32 arg14
  let v383 : Index := Scalar.indexCast v369
  let c0_601 : Index := 0#32
  ![v383.toNat, 0]
def k0_off351 (k0_t46 : Fin k0_t46_loop.trips) : Fin 2 → Nat :=
  let c84_i32 : BitVec 32 := 84#32
  let c0_i32_408 : BitVec 32 := 0#32
  let c1_i32_410 : BitVec 32 := 1#32
  let arg14 : BitVec 32 := Scf.iv c0_i32_408 c1_i32_410 k0_t46
  let v369 : BitVec 32 := Scalar.addi c84_i32 arg14
  let v390 : Index := Scalar.indexCast v369
  let c16_603 : Index := 16#32
  ![v390.toNat, 16]
def k0_off352 (k0_t46 : Fin k0_t46_loop.trips) : Fin 2 → Nat :=
  let c84_i32 : BitVec 32 := 84#32
  let c0_i32_408 : BitVec 32 := 0#32
  let c1_i32_410 : BitVec 32 := 1#32
  let arg14 : BitVec 32 := Scf.iv c0_i32_408 c1_i32_410 k0_t46
  let v369 : BitVec 32 := Scalar.addi c84_i32 arg14
  let v397 : Index := Scalar.indexCast v369
  let c32_605 : Index := 32#32
  ![v397.toNat, 32]
def k0_off353 (k0_t46 : Fin k0_t46_loop.trips) : Fin 2 → Nat :=
  let c84_i32 : BitVec 32 := 84#32
  let c0_i32_408 : BitVec 32 := 0#32
  let c1_i32_410 : BitVec 32 := 1#32
  let arg14 : BitVec 32 := Scf.iv c0_i32_408 c1_i32_410 k0_t46
  let v369 : BitVec 32 := Scalar.addi c84_i32 arg14
  let v404 : Index := Scalar.indexCast v369
  let c48_607 : Index := 48#32
  ![v404.toNat, 48]
def k0_off354 (k0_t46 : Fin k0_t46_loop.trips) : Fin 2 → Nat :=
  let c84_i32 : BitVec 32 := 84#32
  let c0_i32_408 : BitVec 32 := 0#32
  let c1_i32_410 : BitVec 32 := 1#32
  let arg14 : BitVec 32 := Scf.iv c0_i32_408 c1_i32_410 k0_t46
  let v369 : BitVec 32 := Scalar.addi c84_i32 arg14
  let v411 : Index := Scalar.indexCast v369
  let c64_609 : Index := 64#32
  ![v411.toNat, 64]
def k0_off355 (k0_t46 : Fin k0_t46_loop.trips) : Fin 2 → Nat :=
  let c84_i32 : BitVec 32 := 84#32
  let c0_i32_408 : BitVec 32 := 0#32
  let c1_i32_410 : BitVec 32 := 1#32
  let arg14 : BitVec 32 := Scf.iv c0_i32_408 c1_i32_410 k0_t46
  let v369 : BitVec 32 := Scalar.addi c84_i32 arg14
  let v418 : Index := Scalar.indexCast v369
  let c80_611 : Index := 80#32
  ![v418.toNat, 80]
def k0_off356 (k0_t46 : Fin k0_t46_loop.trips) : Fin 2 → Nat :=
  let c84_i32 : BitVec 32 := 84#32
  let c0_i32_408 : BitVec 32 := 0#32
  let c1_i32_410 : BitVec 32 := 1#32
  let arg14 : BitVec 32 := Scf.iv c0_i32_408 c1_i32_410 k0_t46
  let v369 : BitVec 32 := Scalar.addi c84_i32 arg14
  let v425 : Index := Scalar.indexCast v369
  let c96_613 : Index := 96#32
  ![v425.toNat, 96]
def k0_off357 (k0_t46 : Fin k0_t46_loop.trips) : Fin 2 → Nat :=
  let c84_i32 : BitVec 32 := 84#32
  let c0_i32_408 : BitVec 32 := 0#32
  let c1_i32_410 : BitVec 32 := 1#32
  let arg14 : BitVec 32 := Scf.iv c0_i32_408 c1_i32_410 k0_t46
  let v369 : BitVec 32 := Scalar.addi c84_i32 arg14
  let v432 : Index := Scalar.indexCast v369
  let c112_615 : Index := 112#32
  ![v432.toNat, 112]
@[reducible] def k0_t48_loop : Scf.Loop 32 :=
  let c0_i32_426 : BitVec 32 := 0#32
  let c4_i32_427 : BitVec 32 := 4#32
  let v262 : BitVec 32 := Scalar.addi c0_i32_426 c4_i32_427
  let c1_i32_428 : BitVec 32 := 1#32
  ⟨c0_i32_426, v262, c1_i32_428⟩
@[reducible] def k0_t49_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off358 (k0_t48 : Fin k0_t48_loop.trips) (k0_t49 : Fin k0_t49_loop.trips) : Fin 3 → Nat :=
  let c0_i32_616 : BitVec 32 := 0#32
  let v435 : Index := Scalar.indexCast c0_i32_616
  let c0_i32_426 : BitVec 32 := 0#32
  let c1_i32_428 : BitVec 32 := 1#32
  let arg14 : BitVec 32 := Scf.iv c0_i32_426 c1_i32_428 k0_t48
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t49
  let v434 : BitVec 32 := Scalar.addi v358 arg15
  let v436 : Index := Scalar.indexCast v434
  let c0_617 : Index := 0#32
  ![0, v436.toNat, 0]
def k0_off359 (k0_t48 : Fin k0_t48_loop.trips) (k0_t49 : Fin k0_t49_loop.trips) : Fin 3 → Nat :=
  let c0_i32_618 : BitVec 32 := 0#32
  let v439 : Index := Scalar.indexCast c0_i32_618
  let c0_i32_426 : BitVec 32 := 0#32
  let c1_i32_428 : BitVec 32 := 1#32
  let arg14 : BitVec 32 := Scf.iv c0_i32_426 c1_i32_428 k0_t48
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t49
  let v434 : BitVec 32 := Scalar.addi v358 arg15
  let v440 : Index := Scalar.indexCast v434
  let c16_619 : Index := 16#32
  ![0, v440.toNat, 16]
def k0_off360 (k0_t48 : Fin k0_t48_loop.trips) (k0_t49 : Fin k0_t49_loop.trips) : Fin 3 → Nat :=
  let c0_i32_620 : BitVec 32 := 0#32
  let v443 : Index := Scalar.indexCast c0_i32_620
  let c0_i32_426 : BitVec 32 := 0#32
  let c1_i32_428 : BitVec 32 := 1#32
  let arg14 : BitVec 32 := Scf.iv c0_i32_426 c1_i32_428 k0_t48
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t49
  let v434 : BitVec 32 := Scalar.addi v358 arg15
  let v444 : Index := Scalar.indexCast v434
  let c32_621 : Index := 32#32
  ![0, v444.toNat, 32]
def k0_off361 (k0_t48 : Fin k0_t48_loop.trips) (k0_t49 : Fin k0_t49_loop.trips) : Fin 3 → Nat :=
  let c0_i32_622 : BitVec 32 := 0#32
  let v447 : Index := Scalar.indexCast c0_i32_622
  let c0_i32_426 : BitVec 32 := 0#32
  let c1_i32_428 : BitVec 32 := 1#32
  let arg14 : BitVec 32 := Scf.iv c0_i32_426 c1_i32_428 k0_t48
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t49
  let v434 : BitVec 32 := Scalar.addi v358 arg15
  let v448 : Index := Scalar.indexCast v434
  let c48_623 : Index := 48#32
  ![0, v448.toNat, 48]
def k0_off362 (k0_t48 : Fin k0_t48_loop.trips) (k0_t49 : Fin k0_t49_loop.trips) : Fin 3 → Nat :=
  let c0_i32_624 : BitVec 32 := 0#32
  let v451 : Index := Scalar.indexCast c0_i32_624
  let c0_i32_426 : BitVec 32 := 0#32
  let c1_i32_428 : BitVec 32 := 1#32
  let arg14 : BitVec 32 := Scf.iv c0_i32_426 c1_i32_428 k0_t48
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t49
  let v434 : BitVec 32 := Scalar.addi v358 arg15
  let v452 : Index := Scalar.indexCast v434
  let c64_625 : Index := 64#32
  ![0, v452.toNat, 64]
def k0_off363 (k0_t48 : Fin k0_t48_loop.trips) (k0_t49 : Fin k0_t49_loop.trips) : Fin 3 → Nat :=
  let c0_i32_626 : BitVec 32 := 0#32
  let v455 : Index := Scalar.indexCast c0_i32_626
  let c0_i32_426 : BitVec 32 := 0#32
  let c1_i32_428 : BitVec 32 := 1#32
  let arg14 : BitVec 32 := Scf.iv c0_i32_426 c1_i32_428 k0_t48
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t49
  let v434 : BitVec 32 := Scalar.addi v358 arg15
  let v456 : Index := Scalar.indexCast v434
  let c80_627 : Index := 80#32
  ![0, v456.toNat, 80]
def k0_off364 (k0_t48 : Fin k0_t48_loop.trips) (k0_t49 : Fin k0_t49_loop.trips) : Fin 3 → Nat :=
  let c0_i32_628 : BitVec 32 := 0#32
  let v459 : Index := Scalar.indexCast c0_i32_628
  let c0_i32_426 : BitVec 32 := 0#32
  let c1_i32_428 : BitVec 32 := 1#32
  let arg14 : BitVec 32 := Scf.iv c0_i32_426 c1_i32_428 k0_t48
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t49
  let v434 : BitVec 32 := Scalar.addi v358 arg15
  let v460 : Index := Scalar.indexCast v434
  let c96_629 : Index := 96#32
  ![0, v460.toNat, 96]
def k0_off365 (k0_t48 : Fin k0_t48_loop.trips) (k0_t49 : Fin k0_t49_loop.trips) : Fin 3 → Nat :=
  let c0_i32_630 : BitVec 32 := 0#32
  let v463 : Index := Scalar.indexCast c0_i32_630
  let c0_i32_426 : BitVec 32 := 0#32
  let c1_i32_428 : BitVec 32 := 1#32
  let arg14 : BitVec 32 := Scf.iv c0_i32_426 c1_i32_428 k0_t48
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t49
  let v434 : BitVec 32 := Scalar.addi v358 arg15
  let v464 : Index := Scalar.indexCast v434
  let c112_631 : Index := 112#32
  ![0, v464.toNat, 112]

def k0_chk24 (v370 : IVec S16 32) : Prop :=
  (∀ a x, ((![v370] : Fin 1 → IVec S16 32) a x).toNat < S128.size a)
theorem k0_idx24_inb : ∀ (v370 : IVec S16 32) (k0_hw24 : k0_chk24 v370), ∀ a x, ((![v370] : Fin 1 → IVec S16 32) a x).toNat < S128.size a := fun v370 k0_hw24 => k0_hw24
def k0_off366 (k0_t48 : Fin k0_t48_loop.trips) : Fin 2 → Nat :=
  let c88_i32 : BitVec 32 := 88#32
  let c0_i32_426 : BitVec 32 := 0#32
  let c1_i32_428 : BitVec 32 := 1#32
  let arg14 : BitVec 32 := Scf.iv c0_i32_426 c1_i32_428 k0_t48
  let v369 : BitVec 32 := Scalar.addi c88_i32 arg14
  let v383 : Index := Scalar.indexCast v369
  let c0_601 : Index := 0#32
  ![v383.toNat, 0]
def k0_off367 (k0_t48 : Fin k0_t48_loop.trips) : Fin 2 → Nat :=
  let c88_i32 : BitVec 32 := 88#32
  let c0_i32_426 : BitVec 32 := 0#32
  let c1_i32_428 : BitVec 32 := 1#32
  let arg14 : BitVec 32 := Scf.iv c0_i32_426 c1_i32_428 k0_t48
  let v369 : BitVec 32 := Scalar.addi c88_i32 arg14
  let v390 : Index := Scalar.indexCast v369
  let c16_603 : Index := 16#32
  ![v390.toNat, 16]
def k0_off368 (k0_t48 : Fin k0_t48_loop.trips) : Fin 2 → Nat :=
  let c88_i32 : BitVec 32 := 88#32
  let c0_i32_426 : BitVec 32 := 0#32
  let c1_i32_428 : BitVec 32 := 1#32
  let arg14 : BitVec 32 := Scf.iv c0_i32_426 c1_i32_428 k0_t48
  let v369 : BitVec 32 := Scalar.addi c88_i32 arg14
  let v397 : Index := Scalar.indexCast v369
  let c32_605 : Index := 32#32
  ![v397.toNat, 32]
def k0_off369 (k0_t48 : Fin k0_t48_loop.trips) : Fin 2 → Nat :=
  let c88_i32 : BitVec 32 := 88#32
  let c0_i32_426 : BitVec 32 := 0#32
  let c1_i32_428 : BitVec 32 := 1#32
  let arg14 : BitVec 32 := Scf.iv c0_i32_426 c1_i32_428 k0_t48
  let v369 : BitVec 32 := Scalar.addi c88_i32 arg14
  let v404 : Index := Scalar.indexCast v369
  let c48_607 : Index := 48#32
  ![v404.toNat, 48]
def k0_off370 (k0_t48 : Fin k0_t48_loop.trips) : Fin 2 → Nat :=
  let c88_i32 : BitVec 32 := 88#32
  let c0_i32_426 : BitVec 32 := 0#32
  let c1_i32_428 : BitVec 32 := 1#32
  let arg14 : BitVec 32 := Scf.iv c0_i32_426 c1_i32_428 k0_t48
  let v369 : BitVec 32 := Scalar.addi c88_i32 arg14
  let v411 : Index := Scalar.indexCast v369
  let c64_609 : Index := 64#32
  ![v411.toNat, 64]
def k0_off371 (k0_t48 : Fin k0_t48_loop.trips) : Fin 2 → Nat :=
  let c88_i32 : BitVec 32 := 88#32
  let c0_i32_426 : BitVec 32 := 0#32
  let c1_i32_428 : BitVec 32 := 1#32
  let arg14 : BitVec 32 := Scf.iv c0_i32_426 c1_i32_428 k0_t48
  let v369 : BitVec 32 := Scalar.addi c88_i32 arg14
  let v418 : Index := Scalar.indexCast v369
  let c80_611 : Index := 80#32
  ![v418.toNat, 80]
def k0_off372 (k0_t48 : Fin k0_t48_loop.trips) : Fin 2 → Nat :=
  let c88_i32 : BitVec 32 := 88#32
  let c0_i32_426 : BitVec 32 := 0#32
  let c1_i32_428 : BitVec 32 := 1#32
  let arg14 : BitVec 32 := Scf.iv c0_i32_426 c1_i32_428 k0_t48
  let v369 : BitVec 32 := Scalar.addi c88_i32 arg14
  let v425 : Index := Scalar.indexCast v369
  let c96_613 : Index := 96#32
  ![v425.toNat, 96]
def k0_off373 (k0_t48 : Fin k0_t48_loop.trips) : Fin 2 → Nat :=
  let c88_i32 : BitVec 32 := 88#32
  let c0_i32_426 : BitVec 32 := 0#32
  let c1_i32_428 : BitVec 32 := 1#32
  let arg14 : BitVec 32 := Scf.iv c0_i32_426 c1_i32_428 k0_t48
  let v369 : BitVec 32 := Scalar.addi c88_i32 arg14
  let v432 : Index := Scalar.indexCast v369
  let c112_615 : Index := 112#32
  ![v432.toNat, 112]
@[reducible] def k0_t50_loop : Scf.Loop 32 :=
  let c0_i32_444 : BitVec 32 := 0#32
  let c4_i32_445 : BitVec 32 := 4#32
  let v273 : BitVec 32 := Scalar.addi c0_i32_444 c4_i32_445
  let c1_i32_446 : BitVec 32 := 1#32
  ⟨c0_i32_444, v273, c1_i32_446⟩
@[reducible] def k0_t51_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off374 (k0_t50 : Fin k0_t50_loop.trips) (k0_t51 : Fin k0_t51_loop.trips) : Fin 3 → Nat :=
  let c1_i32_616 : BitVec 32 := 1#32
  let v435 : Index := Scalar.indexCast c1_i32_616
  let c0_i32_444 : BitVec 32 := 0#32
  let c1_i32_446 : BitVec 32 := 1#32
  let arg14 : BitVec 32 := Scf.iv c0_i32_444 c1_i32_446 k0_t50
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t51
  let v434 : BitVec 32 := Scalar.addi v358 arg15
  let v436 : Index := Scalar.indexCast v434
  let c0_617 : Index := 0#32
  ![1, v436.toNat, 0]
def k0_off375 (k0_t50 : Fin k0_t50_loop.trips) (k0_t51 : Fin k0_t51_loop.trips) : Fin 3 → Nat :=
  let c1_i32_618 : BitVec 32 := 1#32
  let v439 : Index := Scalar.indexCast c1_i32_618
  let c0_i32_444 : BitVec 32 := 0#32
  let c1_i32_446 : BitVec 32 := 1#32
  let arg14 : BitVec 32 := Scf.iv c0_i32_444 c1_i32_446 k0_t50
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t51
  let v434 : BitVec 32 := Scalar.addi v358 arg15
  let v440 : Index := Scalar.indexCast v434
  let c16_619 : Index := 16#32
  ![1, v440.toNat, 16]
def k0_off376 (k0_t50 : Fin k0_t50_loop.trips) (k0_t51 : Fin k0_t51_loop.trips) : Fin 3 → Nat :=
  let c1_i32_620 : BitVec 32 := 1#32
  let v443 : Index := Scalar.indexCast c1_i32_620
  let c0_i32_444 : BitVec 32 := 0#32
  let c1_i32_446 : BitVec 32 := 1#32
  let arg14 : BitVec 32 := Scf.iv c0_i32_444 c1_i32_446 k0_t50
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t51
  let v434 : BitVec 32 := Scalar.addi v358 arg15
  let v444 : Index := Scalar.indexCast v434
  let c32_621 : Index := 32#32
  ![1, v444.toNat, 32]
def k0_off377 (k0_t50 : Fin k0_t50_loop.trips) (k0_t51 : Fin k0_t51_loop.trips) : Fin 3 → Nat :=
  let c1_i32_622 : BitVec 32 := 1#32
  let v447 : Index := Scalar.indexCast c1_i32_622
  let c0_i32_444 : BitVec 32 := 0#32
  let c1_i32_446 : BitVec 32 := 1#32
  let arg14 : BitVec 32 := Scf.iv c0_i32_444 c1_i32_446 k0_t50
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t51
  let v434 : BitVec 32 := Scalar.addi v358 arg15
  let v448 : Index := Scalar.indexCast v434
  let c48_623 : Index := 48#32
  ![1, v448.toNat, 48]
def k0_off378 (k0_t50 : Fin k0_t50_loop.trips) (k0_t51 : Fin k0_t51_loop.trips) : Fin 3 → Nat :=
  let c1_i32_624 : BitVec 32 := 1#32
  let v451 : Index := Scalar.indexCast c1_i32_624
  let c0_i32_444 : BitVec 32 := 0#32
  let c1_i32_446 : BitVec 32 := 1#32
  let arg14 : BitVec 32 := Scf.iv c0_i32_444 c1_i32_446 k0_t50
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t51
  let v434 : BitVec 32 := Scalar.addi v358 arg15
  let v452 : Index := Scalar.indexCast v434
  let c64_625 : Index := 64#32
  ![1, v452.toNat, 64]
def k0_off379 (k0_t50 : Fin k0_t50_loop.trips) (k0_t51 : Fin k0_t51_loop.trips) : Fin 3 → Nat :=
  let c1_i32_626 : BitVec 32 := 1#32
  let v455 : Index := Scalar.indexCast c1_i32_626
  let c0_i32_444 : BitVec 32 := 0#32
  let c1_i32_446 : BitVec 32 := 1#32
  let arg14 : BitVec 32 := Scf.iv c0_i32_444 c1_i32_446 k0_t50
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t51
  let v434 : BitVec 32 := Scalar.addi v358 arg15
  let v456 : Index := Scalar.indexCast v434
  let c80_627 : Index := 80#32
  ![1, v456.toNat, 80]
def k0_off380 (k0_t50 : Fin k0_t50_loop.trips) (k0_t51 : Fin k0_t51_loop.trips) : Fin 3 → Nat :=
  let c1_i32_628 : BitVec 32 := 1#32
  let v459 : Index := Scalar.indexCast c1_i32_628
  let c0_i32_444 : BitVec 32 := 0#32
  let c1_i32_446 : BitVec 32 := 1#32
  let arg14 : BitVec 32 := Scf.iv c0_i32_444 c1_i32_446 k0_t50
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t51
  let v434 : BitVec 32 := Scalar.addi v358 arg15
  let v460 : Index := Scalar.indexCast v434
  let c96_629 : Index := 96#32
  ![1, v460.toNat, 96]
def k0_off381 (k0_t50 : Fin k0_t50_loop.trips) (k0_t51 : Fin k0_t51_loop.trips) : Fin 3 → Nat :=
  let c1_i32_630 : BitVec 32 := 1#32
  let v463 : Index := Scalar.indexCast c1_i32_630
  let c0_i32_444 : BitVec 32 := 0#32
  let c1_i32_446 : BitVec 32 := 1#32
  let arg14 : BitVec 32 := Scf.iv c0_i32_444 c1_i32_446 k0_t50
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t51
  let v434 : BitVec 32 := Scalar.addi v358 arg15
  let v464 : Index := Scalar.indexCast v434
  let c112_631 : Index := 112#32
  ![1, v464.toNat, 112]

def k0_chk25 (v370 : IVec S16 32) : Prop :=
  (∀ a x, ((![v370] : Fin 1 → IVec S16 32) a x).toNat < S128.size a)
theorem k0_idx25_inb : ∀ (v370 : IVec S16 32) (k0_hw25 : k0_chk25 v370), ∀ a x, ((![v370] : Fin 1 → IVec S16 32) a x).toNat < S128.size a := fun v370 k0_hw25 => k0_hw25
def k0_off382 (k0_t50 : Fin k0_t50_loop.trips) : Fin 2 → Nat :=
  let c92_i32 : BitVec 32 := 92#32
  let c0_i32_444 : BitVec 32 := 0#32
  let c1_i32_446 : BitVec 32 := 1#32
  let arg14 : BitVec 32 := Scf.iv c0_i32_444 c1_i32_446 k0_t50
  let v369 : BitVec 32 := Scalar.addi c92_i32 arg14
  let v383 : Index := Scalar.indexCast v369
  let c0_601 : Index := 0#32
  ![v383.toNat, 0]
def k0_off383 (k0_t50 : Fin k0_t50_loop.trips) : Fin 2 → Nat :=
  let c92_i32 : BitVec 32 := 92#32
  let c0_i32_444 : BitVec 32 := 0#32
  let c1_i32_446 : BitVec 32 := 1#32
  let arg14 : BitVec 32 := Scf.iv c0_i32_444 c1_i32_446 k0_t50
  let v369 : BitVec 32 := Scalar.addi c92_i32 arg14
  let v390 : Index := Scalar.indexCast v369
  let c16_603 : Index := 16#32
  ![v390.toNat, 16]
def k0_off384 (k0_t50 : Fin k0_t50_loop.trips) : Fin 2 → Nat :=
  let c92_i32 : BitVec 32 := 92#32
  let c0_i32_444 : BitVec 32 := 0#32
  let c1_i32_446 : BitVec 32 := 1#32
  let arg14 : BitVec 32 := Scf.iv c0_i32_444 c1_i32_446 k0_t50
  let v369 : BitVec 32 := Scalar.addi c92_i32 arg14
  let v397 : Index := Scalar.indexCast v369
  let c32_605 : Index := 32#32
  ![v397.toNat, 32]
def k0_off385 (k0_t50 : Fin k0_t50_loop.trips) : Fin 2 → Nat :=
  let c92_i32 : BitVec 32 := 92#32
  let c0_i32_444 : BitVec 32 := 0#32
  let c1_i32_446 : BitVec 32 := 1#32
  let arg14 : BitVec 32 := Scf.iv c0_i32_444 c1_i32_446 k0_t50
  let v369 : BitVec 32 := Scalar.addi c92_i32 arg14
  let v404 : Index := Scalar.indexCast v369
  let c48_607 : Index := 48#32
  ![v404.toNat, 48]
def k0_off386 (k0_t50 : Fin k0_t50_loop.trips) : Fin 2 → Nat :=
  let c92_i32 : BitVec 32 := 92#32
  let c0_i32_444 : BitVec 32 := 0#32
  let c1_i32_446 : BitVec 32 := 1#32
  let arg14 : BitVec 32 := Scf.iv c0_i32_444 c1_i32_446 k0_t50
  let v369 : BitVec 32 := Scalar.addi c92_i32 arg14
  let v411 : Index := Scalar.indexCast v369
  let c64_609 : Index := 64#32
  ![v411.toNat, 64]
def k0_off387 (k0_t50 : Fin k0_t50_loop.trips) : Fin 2 → Nat :=
  let c92_i32 : BitVec 32 := 92#32
  let c0_i32_444 : BitVec 32 := 0#32
  let c1_i32_446 : BitVec 32 := 1#32
  let arg14 : BitVec 32 := Scf.iv c0_i32_444 c1_i32_446 k0_t50
  let v369 : BitVec 32 := Scalar.addi c92_i32 arg14
  let v418 : Index := Scalar.indexCast v369
  let c80_611 : Index := 80#32
  ![v418.toNat, 80]
def k0_off388 (k0_t50 : Fin k0_t50_loop.trips) : Fin 2 → Nat :=
  let c92_i32 : BitVec 32 := 92#32
  let c0_i32_444 : BitVec 32 := 0#32
  let c1_i32_446 : BitVec 32 := 1#32
  let arg14 : BitVec 32 := Scf.iv c0_i32_444 c1_i32_446 k0_t50
  let v369 : BitVec 32 := Scalar.addi c92_i32 arg14
  let v425 : Index := Scalar.indexCast v369
  let c96_613 : Index := 96#32
  ![v425.toNat, 96]
def k0_off389 (k0_t50 : Fin k0_t50_loop.trips) : Fin 2 → Nat :=
  let c92_i32 : BitVec 32 := 92#32
  let c0_i32_444 : BitVec 32 := 0#32
  let c1_i32_446 : BitVec 32 := 1#32
  let arg14 : BitVec 32 := Scf.iv c0_i32_444 c1_i32_446 k0_t50
  let v369 : BitVec 32 := Scalar.addi c92_i32 arg14
  let v432 : Index := Scalar.indexCast v369
  let c112_615 : Index := 112#32
  ![v432.toNat, 112]
@[reducible] def k0_t52_loop : Scf.Loop 32 :=
  let c0_i32_462 : BitVec 32 := 0#32
  let c4_i32_463 : BitVec 32 := 4#32
  let v284 : BitVec 32 := Scalar.addi c0_i32_462 c4_i32_463
  let c1_i32_464 : BitVec 32 := 1#32
  ⟨c0_i32_462, v284, c1_i32_464⟩
@[reducible] def k0_t53_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off390 (k0_t52 : Fin k0_t52_loop.trips) (k0_t53 : Fin k0_t53_loop.trips) : Fin 3 → Nat :=
  let c0_i32_616 : BitVec 32 := 0#32
  let v435 : Index := Scalar.indexCast c0_i32_616
  let c0_i32_462 : BitVec 32 := 0#32
  let c1_i32_464 : BitVec 32 := 1#32
  let arg14 : BitVec 32 := Scf.iv c0_i32_462 c1_i32_464 k0_t52
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t53
  let v434 : BitVec 32 := Scalar.addi v358 arg15
  let v436 : Index := Scalar.indexCast v434
  let c0_617 : Index := 0#32
  ![0, v436.toNat, 0]
def k0_off391 (k0_t52 : Fin k0_t52_loop.trips) (k0_t53 : Fin k0_t53_loop.trips) : Fin 3 → Nat :=
  let c0_i32_618 : BitVec 32 := 0#32
  let v439 : Index := Scalar.indexCast c0_i32_618
  let c0_i32_462 : BitVec 32 := 0#32
  let c1_i32_464 : BitVec 32 := 1#32
  let arg14 : BitVec 32 := Scf.iv c0_i32_462 c1_i32_464 k0_t52
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t53
  let v434 : BitVec 32 := Scalar.addi v358 arg15
  let v440 : Index := Scalar.indexCast v434
  let c16_619 : Index := 16#32
  ![0, v440.toNat, 16]
def k0_off392 (k0_t52 : Fin k0_t52_loop.trips) (k0_t53 : Fin k0_t53_loop.trips) : Fin 3 → Nat :=
  let c0_i32_620 : BitVec 32 := 0#32
  let v443 : Index := Scalar.indexCast c0_i32_620
  let c0_i32_462 : BitVec 32 := 0#32
  let c1_i32_464 : BitVec 32 := 1#32
  let arg14 : BitVec 32 := Scf.iv c0_i32_462 c1_i32_464 k0_t52
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t53
  let v434 : BitVec 32 := Scalar.addi v358 arg15
  let v444 : Index := Scalar.indexCast v434
  let c32_621 : Index := 32#32
  ![0, v444.toNat, 32]
def k0_off393 (k0_t52 : Fin k0_t52_loop.trips) (k0_t53 : Fin k0_t53_loop.trips) : Fin 3 → Nat :=
  let c0_i32_622 : BitVec 32 := 0#32
  let v447 : Index := Scalar.indexCast c0_i32_622
  let c0_i32_462 : BitVec 32 := 0#32
  let c1_i32_464 : BitVec 32 := 1#32
  let arg14 : BitVec 32 := Scf.iv c0_i32_462 c1_i32_464 k0_t52
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t53
  let v434 : BitVec 32 := Scalar.addi v358 arg15
  let v448 : Index := Scalar.indexCast v434
  let c48_623 : Index := 48#32
  ![0, v448.toNat, 48]
def k0_off394 (k0_t52 : Fin k0_t52_loop.trips) (k0_t53 : Fin k0_t53_loop.trips) : Fin 3 → Nat :=
  let c0_i32_624 : BitVec 32 := 0#32
  let v451 : Index := Scalar.indexCast c0_i32_624
  let c0_i32_462 : BitVec 32 := 0#32
  let c1_i32_464 : BitVec 32 := 1#32
  let arg14 : BitVec 32 := Scf.iv c0_i32_462 c1_i32_464 k0_t52
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t53
  let v434 : BitVec 32 := Scalar.addi v358 arg15
  let v452 : Index := Scalar.indexCast v434
  let c64_625 : Index := 64#32
  ![0, v452.toNat, 64]
def k0_off395 (k0_t52 : Fin k0_t52_loop.trips) (k0_t53 : Fin k0_t53_loop.trips) : Fin 3 → Nat :=
  let c0_i32_626 : BitVec 32 := 0#32
  let v455 : Index := Scalar.indexCast c0_i32_626
  let c0_i32_462 : BitVec 32 := 0#32
  let c1_i32_464 : BitVec 32 := 1#32
  let arg14 : BitVec 32 := Scf.iv c0_i32_462 c1_i32_464 k0_t52
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t53
  let v434 : BitVec 32 := Scalar.addi v358 arg15
  let v456 : Index := Scalar.indexCast v434
  let c80_627 : Index := 80#32
  ![0, v456.toNat, 80]
def k0_off396 (k0_t52 : Fin k0_t52_loop.trips) (k0_t53 : Fin k0_t53_loop.trips) : Fin 3 → Nat :=
  let c0_i32_628 : BitVec 32 := 0#32
  let v459 : Index := Scalar.indexCast c0_i32_628
  let c0_i32_462 : BitVec 32 := 0#32
  let c1_i32_464 : BitVec 32 := 1#32
  let arg14 : BitVec 32 := Scf.iv c0_i32_462 c1_i32_464 k0_t52
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t53
  let v434 : BitVec 32 := Scalar.addi v358 arg15
  let v460 : Index := Scalar.indexCast v434
  let c96_629 : Index := 96#32
  ![0, v460.toNat, 96]
def k0_off397 (k0_t52 : Fin k0_t52_loop.trips) (k0_t53 : Fin k0_t53_loop.trips) : Fin 3 → Nat :=
  let c0_i32_630 : BitVec 32 := 0#32
  let v463 : Index := Scalar.indexCast c0_i32_630
  let c0_i32_462 : BitVec 32 := 0#32
  let c1_i32_464 : BitVec 32 := 1#32
  let arg14 : BitVec 32 := Scf.iv c0_i32_462 c1_i32_464 k0_t52
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t53
  let v434 : BitVec 32 := Scalar.addi v358 arg15
  let v464 : Index := Scalar.indexCast v434
  let c112_631 : Index := 112#32
  ![0, v464.toNat, 112]

def k0_chk26 (v370 : IVec S16 32) : Prop :=
  (∀ a x, ((![v370] : Fin 1 → IVec S16 32) a x).toNat < S128.size a)
theorem k0_idx26_inb : ∀ (v370 : IVec S16 32) (k0_hw26 : k0_chk26 v370), ∀ a x, ((![v370] : Fin 1 → IVec S16 32) a x).toNat < S128.size a := fun v370 k0_hw26 => k0_hw26
def k0_off398 (k0_t52 : Fin k0_t52_loop.trips) : Fin 2 → Nat :=
  let c96_i32 : BitVec 32 := 96#32
  let c0_i32_462 : BitVec 32 := 0#32
  let c1_i32_464 : BitVec 32 := 1#32
  let arg14 : BitVec 32 := Scf.iv c0_i32_462 c1_i32_464 k0_t52
  let v369 : BitVec 32 := Scalar.addi c96_i32 arg14
  let v383 : Index := Scalar.indexCast v369
  let c0_601 : Index := 0#32
  ![v383.toNat, 0]
def k0_off399 (k0_t52 : Fin k0_t52_loop.trips) : Fin 2 → Nat :=
  let c96_i32 : BitVec 32 := 96#32
  let c0_i32_462 : BitVec 32 := 0#32
  let c1_i32_464 : BitVec 32 := 1#32
  let arg14 : BitVec 32 := Scf.iv c0_i32_462 c1_i32_464 k0_t52
  let v369 : BitVec 32 := Scalar.addi c96_i32 arg14
  let v390 : Index := Scalar.indexCast v369
  let c16_603 : Index := 16#32
  ![v390.toNat, 16]
def k0_off400 (k0_t52 : Fin k0_t52_loop.trips) : Fin 2 → Nat :=
  let c96_i32 : BitVec 32 := 96#32
  let c0_i32_462 : BitVec 32 := 0#32
  let c1_i32_464 : BitVec 32 := 1#32
  let arg14 : BitVec 32 := Scf.iv c0_i32_462 c1_i32_464 k0_t52
  let v369 : BitVec 32 := Scalar.addi c96_i32 arg14
  let v397 : Index := Scalar.indexCast v369
  let c32_605 : Index := 32#32
  ![v397.toNat, 32]
def k0_off401 (k0_t52 : Fin k0_t52_loop.trips) : Fin 2 → Nat :=
  let c96_i32 : BitVec 32 := 96#32
  let c0_i32_462 : BitVec 32 := 0#32
  let c1_i32_464 : BitVec 32 := 1#32
  let arg14 : BitVec 32 := Scf.iv c0_i32_462 c1_i32_464 k0_t52
  let v369 : BitVec 32 := Scalar.addi c96_i32 arg14
  let v404 : Index := Scalar.indexCast v369
  let c48_607 : Index := 48#32
  ![v404.toNat, 48]
def k0_off402 (k0_t52 : Fin k0_t52_loop.trips) : Fin 2 → Nat :=
  let c96_i32 : BitVec 32 := 96#32
  let c0_i32_462 : BitVec 32 := 0#32
  let c1_i32_464 : BitVec 32 := 1#32
  let arg14 : BitVec 32 := Scf.iv c0_i32_462 c1_i32_464 k0_t52
  let v369 : BitVec 32 := Scalar.addi c96_i32 arg14
  let v411 : Index := Scalar.indexCast v369
  let c64_609 : Index := 64#32
  ![v411.toNat, 64]
def k0_off403 (k0_t52 : Fin k0_t52_loop.trips) : Fin 2 → Nat :=
  let c96_i32 : BitVec 32 := 96#32
  let c0_i32_462 : BitVec 32 := 0#32
  let c1_i32_464 : BitVec 32 := 1#32
  let arg14 : BitVec 32 := Scf.iv c0_i32_462 c1_i32_464 k0_t52
  let v369 : BitVec 32 := Scalar.addi c96_i32 arg14
  let v418 : Index := Scalar.indexCast v369
  let c80_611 : Index := 80#32
  ![v418.toNat, 80]
def k0_off404 (k0_t52 : Fin k0_t52_loop.trips) : Fin 2 → Nat :=
  let c96_i32 : BitVec 32 := 96#32
  let c0_i32_462 : BitVec 32 := 0#32
  let c1_i32_464 : BitVec 32 := 1#32
  let arg14 : BitVec 32 := Scf.iv c0_i32_462 c1_i32_464 k0_t52
  let v369 : BitVec 32 := Scalar.addi c96_i32 arg14
  let v425 : Index := Scalar.indexCast v369
  let c96_613 : Index := 96#32
  ![v425.toNat, 96]
def k0_off405 (k0_t52 : Fin k0_t52_loop.trips) : Fin 2 → Nat :=
  let c96_i32 : BitVec 32 := 96#32
  let c0_i32_462 : BitVec 32 := 0#32
  let c1_i32_464 : BitVec 32 := 1#32
  let arg14 : BitVec 32 := Scf.iv c0_i32_462 c1_i32_464 k0_t52
  let v369 : BitVec 32 := Scalar.addi c96_i32 arg14
  let v432 : Index := Scalar.indexCast v369
  let c112_615 : Index := 112#32
  ![v432.toNat, 112]
@[reducible] def k0_t54_loop : Scf.Loop 32 :=
  let c0_i32_480 : BitVec 32 := 0#32
  let c4_i32_481 : BitVec 32 := 4#32
  let v295 : BitVec 32 := Scalar.addi c0_i32_480 c4_i32_481
  let c1_i32_482 : BitVec 32 := 1#32
  ⟨c0_i32_480, v295, c1_i32_482⟩
@[reducible] def k0_t55_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off406 (k0_t54 : Fin k0_t54_loop.trips) (k0_t55 : Fin k0_t55_loop.trips) : Fin 3 → Nat :=
  let c1_i32_616 : BitVec 32 := 1#32
  let v435 : Index := Scalar.indexCast c1_i32_616
  let c0_i32_480 : BitVec 32 := 0#32
  let c1_i32_482 : BitVec 32 := 1#32
  let arg14 : BitVec 32 := Scf.iv c0_i32_480 c1_i32_482 k0_t54
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t55
  let v434 : BitVec 32 := Scalar.addi v358 arg15
  let v436 : Index := Scalar.indexCast v434
  let c0_617 : Index := 0#32
  ![1, v436.toNat, 0]
def k0_off407 (k0_t54 : Fin k0_t54_loop.trips) (k0_t55 : Fin k0_t55_loop.trips) : Fin 3 → Nat :=
  let c1_i32_618 : BitVec 32 := 1#32
  let v439 : Index := Scalar.indexCast c1_i32_618
  let c0_i32_480 : BitVec 32 := 0#32
  let c1_i32_482 : BitVec 32 := 1#32
  let arg14 : BitVec 32 := Scf.iv c0_i32_480 c1_i32_482 k0_t54
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t55
  let v434 : BitVec 32 := Scalar.addi v358 arg15
  let v440 : Index := Scalar.indexCast v434
  let c16_619 : Index := 16#32
  ![1, v440.toNat, 16]
def k0_off408 (k0_t54 : Fin k0_t54_loop.trips) (k0_t55 : Fin k0_t55_loop.trips) : Fin 3 → Nat :=
  let c1_i32_620 : BitVec 32 := 1#32
  let v443 : Index := Scalar.indexCast c1_i32_620
  let c0_i32_480 : BitVec 32 := 0#32
  let c1_i32_482 : BitVec 32 := 1#32
  let arg14 : BitVec 32 := Scf.iv c0_i32_480 c1_i32_482 k0_t54
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t55
  let v434 : BitVec 32 := Scalar.addi v358 arg15
  let v444 : Index := Scalar.indexCast v434
  let c32_621 : Index := 32#32
  ![1, v444.toNat, 32]
def k0_off409 (k0_t54 : Fin k0_t54_loop.trips) (k0_t55 : Fin k0_t55_loop.trips) : Fin 3 → Nat :=
  let c1_i32_622 : BitVec 32 := 1#32
  let v447 : Index := Scalar.indexCast c1_i32_622
  let c0_i32_480 : BitVec 32 := 0#32
  let c1_i32_482 : BitVec 32 := 1#32
  let arg14 : BitVec 32 := Scf.iv c0_i32_480 c1_i32_482 k0_t54
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t55
  let v434 : BitVec 32 := Scalar.addi v358 arg15
  let v448 : Index := Scalar.indexCast v434
  let c48_623 : Index := 48#32
  ![1, v448.toNat, 48]
def k0_off410 (k0_t54 : Fin k0_t54_loop.trips) (k0_t55 : Fin k0_t55_loop.trips) : Fin 3 → Nat :=
  let c1_i32_624 : BitVec 32 := 1#32
  let v451 : Index := Scalar.indexCast c1_i32_624
  let c0_i32_480 : BitVec 32 := 0#32
  let c1_i32_482 : BitVec 32 := 1#32
  let arg14 : BitVec 32 := Scf.iv c0_i32_480 c1_i32_482 k0_t54
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t55
  let v434 : BitVec 32 := Scalar.addi v358 arg15
  let v452 : Index := Scalar.indexCast v434
  let c64_625 : Index := 64#32
  ![1, v452.toNat, 64]
def k0_off411 (k0_t54 : Fin k0_t54_loop.trips) (k0_t55 : Fin k0_t55_loop.trips) : Fin 3 → Nat :=
  let c1_i32_626 : BitVec 32 := 1#32
  let v455 : Index := Scalar.indexCast c1_i32_626
  let c0_i32_480 : BitVec 32 := 0#32
  let c1_i32_482 : BitVec 32 := 1#32
  let arg14 : BitVec 32 := Scf.iv c0_i32_480 c1_i32_482 k0_t54
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t55
  let v434 : BitVec 32 := Scalar.addi v358 arg15
  let v456 : Index := Scalar.indexCast v434
  let c80_627 : Index := 80#32
  ![1, v456.toNat, 80]
def k0_off412 (k0_t54 : Fin k0_t54_loop.trips) (k0_t55 : Fin k0_t55_loop.trips) : Fin 3 → Nat :=
  let c1_i32_628 : BitVec 32 := 1#32
  let v459 : Index := Scalar.indexCast c1_i32_628
  let c0_i32_480 : BitVec 32 := 0#32
  let c1_i32_482 : BitVec 32 := 1#32
  let arg14 : BitVec 32 := Scf.iv c0_i32_480 c1_i32_482 k0_t54
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t55
  let v434 : BitVec 32 := Scalar.addi v358 arg15
  let v460 : Index := Scalar.indexCast v434
  let c96_629 : Index := 96#32
  ![1, v460.toNat, 96]
def k0_off413 (k0_t54 : Fin k0_t54_loop.trips) (k0_t55 : Fin k0_t55_loop.trips) : Fin 3 → Nat :=
  let c1_i32_630 : BitVec 32 := 1#32
  let v463 : Index := Scalar.indexCast c1_i32_630
  let c0_i32_480 : BitVec 32 := 0#32
  let c1_i32_482 : BitVec 32 := 1#32
  let arg14 : BitVec 32 := Scf.iv c0_i32_480 c1_i32_482 k0_t54
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t55
  let v434 : BitVec 32 := Scalar.addi v358 arg15
  let v464 : Index := Scalar.indexCast v434
  let c112_631 : Index := 112#32
  ![1, v464.toNat, 112]

def k0_chk27 (v370 : IVec S16 32) : Prop :=
  (∀ a x, ((![v370] : Fin 1 → IVec S16 32) a x).toNat < S128.size a)
theorem k0_idx27_inb : ∀ (v370 : IVec S16 32) (k0_hw27 : k0_chk27 v370), ∀ a x, ((![v370] : Fin 1 → IVec S16 32) a x).toNat < S128.size a := fun v370 k0_hw27 => k0_hw27
def k0_off414 (k0_t54 : Fin k0_t54_loop.trips) : Fin 2 → Nat :=
  let c100_i32 : BitVec 32 := 100#32
  let c0_i32_480 : BitVec 32 := 0#32
  let c1_i32_482 : BitVec 32 := 1#32
  let arg14 : BitVec 32 := Scf.iv c0_i32_480 c1_i32_482 k0_t54
  let v369 : BitVec 32 := Scalar.addi c100_i32 arg14
  let v383 : Index := Scalar.indexCast v369
  let c0_601 : Index := 0#32
  ![v383.toNat, 0]
def k0_off415 (k0_t54 : Fin k0_t54_loop.trips) : Fin 2 → Nat :=
  let c100_i32 : BitVec 32 := 100#32
  let c0_i32_480 : BitVec 32 := 0#32
  let c1_i32_482 : BitVec 32 := 1#32
  let arg14 : BitVec 32 := Scf.iv c0_i32_480 c1_i32_482 k0_t54
  let v369 : BitVec 32 := Scalar.addi c100_i32 arg14
  let v390 : Index := Scalar.indexCast v369
  let c16_603 : Index := 16#32
  ![v390.toNat, 16]
def k0_off416 (k0_t54 : Fin k0_t54_loop.trips) : Fin 2 → Nat :=
  let c100_i32 : BitVec 32 := 100#32
  let c0_i32_480 : BitVec 32 := 0#32
  let c1_i32_482 : BitVec 32 := 1#32
  let arg14 : BitVec 32 := Scf.iv c0_i32_480 c1_i32_482 k0_t54
  let v369 : BitVec 32 := Scalar.addi c100_i32 arg14
  let v397 : Index := Scalar.indexCast v369
  let c32_605 : Index := 32#32
  ![v397.toNat, 32]
def k0_off417 (k0_t54 : Fin k0_t54_loop.trips) : Fin 2 → Nat :=
  let c100_i32 : BitVec 32 := 100#32
  let c0_i32_480 : BitVec 32 := 0#32
  let c1_i32_482 : BitVec 32 := 1#32
  let arg14 : BitVec 32 := Scf.iv c0_i32_480 c1_i32_482 k0_t54
  let v369 : BitVec 32 := Scalar.addi c100_i32 arg14
  let v404 : Index := Scalar.indexCast v369
  let c48_607 : Index := 48#32
  ![v404.toNat, 48]
def k0_off418 (k0_t54 : Fin k0_t54_loop.trips) : Fin 2 → Nat :=
  let c100_i32 : BitVec 32 := 100#32
  let c0_i32_480 : BitVec 32 := 0#32
  let c1_i32_482 : BitVec 32 := 1#32
  let arg14 : BitVec 32 := Scf.iv c0_i32_480 c1_i32_482 k0_t54
  let v369 : BitVec 32 := Scalar.addi c100_i32 arg14
  let v411 : Index := Scalar.indexCast v369
  let c64_609 : Index := 64#32
  ![v411.toNat, 64]
def k0_off419 (k0_t54 : Fin k0_t54_loop.trips) : Fin 2 → Nat :=
  let c100_i32 : BitVec 32 := 100#32
  let c0_i32_480 : BitVec 32 := 0#32
  let c1_i32_482 : BitVec 32 := 1#32
  let arg14 : BitVec 32 := Scf.iv c0_i32_480 c1_i32_482 k0_t54
  let v369 : BitVec 32 := Scalar.addi c100_i32 arg14
  let v418 : Index := Scalar.indexCast v369
  let c80_611 : Index := 80#32
  ![v418.toNat, 80]
def k0_off420 (k0_t54 : Fin k0_t54_loop.trips) : Fin 2 → Nat :=
  let c100_i32 : BitVec 32 := 100#32
  let c0_i32_480 : BitVec 32 := 0#32
  let c1_i32_482 : BitVec 32 := 1#32
  let arg14 : BitVec 32 := Scf.iv c0_i32_480 c1_i32_482 k0_t54
  let v369 : BitVec 32 := Scalar.addi c100_i32 arg14
  let v425 : Index := Scalar.indexCast v369
  let c96_613 : Index := 96#32
  ![v425.toNat, 96]
def k0_off421 (k0_t54 : Fin k0_t54_loop.trips) : Fin 2 → Nat :=
  let c100_i32 : BitVec 32 := 100#32
  let c0_i32_480 : BitVec 32 := 0#32
  let c1_i32_482 : BitVec 32 := 1#32
  let arg14 : BitVec 32 := Scf.iv c0_i32_480 c1_i32_482 k0_t54
  let v369 : BitVec 32 := Scalar.addi c100_i32 arg14
  let v432 : Index := Scalar.indexCast v369
  let c112_615 : Index := 112#32
  ![v432.toNat, 112]
@[reducible] def k0_t56_loop : Scf.Loop 32 :=
  let c0_i32_498 : BitVec 32 := 0#32
  let c4_i32_499 : BitVec 32 := 4#32
  let v306 : BitVec 32 := Scalar.addi c0_i32_498 c4_i32_499
  let c1_i32_500 : BitVec 32 := 1#32
  ⟨c0_i32_498, v306, c1_i32_500⟩
@[reducible] def k0_t57_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off422 (k0_t56 : Fin k0_t56_loop.trips) (k0_t57 : Fin k0_t57_loop.trips) : Fin 3 → Nat :=
  let c0_i32_616 : BitVec 32 := 0#32
  let v435 : Index := Scalar.indexCast c0_i32_616
  let c0_i32_498 : BitVec 32 := 0#32
  let c1_i32_500 : BitVec 32 := 1#32
  let arg14 : BitVec 32 := Scf.iv c0_i32_498 c1_i32_500 k0_t56
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t57
  let v434 : BitVec 32 := Scalar.addi v358 arg15
  let v436 : Index := Scalar.indexCast v434
  let c0_617 : Index := 0#32
  ![0, v436.toNat, 0]
def k0_off423 (k0_t56 : Fin k0_t56_loop.trips) (k0_t57 : Fin k0_t57_loop.trips) : Fin 3 → Nat :=
  let c0_i32_618 : BitVec 32 := 0#32
  let v439 : Index := Scalar.indexCast c0_i32_618
  let c0_i32_498 : BitVec 32 := 0#32
  let c1_i32_500 : BitVec 32 := 1#32
  let arg14 : BitVec 32 := Scf.iv c0_i32_498 c1_i32_500 k0_t56
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t57
  let v434 : BitVec 32 := Scalar.addi v358 arg15
  let v440 : Index := Scalar.indexCast v434
  let c16_619 : Index := 16#32
  ![0, v440.toNat, 16]
def k0_off424 (k0_t56 : Fin k0_t56_loop.trips) (k0_t57 : Fin k0_t57_loop.trips) : Fin 3 → Nat :=
  let c0_i32_620 : BitVec 32 := 0#32
  let v443 : Index := Scalar.indexCast c0_i32_620
  let c0_i32_498 : BitVec 32 := 0#32
  let c1_i32_500 : BitVec 32 := 1#32
  let arg14 : BitVec 32 := Scf.iv c0_i32_498 c1_i32_500 k0_t56
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t57
  let v434 : BitVec 32 := Scalar.addi v358 arg15
  let v444 : Index := Scalar.indexCast v434
  let c32_621 : Index := 32#32
  ![0, v444.toNat, 32]
def k0_off425 (k0_t56 : Fin k0_t56_loop.trips) (k0_t57 : Fin k0_t57_loop.trips) : Fin 3 → Nat :=
  let c0_i32_622 : BitVec 32 := 0#32
  let v447 : Index := Scalar.indexCast c0_i32_622
  let c0_i32_498 : BitVec 32 := 0#32
  let c1_i32_500 : BitVec 32 := 1#32
  let arg14 : BitVec 32 := Scf.iv c0_i32_498 c1_i32_500 k0_t56
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t57
  let v434 : BitVec 32 := Scalar.addi v358 arg15
  let v448 : Index := Scalar.indexCast v434
  let c48_623 : Index := 48#32
  ![0, v448.toNat, 48]
def k0_off426 (k0_t56 : Fin k0_t56_loop.trips) (k0_t57 : Fin k0_t57_loop.trips) : Fin 3 → Nat :=
  let c0_i32_624 : BitVec 32 := 0#32
  let v451 : Index := Scalar.indexCast c0_i32_624
  let c0_i32_498 : BitVec 32 := 0#32
  let c1_i32_500 : BitVec 32 := 1#32
  let arg14 : BitVec 32 := Scf.iv c0_i32_498 c1_i32_500 k0_t56
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t57
  let v434 : BitVec 32 := Scalar.addi v358 arg15
  let v452 : Index := Scalar.indexCast v434
  let c64_625 : Index := 64#32
  ![0, v452.toNat, 64]
def k0_off427 (k0_t56 : Fin k0_t56_loop.trips) (k0_t57 : Fin k0_t57_loop.trips) : Fin 3 → Nat :=
  let c0_i32_626 : BitVec 32 := 0#32
  let v455 : Index := Scalar.indexCast c0_i32_626
  let c0_i32_498 : BitVec 32 := 0#32
  let c1_i32_500 : BitVec 32 := 1#32
  let arg14 : BitVec 32 := Scf.iv c0_i32_498 c1_i32_500 k0_t56
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t57
  let v434 : BitVec 32 := Scalar.addi v358 arg15
  let v456 : Index := Scalar.indexCast v434
  let c80_627 : Index := 80#32
  ![0, v456.toNat, 80]
def k0_off428 (k0_t56 : Fin k0_t56_loop.trips) (k0_t57 : Fin k0_t57_loop.trips) : Fin 3 → Nat :=
  let c0_i32_628 : BitVec 32 := 0#32
  let v459 : Index := Scalar.indexCast c0_i32_628
  let c0_i32_498 : BitVec 32 := 0#32
  let c1_i32_500 : BitVec 32 := 1#32
  let arg14 : BitVec 32 := Scf.iv c0_i32_498 c1_i32_500 k0_t56
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t57
  let v434 : BitVec 32 := Scalar.addi v358 arg15
  let v460 : Index := Scalar.indexCast v434
  let c96_629 : Index := 96#32
  ![0, v460.toNat, 96]
def k0_off429 (k0_t56 : Fin k0_t56_loop.trips) (k0_t57 : Fin k0_t57_loop.trips) : Fin 3 → Nat :=
  let c0_i32_630 : BitVec 32 := 0#32
  let v463 : Index := Scalar.indexCast c0_i32_630
  let c0_i32_498 : BitVec 32 := 0#32
  let c1_i32_500 : BitVec 32 := 1#32
  let arg14 : BitVec 32 := Scf.iv c0_i32_498 c1_i32_500 k0_t56
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t57
  let v434 : BitVec 32 := Scalar.addi v358 arg15
  let v464 : Index := Scalar.indexCast v434
  let c112_631 : Index := 112#32
  ![0, v464.toNat, 112]

def k0_chk28 (v370 : IVec S16 32) : Prop :=
  (∀ a x, ((![v370] : Fin 1 → IVec S16 32) a x).toNat < S128.size a)
theorem k0_idx28_inb : ∀ (v370 : IVec S16 32) (k0_hw28 : k0_chk28 v370), ∀ a x, ((![v370] : Fin 1 → IVec S16 32) a x).toNat < S128.size a := fun v370 k0_hw28 => k0_hw28
def k0_off430 (k0_t56 : Fin k0_t56_loop.trips) : Fin 2 → Nat :=
  let c104_i32 : BitVec 32 := 104#32
  let c0_i32_498 : BitVec 32 := 0#32
  let c1_i32_500 : BitVec 32 := 1#32
  let arg14 : BitVec 32 := Scf.iv c0_i32_498 c1_i32_500 k0_t56
  let v369 : BitVec 32 := Scalar.addi c104_i32 arg14
  let v383 : Index := Scalar.indexCast v369
  let c0_601 : Index := 0#32
  ![v383.toNat, 0]
def k0_off431 (k0_t56 : Fin k0_t56_loop.trips) : Fin 2 → Nat :=
  let c104_i32 : BitVec 32 := 104#32
  let c0_i32_498 : BitVec 32 := 0#32
  let c1_i32_500 : BitVec 32 := 1#32
  let arg14 : BitVec 32 := Scf.iv c0_i32_498 c1_i32_500 k0_t56
  let v369 : BitVec 32 := Scalar.addi c104_i32 arg14
  let v390 : Index := Scalar.indexCast v369
  let c16_603 : Index := 16#32
  ![v390.toNat, 16]
def k0_off432 (k0_t56 : Fin k0_t56_loop.trips) : Fin 2 → Nat :=
  let c104_i32 : BitVec 32 := 104#32
  let c0_i32_498 : BitVec 32 := 0#32
  let c1_i32_500 : BitVec 32 := 1#32
  let arg14 : BitVec 32 := Scf.iv c0_i32_498 c1_i32_500 k0_t56
  let v369 : BitVec 32 := Scalar.addi c104_i32 arg14
  let v397 : Index := Scalar.indexCast v369
  let c32_605 : Index := 32#32
  ![v397.toNat, 32]
def k0_off433 (k0_t56 : Fin k0_t56_loop.trips) : Fin 2 → Nat :=
  let c104_i32 : BitVec 32 := 104#32
  let c0_i32_498 : BitVec 32 := 0#32
  let c1_i32_500 : BitVec 32 := 1#32
  let arg14 : BitVec 32 := Scf.iv c0_i32_498 c1_i32_500 k0_t56
  let v369 : BitVec 32 := Scalar.addi c104_i32 arg14
  let v404 : Index := Scalar.indexCast v369
  let c48_607 : Index := 48#32
  ![v404.toNat, 48]
def k0_off434 (k0_t56 : Fin k0_t56_loop.trips) : Fin 2 → Nat :=
  let c104_i32 : BitVec 32 := 104#32
  let c0_i32_498 : BitVec 32 := 0#32
  let c1_i32_500 : BitVec 32 := 1#32
  let arg14 : BitVec 32 := Scf.iv c0_i32_498 c1_i32_500 k0_t56
  let v369 : BitVec 32 := Scalar.addi c104_i32 arg14
  let v411 : Index := Scalar.indexCast v369
  let c64_609 : Index := 64#32
  ![v411.toNat, 64]
def k0_off435 (k0_t56 : Fin k0_t56_loop.trips) : Fin 2 → Nat :=
  let c104_i32 : BitVec 32 := 104#32
  let c0_i32_498 : BitVec 32 := 0#32
  let c1_i32_500 : BitVec 32 := 1#32
  let arg14 : BitVec 32 := Scf.iv c0_i32_498 c1_i32_500 k0_t56
  let v369 : BitVec 32 := Scalar.addi c104_i32 arg14
  let v418 : Index := Scalar.indexCast v369
  let c80_611 : Index := 80#32
  ![v418.toNat, 80]
def k0_off436 (k0_t56 : Fin k0_t56_loop.trips) : Fin 2 → Nat :=
  let c104_i32 : BitVec 32 := 104#32
  let c0_i32_498 : BitVec 32 := 0#32
  let c1_i32_500 : BitVec 32 := 1#32
  let arg14 : BitVec 32 := Scf.iv c0_i32_498 c1_i32_500 k0_t56
  let v369 : BitVec 32 := Scalar.addi c104_i32 arg14
  let v425 : Index := Scalar.indexCast v369
  let c96_613 : Index := 96#32
  ![v425.toNat, 96]
def k0_off437 (k0_t56 : Fin k0_t56_loop.trips) : Fin 2 → Nat :=
  let c104_i32 : BitVec 32 := 104#32
  let c0_i32_498 : BitVec 32 := 0#32
  let c1_i32_500 : BitVec 32 := 1#32
  let arg14 : BitVec 32 := Scf.iv c0_i32_498 c1_i32_500 k0_t56
  let v369 : BitVec 32 := Scalar.addi c104_i32 arg14
  let v432 : Index := Scalar.indexCast v369
  let c112_615 : Index := 112#32
  ![v432.toNat, 112]
@[reducible] def k0_t58_loop : Scf.Loop 32 :=
  let c0_i32_516 : BitVec 32 := 0#32
  let c4_i32_517 : BitVec 32 := 4#32
  let v317 : BitVec 32 := Scalar.addi c0_i32_516 c4_i32_517
  let c1_i32_518 : BitVec 32 := 1#32
  ⟨c0_i32_516, v317, c1_i32_518⟩
@[reducible] def k0_t59_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off438 (k0_t58 : Fin k0_t58_loop.trips) (k0_t59 : Fin k0_t59_loop.trips) : Fin 3 → Nat :=
  let c1_i32_616 : BitVec 32 := 1#32
  let v435 : Index := Scalar.indexCast c1_i32_616
  let c0_i32_516 : BitVec 32 := 0#32
  let c1_i32_518 : BitVec 32 := 1#32
  let arg14 : BitVec 32 := Scf.iv c0_i32_516 c1_i32_518 k0_t58
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t59
  let v434 : BitVec 32 := Scalar.addi v358 arg15
  let v436 : Index := Scalar.indexCast v434
  let c0_617 : Index := 0#32
  ![1, v436.toNat, 0]
def k0_off439 (k0_t58 : Fin k0_t58_loop.trips) (k0_t59 : Fin k0_t59_loop.trips) : Fin 3 → Nat :=
  let c1_i32_618 : BitVec 32 := 1#32
  let v439 : Index := Scalar.indexCast c1_i32_618
  let c0_i32_516 : BitVec 32 := 0#32
  let c1_i32_518 : BitVec 32 := 1#32
  let arg14 : BitVec 32 := Scf.iv c0_i32_516 c1_i32_518 k0_t58
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t59
  let v434 : BitVec 32 := Scalar.addi v358 arg15
  let v440 : Index := Scalar.indexCast v434
  let c16_619 : Index := 16#32
  ![1, v440.toNat, 16]
def k0_off440 (k0_t58 : Fin k0_t58_loop.trips) (k0_t59 : Fin k0_t59_loop.trips) : Fin 3 → Nat :=
  let c1_i32_620 : BitVec 32 := 1#32
  let v443 : Index := Scalar.indexCast c1_i32_620
  let c0_i32_516 : BitVec 32 := 0#32
  let c1_i32_518 : BitVec 32 := 1#32
  let arg14 : BitVec 32 := Scf.iv c0_i32_516 c1_i32_518 k0_t58
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t59
  let v434 : BitVec 32 := Scalar.addi v358 arg15
  let v444 : Index := Scalar.indexCast v434
  let c32_621 : Index := 32#32
  ![1, v444.toNat, 32]
def k0_off441 (k0_t58 : Fin k0_t58_loop.trips) (k0_t59 : Fin k0_t59_loop.trips) : Fin 3 → Nat :=
  let c1_i32_622 : BitVec 32 := 1#32
  let v447 : Index := Scalar.indexCast c1_i32_622
  let c0_i32_516 : BitVec 32 := 0#32
  let c1_i32_518 : BitVec 32 := 1#32
  let arg14 : BitVec 32 := Scf.iv c0_i32_516 c1_i32_518 k0_t58
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t59
  let v434 : BitVec 32 := Scalar.addi v358 arg15
  let v448 : Index := Scalar.indexCast v434
  let c48_623 : Index := 48#32
  ![1, v448.toNat, 48]
def k0_off442 (k0_t58 : Fin k0_t58_loop.trips) (k0_t59 : Fin k0_t59_loop.trips) : Fin 3 → Nat :=
  let c1_i32_624 : BitVec 32 := 1#32
  let v451 : Index := Scalar.indexCast c1_i32_624
  let c0_i32_516 : BitVec 32 := 0#32
  let c1_i32_518 : BitVec 32 := 1#32
  let arg14 : BitVec 32 := Scf.iv c0_i32_516 c1_i32_518 k0_t58
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t59
  let v434 : BitVec 32 := Scalar.addi v358 arg15
  let v452 : Index := Scalar.indexCast v434
  let c64_625 : Index := 64#32
  ![1, v452.toNat, 64]
def k0_off443 (k0_t58 : Fin k0_t58_loop.trips) (k0_t59 : Fin k0_t59_loop.trips) : Fin 3 → Nat :=
  let c1_i32_626 : BitVec 32 := 1#32
  let v455 : Index := Scalar.indexCast c1_i32_626
  let c0_i32_516 : BitVec 32 := 0#32
  let c1_i32_518 : BitVec 32 := 1#32
  let arg14 : BitVec 32 := Scf.iv c0_i32_516 c1_i32_518 k0_t58
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t59
  let v434 : BitVec 32 := Scalar.addi v358 arg15
  let v456 : Index := Scalar.indexCast v434
  let c80_627 : Index := 80#32
  ![1, v456.toNat, 80]
def k0_off444 (k0_t58 : Fin k0_t58_loop.trips) (k0_t59 : Fin k0_t59_loop.trips) : Fin 3 → Nat :=
  let c1_i32_628 : BitVec 32 := 1#32
  let v459 : Index := Scalar.indexCast c1_i32_628
  let c0_i32_516 : BitVec 32 := 0#32
  let c1_i32_518 : BitVec 32 := 1#32
  let arg14 : BitVec 32 := Scf.iv c0_i32_516 c1_i32_518 k0_t58
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t59
  let v434 : BitVec 32 := Scalar.addi v358 arg15
  let v460 : Index := Scalar.indexCast v434
  let c96_629 : Index := 96#32
  ![1, v460.toNat, 96]
def k0_off445 (k0_t58 : Fin k0_t58_loop.trips) (k0_t59 : Fin k0_t59_loop.trips) : Fin 3 → Nat :=
  let c1_i32_630 : BitVec 32 := 1#32
  let v463 : Index := Scalar.indexCast c1_i32_630
  let c0_i32_516 : BitVec 32 := 0#32
  let c1_i32_518 : BitVec 32 := 1#32
  let arg14 : BitVec 32 := Scf.iv c0_i32_516 c1_i32_518 k0_t58
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t59
  let v434 : BitVec 32 := Scalar.addi v358 arg15
  let v464 : Index := Scalar.indexCast v434
  let c112_631 : Index := 112#32
  ![1, v464.toNat, 112]

def k0_chk29 (v370 : IVec S16 32) : Prop :=
  (∀ a x, ((![v370] : Fin 1 → IVec S16 32) a x).toNat < S128.size a)
theorem k0_idx29_inb : ∀ (v370 : IVec S16 32) (k0_hw29 : k0_chk29 v370), ∀ a x, ((![v370] : Fin 1 → IVec S16 32) a x).toNat < S128.size a := fun v370 k0_hw29 => k0_hw29
def k0_off446 (k0_t58 : Fin k0_t58_loop.trips) : Fin 2 → Nat :=
  let c108_i32 : BitVec 32 := 108#32
  let c0_i32_516 : BitVec 32 := 0#32
  let c1_i32_518 : BitVec 32 := 1#32
  let arg14 : BitVec 32 := Scf.iv c0_i32_516 c1_i32_518 k0_t58
  let v369 : BitVec 32 := Scalar.addi c108_i32 arg14
  let v383 : Index := Scalar.indexCast v369
  let c0_601 : Index := 0#32
  ![v383.toNat, 0]
def k0_off447 (k0_t58 : Fin k0_t58_loop.trips) : Fin 2 → Nat :=
  let c108_i32 : BitVec 32 := 108#32
  let c0_i32_516 : BitVec 32 := 0#32
  let c1_i32_518 : BitVec 32 := 1#32
  let arg14 : BitVec 32 := Scf.iv c0_i32_516 c1_i32_518 k0_t58
  let v369 : BitVec 32 := Scalar.addi c108_i32 arg14
  let v390 : Index := Scalar.indexCast v369
  let c16_603 : Index := 16#32
  ![v390.toNat, 16]
def k0_off448 (k0_t58 : Fin k0_t58_loop.trips) : Fin 2 → Nat :=
  let c108_i32 : BitVec 32 := 108#32
  let c0_i32_516 : BitVec 32 := 0#32
  let c1_i32_518 : BitVec 32 := 1#32
  let arg14 : BitVec 32 := Scf.iv c0_i32_516 c1_i32_518 k0_t58
  let v369 : BitVec 32 := Scalar.addi c108_i32 arg14
  let v397 : Index := Scalar.indexCast v369
  let c32_605 : Index := 32#32
  ![v397.toNat, 32]
def k0_off449 (k0_t58 : Fin k0_t58_loop.trips) : Fin 2 → Nat :=
  let c108_i32 : BitVec 32 := 108#32
  let c0_i32_516 : BitVec 32 := 0#32
  let c1_i32_518 : BitVec 32 := 1#32
  let arg14 : BitVec 32 := Scf.iv c0_i32_516 c1_i32_518 k0_t58
  let v369 : BitVec 32 := Scalar.addi c108_i32 arg14
  let v404 : Index := Scalar.indexCast v369
  let c48_607 : Index := 48#32
  ![v404.toNat, 48]
def k0_off450 (k0_t58 : Fin k0_t58_loop.trips) : Fin 2 → Nat :=
  let c108_i32 : BitVec 32 := 108#32
  let c0_i32_516 : BitVec 32 := 0#32
  let c1_i32_518 : BitVec 32 := 1#32
  let arg14 : BitVec 32 := Scf.iv c0_i32_516 c1_i32_518 k0_t58
  let v369 : BitVec 32 := Scalar.addi c108_i32 arg14
  let v411 : Index := Scalar.indexCast v369
  let c64_609 : Index := 64#32
  ![v411.toNat, 64]
def k0_off451 (k0_t58 : Fin k0_t58_loop.trips) : Fin 2 → Nat :=
  let c108_i32 : BitVec 32 := 108#32
  let c0_i32_516 : BitVec 32 := 0#32
  let c1_i32_518 : BitVec 32 := 1#32
  let arg14 : BitVec 32 := Scf.iv c0_i32_516 c1_i32_518 k0_t58
  let v369 : BitVec 32 := Scalar.addi c108_i32 arg14
  let v418 : Index := Scalar.indexCast v369
  let c80_611 : Index := 80#32
  ![v418.toNat, 80]
def k0_off452 (k0_t58 : Fin k0_t58_loop.trips) : Fin 2 → Nat :=
  let c108_i32 : BitVec 32 := 108#32
  let c0_i32_516 : BitVec 32 := 0#32
  let c1_i32_518 : BitVec 32 := 1#32
  let arg14 : BitVec 32 := Scf.iv c0_i32_516 c1_i32_518 k0_t58
  let v369 : BitVec 32 := Scalar.addi c108_i32 arg14
  let v425 : Index := Scalar.indexCast v369
  let c96_613 : Index := 96#32
  ![v425.toNat, 96]
def k0_off453 (k0_t58 : Fin k0_t58_loop.trips) : Fin 2 → Nat :=
  let c108_i32 : BitVec 32 := 108#32
  let c0_i32_516 : BitVec 32 := 0#32
  let c1_i32_518 : BitVec 32 := 1#32
  let arg14 : BitVec 32 := Scf.iv c0_i32_516 c1_i32_518 k0_t58
  let v369 : BitVec 32 := Scalar.addi c108_i32 arg14
  let v432 : Index := Scalar.indexCast v369
  let c112_615 : Index := 112#32
  ![v432.toNat, 112]
@[reducible] def k0_t60_loop : Scf.Loop 32 :=
  let c0_i32_534 : BitVec 32 := 0#32
  let c4_i32_535 : BitVec 32 := 4#32
  let v328 : BitVec 32 := Scalar.addi c0_i32_534 c4_i32_535
  let c1_i32_536 : BitVec 32 := 1#32
  ⟨c0_i32_534, v328, c1_i32_536⟩
@[reducible] def k0_t61_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off454 (k0_t60 : Fin k0_t60_loop.trips) (k0_t61 : Fin k0_t61_loop.trips) : Fin 3 → Nat :=
  let c0_i32_616 : BitVec 32 := 0#32
  let v435 : Index := Scalar.indexCast c0_i32_616
  let c0_i32_534 : BitVec 32 := 0#32
  let c1_i32_536 : BitVec 32 := 1#32
  let arg14 : BitVec 32 := Scf.iv c0_i32_534 c1_i32_536 k0_t60
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t61
  let v434 : BitVec 32 := Scalar.addi v358 arg15
  let v436 : Index := Scalar.indexCast v434
  let c0_617 : Index := 0#32
  ![0, v436.toNat, 0]
def k0_off455 (k0_t60 : Fin k0_t60_loop.trips) (k0_t61 : Fin k0_t61_loop.trips) : Fin 3 → Nat :=
  let c0_i32_618 : BitVec 32 := 0#32
  let v439 : Index := Scalar.indexCast c0_i32_618
  let c0_i32_534 : BitVec 32 := 0#32
  let c1_i32_536 : BitVec 32 := 1#32
  let arg14 : BitVec 32 := Scf.iv c0_i32_534 c1_i32_536 k0_t60
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t61
  let v434 : BitVec 32 := Scalar.addi v358 arg15
  let v440 : Index := Scalar.indexCast v434
  let c16_619 : Index := 16#32
  ![0, v440.toNat, 16]
def k0_off456 (k0_t60 : Fin k0_t60_loop.trips) (k0_t61 : Fin k0_t61_loop.trips) : Fin 3 → Nat :=
  let c0_i32_620 : BitVec 32 := 0#32
  let v443 : Index := Scalar.indexCast c0_i32_620
  let c0_i32_534 : BitVec 32 := 0#32
  let c1_i32_536 : BitVec 32 := 1#32
  let arg14 : BitVec 32 := Scf.iv c0_i32_534 c1_i32_536 k0_t60
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t61
  let v434 : BitVec 32 := Scalar.addi v358 arg15
  let v444 : Index := Scalar.indexCast v434
  let c32_621 : Index := 32#32
  ![0, v444.toNat, 32]
def k0_off457 (k0_t60 : Fin k0_t60_loop.trips) (k0_t61 : Fin k0_t61_loop.trips) : Fin 3 → Nat :=
  let c0_i32_622 : BitVec 32 := 0#32
  let v447 : Index := Scalar.indexCast c0_i32_622
  let c0_i32_534 : BitVec 32 := 0#32
  let c1_i32_536 : BitVec 32 := 1#32
  let arg14 : BitVec 32 := Scf.iv c0_i32_534 c1_i32_536 k0_t60
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t61
  let v434 : BitVec 32 := Scalar.addi v358 arg15
  let v448 : Index := Scalar.indexCast v434
  let c48_623 : Index := 48#32
  ![0, v448.toNat, 48]
def k0_off458 (k0_t60 : Fin k0_t60_loop.trips) (k0_t61 : Fin k0_t61_loop.trips) : Fin 3 → Nat :=
  let c0_i32_624 : BitVec 32 := 0#32
  let v451 : Index := Scalar.indexCast c0_i32_624
  let c0_i32_534 : BitVec 32 := 0#32
  let c1_i32_536 : BitVec 32 := 1#32
  let arg14 : BitVec 32 := Scf.iv c0_i32_534 c1_i32_536 k0_t60
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t61
  let v434 : BitVec 32 := Scalar.addi v358 arg15
  let v452 : Index := Scalar.indexCast v434
  let c64_625 : Index := 64#32
  ![0, v452.toNat, 64]
def k0_off459 (k0_t60 : Fin k0_t60_loop.trips) (k0_t61 : Fin k0_t61_loop.trips) : Fin 3 → Nat :=
  let c0_i32_626 : BitVec 32 := 0#32
  let v455 : Index := Scalar.indexCast c0_i32_626
  let c0_i32_534 : BitVec 32 := 0#32
  let c1_i32_536 : BitVec 32 := 1#32
  let arg14 : BitVec 32 := Scf.iv c0_i32_534 c1_i32_536 k0_t60
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t61
  let v434 : BitVec 32 := Scalar.addi v358 arg15
  let v456 : Index := Scalar.indexCast v434
  let c80_627 : Index := 80#32
  ![0, v456.toNat, 80]
def k0_off460 (k0_t60 : Fin k0_t60_loop.trips) (k0_t61 : Fin k0_t61_loop.trips) : Fin 3 → Nat :=
  let c0_i32_628 : BitVec 32 := 0#32
  let v459 : Index := Scalar.indexCast c0_i32_628
  let c0_i32_534 : BitVec 32 := 0#32
  let c1_i32_536 : BitVec 32 := 1#32
  let arg14 : BitVec 32 := Scf.iv c0_i32_534 c1_i32_536 k0_t60
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t61
  let v434 : BitVec 32 := Scalar.addi v358 arg15
  let v460 : Index := Scalar.indexCast v434
  let c96_629 : Index := 96#32
  ![0, v460.toNat, 96]
def k0_off461 (k0_t60 : Fin k0_t60_loop.trips) (k0_t61 : Fin k0_t61_loop.trips) : Fin 3 → Nat :=
  let c0_i32_630 : BitVec 32 := 0#32
  let v463 : Index := Scalar.indexCast c0_i32_630
  let c0_i32_534 : BitVec 32 := 0#32
  let c1_i32_536 : BitVec 32 := 1#32
  let arg14 : BitVec 32 := Scf.iv c0_i32_534 c1_i32_536 k0_t60
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t61
  let v434 : BitVec 32 := Scalar.addi v358 arg15
  let v464 : Index := Scalar.indexCast v434
  let c112_631 : Index := 112#32
  ![0, v464.toNat, 112]

def k0_chk30 (v370 : IVec S16 32) : Prop :=
  (∀ a x, ((![v370] : Fin 1 → IVec S16 32) a x).toNat < S128.size a)
theorem k0_idx30_inb : ∀ (v370 : IVec S16 32) (k0_hw30 : k0_chk30 v370), ∀ a x, ((![v370] : Fin 1 → IVec S16 32) a x).toNat < S128.size a := fun v370 k0_hw30 => k0_hw30
def k0_off462 (k0_t60 : Fin k0_t60_loop.trips) : Fin 2 → Nat :=
  let c112_i32 : BitVec 32 := 112#32
  let c0_i32_534 : BitVec 32 := 0#32
  let c1_i32_536 : BitVec 32 := 1#32
  let arg14 : BitVec 32 := Scf.iv c0_i32_534 c1_i32_536 k0_t60
  let v369 : BitVec 32 := Scalar.addi c112_i32 arg14
  let v383 : Index := Scalar.indexCast v369
  let c0_601 : Index := 0#32
  ![v383.toNat, 0]
def k0_off463 (k0_t60 : Fin k0_t60_loop.trips) : Fin 2 → Nat :=
  let c112_i32 : BitVec 32 := 112#32
  let c0_i32_534 : BitVec 32 := 0#32
  let c1_i32_536 : BitVec 32 := 1#32
  let arg14 : BitVec 32 := Scf.iv c0_i32_534 c1_i32_536 k0_t60
  let v369 : BitVec 32 := Scalar.addi c112_i32 arg14
  let v390 : Index := Scalar.indexCast v369
  let c16_603 : Index := 16#32
  ![v390.toNat, 16]
def k0_off464 (k0_t60 : Fin k0_t60_loop.trips) : Fin 2 → Nat :=
  let c112_i32 : BitVec 32 := 112#32
  let c0_i32_534 : BitVec 32 := 0#32
  let c1_i32_536 : BitVec 32 := 1#32
  let arg14 : BitVec 32 := Scf.iv c0_i32_534 c1_i32_536 k0_t60
  let v369 : BitVec 32 := Scalar.addi c112_i32 arg14
  let v397 : Index := Scalar.indexCast v369
  let c32_605 : Index := 32#32
  ![v397.toNat, 32]
def k0_off465 (k0_t60 : Fin k0_t60_loop.trips) : Fin 2 → Nat :=
  let c112_i32 : BitVec 32 := 112#32
  let c0_i32_534 : BitVec 32 := 0#32
  let c1_i32_536 : BitVec 32 := 1#32
  let arg14 : BitVec 32 := Scf.iv c0_i32_534 c1_i32_536 k0_t60
  let v369 : BitVec 32 := Scalar.addi c112_i32 arg14
  let v404 : Index := Scalar.indexCast v369
  let c48_607 : Index := 48#32
  ![v404.toNat, 48]
def k0_off466 (k0_t60 : Fin k0_t60_loop.trips) : Fin 2 → Nat :=
  let c112_i32 : BitVec 32 := 112#32
  let c0_i32_534 : BitVec 32 := 0#32
  let c1_i32_536 : BitVec 32 := 1#32
  let arg14 : BitVec 32 := Scf.iv c0_i32_534 c1_i32_536 k0_t60
  let v369 : BitVec 32 := Scalar.addi c112_i32 arg14
  let v411 : Index := Scalar.indexCast v369
  let c64_609 : Index := 64#32
  ![v411.toNat, 64]
def k0_off467 (k0_t60 : Fin k0_t60_loop.trips) : Fin 2 → Nat :=
  let c112_i32 : BitVec 32 := 112#32
  let c0_i32_534 : BitVec 32 := 0#32
  let c1_i32_536 : BitVec 32 := 1#32
  let arg14 : BitVec 32 := Scf.iv c0_i32_534 c1_i32_536 k0_t60
  let v369 : BitVec 32 := Scalar.addi c112_i32 arg14
  let v418 : Index := Scalar.indexCast v369
  let c80_611 : Index := 80#32
  ![v418.toNat, 80]
def k0_off468 (k0_t60 : Fin k0_t60_loop.trips) : Fin 2 → Nat :=
  let c112_i32 : BitVec 32 := 112#32
  let c0_i32_534 : BitVec 32 := 0#32
  let c1_i32_536 : BitVec 32 := 1#32
  let arg14 : BitVec 32 := Scf.iv c0_i32_534 c1_i32_536 k0_t60
  let v369 : BitVec 32 := Scalar.addi c112_i32 arg14
  let v425 : Index := Scalar.indexCast v369
  let c96_613 : Index := 96#32
  ![v425.toNat, 96]
def k0_off469 (k0_t60 : Fin k0_t60_loop.trips) : Fin 2 → Nat :=
  let c112_i32 : BitVec 32 := 112#32
  let c0_i32_534 : BitVec 32 := 0#32
  let c1_i32_536 : BitVec 32 := 1#32
  let arg14 : BitVec 32 := Scf.iv c0_i32_534 c1_i32_536 k0_t60
  let v369 : BitVec 32 := Scalar.addi c112_i32 arg14
  let v432 : Index := Scalar.indexCast v369
  let c112_615 : Index := 112#32
  ![v432.toNat, 112]
@[reducible] def k0_t62_loop : Scf.Loop 32 :=
  let c0_i32_552 : BitVec 32 := 0#32
  let c4_i32_553 : BitVec 32 := 4#32
  let v339 : BitVec 32 := Scalar.addi c0_i32_552 c4_i32_553
  let c1_i32_554 : BitVec 32 := 1#32
  ⟨c0_i32_552, v339, c1_i32_554⟩
@[reducible] def k0_t63_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off470 (k0_t62 : Fin k0_t62_loop.trips) (k0_t63 : Fin k0_t63_loop.trips) : Fin 3 → Nat :=
  let c1_i32_616 : BitVec 32 := 1#32
  let v435 : Index := Scalar.indexCast c1_i32_616
  let c0_i32_552 : BitVec 32 := 0#32
  let c1_i32_554 : BitVec 32 := 1#32
  let arg14 : BitVec 32 := Scf.iv c0_i32_552 c1_i32_554 k0_t62
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t63
  let v434 : BitVec 32 := Scalar.addi v358 arg15
  let v436 : Index := Scalar.indexCast v434
  let c0_617 : Index := 0#32
  ![1, v436.toNat, 0]
def k0_off471 (k0_t62 : Fin k0_t62_loop.trips) (k0_t63 : Fin k0_t63_loop.trips) : Fin 3 → Nat :=
  let c1_i32_618 : BitVec 32 := 1#32
  let v439 : Index := Scalar.indexCast c1_i32_618
  let c0_i32_552 : BitVec 32 := 0#32
  let c1_i32_554 : BitVec 32 := 1#32
  let arg14 : BitVec 32 := Scf.iv c0_i32_552 c1_i32_554 k0_t62
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t63
  let v434 : BitVec 32 := Scalar.addi v358 arg15
  let v440 : Index := Scalar.indexCast v434
  let c16_619 : Index := 16#32
  ![1, v440.toNat, 16]
def k0_off472 (k0_t62 : Fin k0_t62_loop.trips) (k0_t63 : Fin k0_t63_loop.trips) : Fin 3 → Nat :=
  let c1_i32_620 : BitVec 32 := 1#32
  let v443 : Index := Scalar.indexCast c1_i32_620
  let c0_i32_552 : BitVec 32 := 0#32
  let c1_i32_554 : BitVec 32 := 1#32
  let arg14 : BitVec 32 := Scf.iv c0_i32_552 c1_i32_554 k0_t62
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t63
  let v434 : BitVec 32 := Scalar.addi v358 arg15
  let v444 : Index := Scalar.indexCast v434
  let c32_621 : Index := 32#32
  ![1, v444.toNat, 32]
def k0_off473 (k0_t62 : Fin k0_t62_loop.trips) (k0_t63 : Fin k0_t63_loop.trips) : Fin 3 → Nat :=
  let c1_i32_622 : BitVec 32 := 1#32
  let v447 : Index := Scalar.indexCast c1_i32_622
  let c0_i32_552 : BitVec 32 := 0#32
  let c1_i32_554 : BitVec 32 := 1#32
  let arg14 : BitVec 32 := Scf.iv c0_i32_552 c1_i32_554 k0_t62
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t63
  let v434 : BitVec 32 := Scalar.addi v358 arg15
  let v448 : Index := Scalar.indexCast v434
  let c48_623 : Index := 48#32
  ![1, v448.toNat, 48]
def k0_off474 (k0_t62 : Fin k0_t62_loop.trips) (k0_t63 : Fin k0_t63_loop.trips) : Fin 3 → Nat :=
  let c1_i32_624 : BitVec 32 := 1#32
  let v451 : Index := Scalar.indexCast c1_i32_624
  let c0_i32_552 : BitVec 32 := 0#32
  let c1_i32_554 : BitVec 32 := 1#32
  let arg14 : BitVec 32 := Scf.iv c0_i32_552 c1_i32_554 k0_t62
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t63
  let v434 : BitVec 32 := Scalar.addi v358 arg15
  let v452 : Index := Scalar.indexCast v434
  let c64_625 : Index := 64#32
  ![1, v452.toNat, 64]
def k0_off475 (k0_t62 : Fin k0_t62_loop.trips) (k0_t63 : Fin k0_t63_loop.trips) : Fin 3 → Nat :=
  let c1_i32_626 : BitVec 32 := 1#32
  let v455 : Index := Scalar.indexCast c1_i32_626
  let c0_i32_552 : BitVec 32 := 0#32
  let c1_i32_554 : BitVec 32 := 1#32
  let arg14 : BitVec 32 := Scf.iv c0_i32_552 c1_i32_554 k0_t62
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t63
  let v434 : BitVec 32 := Scalar.addi v358 arg15
  let v456 : Index := Scalar.indexCast v434
  let c80_627 : Index := 80#32
  ![1, v456.toNat, 80]
def k0_off476 (k0_t62 : Fin k0_t62_loop.trips) (k0_t63 : Fin k0_t63_loop.trips) : Fin 3 → Nat :=
  let c1_i32_628 : BitVec 32 := 1#32
  let v459 : Index := Scalar.indexCast c1_i32_628
  let c0_i32_552 : BitVec 32 := 0#32
  let c1_i32_554 : BitVec 32 := 1#32
  let arg14 : BitVec 32 := Scf.iv c0_i32_552 c1_i32_554 k0_t62
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t63
  let v434 : BitVec 32 := Scalar.addi v358 arg15
  let v460 : Index := Scalar.indexCast v434
  let c96_629 : Index := 96#32
  ![1, v460.toNat, 96]
def k0_off477 (k0_t62 : Fin k0_t62_loop.trips) (k0_t63 : Fin k0_t63_loop.trips) : Fin 3 → Nat :=
  let c1_i32_630 : BitVec 32 := 1#32
  let v463 : Index := Scalar.indexCast c1_i32_630
  let c0_i32_552 : BitVec 32 := 0#32
  let c1_i32_554 : BitVec 32 := 1#32
  let arg14 : BitVec 32 := Scf.iv c0_i32_552 c1_i32_554 k0_t62
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t63
  let v434 : BitVec 32 := Scalar.addi v358 arg15
  let v464 : Index := Scalar.indexCast v434
  let c112_631 : Index := 112#32
  ![1, v464.toNat, 112]

def k0_chk31 (v370 : IVec S16 32) : Prop :=
  (∀ a x, ((![v370] : Fin 1 → IVec S16 32) a x).toNat < S128.size a)
theorem k0_idx31_inb : ∀ (v370 : IVec S16 32) (k0_hw31 : k0_chk31 v370), ∀ a x, ((![v370] : Fin 1 → IVec S16 32) a x).toNat < S128.size a := fun v370 k0_hw31 => k0_hw31
def k0_off478 (k0_t62 : Fin k0_t62_loop.trips) : Fin 2 → Nat :=
  let c116_i32 : BitVec 32 := 116#32
  let c0_i32_552 : BitVec 32 := 0#32
  let c1_i32_554 : BitVec 32 := 1#32
  let arg14 : BitVec 32 := Scf.iv c0_i32_552 c1_i32_554 k0_t62
  let v369 : BitVec 32 := Scalar.addi c116_i32 arg14
  let v383 : Index := Scalar.indexCast v369
  let c0_601 : Index := 0#32
  ![v383.toNat, 0]
def k0_off479 (k0_t62 : Fin k0_t62_loop.trips) : Fin 2 → Nat :=
  let c116_i32 : BitVec 32 := 116#32
  let c0_i32_552 : BitVec 32 := 0#32
  let c1_i32_554 : BitVec 32 := 1#32
  let arg14 : BitVec 32 := Scf.iv c0_i32_552 c1_i32_554 k0_t62
  let v369 : BitVec 32 := Scalar.addi c116_i32 arg14
  let v390 : Index := Scalar.indexCast v369
  let c16_603 : Index := 16#32
  ![v390.toNat, 16]
def k0_off480 (k0_t62 : Fin k0_t62_loop.trips) : Fin 2 → Nat :=
  let c116_i32 : BitVec 32 := 116#32
  let c0_i32_552 : BitVec 32 := 0#32
  let c1_i32_554 : BitVec 32 := 1#32
  let arg14 : BitVec 32 := Scf.iv c0_i32_552 c1_i32_554 k0_t62
  let v369 : BitVec 32 := Scalar.addi c116_i32 arg14
  let v397 : Index := Scalar.indexCast v369
  let c32_605 : Index := 32#32
  ![v397.toNat, 32]
def k0_off481 (k0_t62 : Fin k0_t62_loop.trips) : Fin 2 → Nat :=
  let c116_i32 : BitVec 32 := 116#32
  let c0_i32_552 : BitVec 32 := 0#32
  let c1_i32_554 : BitVec 32 := 1#32
  let arg14 : BitVec 32 := Scf.iv c0_i32_552 c1_i32_554 k0_t62
  let v369 : BitVec 32 := Scalar.addi c116_i32 arg14
  let v404 : Index := Scalar.indexCast v369
  let c48_607 : Index := 48#32
  ![v404.toNat, 48]
def k0_off482 (k0_t62 : Fin k0_t62_loop.trips) : Fin 2 → Nat :=
  let c116_i32 : BitVec 32 := 116#32
  let c0_i32_552 : BitVec 32 := 0#32
  let c1_i32_554 : BitVec 32 := 1#32
  let arg14 : BitVec 32 := Scf.iv c0_i32_552 c1_i32_554 k0_t62
  let v369 : BitVec 32 := Scalar.addi c116_i32 arg14
  let v411 : Index := Scalar.indexCast v369
  let c64_609 : Index := 64#32
  ![v411.toNat, 64]
def k0_off483 (k0_t62 : Fin k0_t62_loop.trips) : Fin 2 → Nat :=
  let c116_i32 : BitVec 32 := 116#32
  let c0_i32_552 : BitVec 32 := 0#32
  let c1_i32_554 : BitVec 32 := 1#32
  let arg14 : BitVec 32 := Scf.iv c0_i32_552 c1_i32_554 k0_t62
  let v369 : BitVec 32 := Scalar.addi c116_i32 arg14
  let v418 : Index := Scalar.indexCast v369
  let c80_611 : Index := 80#32
  ![v418.toNat, 80]
def k0_off484 (k0_t62 : Fin k0_t62_loop.trips) : Fin 2 → Nat :=
  let c116_i32 : BitVec 32 := 116#32
  let c0_i32_552 : BitVec 32 := 0#32
  let c1_i32_554 : BitVec 32 := 1#32
  let arg14 : BitVec 32 := Scf.iv c0_i32_552 c1_i32_554 k0_t62
  let v369 : BitVec 32 := Scalar.addi c116_i32 arg14
  let v425 : Index := Scalar.indexCast v369
  let c96_613 : Index := 96#32
  ![v425.toNat, 96]
def k0_off485 (k0_t62 : Fin k0_t62_loop.trips) : Fin 2 → Nat :=
  let c116_i32 : BitVec 32 := 116#32
  let c0_i32_552 : BitVec 32 := 0#32
  let c1_i32_554 : BitVec 32 := 1#32
  let arg14 : BitVec 32 := Scf.iv c0_i32_552 c1_i32_554 k0_t62
  let v369 : BitVec 32 := Scalar.addi c116_i32 arg14
  let v432 : Index := Scalar.indexCast v369
  let c112_615 : Index := 112#32
  ![v432.toNat, 112]
@[reducible] def k0_t64_loop : Scf.Loop 32 :=
  let c0_i32_570 : BitVec 32 := 0#32
  let c4_i32_571 : BitVec 32 := 4#32
  let v350 : BitVec 32 := Scalar.addi c0_i32_570 c4_i32_571
  let c1_i32_572 : BitVec 32 := 1#32
  ⟨c0_i32_570, v350, c1_i32_572⟩
@[reducible] def k0_t65_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off486 (k0_t64 : Fin k0_t64_loop.trips) (k0_t65 : Fin k0_t65_loop.trips) : Fin 3 → Nat :=
  let c0_i32_616 : BitVec 32 := 0#32
  let v435 : Index := Scalar.indexCast c0_i32_616
  let c0_i32_570 : BitVec 32 := 0#32
  let c1_i32_572 : BitVec 32 := 1#32
  let arg14 : BitVec 32 := Scf.iv c0_i32_570 c1_i32_572 k0_t64
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t65
  let v434 : BitVec 32 := Scalar.addi v358 arg15
  let v436 : Index := Scalar.indexCast v434
  let c0_617 : Index := 0#32
  ![0, v436.toNat, 0]
def k0_off487 (k0_t64 : Fin k0_t64_loop.trips) (k0_t65 : Fin k0_t65_loop.trips) : Fin 3 → Nat :=
  let c0_i32_618 : BitVec 32 := 0#32
  let v439 : Index := Scalar.indexCast c0_i32_618
  let c0_i32_570 : BitVec 32 := 0#32
  let c1_i32_572 : BitVec 32 := 1#32
  let arg14 : BitVec 32 := Scf.iv c0_i32_570 c1_i32_572 k0_t64
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t65
  let v434 : BitVec 32 := Scalar.addi v358 arg15
  let v440 : Index := Scalar.indexCast v434
  let c16_619 : Index := 16#32
  ![0, v440.toNat, 16]
def k0_off488 (k0_t64 : Fin k0_t64_loop.trips) (k0_t65 : Fin k0_t65_loop.trips) : Fin 3 → Nat :=
  let c0_i32_620 : BitVec 32 := 0#32
  let v443 : Index := Scalar.indexCast c0_i32_620
  let c0_i32_570 : BitVec 32 := 0#32
  let c1_i32_572 : BitVec 32 := 1#32
  let arg14 : BitVec 32 := Scf.iv c0_i32_570 c1_i32_572 k0_t64
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t65
  let v434 : BitVec 32 := Scalar.addi v358 arg15
  let v444 : Index := Scalar.indexCast v434
  let c32_621 : Index := 32#32
  ![0, v444.toNat, 32]
def k0_off489 (k0_t64 : Fin k0_t64_loop.trips) (k0_t65 : Fin k0_t65_loop.trips) : Fin 3 → Nat :=
  let c0_i32_622 : BitVec 32 := 0#32
  let v447 : Index := Scalar.indexCast c0_i32_622
  let c0_i32_570 : BitVec 32 := 0#32
  let c1_i32_572 : BitVec 32 := 1#32
  let arg14 : BitVec 32 := Scf.iv c0_i32_570 c1_i32_572 k0_t64
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t65
  let v434 : BitVec 32 := Scalar.addi v358 arg15
  let v448 : Index := Scalar.indexCast v434
  let c48_623 : Index := 48#32
  ![0, v448.toNat, 48]
def k0_off490 (k0_t64 : Fin k0_t64_loop.trips) (k0_t65 : Fin k0_t65_loop.trips) : Fin 3 → Nat :=
  let c0_i32_624 : BitVec 32 := 0#32
  let v451 : Index := Scalar.indexCast c0_i32_624
  let c0_i32_570 : BitVec 32 := 0#32
  let c1_i32_572 : BitVec 32 := 1#32
  let arg14 : BitVec 32 := Scf.iv c0_i32_570 c1_i32_572 k0_t64
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t65
  let v434 : BitVec 32 := Scalar.addi v358 arg15
  let v452 : Index := Scalar.indexCast v434
  let c64_625 : Index := 64#32
  ![0, v452.toNat, 64]
def k0_off491 (k0_t64 : Fin k0_t64_loop.trips) (k0_t65 : Fin k0_t65_loop.trips) : Fin 3 → Nat :=
  let c0_i32_626 : BitVec 32 := 0#32
  let v455 : Index := Scalar.indexCast c0_i32_626
  let c0_i32_570 : BitVec 32 := 0#32
  let c1_i32_572 : BitVec 32 := 1#32
  let arg14 : BitVec 32 := Scf.iv c0_i32_570 c1_i32_572 k0_t64
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t65
  let v434 : BitVec 32 := Scalar.addi v358 arg15
  let v456 : Index := Scalar.indexCast v434
  let c80_627 : Index := 80#32
  ![0, v456.toNat, 80]
def k0_off492 (k0_t64 : Fin k0_t64_loop.trips) (k0_t65 : Fin k0_t65_loop.trips) : Fin 3 → Nat :=
  let c0_i32_628 : BitVec 32 := 0#32
  let v459 : Index := Scalar.indexCast c0_i32_628
  let c0_i32_570 : BitVec 32 := 0#32
  let c1_i32_572 : BitVec 32 := 1#32
  let arg14 : BitVec 32 := Scf.iv c0_i32_570 c1_i32_572 k0_t64
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t65
  let v434 : BitVec 32 := Scalar.addi v358 arg15
  let v460 : Index := Scalar.indexCast v434
  let c96_629 : Index := 96#32
  ![0, v460.toNat, 96]
def k0_off493 (k0_t64 : Fin k0_t64_loop.trips) (k0_t65 : Fin k0_t65_loop.trips) : Fin 3 → Nat :=
  let c0_i32_630 : BitVec 32 := 0#32
  let v463 : Index := Scalar.indexCast c0_i32_630
  let c0_i32_570 : BitVec 32 := 0#32
  let c1_i32_572 : BitVec 32 := 1#32
  let arg14 : BitVec 32 := Scf.iv c0_i32_570 c1_i32_572 k0_t64
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t65
  let v434 : BitVec 32 := Scalar.addi v358 arg15
  let v464 : Index := Scalar.indexCast v434
  let c112_631 : Index := 112#32
  ![0, v464.toNat, 112]

def k0_chk32 (v370 : IVec S16 32) : Prop :=
  (∀ a x, ((![v370] : Fin 1 → IVec S16 32) a x).toNat < S128.size a)
theorem k0_idx32_inb : ∀ (v370 : IVec S16 32) (k0_hw32 : k0_chk32 v370), ∀ a x, ((![v370] : Fin 1 → IVec S16 32) a x).toNat < S128.size a := fun v370 k0_hw32 => k0_hw32
def k0_off494 (k0_t64 : Fin k0_t64_loop.trips) : Fin 2 → Nat :=
  let c120_i32 : BitVec 32 := 120#32
  let c0_i32_570 : BitVec 32 := 0#32
  let c1_i32_572 : BitVec 32 := 1#32
  let arg14 : BitVec 32 := Scf.iv c0_i32_570 c1_i32_572 k0_t64
  let v369 : BitVec 32 := Scalar.addi c120_i32 arg14
  let v383 : Index := Scalar.indexCast v369
  let c0_601 : Index := 0#32
  ![v383.toNat, 0]
def k0_off495 (k0_t64 : Fin k0_t64_loop.trips) : Fin 2 → Nat :=
  let c120_i32 : BitVec 32 := 120#32
  let c0_i32_570 : BitVec 32 := 0#32
  let c1_i32_572 : BitVec 32 := 1#32
  let arg14 : BitVec 32 := Scf.iv c0_i32_570 c1_i32_572 k0_t64
  let v369 : BitVec 32 := Scalar.addi c120_i32 arg14
  let v390 : Index := Scalar.indexCast v369
  let c16_603 : Index := 16#32
  ![v390.toNat, 16]
def k0_off496 (k0_t64 : Fin k0_t64_loop.trips) : Fin 2 → Nat :=
  let c120_i32 : BitVec 32 := 120#32
  let c0_i32_570 : BitVec 32 := 0#32
  let c1_i32_572 : BitVec 32 := 1#32
  let arg14 : BitVec 32 := Scf.iv c0_i32_570 c1_i32_572 k0_t64
  let v369 : BitVec 32 := Scalar.addi c120_i32 arg14
  let v397 : Index := Scalar.indexCast v369
  let c32_605 : Index := 32#32
  ![v397.toNat, 32]
def k0_off497 (k0_t64 : Fin k0_t64_loop.trips) : Fin 2 → Nat :=
  let c120_i32 : BitVec 32 := 120#32
  let c0_i32_570 : BitVec 32 := 0#32
  let c1_i32_572 : BitVec 32 := 1#32
  let arg14 : BitVec 32 := Scf.iv c0_i32_570 c1_i32_572 k0_t64
  let v369 : BitVec 32 := Scalar.addi c120_i32 arg14
  let v404 : Index := Scalar.indexCast v369
  let c48_607 : Index := 48#32
  ![v404.toNat, 48]
def k0_off498 (k0_t64 : Fin k0_t64_loop.trips) : Fin 2 → Nat :=
  let c120_i32 : BitVec 32 := 120#32
  let c0_i32_570 : BitVec 32 := 0#32
  let c1_i32_572 : BitVec 32 := 1#32
  let arg14 : BitVec 32 := Scf.iv c0_i32_570 c1_i32_572 k0_t64
  let v369 : BitVec 32 := Scalar.addi c120_i32 arg14
  let v411 : Index := Scalar.indexCast v369
  let c64_609 : Index := 64#32
  ![v411.toNat, 64]
def k0_off499 (k0_t64 : Fin k0_t64_loop.trips) : Fin 2 → Nat :=
  let c120_i32 : BitVec 32 := 120#32
  let c0_i32_570 : BitVec 32 := 0#32
  let c1_i32_572 : BitVec 32 := 1#32
  let arg14 : BitVec 32 := Scf.iv c0_i32_570 c1_i32_572 k0_t64
  let v369 : BitVec 32 := Scalar.addi c120_i32 arg14
  let v418 : Index := Scalar.indexCast v369
  let c80_611 : Index := 80#32
  ![v418.toNat, 80]
def k0_off500 (k0_t64 : Fin k0_t64_loop.trips) : Fin 2 → Nat :=
  let c120_i32 : BitVec 32 := 120#32
  let c0_i32_570 : BitVec 32 := 0#32
  let c1_i32_572 : BitVec 32 := 1#32
  let arg14 : BitVec 32 := Scf.iv c0_i32_570 c1_i32_572 k0_t64
  let v369 : BitVec 32 := Scalar.addi c120_i32 arg14
  let v425 : Index := Scalar.indexCast v369
  let c96_613 : Index := 96#32
  ![v425.toNat, 96]
def k0_off501 (k0_t64 : Fin k0_t64_loop.trips) : Fin 2 → Nat :=
  let c120_i32 : BitVec 32 := 120#32
  let c0_i32_570 : BitVec 32 := 0#32
  let c1_i32_572 : BitVec 32 := 1#32
  let arg14 : BitVec 32 := Scf.iv c0_i32_570 c1_i32_572 k0_t64
  let v369 : BitVec 32 := Scalar.addi c120_i32 arg14
  let v432 : Index := Scalar.indexCast v369
  let c112_615 : Index := 112#32
  ![v432.toNat, 112]
@[reducible] def k0_t66_loop : Scf.Loop 32 :=
  let c0_i32_582 : BitVec 32 := 0#32
  let c4_i32_583 : BitVec 32 := 4#32
  let v356 : BitVec 32 := Scalar.addi c0_i32_582 c4_i32_583
  let c1_i32_584 : BitVec 32 := 1#32
  ⟨c0_i32_582, v356, c1_i32_584⟩
@[reducible] def k0_t67_loop : Scf.Loop 32 :=
  let c0_i32_593 : BitVec 32 := 0#32
  let c32_i32_594 : BitVec 32 := 32#32
  let v367 : BitVec 32 := Scalar.addi c0_i32_593 c32_i32_594
  let c1_i32_595 : BitVec 32 := 1#32
  ⟨c0_i32_593, v367, c1_i32_595⟩
def k0_off502 (k0_t66 : Fin k0_t66_loop.trips) (k0_t67 : Fin k0_t67_loop.trips) : Fin 3 → Nat :=
  let c1_i32_616 : BitVec 32 := 1#32
  let v435 : Index := Scalar.indexCast c1_i32_616
  let c0_i32_582 : BitVec 32 := 0#32
  let c1_i32_584 : BitVec 32 := 1#32
  let arg14 : BitVec 32 := Scf.iv c0_i32_582 c1_i32_584 k0_t66
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t67
  let v434 : BitVec 32 := Scalar.addi v358 arg15
  let v436 : Index := Scalar.indexCast v434
  let c0_617 : Index := 0#32
  ![1, v436.toNat, 0]
def k0_off503 (k0_t66 : Fin k0_t66_loop.trips) (k0_t67 : Fin k0_t67_loop.trips) : Fin 3 → Nat :=
  let c1_i32_618 : BitVec 32 := 1#32
  let v439 : Index := Scalar.indexCast c1_i32_618
  let c0_i32_582 : BitVec 32 := 0#32
  let c1_i32_584 : BitVec 32 := 1#32
  let arg14 : BitVec 32 := Scf.iv c0_i32_582 c1_i32_584 k0_t66
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t67
  let v434 : BitVec 32 := Scalar.addi v358 arg15
  let v440 : Index := Scalar.indexCast v434
  let c16_619 : Index := 16#32
  ![1, v440.toNat, 16]
def k0_off504 (k0_t66 : Fin k0_t66_loop.trips) (k0_t67 : Fin k0_t67_loop.trips) : Fin 3 → Nat :=
  let c1_i32_620 : BitVec 32 := 1#32
  let v443 : Index := Scalar.indexCast c1_i32_620
  let c0_i32_582 : BitVec 32 := 0#32
  let c1_i32_584 : BitVec 32 := 1#32
  let arg14 : BitVec 32 := Scf.iv c0_i32_582 c1_i32_584 k0_t66
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t67
  let v434 : BitVec 32 := Scalar.addi v358 arg15
  let v444 : Index := Scalar.indexCast v434
  let c32_621 : Index := 32#32
  ![1, v444.toNat, 32]
def k0_off505 (k0_t66 : Fin k0_t66_loop.trips) (k0_t67 : Fin k0_t67_loop.trips) : Fin 3 → Nat :=
  let c1_i32_622 : BitVec 32 := 1#32
  let v447 : Index := Scalar.indexCast c1_i32_622
  let c0_i32_582 : BitVec 32 := 0#32
  let c1_i32_584 : BitVec 32 := 1#32
  let arg14 : BitVec 32 := Scf.iv c0_i32_582 c1_i32_584 k0_t66
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t67
  let v434 : BitVec 32 := Scalar.addi v358 arg15
  let v448 : Index := Scalar.indexCast v434
  let c48_623 : Index := 48#32
  ![1, v448.toNat, 48]
def k0_off506 (k0_t66 : Fin k0_t66_loop.trips) (k0_t67 : Fin k0_t67_loop.trips) : Fin 3 → Nat :=
  let c1_i32_624 : BitVec 32 := 1#32
  let v451 : Index := Scalar.indexCast c1_i32_624
  let c0_i32_582 : BitVec 32 := 0#32
  let c1_i32_584 : BitVec 32 := 1#32
  let arg14 : BitVec 32 := Scf.iv c0_i32_582 c1_i32_584 k0_t66
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t67
  let v434 : BitVec 32 := Scalar.addi v358 arg15
  let v452 : Index := Scalar.indexCast v434
  let c64_625 : Index := 64#32
  ![1, v452.toNat, 64]
def k0_off507 (k0_t66 : Fin k0_t66_loop.trips) (k0_t67 : Fin k0_t67_loop.trips) : Fin 3 → Nat :=
  let c1_i32_626 : BitVec 32 := 1#32
  let v455 : Index := Scalar.indexCast c1_i32_626
  let c0_i32_582 : BitVec 32 := 0#32
  let c1_i32_584 : BitVec 32 := 1#32
  let arg14 : BitVec 32 := Scf.iv c0_i32_582 c1_i32_584 k0_t66
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t67
  let v434 : BitVec 32 := Scalar.addi v358 arg15
  let v456 : Index := Scalar.indexCast v434
  let c80_627 : Index := 80#32
  ![1, v456.toNat, 80]
def k0_off508 (k0_t66 : Fin k0_t66_loop.trips) (k0_t67 : Fin k0_t67_loop.trips) : Fin 3 → Nat :=
  let c1_i32_628 : BitVec 32 := 1#32
  let v459 : Index := Scalar.indexCast c1_i32_628
  let c0_i32_582 : BitVec 32 := 0#32
  let c1_i32_584 : BitVec 32 := 1#32
  let arg14 : BitVec 32 := Scf.iv c0_i32_582 c1_i32_584 k0_t66
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t67
  let v434 : BitVec 32 := Scalar.addi v358 arg15
  let v460 : Index := Scalar.indexCast v434
  let c96_629 : Index := 96#32
  ![1, v460.toNat, 96]
def k0_off509 (k0_t66 : Fin k0_t66_loop.trips) (k0_t67 : Fin k0_t67_loop.trips) : Fin 3 → Nat :=
  let c1_i32_630 : BitVec 32 := 1#32
  let v463 : Index := Scalar.indexCast c1_i32_630
  let c0_i32_582 : BitVec 32 := 0#32
  let c1_i32_584 : BitVec 32 := 1#32
  let arg14 : BitVec 32 := Scf.iv c0_i32_582 c1_i32_584 k0_t66
  let c32_i32 : BitVec 32 := 32#32
  let v358 : BitVec 32 := Scalar.muli arg14 c32_i32
  let c0_i32_593 : BitVec 32 := 0#32
  let c1_i32_595 : BitVec 32 := 1#32
  let arg15 : BitVec 32 := Scf.iv c0_i32_593 c1_i32_595 k0_t67
  let v434 : BitVec 32 := Scalar.addi v358 arg15
  let v464 : Index := Scalar.indexCast v434
  let c112_631 : Index := 112#32
  ![1, v464.toNat, 112]

def k0_chk33 (v370 : IVec S16 32) : Prop :=
  (∀ a x, ((![v370] : Fin 1 → IVec S16 32) a x).toNat < S128.size a)
theorem k0_idx33_inb : ∀ (v370 : IVec S16 32) (k0_hw33 : k0_chk33 v370), ∀ a x, ((![v370] : Fin 1 → IVec S16 32) a x).toNat < S128.size a := fun v370 k0_hw33 => k0_hw33
def k0_off510 (k0_t66 : Fin k0_t66_loop.trips) : Fin 2 → Nat :=
  let c124_i32 : BitVec 32 := 124#32
  let c0_i32_582 : BitVec 32 := 0#32
  let c1_i32_584 : BitVec 32 := 1#32
  let arg14 : BitVec 32 := Scf.iv c0_i32_582 c1_i32_584 k0_t66
  let v369 : BitVec 32 := Scalar.addi c124_i32 arg14
  let v383 : Index := Scalar.indexCast v369
  let c0_601 : Index := 0#32
  ![v383.toNat, 0]
def k0_off511 (k0_t66 : Fin k0_t66_loop.trips) : Fin 2 → Nat :=
  let c124_i32 : BitVec 32 := 124#32
  let c0_i32_582 : BitVec 32 := 0#32
  let c1_i32_584 : BitVec 32 := 1#32
  let arg14 : BitVec 32 := Scf.iv c0_i32_582 c1_i32_584 k0_t66
  let v369 : BitVec 32 := Scalar.addi c124_i32 arg14
  let v390 : Index := Scalar.indexCast v369
  let c16_603 : Index := 16#32
  ![v390.toNat, 16]
def k0_off512 (k0_t66 : Fin k0_t66_loop.trips) : Fin 2 → Nat :=
  let c124_i32 : BitVec 32 := 124#32
  let c0_i32_582 : BitVec 32 := 0#32
  let c1_i32_584 : BitVec 32 := 1#32
  let arg14 : BitVec 32 := Scf.iv c0_i32_582 c1_i32_584 k0_t66
  let v369 : BitVec 32 := Scalar.addi c124_i32 arg14
  let v397 : Index := Scalar.indexCast v369
  let c32_605 : Index := 32#32
  ![v397.toNat, 32]
def k0_off513 (k0_t66 : Fin k0_t66_loop.trips) : Fin 2 → Nat :=
  let c124_i32 : BitVec 32 := 124#32
  let c0_i32_582 : BitVec 32 := 0#32
  let c1_i32_584 : BitVec 32 := 1#32
  let arg14 : BitVec 32 := Scf.iv c0_i32_582 c1_i32_584 k0_t66
  let v369 : BitVec 32 := Scalar.addi c124_i32 arg14
  let v404 : Index := Scalar.indexCast v369
  let c48_607 : Index := 48#32
  ![v404.toNat, 48]
def k0_off514 (k0_t66 : Fin k0_t66_loop.trips) : Fin 2 → Nat :=
  let c124_i32 : BitVec 32 := 124#32
  let c0_i32_582 : BitVec 32 := 0#32
  let c1_i32_584 : BitVec 32 := 1#32
  let arg14 : BitVec 32 := Scf.iv c0_i32_582 c1_i32_584 k0_t66
  let v369 : BitVec 32 := Scalar.addi c124_i32 arg14
  let v411 : Index := Scalar.indexCast v369
  let c64_609 : Index := 64#32
  ![v411.toNat, 64]
def k0_off515 (k0_t66 : Fin k0_t66_loop.trips) : Fin 2 → Nat :=
  let c124_i32 : BitVec 32 := 124#32
  let c0_i32_582 : BitVec 32 := 0#32
  let c1_i32_584 : BitVec 32 := 1#32
  let arg14 : BitVec 32 := Scf.iv c0_i32_582 c1_i32_584 k0_t66
  let v369 : BitVec 32 := Scalar.addi c124_i32 arg14
  let v418 : Index := Scalar.indexCast v369
  let c80_611 : Index := 80#32
  ![v418.toNat, 80]
def k0_off516 (k0_t66 : Fin k0_t66_loop.trips) : Fin 2 → Nat :=
  let c124_i32 : BitVec 32 := 124#32
  let c0_i32_582 : BitVec 32 := 0#32
  let c1_i32_584 : BitVec 32 := 1#32
  let arg14 : BitVec 32 := Scf.iv c0_i32_582 c1_i32_584 k0_t66
  let v369 : BitVec 32 := Scalar.addi c124_i32 arg14
  let v425 : Index := Scalar.indexCast v369
  let c96_613 : Index := 96#32
  ![v425.toNat, 96]
def k0_off517 (k0_t66 : Fin k0_t66_loop.trips) : Fin 2 → Nat :=
  let c124_i32 : BitVec 32 := 124#32
  let c0_i32_582 : BitVec 32 := 0#32
  let c1_i32_584 : BitVec 32 := 1#32
  let arg14 : BitVec 32 := Scf.iv c0_i32_582 c1_i32_584 k0_t66
  let v369 : BitVec 32 := Scalar.addi c124_i32 arg14
  let v432 : Index := Scalar.indexCast v369
  let c112_615 : Index := 112#32
  ![v432.toNat, 112]
def k0_off518 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v357 : BitVec 32 := Scalar.muli v1 c128_i32
  let c0_i32_586_r3 : BitVec 32 := 0#32
  ![v357.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x32 : Shape := ⟨2, ![4096, 32]⟩
abbrev S100000x128 : Shape := ⟨2, ![100000, 128]⟩
abbrev S_ : Shape := ⟨0, ![]⟩
abbrev S4096x32x1 : Shape := ⟨3, ![4096, 32, 1]⟩
abbrev S1 : Shape := ⟨1, ![1]⟩
abbrev S1x1x1 : Shape := ⟨3, ![1, 1, 1]⟩
abbrev S4096x32x128 : Shape := ⟨3, ![4096, 32, 128]⟩
abbrev S4096x128 : Shape := ⟨2, ![4096, 128]⟩
abbrev S4096x1 : Shape := ⟨2, ![4096, 1]⟩

abbrev nBuf : Space → Nat
  | .hbm => 39
  | .vmem => 0
  | .smem => 0
  | _ => 0

abbrev bufTy : (tb : Table) → Fin (tcTables nBuf tb) → BufTy
  | .hbm, ⟨0, _⟩ => ⟨S4096x32, .i32⟩
  | .hbm, ⟨1, _⟩ => ⟨S4096x32, .i32⟩
  | .hbm, ⟨2, _⟩ => ⟨S100000x128, .f32⟩
  | .hbm, ⟨3, _⟩ => ⟨S_, .i32⟩
  | .hbm, ⟨4, _⟩ => ⟨S4096x32, .i32⟩
  | .hbm, ⟨5, _⟩ => ⟨S4096x32, .i1⟩
  | .hbm, ⟨6, _⟩ => ⟨S_, .i32⟩
  | .hbm, ⟨7, _⟩ => ⟨S4096x32, .i32⟩
  | .hbm, ⟨8, _⟩ => ⟨S4096x32, .i32⟩
  | .hbm, ⟨9, _⟩ => ⟨S4096x32, .i32⟩
  | .hbm, ⟨10, _⟩ => ⟨S4096x32x1, .i32⟩
  | .hbm, ⟨11, _⟩ => ⟨S1, .i32⟩
  | .hbm, ⟨12, _⟩ => ⟨S_, .i32⟩
  | .hbm, ⟨13, _⟩ => ⟨S4096x32x1, .i32⟩
  | .hbm, ⟨14, _⟩ => ⟨S4096x32x1, .i1⟩
  | .hbm, ⟨15, _⟩ => ⟨S1x1x1, .i32⟩
  | .hbm, ⟨16, _⟩ => ⟨S4096x32x1, .i32⟩
  | .hbm, ⟨17, _⟩ => ⟨S4096x32x1, .i1⟩
  | .hbm, ⟨18, _⟩ => ⟨S4096x32x1, .i1⟩
  | .hbm, ⟨19, _⟩ => ⟨S_, .i1⟩
  | .hbm, ⟨20, _⟩ => ⟨S4096x32, .i1⟩
  | .hbm, ⟨21, _⟩ => ⟨S4096x32x128, .f32⟩
  | .hbm, ⟨22, _⟩ => ⟨S4096x32x128, .i1⟩
  | .hbm, ⟨23, _⟩ => ⟨S_, .f32⟩
  | .hbm, ⟨24, _⟩ => ⟨S4096x32x128, .f32⟩
  | .hbm, ⟨25, _⟩ => ⟨S4096x32x128, .f32⟩
  | .hbm, ⟨26, _⟩ => ⟨S4096x32x1, .i32⟩
  | .hbm, ⟨27, _⟩ => ⟨S4096x32x1, .f32⟩
  | .hbm, ⟨28, _⟩ => ⟨S4096x32x128, .f32⟩
  | .hbm, ⟨29, _⟩ => ⟨S4096x32x128, .f32⟩
  | .hbm, ⟨30, _⟩ => ⟨S_, .f32⟩
  | .hbm, ⟨31, _⟩ => ⟨S4096x128, .f32⟩
  | .hbm, ⟨32, _⟩ => ⟨S_, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x128, .f32⟩
  | .hbm, ⟨38, _⟩ => ⟨S4096x128, .f32⟩
  | _, _ => ⟨S4096x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩

abbrev nD : Nat := 1
abbrev τ : Topo := Topo.v7x

variable {F : FTy → Type} [FloatOps F]
-- ==== Proof.PoolSpec.lean ====
/-
  What one tile of the pooling kernel computes, as plain functions of the tile's ids, mask words and the table,
  written with the float operations of any instance `F`. Words of a tile are numbered `0 … 4095`: word `32 g + s` is
  id (or mask word) `s` of the tile's batch row `g`.
-/
module

public import Idealize.ShloMosaic.Lib.ValueIdx
public import Idealize.ShloMosaic.Lib.ValueLayout

@[expose] public section

noncomputable section

namespace Cert.Proof.Pool

open Idealize.ShloMosaic Idealize.ShloMosaic.ValueIdx

abbrev Ids : Type := (⟨2, ![32, 128]⟩ : Shape).Idx → BitVec 32
abbrev Msk : Type := (⟨1, ![4096]⟩ : Shape).Idx → BitVec 32

variable {F : FTy → Type} [FloatOps F]

/-- Word `n` of a tile's mask. -/
def mskN (msk : Msk) (n : ℕ) : BitVec 32 := if h : n < 4096 then msk (ix1 ⟨n, h⟩) else 0#32

/-- Word `n` of a tile's ids, kept as 32 rows of 128. -/
def idsN (ids : Ids) (n : ℕ) : BitVec 32 :=
  if h : n < 4096 then ids (ix2 (⟨n / 128, by omega⟩ : Fin 32) (⟨n % 128, by omega⟩ : Fin 128)) else 0#32

/-- The id the kernel gathers for word `n`: the id where the mask is one, row 0 where it is zero. -/
def gidN (ids : Ids) (msk : Msk) (n : ℕ) : BitVec 32 := idsN ids n * mskN msk n

/-- Lane `h` of row `r` of the table. -/
def tblN (tbl : (⟨2, ![100000, 128]⟩ : Shape).Idx → F .f32) (r h : ℕ) : F .f32 :=
  if hh : r < 100000 ∧ h < 128 then tbl (ix2 (⟨r, hh.1⟩ : Fin 100000) (⟨h, hh.2⟩ : Fin 128)) else FloatOps.ofBits .f32 0#32

/-- Lane `h` of the row gathered for word `n`. -/
def rowN (tbl : (⟨2, ![100000, 128]⟩ : Shape).Idx → F .f32) (ids : Ids) (msk : Msk) (n h : ℕ) : F .f32 :=
  tblN tbl (gidN ids msk n).toNat h

/-- The sum of the first `k` terms of `f`, added up from the left. -/
def sumTo (f : ℕ → F .f32) : ℕ → F .f32
  | 0 => FloatOps.ofBits .f32 0x00000000#32
  | k + 1 => FloatOps.addf (sumTo f k) (f k)

/-- The number of ones among the first `k` mask words of batch row `g`. -/
def cntN (msk : Msk) (g : ℕ) : ℕ → BitVec 32
  | 0 => 0#32
  | k + 1 => cntN msk g k + mskN msk (32 * g + k)

/-- Batch row `g`'s count as a float. -/
def cntF (msk : Msk) (g : ℕ) : F .f32 := FloatOps.sitofp .f32 (cntN msk g 32)

/-- Lane `h` of batch row `g`'s result. -/
def outN (tbl : (⟨2, ![100000, 128]⟩ : Shape).Idx → F .f32) (ids : Ids) (msk : Msk) (g h : ℕ) : F .f32 :=
  FloatOps.mulf
    (FloatOps.subf (sumTo (fun k => rowN tbl ids msk (32 * g + k) h) 32)
      (FloatOps.mulf (FloatOps.subf (FloatOps.ofBits .f32 0x42000000#32) (cntF msk g)) (tblN tbl 0 h)))
    (FloatOps.divf (FloatOps.ofBits .f32 0x3F800000#32) (FloatOps.maximumf (cntF msk g) (FloatOps.ofBits .f32 0x3F800000#32)))

theorem sumTo_congr {f g : ℕ → F .f32} : ∀ n : ℕ, (∀ k, k < n → f k = g k) → sumTo f n = sumTo g n
  | 0, _ => rfl
  | n + 1, h => by rw [sumTo, sumTo, sumTo_congr n fun k hk => h k (by omega), h n (by omega)]

/-- A result's vector expression, lane by lane: the 16 lanes from lane `16 k` of batch row `g`. -/
theorem outN_lanes (tbl : (⟨2, ![100000, 128]⟩ : Shape).Idx → F .f32) (ids : Ids) (msk : Msk) (g k : ℕ)
    {a nf iv : FVec F ⟨1, ![16]⟩ .f32} {l : (⟨2, ![1, 16]⟩ : Shape).Idx → F .f32}
    (h₁ : (⟨2, ![1, 16]⟩ : Shape).ShapeCasts ⟨1, ![16]⟩) (h₂ : (⟨1, ![16]⟩ : Shape).ShapeCasts ⟨2, ![1, 16]⟩)
    (ha : ∀ x : Fin 16, a (ix1 x) = sumTo (fun s => rowN tbl ids msk (32 * g + s) (16 * k + x.val)) 32)
    (hnf : ∀ x : Fin 16, nf (ix1 x) = FloatOps.subf (FloatOps.ofBits .f32 0x42000000#32) (cntF msk g))
    (hiv : ∀ x : Fin 16, iv (ix1 x)
      = FloatOps.divf (FloatOps.ofBits .f32 0x3F800000#32) (FloatOps.maximumf (cntF msk g) (FloatOps.ofBits .f32 0x3F800000#32)))
    (hl : ∀ x : Fin 16, l (ix2 (0 : Fin 1) x) = tblN tbl 0 (16 * k + x.val))
    (y : (⟨2, ![1, 16]⟩ : Shape).Idx) :
    shapeCast ⟨2, ![1, 16]⟩ (mulf (subf a (mulf nf (shapeCast ⟨1, ![16]⟩ l h₁))) iv) h₂ y = outN tbl ids msk g (16 * k + (y 1).val) := by
  obtain ⟨u, v, rfl⟩ : ∃ (u : Fin 1) (v : Fin 16), y = ix2 u v := ⟨y 0, y 1, eq_ix2 y⟩
  rw [shapeCast_a_1a_apply]
  simp only [mulf, subf]
  rw [shapeCast_1a_a_apply, ha, hnf, hiv, hl]
  rfl

end Cert.Proof.Pool

end
-- ==== Proof.IdealRow.lean ====
/-
  One chunk of the pooling kernel on one tile: four batch rows, each the sum of its 32 gathered table rows, corrected
  for the masked-out ids, scaled and stored. The 32 chunks of the program are one text at different offsets
  (`rowBody`); what it computes is proved here once, at any chunk number.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal.Skeleton
public import proofs.«01_k».proof.Proof.PoolSpec

@[expose] public section

noncomputable section

namespace Cert.Proof.KernelIdealTile

open Cert.KernelIdeal Cert.KernelIdeal.Gen Cert.Proof.Pool

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none
abbrev UH : Type := URounds (GSem nD τ sig) ℕ
abbrev UU : Type := UH × Counters

local notation "𝕄" => MT nD τ sig (HIx 1) (Elt F) ℕ UU ℕ

/-! ## The buffers -/

abbrev tblM : Memref sig .scVector .hbm S100000x128 .f32 := Memref.whole main_arg2_scv
abbrev idsM : Memref sig .scVector .hbm S32x32x128 .i32 := Memref.whole main_v0_scv
abbrev mskM : Memref sig .scVector .hbm S32x4096 .i32 := Memref.whole main_v1_scv
abbrev resM : Memref sig .scVector .hbm S4096x128 .f32 := Memref.whole main_v2_scv
abbrev gidM : Memref sig .scVector .vmem S32x128 .i32 := Memref.whole cc0_scratch0
abbrev mwM : Memref sig .scVector .vmem S4096 .i32 := Memref.whole cc0_scratch1
abbrev rowsM : Memref sig .scVector .vmem S2x128x128 .f32 := Memref.whole cc0_scratch2
abbrev t0M : Memref sig .scVector .vmem S1x128 .f32 := Memref.whole cc0_scratch3
abbrev outM : Memref sig .scVector .vmem S128x128 .f32 := Memref.whole cc0_scratch4
abbrev cntM : Memref sig .scVector .vmem S128 .f32 := Memref.whole cc0_scratch5

/-- Slot `b` of the row buffer's two. -/
theorem slot_inb (b : Fin 2) : ∀ a, (![b.val, 0, 0] : Fin 3 → ℕ) a + S1x128x128.size a ≤ S2x128x128.size a := by
  revert b; decide

abbrev slotM (b : Fin 2) : Memref sig .scVector .vmem S128x128 .f32 :=
  (rowsM.slice (Rect.unit (s := S2x128x128) ![b.val, 0, 0] S1x128x128.size (slot_inb b)) (fun _ => rfl)).squeeze S128x128 squeezes_S1x128x128_S128x128

theorem mem_slot (b : Fin 2) (x : S2x128x128.Idx) : x ∈ (slotM b).view.set ↔ (x 0).val = b.val := by
  have h : (slotM b).view.set = (Rect.unit (s := S2x128x128) ![b.val, 0, 0] S1x128x128.size (slot_inb b)).set := by
    refine (View.set_reshape ((View.whole (cc0_scratch2 : Ref sig .scVector)).slice (Rect.unit (s := S2x128x128) ![b.val, 0, 0] S1x128x128.size (slot_inb b))) _).trans ?_
    rw [View.set_slice]
    exact Finset.map_refl
  rw [h, Rect.mem_set_unit]
  constructor
  · intro hx
    have h0 := hx 0
    simp at h0
    omega
  · intro hx a
    match a with
    | ⟨0, _⟩ => exact ⟨by show b.val ≤ (x 0).val; omega, by show (x 0).val < b.val + 1; omega⟩
    | ⟨1, _⟩ => exact ⟨Nat.zero_le _, by have := (x 1).isLt; show (x 1).val < 0 + 128; simpa using this⟩
    | ⟨2, _⟩ => exact ⟨Nat.zero_le _, by have := (x 2).isLt; show (x 2).val < 0 + 128; simpa using this⟩

variable (d : Dev nD) (cV : Fin τ.nSC) (jV : Fin τ.nSub)

/-- Slot `b` of the row buffer holding `g r h` at lane `h` of row `r`. -/
def rowsPts (b : Fin 2) (g : ℕ → ℕ → F .f32) : sProp 𝕄 :=
  (rowsM).view.loc (V d cV jV) ↦[(slotM b).view.set]{fullShare} (fun x : S2x128x128.Idx => g (x 1).val (x 2).val)

/-- The kept copy of the table's row 0. -/
def t0Pts (t : ℕ → F .f32) : sProp 𝕄 := (t0M).view.loc (V d cV jV) ↦{fullShare} (fun x : S1x128.Idx => t (x 1).val)

/-- The counts. -/
def cntPts (t : ℕ → F .f32) : sProp 𝕄 := (cntM).view.loc (V d cV jV) ↦{fullShare} (fun x : S128.Idx => t (x 0).val)

/-- The result scratch, its first `N` words (row by row) holding `o`. -/
def outPts (o : ℕ → ℕ → F .f32) (N : ℕ) : sProp 𝕄 :=
  iprop(∃ f : S128x128.Idx → F .f32, ⌜∀ x, 128 * (x 0).val + (x 1).val < N → f x = o (x 0).val (x 1).val⌝
    ∗ ((outM).view.loc (V d cV jV) ↦{fullShare} f))

theorem outPts_cast (o : ℕ → ℕ → F .f32) {N N' : ℕ} (h : N = N') : outPts d cV jV o N ⊢ outPts d cV jV o N' := h ▸ .rfl

/-! ## The accesses -/

section Steps

variable [FloatOps F]
abbrev Pg (F : FTy → Type) (cV : Fin τ.nSC) (jV : Fin τ.nSub) (α : Type) : Type 1 := Prog (TpuEff nD τ sig (Elt F) Λ₀ (.scVector cV jV)) α

abbrev WP {α : Type} (p : Pg F cV jV α) (Q : α → sProp 𝕄) : sProp 𝕄 := wp frame (wpE (defs₀ (F := F)) 𝒱₀ (V d cV jV) none) Set.univ p Q

theorem wpPure {α : Type} {Q : α → sProp 𝕄} (a : α) : Q a ⊢ WP d cV jV (pure a) Q := by
  unfold WP
  rw [wp_pure]
  iintro H; imodintro; iexact H

theorem wpAssume {α : Type} {Q : α → sProp 𝕄} {P : Prop} {dp : Decidable P} {kk : PLift P → Pg F cV jV α} (h : P) :
    WP d cV jV (kk ⟨h⟩) Q ⊢ WP d cV jV (.op (.assume P dp) kk) Q := by
  unfold WP
  rw [wp_assume_of _ _ _ _ h]

theorem wp_rowLoad {α : Type} {Q : α → sProp 𝕄} {off : Fin 3 → ℕ} {inb : ∀ a, off a + S1x1x16.size a ≤ S2x128x128.size a} {hl} (b : Fin 2) (n k : ℕ)
    (ho : off = ![b.val, n, 16 * k]) (g : ℕ → ℕ → F .f32) {kk : (S1x1x16.Idx → F .f32) → Pg F cV jV α} :
    rowsPts d cV jV b g ⊢ iprop((rowsPts d cV jV b g -∗ WP d cV jV (kk fun y => g n (16 * k + (y 2).val)) Q)
      -∗ WP d cV jV (.op (.load rowsM (Rect.unit (s := S2x128x128) off S1x1x16.size inb).toLoadRect hl) kk) Q) := by
  subst ho
  have hv : (rowsM).view.readAt (Elt F) (Rect.unit (s := S2x128x128) ![b.val, n, 16 * k] S1x1x16.size inb).toLoadRect
      (fun x : S2x128x128.Idx => g (x 1).val (x 2).val) = fun y : S1x1x16.Idx => g n (16 * k + (y 2).val) := by
    funext y
    show g (n + 1 * (y 1).val) (16 * k + 1 * (y 2).val) = _
    have h1 : (y 1).val = 0 := by have := (y 1).isLt; simp at this; omega
    rw [h1, Nat.one_mul, Nat.add_zero, Nat.one_mul]
  have h := wp_load (defs := defs₀ (F := F)) 𝒱₀ (V d cV jV) none Set.univ (Q := Q) (m := rowsM)
    (r := (Rect.unit (s := S2x128x128) ![b.val, n, 16 * k] S1x1x16.size inb).toLoadRect) (hl := hl) (k := kk)
    (S := (slotM b).view.set) (q := fullShare) (f := fun x : S2x128x128.Idx => g (x 1).val (x 2).val) (Γ := []) (by
      intro x hx
      rw [mem_slot]
      have hx' : x ∈ (Rect.unit (s := S2x128x128) ![b.val, n, 16 * k] S1x1x16.size inb).set := by
        rw [show (rowsM).view.setOn (Rect.unit (s := S2x128x128) ![b.val, n, 16 * k] S1x1x16.size inb).toLoadRect.set
          = (Rect.unit (s := S2x128x128) ![b.val, n, 16 * k] S1x1x16.size inb).set from Finset.map_refl] at hx
        exact hx
      have h0 := (Rect.mem_set_unit.mp hx') 0
      simp at h0
      omega)
  rw [hv] at h
  exact h

theorem wp_t0Load {α : Type} {Q : α → sProp 𝕄} {off : Fin 2 → ℕ} {inb : ∀ a, off a + S1x16.size a ≤ S1x128.size a} {hl} (k : ℕ)
    (ho : off = ![0, 16 * k]) (t : ℕ → F .f32) {kk : (S1x16.Idx → F .f32) → Pg F cV jV α} :
    t0Pts d cV jV t ⊢ iprop((t0Pts d cV jV t -∗ WP d cV jV (kk fun y => t (16 * k + (y 1).val)) Q)
      -∗ WP d cV jV (.op (.load t0M (Rect.unit (s := S1x128) off S1x16.size inb).toLoadRect hl) kk) Q) := by
  subst ho
  have hv : (t0M).view.readAt (Elt F) (Rect.unit (s := S1x128) ![0, 16 * k] S1x16.size inb).toLoadRect
      (fun x : S1x128.Idx => t (x 1).val) = fun y : S1x16.Idx => t (16 * k + (y 1).val) := by
    funext y
    show t (16 * k + 1 * (y 1).val) = _
    rw [Nat.one_mul]
  have h := wp_load (defs := defs₀ (F := F)) 𝒱₀ (V d cV jV) none Set.univ (Q := Q) (m := t0M)
    (r := (Rect.unit (s := S1x128) ![0, 16 * k] S1x16.size inb).toLoadRect) (hl := hl) (k := kk)
    (S := Finset.univ) (q := fullShare) (f := fun x : S1x128.Idx => t (x 1).val) (Γ := []) (Finset.subset_univ _)
  rw [hv] at h
  exact h

theorem wp_outLoad {α : Type} {Q : α → sProp 𝕄} {off : Fin 2 → ℕ} {inb : ∀ a, off a + S1x16.size a ≤ S128x128.size a} {hl} (o : ℕ → ℕ → F .f32) (N : ℕ)
    {kk : (S1x16.Idx → F .f32) → Pg F cV jV α} :
    outPts d cV jV o N ⊢ iprop((∀ v : S1x16.Idx → F .f32, outPts d cV jV o N -∗ WP d cV jV (kk v) Q)
      -∗ WP d cV jV (.op (.load outM (Rect.unit (s := S128x128) off S1x16.size inb).toLoadRect hl) kk) Q) := by
  unfold outPts
  iintro ⟨%f, %hf, Ho⟩ HK
  iapply (wp_load (defs := defs₀ (F := F)) 𝒱₀ (V d cV jV) none Set.univ (m := outM) (S := Finset.univ) (Finset.subset_univ _)) $$ Ho
  iintro Ho
  iapply HK
  iexists f; isplitr
  · ipureintro; exact hf
  · iexact Ho

theorem wp_outStore {α : Type} {Q : α → sProp 𝕄} {off : Fin 2 → ℕ} {inb : ∀ a, off a + S1x16.size a ≤ S128x128.size a} {hx} {hm} (n k : ℕ)
    (ho : off = ![n, 16 * k]) (hk : k < 8) (o : ℕ → ℕ → F .f32) {N N' : ℕ} (hN : N = 128 * n + 16 * k) (hN' : N' = N + 16)
    {w : S1x16.Idx → F .f32} (hw : ∀ y, w y = o n (16 * k + (y 1).val)) {kk : PUnit → Pg F cV jV α} :
    outPts d cV jV o N ⊢ iprop((outPts d cV jV o N' -∗ WP d cV jV (kk PUnit.unit) Q)
      -∗ WP d cV jV (.op (.store outM (Rect.unit (s := S128x128) off S1x16.size inb) w Finset.univ hx hm) kk) Q) := by
  subst ho hN hN'
  unfold outPts
  iintro ⟨%f, %hf, Ho⟩ HK
  iapply (wp_store (defs := defs₀ (F := F)) 𝒱₀ (V d cV jV) none Set.univ (m := outM) (r := Rect.unit (s := S128x128) ![n, 16 * k] S1x16.size inb)
    (w := w) (Mk := Finset.univ) (S := Finset.univ) (Finset.subset_univ _)) $$ Ho
  iintro Ho
  iapply HK
  iexists _; isplitr
  swap; · iexact Ho
  ipureintro
  intro x hx
  refine (congrFun (View.write_whole_slice_unit (Val := Elt F) (cc0_scratch4 : Ref sig .scVector) ![n, 16 * k] S1x16.size inb f w) x).trans ?_
  unfold updateSlice
  split
  · rename_i hin
    have h0 : n ≤ (x 0).val ∧ (x 0).val < n + 1 := hin 0
    have h1 : 16 * k ≤ (x 1).val ∧ (x 1).val < 16 * k + 16 := hin 1
    have e0 : (x 0).val = n := by omega
    have e1 : 16 * k + ((x 1).val - 16 * k) = (x 1).val := by omega
    refine (hw _).trans ?_
    rw [e0]
    exact congrArg (o n) e1
  · rename_i hout
    refine hf x ?_
    by_contra hc
    have hx1 : (x 1).val < 128 := (x 1).isLt
    have h0 : n ≤ (x 0).val ∧ (x 0).val < n + 1 := by omega
    have h1 : 16 * k ≤ (x 1).val ∧ (x 1).val < 16 * k + 16 := by omega
    refine hout fun a => ?_
    match a with
    | ⟨0, _⟩ => exact h0
    | ⟨1, _⟩ => exact h1

/-! ## The program of one chunk, at any offsets -/

abbrev V8 (F : FTy → Type) : Type :=
  FVec F S16 .f32 × FVec F S16 .f32 × FVec F S16 .f32 × FVec F S16 .f32 × FVec F S16 .f32 × FVec F S16 .f32 × FVec F S16 .f32 × FVec F S16 .f32

abbrev T4 : Type := Fin k0_t4_loop.trips
abbrev T5 : Type := Fin k0_t5_loop.trips

/-- The offsets of lane group `k` of a gathered row in slot `b`. -/
def AtL (b k : ℕ) (o : T4 → T5 → Fin 3 → ℕ) : Prop := ∀ t t', o t t' = ![b, 32 * t.val + t'.val, 16 * k]

/-- The offsets of lane group `k` of a result of chunk `c`. -/
def AtS (c k : ℕ) (o : T4 → Fin 2 → ℕ) : Prop := ∀ t, o t = ![t.val + 4 * c, 16 * k]

/-- A row slot's offsets stay inside. -/
abbrev InL (o : T4 → T5 → Fin 3 → ℕ) : Prop := ∀ t t' a, o t t' a + S1x1x16.size a ≤ S2x128x128.size a

/-- A result's offsets stay inside. -/
abbrev InS (o : T4 → Fin 2 → ℕ) : Prop := ∀ t a, o t a + S1x16.size a ≤ S128x128.size a

theorem AtL.inb {b k : ℕ} {o : T4 → T5 → Fin 3 → ℕ} (h : AtL b k o) (hb : b < 2) (hk : k < 8) : InL o := fun t t' a => by
  rw [h t t']
  have h4 : t.val < 4 := t.isLt
  have h5 : t'.val < 32 := t'.isLt
  match a with
  | ⟨0, _⟩ => show b + 1 ≤ 2; omega
  | ⟨1, _⟩ => show 32 * t.val + t'.val + 1 ≤ 128; omega
  | ⟨2, _⟩ => show 16 * k + 16 ≤ 128; omega

theorem AtS.inb {c k : ℕ} {o : T4 → Fin 2 → ℕ} (h : AtS c k o) (hc : c < 32) (hk : k < 8) : InS o := fun t a => by
  rw [h t]
  have h4 : t.val < 4 := t.isLt
  match a with
  | ⟨0, _⟩ => show t.val + 4 * c + 1 ≤ 128; omega
  | ⟨1, _⟩ => show 16 * k + 16 ≤ 128; omega

abbrev ldRow (o : Fin 3 → ℕ) (h : ∀ a, o a + S1x1x16.size a ≤ S2x128x128.size a) : Pg F cV jV (Vec F S1x1x16 .f32) :=
  Prog.lift (.load rowsM (Rect.unit (s := S2x128x128) o S1x1x16.size h).toLoadRect (View.loadsAt_vmem h_S1x1x16))

abbrev ldT0 (o : Fin 2 → ℕ) (h : ∀ a, o a + S1x16.size a ≤ S1x128.size a) : Pg F cV jV (Vec F S1x16 .f32) :=
  Prog.lift (.load t0M (Rect.unit (s := S1x128) o S1x16.size h).toLoadRect (View.loadsAt_vmem h_S1x16))

abbrev ldOut (o : Fin 2 → ℕ) (h : ∀ a, o a + S1x16.size a ≤ S128x128.size a) : Pg F cV jV (Vec F S1x16 .f32) :=
  Prog.lift (.load outM (Rect.unit (s := S128x128) o S1x16.size h).toLoadRect (View.loadsAt_vmem h_S1x16))

abbrev stOut (o : Fin 2 → ℕ) (h : ∀ a, o a + S1x16.size a ≤ S128x128.size a) (v : FVec F S16 .f32) : Pg F cV jV PUnit :=
  Prog.lift (.store outM (Rect.unit (s := S128x128) o S1x16.size h) (shapeCast S1x16 v shapeCasts_S16_S1x16) Finset.univ (View.stores_vmem_bits_univ h_S1x16 rfl) (.inl rfl))

/-- One gathered row added onto the eight lane groups' sums. -/
def gInner (o6 o7 o8 o9 o10 o11 o12 o13 : T4 → T5 → Fin 3 → ℕ) (h6 : InL o6) (h7 : InL o7) (h8 : InL o8) (h9 : InL o9)
    (h10 : InL o10) (h11 : InL o11) (h12 : InL o12) (h13 : InL o13) (t : T4) : T5 → V8 F → Pg F cV jV (V8 F) :=
  fun t' (a0, a1, a2, a3, a4, a5, a6, a7) => do
    let l0 ← ldRow cV jV (o6 t t') (h6 t t')
    let l1 ← ldRow cV jV (o7 t t') (h7 t t')
    let l2 ← ldRow cV jV (o8 t t') (h8 t t')
    let l3 ← ldRow cV jV (o9 t t') (h9 t t')
    let l4 ← ldRow cV jV (o10 t t') (h10 t t')
    let l5 ← ldRow cV jV (o11 t t') (h11 t t')
    let l6 ← ldRow cV jV (o12 t t') (h12 t t')
    let l7 ← ldRow cV jV (o13 t t') (h13 t t')
    pure (k0_pay9 a0 l0, k0_pay10 a1 l1, k0_pay11 a2 l2, k0_pay12 a3 l3, k0_pay13 a4 l4, k0_pay14 a5 l5, k0_pay15 a6 l6, k0_pay16 a7 l7)

/-- The values the first half of a row's text hands the second. -/
abbrev Hand (F : FTy → Type) : Type :=
  Σ' (_ : FVec F S16 .f32) (_ : FVec F S16 .f32) (_ : FVec F S16 .f32) (_ : FVec F S16 .f32) (_ : FVec F S16 .f32) (_ : FVec F S16 .f32) (_ : BitVec 32) (_ : FVec F S16 .f32) (_ : FVec F S16 .f32), FVec F S16 .f32

/-- The sums of a row, its count, and its first lane group's store. -/
def gPart1 (rv : T4 → BitVec 32) (o6 o7 o8 o9 o10 o11 o12 o13 : T4 → T5 → Fin 3 → ℕ) (o14 : T4 → Fin 2 → ℕ) (h6 : InL o6) (h7 : InL o7) (h8 : InL o8) (h9 : InL o9)
    (h10 : InL o10) (h11 : InL o11) (h12 : InL o12) (h13 : InL o13) (h14 : InS o14) (t : T4) : Pg F cV jV (Hand F) := do
  let (s0, s1, s2, s3, s4, s5, s6, s7) ← Scf.Loop.for k0_t5_loop k0_t5_ok (k0_pay1 (F := F), k0_pay2 (F := F), k0_pay3 (F := F), k0_pay4 (F := F), k0_pay5 (F := F), k0_pay6 (F := F), k0_pay7 (F := F), k0_pay8 (F := F))
    (gInner cV jV o6 o7 o8 o9 o10 o11 o12 o13 h6 h7 h8 h9 h10 h11 h12 h13 t)
  have gi : IVec S16 32 := broadcast S16 (rv t)
  have hw : k0_chk2 gi := (← Prog.lift (TpuEff.assume (k0_chk2 gi) (k0_chk2.dec gi))).down
  let cn : Vec F S16 .f32 ← SparseCore.vectorLoadIdx cntM ![gi] (k0_idx2_inb gi hw) (View.loads_vmem h_S128)
  let l0 ← ldT0 cV jV ![0, 0] inb_S1x128_S1x16_0_0
  let _e ← ldOut cV jV (o14 t) (h14 t)
  stOut cV jV (o14 t) (h14 t) (k0_pay19 s0 cn l0)
  let l1 ← ldT0 cV jV ![0, 16] inb_S1x128_S1x16_0_16
  pure ⟨s2, s3, s4, s5, s6, s7, rv t, k0_pay17 cn, k0_pay18 cn, k0_pay20 s1 cn l1⟩

/-- The stores of lane groups 1 to 5. -/
def gPart2 (o15 o16 o17 o18 o19 : T4 → Fin 2 → ℕ) (h15 : InS o15) (h16 : InS o16) (h17 : InS o17) (h18 : InS o18) (h19 : InS o19)
    (t : T4) (s2 s3 s4 s5 : FVec F S16 .f32) (nf iv v1 : FVec F S16 .f32) : Pg F cV jV PUnit := do
  let _e ← ldOut cV jV (o15 t) (h15 t)
  stOut cV jV (o15 t) (h15 t) v1
  let l2 ← ldT0 cV jV ![0, 32] inb_S1x128_S1x16_0_32
  let _e ← ldOut cV jV (o16 t) (h16 t)
  stOut cV jV (o16 t) (h16 t) (k0_pay21 s2 nf iv l2)
  let l3 ← ldT0 cV jV ![0, 48] inb_S1x128_S1x16_0_48
  let _e ← ldOut cV jV (o17 t) (h17 t)
  stOut cV jV (o17 t) (h17 t) (k0_pay22 s3 nf iv l3)
  let l4 ← ldT0 cV jV ![0, 64] inb_S1x128_S1x16_0_64
  let _e ← ldOut cV jV (o18 t) (h18 t)
  stOut cV jV (o18 t) (h18 t) (k0_pay23 s4 nf iv l4)
  let l5 ← ldT0 cV jV ![0, 80] inb_S1x128_S1x16_0_80
  let _e ← ldOut cV jV (o19 t) (h19 t)
  stOut cV jV (o19 t) (h19 t) (k0_pay24 s5 nf iv l5)
  pure ⟨⟩

/-- One row of a chunk. -/
def rowBody (rv : T4 → BitVec 32) (o6 o7 o8 o9 o10 o11 o12 o13 : T4 → T5 → Fin 3 → ℕ) (o14 o15 o16 o17 o18 o19 o20 o21 : T4 → Fin 2 → ℕ)
    (h6 : InL o6) (h7 : InL o7) (h8 : InL o8) (h9 : InL o9) (h10 : InL o10) (h11 : InL o11) (h12 : InL o12) (h13 : InL o13)
    (h14 : InS o14) (h15 : InS o15) (h16 : InS o16) (h17 : InS o17) (h18 : InS o18) (h19 : InS o19) (h20 : InS o20) (h21 : InS o21) :
    T4 → Unit → Pg F cV jV Unit := fun t _ => do
  let ⟨s2, s3, s4, s5, s6, s7, _, nf, iv, v1⟩ ← gPart1 cV jV rv o6 o7 o8 o9 o10 o11 o12 o13 o14 h6 h7 h8 h9 h10 h11 h12 h13 h14 t
  gPart2 cV jV o15 o16 o17 o18 o19 h15 h16 h17 h18 h19 t s2 s3 s4 s5 nf iv v1
  let l6 ← ldT0 cV jV ![0, 96] inb_S1x128_S1x16_0_96
  let _e ← ldOut cV jV (o20 t) (h20 t)
  stOut cV jV (o20 t) (h20 t) (k0_pay774 s6 nf iv l6)
  let l7 ← ldT0 cV jV ![0, 112] inb_S1x128_S1x16_0_112
  let _e ← ldOut cV jV (o21 t) (h21 t)
  stOut cV jV (o21 t) (h21 t) (k0_pay775 s7 nf iv l7)
  pure ⟨⟩

/-! ## The sums of a row -/

/-- Lane group `k` of the sum of the first `n` rows of `g` from row `32 t`. -/
def vec (g : ℕ → ℕ → F .f32) (t k n : ℕ) : FVec F S16 .f32 := fun x => sumTo (fun s => g (32 * t + s) (16 * k + (x 0).val)) n

def vecs (g : ℕ → ℕ → F .f32) (t n : ℕ) : V8 F :=
  (vec g t 0 n, vec g t 1 n, vec g t 2 n, vec g t 3 n, vec g t 4 n, vec g t 5 n, vec g t 6 n, vec g t 7 n)

theorem vec_succ (g : ℕ → ℕ → F .f32) (t k n : ℕ) :
    addf (vec g t k n) (shapeCast S16 (fun y : S1x1x16.Idx => g (32 * t + n) (16 * k + (y 2).val)) shapeCasts_S1x1x16_S16) = vec g t k (n + 1) := by
  funext x
  obtain ⟨v, rfl⟩ : ∃ v : Fin 16, x = ix1 v := ⟨x 0, eq_ix1 x⟩
  have h : shapeCast S16 (fun y : S1x1x16.Idx => g (32 * t + n) (16 * k + (y 2).val)) shapeCasts_S1x1x16_S16 (ix1 v)
      = g (32 * t + n) (16 * k + v.val) :=
    shapeCast_apply (s := S1x1x16) (t := S16) _ _ (ix1 v) (ix3 (0 : Fin 1) (0 : Fin 1) v) (by
      rw [Shape.rowMajor_val_three, Shape.rowMajor_val_one]
      show (0 * 1 + 0) * 16 + v.val = v.val
      omega)
  show FloatOps.addf _ (shapeCast S16 _ _ (ix1 v)) = _
  rw [h]
  rfl

theorem wp_inner {β : Type} {Q : β → sProp 𝕄} (b : Fin 2) {o6 o7 o8 o9 o10 o11 o12 o13 : T4 → T5 → Fin 3 → ℕ}
    {h6 : InL o6} {h7 : InL o7} {h8 : InL o8} {h9 : InL o9} {h10 : InL o10} {h11 : InL o11} {h12 : InL o12} {h13 : InL o13}
    (e6 : AtL b.val 0 o6) (e7 : AtL b.val 1 o7) (e8 : AtL b.val 2 o8) (e9 : AtL b.val 3 o9) (e10 : AtL b.val 4 o10) (e11 : AtL b.val 5 o11)
    (e12 : AtL b.val 6 o12) (e13 : AtL b.val 7 o13) (g : ℕ → ℕ → F .f32) (t : T4) {kk : V8 F → Pg F cV jV β} :
    rowsPts d cV jV b g ⊢ iprop((rowsPts d cV jV b g -∗ WP d cV jV (kk (vecs g t.val 32)) Q)
      -∗ WP d cV jV (Scf.Loop.for k0_t5_loop k0_t5_ok (k0_pay1 (F := F), k0_pay2 (F := F), k0_pay3 (F := F), k0_pay4 (F := F), k0_pay5 (F := F), k0_pay6 (F := F), k0_pay7 (F := F), k0_pay8 (F := F))
          (gInner cV jV o6 o7 o8 o9 o10 o11 o12 o13 h6 h7 h8 h9 h10 h11 h12 h13 t) >>= kk) Q) := by
  have hI := Scf.wp_for_bind frame (wpE (defs₀ (F := F)) 𝒱₀ (V d cV jV) none) Set.univ _ _ _ k0_t5_ok
    (k0_pay1 (F := F), k0_pay2 (F := F), k0_pay3 (F := F), k0_pay4 (F := F), k0_pay5 (F := F), k0_pay6 (F := F), k0_pay7 (F := F), k0_pay8 (F := F))
    (gInner cV jV o6 o7 o8 o9 o10 o11 o12 o13 h6 h7 h8 h9 h10 h11 h12 h13 t)
    (fun n acc => iprop(⌜acc = vecs g t.val n⌝ ∗ rowsPts d cV jV b g)) (by
      intro n acc
      iintro ⟨%ha, HR⟩
      subst ha
      unfold gInner vecs
      simp only [Prog.bind_lift, Prog.bind_op]
      iapply (wp_rowLoad d cV jV b _ 0 (e6 t n) g) $$ HR; iintro HR
      iapply (wp_rowLoad d cV jV b _ 1 (e7 t n) g) $$ HR; iintro HR
      iapply (wp_rowLoad d cV jV b _ 2 (e8 t n) g) $$ HR; iintro HR
      iapply (wp_rowLoad d cV jV b _ 3 (e9 t n) g) $$ HR; iintro HR
      iapply (wp_rowLoad d cV jV b _ 4 (e10 t n) g) $$ HR; iintro HR
      iapply (wp_rowLoad d cV jV b _ 5 (e11 t n) g) $$ HR; iintro HR
      iapply (wp_rowLoad d cV jV b _ 6 (e12 t n) g) $$ HR; iintro HR
      iapply (wp_rowLoad d cV jV b _ 7 (e13 t n) g) $$ HR; iintro HR
      iapply (wpPure d cV jV)
      isplitr
      · ipureintro
        rw [← vec_succ g t.val 0 n.val, ← vec_succ g t.val 1 n.val, ← vec_succ g t.val 2 n.val, ← vec_succ g t.val 3 n.val,
          ← vec_succ g t.val 4 n.val, ← vec_succ g t.val 5 n.val, ← vec_succ g t.val 6 n.val, ← vec_succ g t.val 7 n.val]
        rfl
      · iexact HR) (kk := kk) (Q := Q)
  iintro HR HK
  iapply hI $$ [HR]
  · isplitr
    · ipureintro; rfl
    · iexact HR
  · iintro %acc ⟨%ha, HR⟩
    rw [show acc = vecs g t.val 32 from ha]
    iapply HK; iexact HR

/-! ## A row -/

theorem wp_cnt {α : Type} {Q : α → sProp 𝕄} {w : BitVec 32} {h} {hl} (n : ℕ) (hn : w.toNat = n) (t : ℕ → F .f32)
    {kk : FVec F S16 .f32 → Pg F cV jV α} :
    cntPts d cV jV t ⊢ iprop((cntPts d cV jV t -∗ WP d cV jV (kk fun _ => t n) Q)
      -∗ WP d cV jV (SparseCore.vectorLoadIdx cntM ![broadcast S16 w] h hl >>= kk) Q) := by
  subst hn
  have hv : loadIdx ((cntM.access (.whole S128)).read (Elt F) (fun x : S128.Idx => t (x 0).val)) ![broadcast S16 w] h = fun _ => t w.toNat := by
    rw [show (cntM.access (.whole S128)).read (Elt F) (fun x : S128.Idx => t (x 0).val) = fun x : S128.Idx => t (x 0).val from
      Memref.read_access_whole (Elt F) (cc0_scratch5 : Ref sig .scVector) _]
    rfl
  rw [← hv]
  exact SparseCore.wp_vectorLoadIdx (defs := defs₀ (F := F)) 𝒱₀ (V d cV jV) none Set.univ (base := cntM) (S := Finset.univ) (q := fullShare)
    (f := fun x : S128.Idx => t (x 0).val) (h := h) (hl := hl) (k := kk) (Q := Q) (Finset.subset_univ _)

/-- One lane group's result: the table's row 0 read, the result computed and stored. -/
theorem wp_group {α : Type} {Q : α → sProp 𝕄} (tbl : (⟨2, ![100000, 128]⟩ : Shape).Idx → F .f32) (ids : Ids) (msk : Msk) (g k : ℕ) (hk : k < 8)
    {oT : Fin 2 → ℕ} {hT : ∀ a, oT a + S1x16.size a ≤ S1x128.size a} {o : Fin 2 → ℕ} {ho ho' : ∀ a, o a + S1x16.size a ≤ S128x128.size a} {hl} {hl'} {hx} {hm}
    (eT : oT = ![0, 16 * k]) (eo : o = ![g, 16 * k]) {v : FVec F S1x16 .f32 → FVec F S16 .f32} {a nf iv : FVec F S16 .f32}
    (hv : ∀ l, v l = mulf (subf a (mulf nf (shapeCast S16 l shapeCasts_S1x16_S16))) iv)
    (ha : ∀ x : Fin 16, a (ix1 x) = sumTo (fun s => rowN tbl ids msk (32 * g + s) (16 * k + x.val)) 32)
    (hnf : ∀ x : Fin 16, nf (ix1 x) = FloatOps.subf (FloatOps.ofBits .f32 0x42000000#32) (cntF msk g))
    (hiv : ∀ x : Fin 16, iv (ix1 x)
      = FloatOps.divf (FloatOps.ofBits .f32 0x3F800000#32) (FloatOps.maximumf (cntF msk g) (FloatOps.ofBits .f32 0x3F800000#32)))
    {kk : PUnit → Pg F cV jV α} :
    t0Pts d cV jV (tblN tbl 0)
    ⊢ iprop(outPts d cV jV (outN tbl ids msk) (128 * g + 16 * k) -∗ (t0Pts d cV jV (tblN tbl 0) ∗ outPts d cV jV (outN tbl ids msk) (128 * g + 16 * (k + 1)) -∗ WP d cV jV (kk PUnit.unit) Q)
      -∗ WP d cV jV (.op (.load t0M (Rect.unit (s := S1x128) oT S1x16.size hT).toLoadRect hl) fun l : FVec F S1x16 .f32 =>
          .op (.load outM (Rect.unit (s := S128x128) o S1x16.size ho).toLoadRect hl') fun _ =>
          .op (.store outM (Rect.unit (s := S128x128) o S1x16.size ho') (shapeCast S1x16 (v l) shapeCasts_S16_S1x16) Finset.univ hx hm) kk) Q) := by
  iintro HT HO HK
  iapply (wp_t0Load d cV jV k eT) $$ HT; iintro HT
  iapply (wp_outLoad d cV jV) $$ HO; iintro %e HO
  iapply (wp_outStore d cV jV g k eo hk (outN tbl ids msk) rfl rfl (by
    intro y
    rw [hv]
    exact outN_lanes tbl ids msk g k _ _ ha hnf hiv (fun _ => rfl) y)) $$ HO
  iintro HO
  iapply HK
  isplitl [HT]
  · iexact HT
  · iexact HO

/-- What a row of a chunk reads and writes. -/
def rowSt (tbl : (⟨2, ![100000, 128]⟩ : Shape).Idx → F .f32) (ids : Ids) (msk : Msk) (b : Fin 2) (c N : ℕ) : sProp 𝕄 :=
  iprop(rowsPts d cV jV b (fun n h => rowN tbl ids msk (128 * c + n) h) ∗ cntPts d cV jV (cntF msk) ∗ t0Pts d cV jV (tblN tbl 0)
    ∗ outPts d cV jV (outN tbl ids msk) N)

theorem wp_row (tbl : (⟨2, ![100000, 128]⟩ : Shape).Idx → F .f32) (ids : Ids) (msk : Msk) (b : Fin 2) (c : ℕ) (hc : c < 32)
    {rv : T4 → BitVec 32} {o6 o7 o8 o9 o10 o11 o12 o13 : T4 → T5 → Fin 3 → ℕ} {o14 o15 o16 o17 o18 o19 o20 o21 : T4 → Fin 2 → ℕ}
    {h6 : InL o6} {h7 : InL o7} {h8 : InL o8} {h9 : InL o9} {h10 : InL o10} {h11 : InL o11} {h12 : InL o12} {h13 : InL o13}
    {h14 : InS o14} {h15 : InS o15} {h16 : InS o16} {h17 : InS o17} {h18 : InS o18} {h19 : InS o19} {h20 : InS o20} {h21 : InS o21}
    (er : ∀ t, (rv t).toNat = t.val + 4 * c)
    (e6 : AtL b.val 0 o6) (e7 : AtL b.val 1 o7) (e8 : AtL b.val 2 o8) (e9 : AtL b.val 3 o9) (e10 : AtL b.val 4 o10) (e11 : AtL b.val 5 o11)
    (e12 : AtL b.val 6 o12) (e13 : AtL b.val 7 o13)
    (e14 : AtS c 0 o14) (e15 : AtS c 1 o15) (e16 : AtS c 2 o16) (e17 : AtS c 3 o17) (e18 : AtS c 4 o18) (e19 : AtS c 5 o19) (e20 : AtS c 6 o20)
    (e21 : AtS c 7 o21) (t : T4) (u : Unit) :
    rowSt d cV jV tbl ids msk b c (128 * (t.val + 4 * c))
    ⊢ WP d cV jV (rowBody cV jV rv o6 o7 o8 o9 o10 o11 o12 o13 o14 o15 o16 o17 o18 o19 o20 o21 h6 h7 h8 h9 h10 h11 h12 h13
        h14 h15 h16 h17 h18 h19 h20 h21 t u) (fun _ => rowSt d cV jV tbl ids msk b c (128 * (t.val + 4 * c + 1))) := by
  have ht : t.val < 4 := t.isLt
  have hchk : k0_chk2 (broadcast S16 (rv t)) := by
    intro a x
    match a with
    | ⟨0, _⟩ =>
      show (rv t).toNat < 128
      rw [er]; omega
  have hs : ∀ k : ℕ, ∀ x : Fin 16, vec (fun n h => rowN tbl ids msk (128 * c + n) h) t.val k 32 (ix1 x)
      = sumTo (fun s => rowN tbl ids msk (32 * (t.val + 4 * c) + s) (16 * k + x.val)) 32 := by
    intro k x
    refine sumTo_congr 32 fun s _ => ?_
    show rowN tbl ids msk (128 * c + (32 * t.val + s)) _ = rowN tbl ids msk (32 * (t.val + 4 * c) + s) _
    rw [show 128 * c + (32 * t.val + s) = 32 * (t.val + 4 * c) + s by omega]
  unfold rowSt
  iintro ⟨HR, HC, HT, HO⟩
  ihave HO := (outPts_cast d cV jV _ (show 128 * (t.val + 4 * c) = 128 * (t.val + 4 * c) + 16 * 0 by omega)) $$ HO
  unfold rowBody gPart1 gPart2
  simp only [bind_assoc, pure_bind, Prog.bind_lift, Prog.bind_op]
  iapply (wp_inner d cV jV b e6 e7 e8 e9 e10 e11 e12 e13) $$ HR; iintro HR
  simp only [vecs, bind_assoc, pure_bind, Prog.bind_lift, Prog.bind_op]
  iapply (wpAssume d cV jV hchk)
  iapply (wp_cnt d cV jV _ (er t)) $$ HC; iintro HC
  iapply (wp_group d cV jV tbl ids msk (t.val + 4 * c) 0 (by decide) rfl (e14 t) (fun _ => rfl) (hs 0) (fun _ => rfl) (fun _ => rfl)) $$ HT HO
  iintro ⟨HT, HO⟩
  iapply (wp_group d cV jV tbl ids msk (t.val + 4 * c) 1 (by decide) rfl (e15 t) (fun _ => rfl) (hs 1) (fun _ => rfl) (fun _ => rfl)) $$ HT HO
  iintro ⟨HT, HO⟩
  iapply (wp_group d cV jV tbl ids msk (t.val + 4 * c) 2 (by decide) rfl (e16 t) (fun _ => rfl) (hs 2) (fun _ => rfl) (fun _ => rfl)) $$ HT HO
  iintro ⟨HT, HO⟩
  iapply (wp_group d cV jV tbl ids msk (t.val + 4 * c) 3 (by decide) rfl (e17 t) (fun _ => rfl) (hs 3) (fun _ => rfl) (fun _ => rfl)) $$ HT HO
  iintro ⟨HT, HO⟩
  iapply (wp_group d cV jV tbl ids msk (t.val + 4 * c) 4 (by decide) rfl (e18 t) (fun _ => rfl) (hs 4) (fun _ => rfl) (fun _ => rfl)) $$ HT HO
  iintro ⟨HT, HO⟩
  iapply (wp_group d cV jV tbl ids msk (t.val + 4 * c) 5 (by decide) rfl (e19 t) (fun _ => rfl) (hs 5) (fun _ => rfl) (fun _ => rfl)) $$ HT HO
  iintro ⟨HT, HO⟩
  iapply (wp_group d cV jV tbl ids msk (t.val + 4 * c) 6 (by decide) rfl (e20 t) (fun _ => rfl) (hs 6) (fun _ => rfl) (fun _ => rfl)) $$ HT HO
  iintro ⟨HT, HO⟩
  iapply (wp_group d cV jV tbl ids msk (t.val + 4 * c) 7 (by decide) rfl (e21 t) (fun _ => rfl) (hs 7) (fun _ => rfl) (fun _ => rfl)) $$ HT HO
  iintro ⟨HT, HO⟩
  iapply (wpPure d cV jV)
  isplitl [HR]; · iexact HR
  isplitl [HC]; · iexact HC
  isplitl [HT]; · iexact HT
  iapply (outPts_cast d cV jV _ (show 128 * (t.val + 4 * c) + 16 * (7 + 1) = 128 * (t.val + 4 * c + 1) by omega)) $$ HO

theorem wp_chunk {β : Type} {Q : β → sProp 𝕄} (tbl : (⟨2, ![100000, 128]⟩ : Shape).Idx → F .f32) (ids : Ids) (msk : Msk) (b : Fin 2) (c : ℕ) (hc : c < 32)
    {rv : T4 → BitVec 32} {o6 o7 o8 o9 o10 o11 o12 o13 : T4 → T5 → Fin 3 → ℕ} {o14 o15 o16 o17 o18 o19 o20 o21 : T4 → Fin 2 → ℕ}
    {h6 : InL o6} {h7 : InL o7} {h8 : InL o8} {h9 : InL o9} {h10 : InL o10} {h11 : InL o11} {h12 : InL o12} {h13 : InL o13}
    {h14 : InS o14} {h15 : InS o15} {h16 : InS o16} {h17 : InS o17} {h18 : InS o18} {h19 : InS o19} {h20 : InS o20} {h21 : InS o21}
    (bd : T4 → Unit → Pg F cV jV Unit)
    (hbd : bd = rowBody cV jV rv o6 o7 o8 o9 o10 o11 o12 o13 o14 o15 o16 o17 o18 o19 o20 o21 h6 h7 h8 h9 h10 h11 h12 h13
        h14 h15 h16 h17 h18 h19 h20 h21)
    (er : ∀ t, (rv t).toNat = t.val + 4 * c)
    (e6 : AtL b.val 0 o6) (e7 : AtL b.val 1 o7) (e8 : AtL b.val 2 o8) (e9 : AtL b.val 3 o9) (e10 : AtL b.val 4 o10) (e11 : AtL b.val 5 o11)
    (e12 : AtL b.val 6 o12) (e13 : AtL b.val 7 o13)
    (e14 : AtS c 0 o14) (e15 : AtS c 1 o15) (e16 : AtS c 2 o16) (e17 : AtS c 3 o17) (e18 : AtS c 4 o18) (e19 : AtS c 5 o19) (e20 : AtS c 6 o20)
    (e21 : AtS c 7 o21) {kk : Unit → Pg F cV jV β} :
    rowSt d cV jV tbl ids msk b c (512 * c)
    ⊢ iprop((rowSt d cV jV tbl ids msk b c (512 * (c + 1)) -∗ WP d cV jV (kk ()) Q)
      -∗ WP d cV jV (Scf.Loop.for k0_t4_loop k0_t4_ok ⟨⟩ bd >>= kk) Q) := by
  subst hbd
  have hI := Scf.wp_for_bind frame (wpE (defs₀ (F := F)) 𝒱₀ (V d cV jV) none) Set.univ _ _ _ k0_t4_ok ()
    (rowBody cV jV rv o6 o7 o8 o9 o10 o11 o12 o13 o14 o15 o16 o17 o18 o19 o20 o21 h6 h7 h8 h9 h10 h11 h12 h13 h14 h15 h16 h17 h18 h19 h20 h21)
    (fun n _ => rowSt d cV jV tbl ids msk b c (128 * (n + 4 * c))) (fun t u => by
      have h := wp_row d cV jV tbl ids msk b c hc (h6 := h6) (h7 := h7) (h8 := h8) (h9 := h9) (h10 := h10) (h11 := h11) (h12 := h12) (h13 := h13)
        (h14 := h14) (h15 := h15) (h16 := h16) (h17 := h17) (h18 := h18) (h19 := h19) (h20 := h20) (h21 := h21)
        er e6 e7 e8 e9 e10 e11 e12 e13 e14 e15 e16 e17 e18 e19 e20 e21 t u
      rw [show t.val + 4 * c + 1 = t.val + 1 + 4 * c by omega] at h
      exact h) (kk := kk) (Q := Q)
  rw [show 512 * c = 128 * (0 + 4 * c) by omega, show 512 * (c + 1) = 128 * (4 + 4 * c) by omega]
  refine hI.trans ?_
  iintro HI HK
  iapply HI
  iintro %u HR
  iapply HK; iexact HR

end Steps

end Cert.Proof.KernelIdealTile

end
-- ==== Proof.IdealGather.lean ====
/-
  The gathers of one tile of the pooling kernel: chunk `c`'s indirect copy of 128 table rows into slot `c % 2` of the
  row buffer, issued and waited for. At any chunk number, slot and semaphore: what each step takes and leaves
  (`Idle`, `Fly`, `Land`).
-/
module

public import proofs.«01_k».proof.Proof.IdealRow

@[expose] public section

noncomputable section

namespace Cert.Proof.KernelIdealTile

open Cert.KernelIdeal Cert.KernelIdeal.Gen Cert.Proof.Pool

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The memrefs of a gather -/

/-- The whole table, as the gathers address it. -/
abbrev tblSl : Memref sig .scVector .hbm S100000x128 .f32 :=
  tblM.slice (Rect.unit (s := S100000x128) ![0, 0] S100000x128.size inb_S100000x128_S100000x128_0_0) (fun _ => rfl)

theorem list_inb (c : Fin 32) : ∀ a, (![c.val, 0] : Fin 2 → ℕ) a + S1x128.size a ≤ S32x128.size a := by
  revert c; decide

/-- Chunk `c`'s list of 128 ids. -/
abbrev listM (c : Fin 32) : Memref sig .scVector .vmem S128 .i32 :=
  (gidM.slice (Rect.unit (s := S32x128) ![c.val, 0] S1x128.size (list_inb c)) (fun _ => rfl)).squeeze S128 squeezes_S1x128_S128

theorem tblSl_emb (x : S100000x128.Idx) : tblSl.view.emb x = x := by
  funext a
  refine Fin.ext ?_
  match a with
  | ⟨0, _⟩ => show 0 + 1 * (x 0).val = _; rw [Nat.one_mul, Nat.zero_add]; rfl
  | ⟨1, _⟩ => show 0 + 1 * (x 1).val = _; rw [Nat.one_mul, Nat.zero_add]; rfl

theorem tblSl_set : tblSl.view.set = Finset.univ := by
  refine Finset.eq_univ_iff_forall.mpr fun x => ?_
  exact Finset.mem_map.mpr ⟨x, Finset.mem_univ _, tblSl_emb x⟩

theorem listM_emb (c : Fin 32) (v : Fin 128) : (listM c).view.emb (ix1 v) = ix2 c v := by
  have h : Shape.reshapeEquiv (squeezes_S1x128_S128).numel_eq (ix1 v) = ix2 (0 : Fin 1) v :=
    Shape.reshapeEquiv_eq_of_rowMajor _ (by
      rw [Shape.rowMajor_val_two, Shape.rowMajor_val_one]
      show 0 * 128 + v.val = v.val
      omega)
  show (Rect.unit (s := S32x128) ![c.val, 0] S1x128.size (list_inb c)).emb (Shape.reshapeEquiv (squeezes_S1x128_S128).numel_eq (ix1 v)) = ix2 c v
  rw [h]
  funext a
  refine Fin.ext ?_
  match a with
  | ⟨0, _⟩ => show c.val + 1 * 0 = c.val; rfl
  | ⟨1, _⟩ => show 0 + 1 * v.val = v.val; omega

theorem slotM_emb (b : Fin 2) (r v : Fin 128) : (slotM b).view.emb (ix2 r v) = ix3 b r v := by
  have h : Shape.reshapeEquiv (squeezes_S1x128x128_S128x128).numel_eq (ix2 r v) = ix3 (0 : Fin 1) r v :=
    Shape.reshapeEquiv_eq_of_rowMajor _ (by
      rw [Shape.rowMajor_val_three, Shape.rowMajor_val_two]
      show (0 * 128 + r.val) * 128 + v.val = r.val * 128 + v.val
      omega)
  show (Rect.unit (s := S2x128x128) ![b.val, 0, 0] S1x128x128.size (slot_inb b)).emb (Shape.reshapeEquiv (squeezes_S1x128x128_S128x128).numel_eq (ix2 r v)) = ix3 b r v
  rw [h]
  funext a
  refine Fin.ext ?_
  match a with
  | ⟨0, _⟩ => show b.val + 1 * 0 = b.val; rfl
  | ⟨1, _⟩ => show 0 + 1 * r.val = r.val; omega
  | ⟨2, _⟩ => show 0 + 1 * v.val = v.val; omega

variable (d : Dev nD) (cV : Fin τ.nSC) (jV : Fin τ.nSub)
variable (tbl : (⟨2, ![100000, 128]⟩ : Shape).Idx → F .f32) (ids : Ids) (msk : Msk)

/-- The ids to gather, as the list buffer holds them. -/
def gids (ids : Ids) (msk : Msk) : S32x128.Idx → BitVec 32 := fun x => gidN ids msk (128 * (x 0).val + (x 1).val)

def tblPts (q : PosShare TreeShare) : sProp 𝕄 := (tblM).view.loc (V d cV jV) ↦{q} tbl

def gidPts (q : PosShare TreeShare) : sProp 𝕄 := (gidM).view.loc (V d cV jV) ↦{q} (gids ids msk)

/-- Every id to gather is a row of the table. -/
abbrev InTbl (ids : Ids) (msk : Msk) : Prop := ∀ n, n < 4096 → (gidN ids msk n).toNat < 100000

theorem list_read (c : Fin 32) (v : Fin 128) : (listM c).view.read (Elt F) (gids ids msk) (ix1 v) = gidN ids msk (128 * c.val + v.val) := by
  show gids ids msk ((listM c).view.emb (ix1 v)) = _
  rw [listM_emb]; rfl

theorem list_in (hR : InTbl ids msk) (c : Fin 32) (x : S128.Idx) :
    ((listM c).view.read (Elt F) (gids ids msk) x).toNat < S100000x128.size gathers_S100000x128_S128x128.axis := by
  obtain ⟨v, rfl⟩ : ∃ v : Fin 128, x = ix1 v := ⟨x 0, eq_ix1 x⟩
  rw [list_read]
  exact hR _ (by have := c.isLt; have := v.isLt; omega)

/-- What lands in slot `b`. -/
theorem landed [FloatOps F] (hR : InTbl ids msk) (b : Fin 2) (c : Fin 32) (fd : S2x128x128.Idx → F .f32) (x : S2x128x128.Idx) (hx : x ∈ (slotM b).view.set) :
    (slotM b).view.write (Elt F) fd (SparseCore.gatherPayload gathers_S100000x128_S128x128 (tblSl.view.read (Elt F) tbl)
        (SparseCore.rows ((listM c).view.read (Elt F) (gids ids msk)) rfl (list_in ids msk hR c))) Finset.univ x
      = rowN tbl ids msk (128 * c.val + (x 1).val) (x 2).val := by
  obtain ⟨y, -, rfl⟩ := Finset.mem_map.mp hx
  obtain ⟨r, v, rfl⟩ : ∃ (r v : Fin 128), y = ix2 r v := ⟨y 0, y 1, eq_ix2 y⟩
  refine (View.write_emb_of_mem (Val := Elt F) (v := (slotM b).view) fd _ (Finset.mem_univ _)).trans ?_
  rw [slotM_emb]
  have hg : (gidN ids msk (128 * c.val + r.val)).toNat < 100000 := hR _ (by have := c.isLt; have := r.isLt; omega)
  show tbl (tblSl.view.emb _) = rowN tbl ids msk (128 * c.val + r.val) v.val
  rw [tblSl_emb]
  unfold rowN tblN
  rw [dif_pos ⟨hg, v.isLt⟩]
  refine congrArg tbl ?_
  funext a
  refine Fin.ext ?_
  match a with
  | ⟨0, _⟩ =>
    refine (congrArg Fin.val (Shape.Gathers.idx_axis gathers_S100000x128_S128x128 _ (ix2 r v))).trans ?_
    show ((listM c).view.read (Elt F) (gids ids msk) (S128.rowMajor.symm _)).toNat = (gidN ids msk (128 * c.val + r.val)).toNat
    rw [show S128.rowMajor.symm _ = ix1 r from (S128.rowMajor.symm_apply_eq).2 (Fin.ext (by rw [Shape.rowMajor_val_one]; rfl))]
    rw [list_read]
  | ⟨1, _⟩ =>
    exact (Shape.Gathers.idx_of_ne gathers_S100000x128_S128x128 _ (ix2 r v) 1 (by decide))

/-! ## The states of a slot -/

section Steps

variable [FloatOps F]

/-- What the thread owes and has waited for, and that it may wait. -/
def owesPts (O : CellTallies nD τ sig (HIx 1)) (W : Waits sig (HIx 1)) : sProp 𝕄 :=
  iprop((∃ W', ⌜∀ p ∈ W', p ∈ W ∨ p.2 = none⌝ ∗ owes (V d cV jV) O W') ∗ Transfers.MayWaits (V d cV jV) (default : HIx 1) O)

/-- A slot with nothing in flight. -/
def idlePts (q qo : PosShare TreeShare) (b : Fin 2) (sem : DmaSem sig) : sProp 𝕄 :=
  iprop(tblPts d cV jV tbl q ∗ gidPts d cV jV ids msk qo ∗ (∃ f, (rowsM).view.loc (V d cV jV) ↦[(slotM b).view.set]{fullShare} f)
    ∗ semVal (V d cV jV, SemLoc.dma sem) 0)

/-- A slot holding chunk `c`'s rows. -/
def landPts (q qo : PosShare TreeShare) (b : Fin 2) (sem : DmaSem sig) (c : ℕ) : sProp 𝕄 :=
  iprop(tblPts d cV jV tbl q ∗ gidPts d cV jV ids msk qo ∗ rowsPts d cV jV b (fun n h => rowN tbl ids msk (128 * c + n) h)
    ∗ semVal (V d cV jV, SemLoc.dma sem) 0)

theorem land_idle (q qo : PosShare TreeShare) (b : Fin 2) (sem : DmaSem sig) (c : ℕ) :
    landPts d cV jV tbl ids msk q qo b sem c ⊢ idlePts d cV jV tbl ids msk q qo b sem := by
  unfold landPts idlePts rowsPts
  iintro ⟨HT, HG, HR, HS⟩
  isplitl [HT]; · iexact HT
  isplitl [HG]; · iexact HG
  isplitl [HR]; · iexists _; iexact HR
  iexact HS

/-- A slot with chunk `c`'s gather in flight. -/
def flyPts (hR : InTbl ids msk) (q qo : PosShare TreeShare) (b : Fin 2) (sem : DmaSem sig) (c : Fin 32) : sProp 𝕄 :=
  iprop((∃ fd : S2x128x128.Idx → F .f32, Transfers.Flight countersEmb (V d cV jV) (.dma sem) (default : HIx 1) (slotM b).view.dmaCredit
      iprop(((slotM b).view.loc (V d cV jV) ↦[(slotM b).view.set]{fullShare}
          ((slotM b).view.write (Elt F) fd (SparseCore.gatherPayload gathers_S100000x128_S128x128 (tblSl.view.read (Elt F) tbl)
            (SparseCore.rows ((listM c).view.read (Elt F) (gids ids msk)) rfl (list_in ids msk hR c))) Finset.univ))
        ∗ (tblSl.view.loc (V d cV jV) ↦[tblSl.view.set]{q} tbl)
        ∗ ((listM c).view.loc (V d cV jV) ↦[(listM c).view.set]{qo} gids ids msk)))
    ∗ ((gidM).view.loc (V d cV jV) ↦[Finset.univ \ (listM c).view.set]{qo} gids ids msk))

theorem slot_credit (b : Fin 2) : ∀ h : S100000x128.Gathers 0 S128x128,
    ∑ j, ((slotM b).slice (S128x128.rowRect h.axis' j) (S128x128.stride_rowRect h.axis' j)).view.dmaCredit = (slotM b).view.dmaCredit := by
  revert b; decide +kernel

theorem wp_start {α : Type} {Q : α → sProp 𝕄} (hR : InTbl ids msk) (q qo : PosShare TreeShare) (b : Fin 2) (sem : DmaSem sig) (c : Fin 32)
    {hn} {hp} {hsrc} {he} {hsp} {hr} {kk : PUnit → Pg F cV jV α} :
    idlePts d cV jV tbl ids msk q qo b sem
    ⊢ iprop((flyPts d cV jV tbl ids msk hR q qo b sem c -∗ WP d cV jV (kk PUnit.unit) Q)
      -∗ WP d cV jV (SparseCore.enqueueIndirectGather hp tblSl (slotM b) gathers_S100000x128_S128x128 (listM c) hn sem hsrc he hsp hr >>= kk) Q) := by
  unfold idlePts tblPts gidPts
  iintro ⟨HT, HG, ⟨%fd, HR⟩, HS⟩ HK
  ihave HG := (pointsTo_split_subset (q := qo) (f := gids ids msk) (S := Finset.univ) (Finset.subset_univ (listM c).view.set)).1 $$ HG
  icases HG with ⟨HG, HG'⟩
  ihave HT := (Entails.of_eq (show ((tblM).view.loc (V d cV jV) ↦{q} tbl : sProp 𝕄) = tblSl.view.loc (V d cV jV) ↦[tblSl.view.set]{q} tbl by
    rw [tblSl_set])) $$ HT
  iapply (SparseCore.wp_indirectGatherLocal countersEmb 𝒱₀ (V d cV jV) none (hg := gathers_S100000x128_S128x128) (default : HIx 1)
      (slotM b).view.dmaCredit (slot_credit b _) (by decide) (list_in ids msk hR c)) $$ [HT HR HG HS]
  · isplitl [HT]; · iexact HT
    isplitl [HR]; · iexact HR
    isplitl [HG]; · iexact HG
    iexact HS
  iintro Hfl
  iapply HK
  unfold flyPts
  isplitl [Hfl]
  · iexists fd; iexact Hfl
  · iexact HG'

theorem wp_await {α : Type} {Q : α → sProp 𝕄} (hR : InTbl ids msk) (q qo : PosShare TreeShare) (b : Fin 2) (sem : DmaSem sig) (c : Fin 32)
    {O : CellTallies nD τ sig (HIx 1)} {W : Waits sig (HIx 1)}
    {hsrc} {hdst} {kk : PUnit → Pg F cV jV α} :
    flyPts d cV jV tbl ids msk hR q qo b sem c
    ⊢ iprop(owesPts d cV jV O W -∗ (landPts d cV jV tbl ids msk q qo b sem c.val ∗ owesPts d cV jV O W -∗ WP d cV jV (kk PUnit.unit) Q)
      -∗ WP d cV jV (.op (.waitDma2 sem tblSl (slotM b) hsrc hdst) kk) Q) := by
  unfold flyPts owesPts
  iintro ⟨⟨%fd, Hfl⟩, HG'⟩ ⟨⟨%W', %hW, HO⟩, #Hmw⟩ HK
  iapply (Transfers.wp_waitLocalO countersEmb 𝒱₀ (V d cV jV) none (default : HIx 1) (rfl : (slotM b).view.dmaCredit = _)) $$ [Hfl HO]
  · isplitl [Hfl]; · iexact Hfl
    isplitl [HO]; · iexact HO
    iapply (Transfers.MayWaits.elim (SemLoc.dma sem)) $$ Hmw
  iintro ⟨⟨HR, HT, HG⟩, HS, HO⟩
  iapply HK
  isplitr [HO]
  · unfold landPts tblPts gidPts rowsPts
    isplitl [HT]
    · iapply (Entails.of_eq (show (tblSl.view.loc (V d cV jV) ↦[tblSl.view.set]{q} tbl : sProp 𝕄) = (tblM).view.loc (V d cV jV) ↦{q} tbl by
        rw [tblSl_set])) $$ HT
    isplitl [HG HG']
    · iapply (pointsTo_split_subset (q := qo) (f := gids ids msk) (S := Finset.univ) (Finset.subset_univ (listM c).view.set)).2
      isplitl [HG] <;> iassumption
    isplitl [HR]
    · iapply (Entails.of_eq (pointsTo_congr fun x hx => landed tbl ids msk hR b c fd x hx)) $$ HR
    iexact HS
  · isplitl [HO]
    · iexists _; isplitr
      swap; · iexact HO
      ipureintro; intro p hp
      rcases Finset.mem_insert.mp hp with hp | hp
      · exact .inr (hp ▸ rfl)
      · exact hW p hp
    · iexact Hmw

end Steps

end Cert.Proof.KernelIdealTile

end
-- ==== Proof.IdealLoops.lean ====
/-
  The two loops that come before a tile's gathers: the ids multiplied by the mask in place, and the mask's ones
  counted row by row.
-/
module

public import proofs.«01_k».proof.Proof.IdealGather

@[expose] public section

noncomputable section

namespace Cert.Proof.KernelIdealTile

open Cert.KernelIdeal Cert.KernelIdeal.Gen Cert.Proof.Pool

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Steps

variable [FloatOps F] (d : Dev nD) (i : grid0.Coords) (ids : Ids) (msk : Msk)

abbrev cI (i : grid0.Coords) : Fin τ.nSC := (i 0).castLE hcore0
abbrev jI (i : grid0.Coords) : Fin τ.nSub := (i 1).castLE hsub0

/-! ## The ids, multiplied -/

/-- The mask words. -/
def mwPts : sProp 𝕄 := (mwM).view.loc (V d (cI i) (jI i)) ↦{fullShare} msk

/-- The ids, the first `n` of them multiplied by their mask words. -/
def gidUpTo (n : ℕ) : S32x128.Idx → BitVec 32 := fun x =>
  if 128 * (x 0).val + (x 1).val < n then gidN ids msk (128 * (x 0).val + (x 1).val) else idsN ids (128 * (x 0).val + (x 1).val)

def gidSt (n : ℕ) : sProp 𝕄 := (gidM).view.loc (V d (cI i) (jI i)) ↦{fullShare} (gidUpTo ids msk n)

theorem idsN_ix (x : S32x128.Idx) : idsN ids (128 * (x 0).val + (x 1).val) = ids x := by
  have h0 : (x 0).val < 32 := (x 0).isLt
  have h1 : (x 1).val < 128 := (x 1).isLt
  unfold idsN
  rw [dif_pos (by omega)]
  refine congrArg ids ?_
  funext a
  refine Fin.ext ?_
  match a with
  | ⟨0, _⟩ => show (128 * (x 0).val + (x 1).val) / 128 = (x 0).val; omega
  | ⟨1, _⟩ => show (128 * (x 0).val + (x 1).val) % 128 = (x 1).val; omega

theorem mskN_ix (x : S4096.Idx) : mskN msk (x 0).val = msk x := by
  have h0 : (x 0).val < 4096 := (x 0).isLt
  unfold mskN
  rw [dif_pos h0]
  exact congrArg msk (eq_ix1 x).symm

theorem gidUpTo_zero : gidUpTo ids msk 0 = ids := by
  funext x
  unfold gidUpTo
  rw [if_neg (Nat.not_lt_zero _)]
  exact idsN_ix ids x

theorem gidUpTo_all : gidUpTo ids msk 4096 = gids ids msk := by
  funext x
  have h0 : (x 0).val < 32 := (x 0).isLt
  have h1 : (x 1).val < 128 := (x 1).isLt
  unfold gidUpTo
  rw [if_pos (by omega)]
  rfl

theorem off4_eq : ∀ t : Fin k0_t1_loop.trips, k0_off4 t = ![t.val / 8, 16 * (t.val % 8)] := by decide +kernel

theorem wp_mwLoad {α : Type} {Q : α → sProp 𝕄} {off : Fin 1 → ℕ} {inb : ∀ a, off a + S16.size a ≤ S4096.size a} {hl} (n : ℕ) (ho : off = ![n])
    {kk : (S16.Idx → BitVec 32) → Pg F (cI i) (jI i) α} :
    mwPts (F := F) d i msk ⊢ iprop((mwPts (F := F) d i msk -∗ WP d (cI i) (jI i) (kk fun y => mskN msk (n + (y 0).val)) Q)
      -∗ WP d (cI i) (jI i) (.op (.load mwM (Rect.unit (s := S4096) off S16.size inb).toLoadRect hl) kk) Q) := by
  subst ho
  have hv : (mwM).view.readAt (Elt F) (Rect.unit (s := S4096) ![n] S16.size inb).toLoadRect msk = fun y : S16.Idx => mskN msk (n + (y 0).val) := by
    funext y
    refine (mskN_ix msk _).symm.trans (congrArg (mskN msk) ?_)
    show n + 1 * (y 0).val = _
    rw [Nat.one_mul]
  have h := wp_load (defs := defs₀ (F := F)) 𝒱₀ (V d (cI i) (jI i)) none Set.univ (Q := Q) (m := mwM)
    (r := (Rect.unit (s := S4096) ![n] S16.size inb).toLoadRect) (hl := hl) (k := kk)
    (S := Finset.univ) (q := fullShare) (f := msk) (Γ := []) (Finset.subset_univ _)
  rw [hv] at h
  exact h

theorem wp_gidLoad {α : Type} {Q : α → sProp 𝕄} {off : Fin 2 → ℕ} {inb : ∀ a, off a + S1x16.size a ≤ S32x128.size a} {hl} (r k n : ℕ)
    (ho : off = ![r, 16 * k]) (hn : 128 * r + 16 * k = n) {kk : (S1x16.Idx → BitVec 32) → Pg F (cI i) (jI i) α} :
    gidSt (F := F) d i ids msk n ⊢ iprop((gidSt (F := F) d i ids msk n -∗ WP d (cI i) (jI i) (kk fun y => idsN ids (n + (y 1).val)) Q)
      -∗ WP d (cI i) (jI i) (.op (.load gidM (Rect.unit (s := S32x128) off S1x16.size inb).toLoadRect hl) kk) Q) := by
  subst ho
  have hv : (gidM).view.readAt (Elt F) (Rect.unit (s := S32x128) ![r, 16 * k] S1x16.size inb).toLoadRect (gidUpTo ids msk n)
      = fun y : S1x16.Idx => idsN ids (n + (y 1).val) := by
    funext y
    have h0 : (y 0).val = 0 := by have := (y 0).isLt; simp at this; omega
    have e : 128 * (r + 1 * (y 0).val) + (16 * k + 1 * (y 1).val) = n + (y 1).val := by omega
    show (if 128 * (r + 1 * (y 0).val) + (16 * k + 1 * (y 1).val) < n then gidN ids msk (128 * (r + 1 * (y 0).val) + (16 * k + 1 * (y 1).val))
      else idsN ids (128 * (r + 1 * (y 0).val) + (16 * k + 1 * (y 1).val))) = _
    rw [e, if_neg (by omega)]
  have h := wp_load (defs := defs₀ (F := F)) 𝒱₀ (V d (cI i) (jI i)) none Set.univ (Q := Q) (m := gidM)
    (r := (Rect.unit (s := S32x128) ![r, 16 * k] S1x16.size inb).toLoadRect) (hl := hl) (k := kk)
    (S := Finset.univ) (q := fullShare) (f := gidUpTo ids msk n) (Γ := []) (Finset.subset_univ _)
  rw [hv] at h
  exact h

theorem wp_gidStore {α : Type} {Q : α → sProp 𝕄} {off : Fin 2 → ℕ} {inb : ∀ a, off a + S1x16.size a ≤ S32x128.size a} {hx} {hm} (r k n : ℕ)
    (ho : off = ![r, 16 * k]) (hk : k < 8) (hn : 128 * r + 16 * k = n) {w : S1x16.Idx → BitVec 32} (hw : ∀ y, w y = gidN ids msk (n + (y 1).val))
    {kk : PUnit → Pg F (cI i) (jI i) α} :
    gidSt (F := F) d i ids msk n ⊢ iprop((gidSt (F := F) d i ids msk (n + 16) -∗ WP d (cI i) (jI i) (kk PUnit.unit) Q)
      -∗ WP d (cI i) (jI i) (.op (.store gidM (Rect.unit (s := S32x128) off S1x16.size inb) w Finset.univ hx hm) kk) Q) := by
  subst ho
  unfold gidSt
  iintro Ho HK
  iapply (wp_store (defs := defs₀ (F := F)) 𝒱₀ (V d (cI i) (jI i)) none Set.univ (m := gidM) (r := Rect.unit (s := S32x128) ![r, 16 * k] S1x16.size inb)
    (w := w) (Mk := Finset.univ) (S := Finset.univ) (Finset.subset_univ _)) $$ Ho
  iintro Ho
  iapply HK
  iapply (Entails.of_eq (pointsTo_congr fun x _ => by
    refine (congrFun (View.write_whole_slice_unit (Val := Elt F) (cc0_scratch0 : Ref sig .scVector) ![r, 16 * k] S1x16.size inb (gidUpTo ids msk n) w) x).trans ?_
    have hx1 : (x 1).val < 128 := (x 1).isLt
    unfold updateSlice
    split
    · rename_i hin
      have h0 : r ≤ (x 0).val ∧ (x 0).val < r + 1 := hin 0
      have h1 : 16 * k ≤ (x 1).val ∧ (x 1).val < 16 * k + 16 := hin 1
      refine (hw _).trans ?_
      unfold gidUpTo
      rw [if_pos (by omega)]
      refine congrArg (gidN ids msk) ?_
      show n + ((x 1).val - 16 * k) = _
      omega
    · rename_i hout
      have h : ¬ (r = (x 0).val ∧ 16 * k ≤ (x 1).val ∧ (x 1).val < 16 * k + 16) := fun h => hout fun a => by
        match a with
        | ⟨0, _⟩ => exact ⟨by show r ≤ (x 0).val; omega, by show (x 0).val < r + 1; omega⟩
        | ⟨1, _⟩ => exact h.2
      unfold gidUpTo
      by_cases hc : 128 * (x 0).val + (x 1).val < n
      · rw [if_pos hc, if_pos (by omega)]
      · rw [if_neg hc, if_neg (by omega)])) $$ Ho

abbrev t1Body : Fin k0_t1_loop.trips → Unit → Pg F (cI i) (jI i) Unit :=
  k0_t1_body i tblM (Memref.isWhole_whole _) idsM (Memref.isWhole_whole _) mskM (Memref.isWhole_whole _) resM (Memref.isWhole_whole _)
    gidM (Memref.isWhole_whole _) mwM (Memref.isWhole_whole _) rowsM (Memref.isWhole_whole _) t0M (Memref.isWhole_whole _) outM (Memref.isWhole_whole _)
    cntM (Memref.isWhole_whole _) cc0_scratch6 cc0_scratch7 cc0_scoped0 cc0_scoped1 cc0_scoped2 cc0_scoped3

theorem wp_premul {β : Type} {Q : β → sProp 𝕄} {kk : Unit → Pg F (cI i) (jI i) β} :
    mwPts (F := F) d i msk ⊢ iprop(gidSt (F := F) d i ids msk 0
      -∗ (mwPts (F := F) d i msk ∗ gidSt (F := F) d i ids msk 4096 -∗ WP d (cI i) (jI i) (kk ()) Q)
      -∗ WP d (cI i) (jI i) (Scf.Loop.for k0_t1_loop k0_t1_ok ⟨⟩ (t1Body (F := F) i) >>= kk) Q) := by
  have hI := Scf.wp_for_bind frame (wpE (defs₀ (F := F)) 𝒱₀ (V d (cI i) (jI i)) none) Set.univ _ _ _ k0_t1_ok ()
    (t1Body (F := F) i) (fun n _ => iprop(mwPts (F := F) d i msk ∗ gidSt (F := F) d i ids msk (16 * n))) (by
      intro t u
      have ht : 128 * (t.val / 8) + 16 * (t.val % 8) = 16 * t.val := by omega
      unfold t1Body k0_t1_body
      iintro ⟨HM, HG⟩
      simp only [bind_assoc, pure_bind, Prog.bind_lift, Prog.bind_op]
      iapply (wp_mwLoad d i msk (16 * t.val) (k0_off3_eq t)) $$ HM; iintro HM
      iapply (wp_gidLoad d i ids msk (t.val / 8) (t.val % 8) (16 * t.val) (off4_eq t) ht) $$ HG; iintro HG
      iapply (wp_gidLoad d i ids msk (t.val / 8) (t.val % 8) (16 * t.val) (off4_eq t) ht) $$ HG; iintro HG
      iapply (wp_gidStore d i ids msk (t.val / 8) (t.val % 8) (16 * t.val) (off4_eq t) (by omega) ht (by
        intro y
        obtain ⟨u, v, rfl⟩ : ∃ (u : Fin 1) (v : Fin 16), y = ix2 u v := ⟨y 0, y 1, eq_ix2 y⟩
        rw [shapeCast_a_1a_apply]
        unfold k0_pay769
        show shapeCast _ _ _ _ * _ = _
        rw [shapeCast_1a_a_apply]
        rfl)) $$ HG
      iintro HG
      iapply (wpPure d (cI i) (jI i))
      isplitl [HM]
      · iexact HM
      · iexact HG) (kk := kk) (Q := Q)
  iintro HM HG HK
  iapply hI $$ [HM HG]
  · isplitl [HM]
    · iexact HM
    · iexact HG
  · iintro %u HR
    iapply HK; iexact HR

/-! ## The counts -/

/-- The counts, the first `n` of them in place. -/
def cntSt (n : ℕ) : sProp 𝕄 :=
  iprop(∃ f : S128.Idx → F .f32, ⌜∀ x, (x 0).val < n → f x = cntF msk (x 0).val⌝ ∗ ((cntM).view.loc (V d (cI i) (jI i)) ↦{fullShare} f))

theorem cntSt_all : cntSt (F := F) d i msk 128 ⊢ cntPts d (cI i) (jI i) (cntF (F := F) msk) := by
  unfold cntSt cntPts
  iintro ⟨%f, %hf, H⟩
  iapply (Entails.of_eq (pointsTo_congr fun x _ => hf x (x 0).isLt)) $$ H

/-- The numbers of the lanes. -/
abbrev IsIota (v3 : IVec S16 32) : Prop := ∀ x : Fin 16, v3 (ix1 x) = BitVec.ofNat 32 x.val

theorem word_toNat : ∀ (t2 : Fin k0_t2_loop.trips) (t3 : Fin k0_t3_loop.trips) (x : Fin 16),
    (BitVec.ofNat 32 x.val * 32#32 + (Scf.iv 0#32 1#32 t2 * 512#32 + Scf.iv 0#32 1#32 t3)).toNat = 32 * (16 * t2.val + x.val) + t3.val := by
  decide +kernel

theorem pay771_toNat {v3 : IVec S16 32} (h3 : IsIota v3) (t2 : Fin k0_t2_loop.trips) (t3 : Fin k0_t3_loop.trips) (x : Fin 16) :
    (k0_pay771 v3 t2 t3 (ix1 x)).toNat = 32 * (16 * t2.val + x.val) + t3.val := by
  refine Eq.trans (congrArg BitVec.toNat ?_) (word_toNat t2 t3 x)
  rw [← h3 x]
  rfl

theorem chk1_of {v3 : IVec S16 32} (h3 : IsIota v3) (t2 : Fin k0_t2_loop.trips) (t3 : Fin k0_t3_loop.trips) : k0_chk1 (k0_pay771 v3 t2 t3) := by
  have h2 : t2.val < 8 := t2.isLt
  have h3' : t3.val < 32 := t3.isLt
  intro a x
  match a with
  | ⟨0, _⟩ =>
    obtain ⟨v, rfl⟩ : ∃ v : Fin 16, x = ix1 v := ⟨x 0, eq_ix1 x⟩
    show (k0_pay771 v3 t2 t3 (ix1 v)).toNat < 4096
    rw [pay771_toNat h3]
    have := v.isLt
    omega

theorem wp_mwGather {α : Type} {Q : α → sProp 𝕄} {w : IVec S16 32} {h} {hl} {kk : (S16.Idx → BitVec 32) → Pg F (cI i) (jI i) α} :
    mwPts (F := F) d i msk ⊢ iprop((mwPts (F := F) d i msk -∗ WP d (cI i) (jI i) (kk fun x => mskN msk (w x).toNat) Q)
      -∗ WP d (cI i) (jI i) (SparseCore.vectorLoadIdx mwM ![w] h hl >>= kk) Q) := by
  have hv : loadIdx ((mwM.access (.whole S4096)).read (Elt F) msk) ![w] h = fun x => mskN msk (w x).toNat := by
    rw [show (mwM.access (.whole S4096)).read (Elt F) msk = msk from Memref.read_access_whole (Elt F) (cc0_scratch1 : Ref sig .scVector) _]
    funext x
    exact (mskN_ix msk _).symm
  rw [← hv]
  exact SparseCore.wp_vectorLoadIdx (defs := defs₀ (F := F)) 𝒱₀ (V d (cI i) (jI i)) none Set.univ (base := mwM) (S := Finset.univ) (q := fullShare)
    (f := msk) (h := h) (hl := hl) (k := kk) (Q := Q) (Finset.subset_univ _)

abbrev t3Body (v3 : IVec S16 32) (t2 : Fin k0_t2_loop.trips) : Fin k0_t3_loop.trips → IVec S16 32 → Pg F (cI i) (jI i) (IVec S16 32) :=
  k0_t3_body i tblM (Memref.isWhole_whole _) idsM (Memref.isWhole_whole _) mskM (Memref.isWhole_whole _) resM (Memref.isWhole_whole _)
    gidM (Memref.isWhole_whole _) mwM (Memref.isWhole_whole _) rowsM (Memref.isWhole_whole _) t0M (Memref.isWhole_whole _) outM (Memref.isWhole_whole _)
    cntM (Memref.isWhole_whole _) cc0_scratch6 cc0_scratch7 cc0_scoped0 cc0_scoped1 cc0_scoped2 cc0_scoped3 v3 t2

abbrev t2Body (v3 : IVec S16 32) : Fin k0_t2_loop.trips → Unit → Pg F (cI i) (jI i) Unit :=
  k0_t2_body i tblM (Memref.isWhole_whole _) idsM (Memref.isWhole_whole _) mskM (Memref.isWhole_whole _) resM (Memref.isWhole_whole _)
    gidM (Memref.isWhole_whole _) mwM (Memref.isWhole_whole _) rowsM (Memref.isWhole_whole _) t0M (Memref.isWhole_whole _) outM (Memref.isWhole_whole _)
    cntM (Memref.isWhole_whole _) cc0_scratch6 cc0_scratch7 cc0_scoped0 cc0_scoped1 cc0_scoped2 cc0_scoped3 v3

/-- Sixteen rows' counts of their first `n` mask words. -/
def cntVec (t2 n : ℕ) : IVec S16 32 := fun x => cntN msk (16 * t2 + (x 0).val) n

theorem wp_cntInner {β : Type} {Q : β → sProp 𝕄} {v3 : IVec S16 32} (h3 : IsIota v3) (t2 : Fin k0_t2_loop.trips)
    {kk : IVec S16 32 → Pg F (cI i) (jI i) β} :
    mwPts (F := F) d i msk ⊢ iprop((mwPts (F := F) d i msk -∗ WP d (cI i) (jI i) (kk (cntVec msk t2.val 32)) Q)
      -∗ WP d (cI i) (jI i) (Scf.Loop.for k0_t3_loop k0_t3_ok k0_pay770 (t3Body (F := F) i v3 t2) >>= kk) Q) := by
  have hI := Scf.wp_for_bind frame (wpE (defs₀ (F := F)) 𝒱₀ (V d (cI i) (jI i)) none) Set.univ _ _ _ k0_t3_ok k0_pay770
    (t3Body (F := F) i v3 t2) (fun n acc => iprop(⌜acc = cntVec msk t2.val n⌝ ∗ mwPts (F := F) d i msk)) (by
      intro n acc
      iintro ⟨%ha, HM⟩
      subst ha
      unfold t3Body k0_t3_body
      simp only [bind_assoc, pure_bind, Prog.bind_lift, Prog.bind_op]
      iapply (wpAssume d (cI i) (jI i) (chk1_of h3 t2 n))
      iapply (wp_mwGather d i msk) $$ HM; iintro HM
      iapply (wpPure d (cI i) (jI i))
      isplitr
      · ipureintro
        funext x
        obtain ⟨v, rfl⟩ : ∃ v : Fin 16, x = ix1 v := ⟨x 0, eq_ix1 x⟩
        show cntN msk _ n.val + mskN msk (k0_pay771 v3 t2 n (ix1 v)).toNat = _
        rw [pay771_toNat h3]
        rfl
      · iexact HM) (kk := kk) (Q := Q)
  iintro HM HK
  iapply hI $$ [HM]
  · isplitr
    · ipureintro; rfl
    · iexact HM
  · iintro %acc ⟨%ha, HM⟩
    rw [show acc = cntVec msk t2.val 32 from ha]
    iapply HK; iexact HM

theorem wp_cntLoad {α : Type} {Q : α → sProp 𝕄} {off : Fin 1 → ℕ} {inb : ∀ a, off a + S16.size a ≤ S128.size a} {hl} (N : ℕ)
    {kk : (S16.Idx → F .f32) → Pg F (cI i) (jI i) α} :
    cntSt (F := F) d i msk N ⊢ iprop((∀ v : S16.Idx → F .f32, cntSt (F := F) d i msk N -∗ WP d (cI i) (jI i) (kk v) Q)
      -∗ WP d (cI i) (jI i) (.op (.load cntM (Rect.unit (s := S128) off S16.size inb).toLoadRect hl) kk) Q) := by
  unfold cntSt
  iintro ⟨%f, %hf, Ho⟩ HK
  iapply (wp_load (defs := defs₀ (F := F)) 𝒱₀ (V d (cI i) (jI i)) none Set.univ (m := cntM) (S := Finset.univ) (Finset.subset_univ _)) $$ Ho
  iintro Ho
  iapply HK
  iexists f; isplitr
  · ipureintro; exact hf
  · iexact Ho

theorem wp_cntStore {α : Type} {Q : α → sProp 𝕄} {off : Fin 1 → ℕ} {inb : ∀ a, off a + S16.size a ≤ S128.size a} {hx} {hm} (n : ℕ)
    (ho : off = ![16 * n]) {w : S16.Idx → F .f32} (hw : ∀ y, w y = cntF msk (16 * n + (y 0).val)) {kk : PUnit → Pg F (cI i) (jI i) α} :
    cntSt (F := F) d i msk (16 * n) ⊢ iprop((cntSt (F := F) d i msk (16 * (n + 1)) -∗ WP d (cI i) (jI i) (kk PUnit.unit) Q)
      -∗ WP d (cI i) (jI i) (.op (.store cntM (Rect.unit (s := S128) off S16.size inb) w Finset.univ hx hm) kk) Q) := by
  subst ho
  unfold cntSt
  iintro ⟨%f, %hf, Ho⟩ HK
  iapply (wp_store (defs := defs₀ (F := F)) 𝒱₀ (V d (cI i) (jI i)) none Set.univ (m := cntM) (r := Rect.unit (s := S128) ![16 * n] S16.size inb)
    (w := w) (Mk := Finset.univ) (S := Finset.univ) (Finset.subset_univ _)) $$ Ho
  iintro Ho
  iapply HK
  iexists _; isplitr
  swap; · iexact Ho
  ipureintro
  intro x hx
  refine (congrFun (View.write_whole_slice_unit (Val := Elt F) (cc0_scratch5 : Ref sig .scVector) ![16 * n] S16.size inb f w) x).trans ?_
  unfold updateSlice
  split
  · rename_i hin
    have h0 : 16 * n ≤ (x 0).val ∧ (x 0).val < 16 * n + 16 := hin 0
    refine (hw _).trans (congrArg (cntF msk) ?_)
    show 16 * n + ((x 0).val - 16 * n) = _
    omega
  · rename_i hout
    refine hf x ?_
    by_contra hc
    refine hout fun a => ?_
    match a with
    | ⟨0, _⟩ => exact ⟨by show 16 * n ≤ (x 0).val; omega, by show (x 0).val < 16 * n + 16; omega⟩

theorem wp_count {β : Type} {Q : β → sProp 𝕄} {v3 : IVec S16 32} (h3 : IsIota v3) {kk : Unit → Pg F (cI i) (jI i) β} :
    mwPts (F := F) d i msk ⊢ iprop(cntSt (F := F) d i msk 0
      -∗ (mwPts (F := F) d i msk ∗ cntSt (F := F) d i msk 128 -∗ WP d (cI i) (jI i) (kk ()) Q)
      -∗ WP d (cI i) (jI i) (Scf.Loop.for k0_t2_loop k0_t2_ok ⟨⟩ (t2Body (F := F) i v3) >>= kk) Q) := by
  have hI := Scf.wp_for_bind frame (wpE (defs₀ (F := F)) 𝒱₀ (V d (cI i) (jI i)) none) Set.univ _ _ _ k0_t2_ok ()
    (t2Body (F := F) i v3) (fun n _ => iprop(mwPts (F := F) d i msk ∗ cntSt (F := F) d i msk (16 * n))) (by
      intro t u
      unfold t2Body k0_t2_body
      iintro ⟨HM, HC⟩
      simp only [bind_assoc, pure_bind, Prog.bind_lift, Prog.bind_op]
      iapply (wp_cntInner d i msk h3 t) $$ HM; iintro HM
      iapply (wp_cntLoad d i msk) $$ HC; iintro %v HC
      iapply (wp_cntStore d i msk t.val (k0_off5_eq t) (fun y => rfl)) $$ HC; iintro HC
      iapply (wpPure d (cI i) (jI i))
      isplitl [HM]
      · iexact HM
      · iexact HC) (kk := kk) (Q := Q)
  iintro HM HG HK
  iapply hI $$ [HM HG]
  · isplitl [HM]
    · iexact HM
    · iexact HG
  · iintro %u HR
    iapply HK; iexact HR

end Steps

end Cert.Proof.KernelIdealTile

end
-- ==== Proof.IdealPipe.lean ====
/-
  The 32 chunks of one tile in the program's order: chunk `n + 1`'s gather is issued, chunk `n`'s is waited for, and
  chunk `n` is worked. Three states say where a tile stands; each operation of the program is one step between them.
-/
module

public import proofs.«01_k».proof.Proof.IdealLoops

@[expose] public section

noncomputable section

namespace Cert.Proof.KernelIdealTile

open Cert.KernelIdeal Cert.KernelIdeal.Gen Cert.Proof.Pool

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Steps

variable [FloatOps F]

variable (F) in
/-- What a tile works at: its ids and mask, the table, the shares it holds of the table and of its id list (one for
    each slot), what it owes, and what it keeps aside. -/
structure Tile where
  d : Dev nD
  i : grid0.Coords
  tbl : (⟨2, ![100000, 128]⟩ : Shape).Idx → F .f32
  ids : Ids
  msk : Msk
  hR : InTbl ids msk
  q : Fin 2 → PosShare TreeShare
  qo : Fin 2 → PosShare TreeShare
  O : CellTallies nD τ sig (HIx 1)
  W : Waits sig (HIx 1)
  R : sProp 𝕄

/-- The slot of chunk `n`. -/
abbrev par (n : ℕ) : Fin 2 := Fin.ofNat 2 n

/-- Chunk `n` as a row of the id list. -/
abbrev ch (n : ℕ) : Fin 32 := Fin.ofNat 32 n

/-- The semaphore of a slot. -/
abbrev semB (b : Fin 2) : DmaSem sig := ![(cc0_scratch6 : DmaSems sig S_).sem, (cc0_scratch7 : DmaSems sig S_).sem] b

variable (t : Tile F)

abbrev Tile.WP {α : Type} (t : Tile F) (p : Pg F (cI t.i) (jI t.i) α) (Q : α → sProp 𝕄) : sProp 𝕄 := KernelIdealTile.WP t.d (cI t.i) (jI t.i) p Q

def Tile.idle (b : Fin 2) : sProp 𝕄 := idlePts t.d (cI t.i) (jI t.i) t.tbl t.ids t.msk (t.q b) (t.qo b) b (semB b)
def Tile.fly (n : ℕ) : sProp 𝕄 := flyPts t.d (cI t.i) (jI t.i) t.tbl t.ids t.msk t.hR (t.q (par n)) (t.qo (par n)) (par n) (semB (par n)) (ch n)
def Tile.land (n : ℕ) : sProp 𝕄 := landPts t.d (cI t.i) (jI t.i) t.tbl t.ids t.msk (t.q (par n)) (t.qo (par n)) (par n) (semB (par n)) n

/-- What the chunks leave alone. -/
def Tile.held : sProp 𝕄 := iprop(mwPts (F := F) t.d t.i t.msk ∗ t.R)

/-- The rest of the tile's state, `n` chunks done. -/
def Tile.rest (n : ℕ) : sProp 𝕄 :=
  iprop(owesPts t.d (cI t.i) (jI t.i) t.O t.W ∗ t.held ∗ cntPts t.d (cI t.i) (jI t.i) (cntF t.msk)
    ∗ t0Pts t.d (cI t.i) (jI t.i) (tblN t.tbl 0) ∗ outPts t.d (cI t.i) (jI t.i) (outN t.tbl t.ids t.msk) (512 * n))

/-- Before the counts. -/
@[irreducible] def Tile.start : sProp 𝕄 :=
  iprop(t.idle 0 ∗ t.idle 1 ∗ owesPts t.d (cI t.i) (jI t.i) t.O t.W ∗ mwPts (F := F) t.d t.i t.msk ∗ cntSt (F := F) t.d t.i t.msk 0
    ∗ t0Pts t.d (cI t.i) (jI t.i) (tblN t.tbl 0) ∗ outPts t.d (cI t.i) (jI t.i) (outN t.tbl t.ids t.msk) 0 ∗ t.R)

/-- Nothing in flight, `n` chunks done. -/
@[irreducible] def Tile.still (n : ℕ) : sProp 𝕄 := iprop(t.idle 0 ∗ t.idle 1 ∗ t.rest n)
/-- `n` chunks done, chunk `n` in flight. -/
@[irreducible] def Tile.one (n : ℕ) : sProp 𝕄 := iprop(t.idle (par (n + 1)) ∗ t.fly n ∗ t.rest n)
/-- `n` chunks done, chunks `n` and `n + 1` in flight. -/
@[irreducible] def Tile.two (n : ℕ) : sProp 𝕄 := iprop(t.fly (n + 1) ∗ t.fly n ∗ t.rest n)
/-- `n` chunks done, chunk `n` there and chunk `n + 1` in flight. -/
@[irreducible] def Tile.work (n : ℕ) : sProp 𝕄 := iprop(t.fly (n + 1) ∗ t.land n ∗ t.rest n)
/-- `n` chunks done, chunk `n`, the last, there. -/
@[irreducible] def Tile.last (n : ℕ) : sProp 𝕄 := iprop(t.idle (par (n + 1)) ∗ t.land n ∗ t.rest n)

theorem step_count {α : Type} {Q : α → sProp 𝕄} {v3 : IVec S16 32} (h3 : IsIota v3) {kk : Unit → Pg F (cI t.i) (jI t.i) α} (h : t.still 0 ⊢ t.WP (kk ()) Q) :
    t.start ⊢ t.WP (Scf.Loop.for k0_t2_loop k0_t2_ok ⟨⟩ (t2Body (F := F) t.i v3) >>= kk) Q := by
  unfold Tile.start
  unfold Tile.still Tile.rest Tile.held at h
  iintro ⟨HA, HB, HO, HM, HC, HT, Hout, HR⟩
  iapply (wp_count t.d t.i t.msk h3) $$ HM HC
  iintro ⟨HM, HC⟩
  ihave HC := (cntSt_all t.d t.i t.msk) $$ HC
  iapply h
  isplitl [HA]; · iexact HA
  isplitl [HB]; · iexact HB
  isplitl [HO]; · iexact HO
  isplitl [HM HR]
  · isplitl [HM]; · iexact HM
    iexact HR
  isplitl [HC]; · iexact HC
  isplitl [HT]; · iexact HT
  iexact Hout

theorem step_first {α : Type} {Q : α → sProp 𝕄} {hn} {hp} {hsrc} {he} {hsp} {hr} {kk : PUnit → Pg F (cI t.i) (jI t.i) α} (h : t.one 0 ⊢ t.WP (kk PUnit.unit) Q) :
    t.still 0 ⊢ t.WP (SparseCore.enqueueIndirectGather hp tblSl (slotM (par 0)) gathers_S100000x128_S128x128 (listM (ch 0)) hn (semB (par 0)) hsrc he hsp hr >>= kk) Q := by
  unfold Tile.still
  unfold Tile.one at h
  unfold Tile.idle Tile.fly at h
  unfold Tile.idle
  iintro ⟨HA, HB, HR⟩
  iapply (wp_start t.d (cI t.i) (jI t.i) t.tbl t.ids t.msk t.hR _ _ _ _ (ch 0)) $$ HA
  iintro HA
  iapply h
  isplitl [HB]; · iexact HB
  isplitl [HA]; · iexact HA
  iexact HR

theorem step_start {α : Type} {Q : α → sProp 𝕄} (n : ℕ) {hn} {hp} {hsrc} {he} {hsp} {hr} {kk : PUnit → Pg F (cI t.i) (jI t.i) α} (h : t.two n ⊢ t.WP (kk PUnit.unit) Q) :
    t.one n ⊢ t.WP (SparseCore.enqueueIndirectGather hp tblSl (slotM (par (n + 1))) gathers_S100000x128_S128x128 (listM (ch (n + 1))) hn (semB (par (n + 1)))
      hsrc he hsp hr >>= kk) Q := by
  unfold Tile.one
  unfold Tile.two at h
  unfold Tile.fly at h
  unfold Tile.idle Tile.fly
  iintro ⟨HA, HB, HR⟩
  iapply (wp_start t.d (cI t.i) (jI t.i) t.tbl t.ids t.msk t.hR _ _ _ _ (ch (n + 1))) $$ HA
  iintro HA
  iapply h
  isplitl [HA]; · iexact HA
  isplitl [HB]; · iexact HB
  iexact HR

theorem wait_land {α : Type} {Q : α → sProp 𝕄} (n : ℕ) (hn : n < 32) {hsrc} {hdst} {kk : PUnit → Pg F (cI t.i) (jI t.i) α} :
    t.fly n ⊢ iprop(t.rest n -∗ (t.land n ∗ t.rest n -∗ t.WP (kk PUnit.unit) Q)
      -∗ t.WP (SparseCore.waitIndirectGather (semB (par n)) tblSl (slotM (par n)) hsrc hdst >>= kk) Q) := by
  have hv : (ch n).val = n := Nat.mod_eq_of_lt hn
  have hw := wp_await (Q := Q) (kk := kk) (hsrc := hsrc) (hdst := hdst) t.d (cI t.i) (jI t.i) t.tbl t.ids t.msk t.hR (t.q (par n)) (t.qo (par n)) (par n)
    (semB (par n)) (ch n) (O := t.O) (W := t.W)
  rw [hv] at hw
  unfold Tile.rest Tile.fly Tile.land
  iintro HF ⟨HO, HM, HC, HT, Hout⟩ HK
  unfold SparseCore.waitIndirectGather
  iapply hw $$ HF HO
  iintro ⟨HL, HO⟩
  iapply HK
  isplitl [HL]; · iexact HL
  isplitl [HO]; · iexact HO
  isplitl [HM]; · iexact HM
  isplitl [HC]; · iexact HC
  isplitl [HT]; · iexact HT
  iexact Hout

theorem step_await {α : Type} {Q : α → sProp 𝕄} (n : ℕ) (hn : n < 32) {hsrc} {hdst} {kk : PUnit → Pg F (cI t.i) (jI t.i) α} (h : t.work n ⊢ t.WP (kk PUnit.unit) Q) :
    t.two n ⊢ t.WP (SparseCore.waitIndirectGather (semB (par n)) tblSl (slotM (par n)) hsrc hdst >>= kk) Q := by
  unfold Tile.two
  unfold Tile.work at h
  iintro ⟨HA, HB, HR⟩
  iapply (wait_land t n hn) $$ HB HR
  iintro ⟨HB, HR⟩
  iapply h
  isplitl [HA]; · iexact HA
  isplitl [HB]; · iexact HB
  iexact HR

theorem step_awaitLast {α : Type} {Q : α → sProp 𝕄} (n : ℕ) (hn : n < 32) {hsrc} {hdst} {kk : PUnit → Pg F (cI t.i) (jI t.i) α} (h : t.last n ⊢ t.WP (kk PUnit.unit) Q) :
    t.one n ⊢ t.WP (SparseCore.waitIndirectGather (semB (par n)) tblSl (slotM (par n)) hsrc hdst >>= kk) Q := by
  unfold Tile.one
  unfold Tile.last at h
  iintro ⟨HA, HB, HR⟩
  iapply (wait_land t n hn) $$ HB HR
  iintro ⟨HB, HR⟩
  iapply h
  isplitl [HA]; · iexact HA
  isplitl [HB]; · iexact HB
  iexact HR

/-- `bd` is chunk `c`'s text: `rowBody` at chunk `c`'s offsets. -/
def IsChunk (cV : Fin τ.nSC) (jV : Fin τ.nSub) (c : ℕ) (bd : T4 → Unit → Pg F cV jV Unit) : Prop :=
  ∃ (rv : T4 → BitVec 32) (o6 o7 o8 o9 o10 o11 o12 o13 : T4 → T5 → Fin 3 → ℕ) (o14 o15 o16 o17 o18 o19 o20 o21 : T4 → Fin 2 → ℕ)
    (h6 : InL o6) (h7 : InL o7) (h8 : InL o8) (h9 : InL o9) (h10 : InL o10) (h11 : InL o11) (h12 : InL o12) (h13 : InL o13)
    (h14 : InS o14) (h15 : InS o15) (h16 : InS o16) (h17 : InS o17) (h18 : InS o18) (h19 : InS o19) (h20 : InS o20) (h21 : InS o21),
    bd = rowBody cV jV rv o6 o7 o8 o9 o10 o11 o12 o13 o14 o15 o16 o17 o18 o19 o20 o21 h6 h7 h8 h9 h10 h11 h12 h13 h14 h15 h16 h17 h18 h19 h20 h21
    ∧ (∀ t, (rv t).toNat = t.val + 4 * c)
    ∧ AtL (c % 2) 0 o6 ∧ AtL (c % 2) 1 o7 ∧ AtL (c % 2) 2 o8 ∧ AtL (c % 2) 3 o9 ∧ AtL (c % 2) 4 o10 ∧ AtL (c % 2) 5 o11
    ∧ AtL (c % 2) 6 o12 ∧ AtL (c % 2) 7 o13
    ∧ AtS c 0 o14 ∧ AtS c 1 o15 ∧ AtS c 2 o16 ∧ AtS c 3 o17 ∧ AtS c 4 o18 ∧ AtS c 5 o19 ∧ AtS c 6 o20 ∧ AtS c 7 o21

theorem work_chunk {α : Type} {Q : α → sProp 𝕄} (n : ℕ) (hn : n < 32) {bd : T4 → Unit → Pg F (cI t.i) (jI t.i) Unit} (hbd : IsChunk (cI t.i) (jI t.i) n bd)
    {kk : Unit → Pg F (cI t.i) (jI t.i) α} :
    t.land n ⊢ iprop(t.rest n -∗ (t.idle (par n) ∗ t.rest (n + 1) -∗ t.WP (kk ()) Q)
      -∗ t.WP (Scf.Loop.for k0_t4_loop k0_t4_ok ⟨⟩ bd >>= kk) Q) := by
  obtain ⟨rv, o6, o7, o8, o9, o10, o11, o12, o13, o14, o15, o16, o17, o18, o19, o20, o21, h6, h7, h8, h9, h10, h11, h12, h13, h14, h15, h16, h17, h18, h19,
    h20, h21, he, er, e6, e7, e8, e9, e10, e11, e12, e13, e14, e15, e16, e17, e18, e19, e20, e21⟩ := hbd
  have hw := wp_chunk (Q := Q) (kk := kk) t.d (cI t.i) (jI t.i) t.tbl t.ids t.msk (par n) n hn bd he er e6 e7 e8 e9 e10 e11 e12 e13 e14 e15 e16 e17 e18
    e19 e20 e21
  unfold Tile.rest Tile.land Tile.idle
  unfold rowSt at hw
  iintro HL ⟨HO, HM, HC, HT, Hout⟩ HK
  unfold landPts
  icases HL with ⟨HTb, HG, HR, HS⟩
  iapply hw $$ [HR HC HT Hout]
  · isplitl [HR]; · iexact HR
    isplitl [HC]; · iexact HC
    isplitl [HT]; · iexact HT
    iexact Hout
  iintro ⟨HR, HC, HT, Hout⟩
  iapply HK
  isplitl [HTb HG HR HS]
  · iapply (land_idle t.d (cI t.i) (jI t.i) t.tbl t.ids t.msk (t.q (par n)) (t.qo (par n)) (par n) (semB (par n)) n)
    unfold landPts
    isplitl [HTb]; · iexact HTb
    isplitl [HG]; · iexact HG
    isplitl [HR]; · iexact HR
    iexact HS
  isplitl [HO]; · iexact HO
  isplitl [HM]; · iexact HM
  isplitl [HC]; · iexact HC
  isplitl [HT]; · iexact HT
  iexact Hout

theorem par_two (n : ℕ) : par (n + 1 + 1) = par n := Fin.ext (by show (n + 1 + 1) % 2 = n % 2; omega)

theorem step_work {α : Type} {Q : α → sProp 𝕄} (n : ℕ) (hn : n < 32) {bd : T4 → Unit → Pg F (cI t.i) (jI t.i) Unit} (hbd : IsChunk (cI t.i) (jI t.i) n bd)
    {kk : Unit → Pg F (cI t.i) (jI t.i) α} (h : t.one (n + 1) ⊢ t.WP (kk ()) Q) :
    t.work n ⊢ t.WP (Scf.Loop.for k0_t4_loop k0_t4_ok ⟨⟩ bd >>= kk) Q := by
  unfold Tile.work
  unfold Tile.one at h
  rw [par_two] at h
  iintro ⟨HA, HB, HR⟩
  iapply (work_chunk t n hn hbd) $$ HB HR
  iintro ⟨HB, HR⟩
  iapply h
  isplitl [HB]; · iexact HB
  isplitl [HA]; · iexact HA
  iexact HR

theorem step_workLast {α : Type} {Q : α → sProp 𝕄} {bd : T4 → Unit → Pg F (cI t.i) (jI t.i) Unit} (hbd : IsChunk (cI t.i) (jI t.i) 31 bd)
    {kk : Unit → Pg F (cI t.i) (jI t.i) α} (h : t.still 32 ⊢ t.WP (kk ()) Q) :
    t.last 31 ⊢ t.WP (Scf.Loop.for k0_t4_loop k0_t4_ok ⟨⟩ bd >>= kk) Q := by
  unfold Tile.last
  unfold Tile.still at h
  iintro ⟨HA, HB, HR⟩
  iapply (work_chunk t 31 (by decide) hbd) $$ HB HR
  iintro ⟨HB, HR⟩
  iapply h
  isplitl [HA]; · iexact HA
  isplitl [HB]; · iexact HB
  iexact HR

end Steps

end Cert.Proof.KernelIdealTile

end
-- ==== Proof.IdealWindows.lean ====
/-
  The program of one tile from the counts to the last chunk: its windows, walked operation by operation along the
  states of Pipe.
-/
module

public import proofs.«01_k».proof.Proof.IdealPipe

@[expose] public section

set_option maxRecDepth 65536

noncomputable section

namespace Cert.Proof.KernelIdealTile

open Cert.KernelIdeal Cert.KernelIdeal.Gen Cert.Proof.Pool

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Steps

variable [FloatOps F]

abbrev p65 (i : grid0.Coords) : Pg F (cI i) (jI i) (Σ' (_ : BitVec 32), IVec S16 32) :=
  k0_part65 i tblM (Memref.isWhole_whole _) idsM (Memref.isWhole_whole _) mskM (Memref.isWhole_whole _) resM (Memref.isWhole_whole _) gidM (Memref.isWhole_whole _) mwM (Memref.isWhole_whole _) rowsM (Memref.isWhole_whole _) t0M (Memref.isWhole_whole _) outM (Memref.isWhole_whole _)
    cntM (Memref.isWhole_whole _) cc0_scratch6 cc0_scratch7 cc0_scoped0 cc0_scoped1 cc0_scoped2 cc0_scoped3

abbrev p83 (i : grid0.Coords) : Pg F (cI i) (jI i) (BitVec 32) :=
  k0_part83 i tblM (Memref.isWhole_whole _) idsM (Memref.isWhole_whole _) mskM (Memref.isWhole_whole _) resM (Memref.isWhole_whole _) gidM (Memref.isWhole_whole _) mwM (Memref.isWhole_whole _) rowsM (Memref.isWhole_whole _) t0M (Memref.isWhole_whole _) outM (Memref.isWhole_whole _)
    cntM (Memref.isWhole_whole _) cc0_scratch6 cc0_scratch7 cc0_scoped0 cc0_scoped1 cc0_scoped2 cc0_scoped3

set_option maxHeartbeats 2000000 in
theorem wp_windows (t : Tile F) {α : Type} {Q : α → sProp 𝕄} {P : sProp 𝕄} {kk : BitVec 32 → Pg F (cI t.i) (jI t.i) α}
    (h65 : ∀ kk' : (Σ' (_ : BitVec 32), IVec S16 32) → Pg F (cI t.i) (jI t.i) α,
      (∀ v1 v3, IsIota v3 → t.start ⊢ t.WP (kk' ⟨v1, v3⟩) Q) → P ⊢ t.WP (p65 (F := F) t.i >>= kk') Q)
    (h : ∀ v, t.still 32 ⊢ t.WP (kk v) Q) :
    P ⊢ t.WP (p83 (F := F) t.i >>= kk) Q := by
  unfold p83
  rw [k0_part83_eq_skeleton, k0_part83_skel]
  simp only [bind_assoc]
  apply h65
  intro v1 v3 h3
  rw [k0_part66_eq_skeleton, k0_part66_skel,
    k0_part67_eq_skeleton, k0_part67_skel,
    k0_part68_eq_skeleton, k0_part68_skel]
  simp only [bind_assoc, pure_bind]
  rw [k0_part69_eq_skeleton, k0_part69_skel,
    k0_part70_eq_skeleton, k0_part70_skel,
    k0_part71_eq_skeleton, k0_part71_skel,
    k0_part72_eq_skeleton, k0_part72_skel,
    k0_part73_eq_skeleton, k0_part73_skel,
    k0_part74_eq_skeleton, k0_part74_skel,
    k0_part75_eq_skeleton, k0_part75_skel,
    k0_part76_eq_skeleton, k0_part76_skel,
    k0_part77_eq_skeleton, k0_part77_skel,
    k0_part78_eq_skeleton, k0_part78_skel,
    k0_part79_eq_skeleton, k0_part79_skel]
  simp only [bind_assoc, pure_bind]
  rw [k0_part80_eq_skeleton, k0_part80_skel,
    k0_part81_eq_skeleton, k0_part81_skel,
    k0_part82_eq_skeleton, k0_part82_skel]
  simp only [bind_assoc, pure_bind]
  refine step_count t h3 ?_
  refine step_first t ?_
  iterate 31
    refine step_start t _ ?_
    refine step_await t _ (by decide) ?_
    refine step_work t _ (by decide)
      ⟨_, _, _, _, _, _, _, _, _, _, _, _, _, _, _, _, _, _, _, _, _, _, _, _, _, _, _, _, _, _, _, _, _, rfl, by decide +kernel, fun t t' => ClosedOff.eq, fun t t' => ClosedOff.eq, fun t t' => ClosedOff.eq, fun t t' => ClosedOff.eq, fun t t' => ClosedOff.eq, fun t t' => ClosedOff.eq, fun t t' => ClosedOff.eq, fun t t' => ClosedOff.eq, fun t => ClosedOff.eq, fun t => ClosedOff.eq, fun t => ClosedOff.eq, fun t => ClosedOff.eq, fun t => ClosedOff.eq, fun t => ClosedOff.eq, fun t => ClosedOff.eq, fun t => ClosedOff.eq⟩ ?_
  refine step_awaitLast t _ (by decide) ?_
  refine step_workLast t
    ⟨_, _, _, _, _, _, _, _, _, _, _, _, _, _, _, _, _, _, _, _, _, _, _, _, _, _, _, _, _, _, _, _, _, rfl, by decide +kernel, fun t t' => ClosedOff.eq, fun t t' => ClosedOff.eq, fun t t' => ClosedOff.eq, fun t t' => ClosedOff.eq, fun t t' => ClosedOff.eq, fun t t' => ClosedOff.eq, fun t t' => ClosedOff.eq, fun t t' => ClosedOff.eq, fun t => ClosedOff.eq, fun t => ClosedOff.eq, fun t => ClosedOff.eq, fun t => ClosedOff.eq, fun t => ClosedOff.eq, fun t => ClosedOff.eq, fun t => ClosedOff.eq, fun t => ClosedOff.eq⟩ ?_
  exact h _

end Steps

end Cert.Proof.KernelIdealTile

end
-- ==== Proof.IdealTile.lean ====
/-
  One tile of the pooling kernel: its three copies in, the two loops, the 32 chunks, and the copy out.
-/
module

public import proofs.«01_k».proof.Proof.IdealWindows

@[expose] public section

noncomputable section

namespace Cert.Proof.KernelIdealTile

open Cert.KernelIdeal Cert.KernelIdeal.Gen Cert.Proof.Pool

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Steps

variable [FloatOps F]

variable (d : Dev nD) (i : grid0.Coords)

theorem coord_lt (i : grid0.Coords) : 2 * (i 1).val + (i 0).val < 32 := by
  have h0 : (i 0).val < 2 := (i 0).isLt
  have h1 : (i 1).val < 16 := (i 1).isLt
  omega

/-- The tile's number. -/
abbrev wI (i : grid0.Coords) : Fin 32 := ⟨2 * (i 1).val + (i 0).val, coord_lt i⟩

/-- Tile `w`'s ids and mask words, as the host lays them out. -/
def idsOf (V0 : S32x32x128.Idx → BitVec 32) (w : Fin 32) : Ids := fun x => V0 (ix3 w (x 0) (x 1))
def mskOf (V1 : S32x4096.Idx → BitVec 32) (w : Fin 32) : Msk := fun x => V1 (ix2 w (x 0))

/-! ## The copies in -/

abbrev idsRow (i : grid0.Coords) : Memref sig .scVector .hbm S32x128 .i32 :=
  (idsM.slice (Rect.unit (s := S32x32x128) (k0_off1 i) S1x32x128.size (k0_off1_inb i)) (fun _ => rfl)).squeeze S32x128 squeezes_S1x32x128_S32x128

abbrev mskRow (i : grid0.Coords) : Memref sig .scVector .hbm S4096 .i32 :=
  (mskM.slice (Rect.unit (s := S32x4096) (k0_off2 i) S1x4096.size (k0_off2_inb i)) (fun _ => rfl)).squeeze S4096 squeezes_S1x4096_S4096

abbrev t0Row : Memref sig .scVector .hbm S1x128 .f32 :=
  tblM.slice (Rect.unit (s := S100000x128) ![0, 0] S1x128.size inb_S100000x128_S1x128_0_0) (fun _ => rfl)

theorem read_idsRow (V0 : S32x32x128.Idx → BitVec 32) : (idsRow i).view.read (Elt F) V0 = idsOf V0 (wI i) := by
  funext y
  obtain ⟨r, v, rfl⟩ : ∃ (r : Fin 32) (v : Fin 128), y = ix2 r v := ⟨y 0, y 1, eq_ix2 y⟩
  have h : Shape.reshapeEquiv (squeezes_S1x32x128_S32x128).numel_eq (ix2 r v) = ix3 (0 : Fin 1) r v :=
    Shape.reshapeEquiv_eq_of_rowMajor _ (by
      rw [Shape.rowMajor_val_three, Shape.rowMajor_val_two]
      show (0 * 32 + r.val) * 128 + v.val = r.val * 128 + v.val
      omega)
  show V0 ((Rect.unit (s := S32x32x128) (k0_off1 i) S1x32x128.size (k0_off1_inb i)).emb (Shape.reshapeEquiv (squeezes_S1x32x128_S32x128).numel_eq (ix2 r v))) = V0 (ix3 (wI i) r v)
  rw [h]
  refine congrArg V0 ?_
  funext a
  refine Fin.ext ?_
  match a with
  | ⟨0, _⟩ =>
    show k0_off1 i 0 + 1 * 0 = _
    rw [k0_off1_eq]; rfl
  | ⟨1, _⟩ =>
    show k0_off1 i 1 + 1 * r.val = r.val
    rw [k0_off1_eq]; show 0 + 1 * r.val = r.val; omega
  | ⟨2, _⟩ =>
    show k0_off1 i 2 + 1 * v.val = v.val
    rw [k0_off1_eq]; show 0 + 1 * v.val = v.val; omega

theorem read_mskRow (V1 : S32x4096.Idx → BitVec 32) : (mskRow i).view.read (Elt F) V1 = mskOf V1 (wI i) := by
  funext y
  obtain ⟨v, rfl⟩ : ∃ v : Fin 4096, y = ix1 v := ⟨y 0, eq_ix1 y⟩
  have h : Shape.reshapeEquiv (squeezes_S1x4096_S4096).numel_eq (ix1 v) = ix2 (0 : Fin 1) v :=
    Shape.reshapeEquiv_eq_of_rowMajor _ (by
      rw [Shape.rowMajor_val_two, Shape.rowMajor_val_one]
      show 0 * 4096 + v.val = v.val
      omega)
  show V1 ((Rect.unit (s := S32x4096) (k0_off2 i) S1x4096.size (k0_off2_inb i)).emb (Shape.reshapeEquiv (squeezes_S1x4096_S4096).numel_eq (ix1 v))) = V1 (ix2 (wI i) v)
  rw [h]
  refine congrArg V1 ?_
  funext a
  refine Fin.ext ?_
  match a with
  | ⟨0, _⟩ =>
    show k0_off2 i 0 + 1 * 0 = _
    rw [k0_off2_eq]; rfl
  | ⟨1, _⟩ =>
    show k0_off2 i 1 + 1 * v.val = v.val
    rw [k0_off2_eq]; show 0 + 1 * v.val = v.val; omega

theorem read_t0Row (tb : S100000x128.Idx → F .f32) : t0Row.view.read (Elt F) tb = fun x : S1x128.Idx => tblN tb 0 (x 1).val := by
  funext y
  obtain ⟨u, v, rfl⟩ : ∃ (u : Fin 1) (v : Fin 128), y = ix2 u v := ⟨y 0, y 1, eq_ix2 y⟩
  show tb ((Rect.unit (s := S100000x128) ![0, 0] S1x128.size inb_S100000x128_S1x128_0_0).emb (ix2 u v)) = tblN tb 0 v.val
  unfold tblN
  rw [dif_pos ⟨by decide, v.isLt⟩]
  refine congrArg tb ?_
  funext a
  refine Fin.ext ?_
  match a with
  | ⟨0, _⟩ => show 0 + 1 * u.val = 0; omega
  | ⟨1, _⟩ => show 0 + 1 * v.val = v.val; omega

/-- What the copies in take. -/
def copySt (q : PosShare TreeShare) (V0 : S32x32x128.Idx → BitVec 32) (V1 : S32x4096.Idx → BitVec 32) (tb : S100000x128.Idx → F .f32)
    (O : CellTallies nD τ sig (HIx 1)) (W : Waits sig (HIx 1)) (fg : S32x128.Idx → BitVec 32) (fw : S4096.Idx → BitVec 32) (ft : S1x128.Idx → F .f32) : sProp 𝕄 :=
    iprop(((idsM).view.loc (V d (cI i) (jI i)) ↦{q} V0) ∗ ((mskM).view.loc (V d (cI i) (jI i)) ↦{q} V1) ∗ ((tblM).view.loc (V d (cI i) (jI i)) ↦{q} tb)
      ∗ ((gidM).view.loc (V d (cI i) (jI i)) ↦{fullShare} fg) ∗ ((mwM).view.loc (V d (cI i) (jI i)) ↦{fullShare} fw)
      ∗ ((t0M).view.loc (V d (cI i) (jI i)) ↦{fullShare} ft)
      ∗ semVal (V d (cI i) (jI i), SemLoc.dma (cc0_scoped0 : DmaSems sig S_).sem) 0 ∗ semVal (V d (cI i) (jI i), SemLoc.dma (cc0_scoped1 : DmaSems sig S_).sem) 0
      ∗ semVal (V d (cI i) (jI i), SemLoc.dma (cc0_scoped2 : DmaSems sig S_).sem) 0
      ∗ owes (V d (cI i) (jI i)) O W ∗ Transfers.MayWaits (V d (cI i) (jI i)) (default : HIx 1) O)

/-- The copies in and the ids' loop: the mask's words, the multiplied ids and the table's row 0 are there. -/
theorem wp_copies (q : PosShare TreeShare) (V0 : S32x32x128.Idx → BitVec 32) (V1 : S32x4096.Idx → BitVec 32) (tb : S100000x128.Idx → F .f32)
    {α : Type} {Q : α → sProp 𝕄} {kk : (Σ' (_ : BitVec 32), IVec S16 32) → Pg F (cI i) (jI i) α}
    (O : CellTallies nD τ sig (HIx 1)) (W : Waits sig (HIx 1)) (fg : S32x128.Idx → BitVec 32) (fw : S4096.Idx → BitVec 32) (ft : S1x128.Idx → F .f32) :
    copySt d i q V0 V1 tb O W fg fw ft
    ⊢ iprop((∀ v1 v3, ⌜IsIota v3⌝ -∗ (((idsM).view.loc (V d (cI i) (jI i)) ↦{q} V0) ∗ ((mskM).view.loc (V d (cI i) (jI i)) ↦{q} V1)
        ∗ tblPts d (cI i) (jI i) tb q ∗ gidPts (F := F) d (cI i) (jI i) (idsOf V0 (wI i)) (mskOf V1 (wI i)) fullShare ∗ mwPts (F := F) d i (mskOf V1 (wI i))
        ∗ t0Pts d (cI i) (jI i) (tblN tb 0)
        ∗ semVal (V d (cI i) (jI i), SemLoc.dma (cc0_scoped0 : DmaSems sig S_).sem) 0 ∗ semVal (V d (cI i) (jI i), SemLoc.dma (cc0_scoped1 : DmaSems sig S_).sem) 0
        ∗ semVal (V d (cI i) (jI i), SemLoc.dma (cc0_scoped2 : DmaSems sig S_).sem) 0 ∗ owesPts d (cI i) (jI i) O W) -∗ WP d (cI i) (jI i) (kk ⟨v1, v3⟩) Q)
      -∗ WP d (cI i) (jI i) (p65 (F := F) i >>= kk) Q) := by
  unfold p65 WP
  rw [k0_part65_eq_skeleton, k0_part65_skel]
  simp only [bind_assoc, pure_bind]
  unfold copySt
  iintro ⟨Hi, Hm, Ht, Hg, Hw, H0, HsA, HsB, HsC, HO, #Hmw⟩ HK
  sl_exec
  ihave Hg := (Entails.of_eq (show ((gidM).view.loc (V d (cI i) (jI i)) ↦{fullShare} View.write (Elt F) (gidM).view fg (wp_copies.sl.dma0 i V0) Finset.univ : sProp 𝕄)
      = gidSt (F := F) d i (idsOf V0 (wI i)) (mskOf V1 (wI i)) 0 by
    unfold gidSt
    rw [View.write_whole_univ, gidUpTo_zero]
    exact congrArg _ (read_idsRow i V0))) $$ Hg
  ihave Hw := (Entails.of_eq (show ((mwM).view.loc (V d (cI i) (jI i)) ↦{fullShare} View.write (Elt F) (mwM).view fw (wp_copies.sl.dma0_1 i V1) Finset.univ : sProp 𝕄)
      = mwPts (F := F) d i (mskOf V1 (wI i)) by
    unfold mwPts
    rw [View.write_whole_univ]
    exact congrArg _ (read_mskRow i V1))) $$ Hw
  ihave H0 := (Entails.of_eq (show ((t0M).view.loc (V d (cI i) (jI i)) ↦{fullShare} View.write (Elt F) (t0M).view ft (wp_copies.sl.dma0_2 tb) Finset.univ : sProp 𝕄)
      = t0Pts d (cI i) (jI i) (tblN tb 0) by
    unfold t0Pts
    rw [View.write_whole_univ]
    exact congrArg _ (read_t0Row tb))) $$ H0
  iapply (wp_premul d i (idsOf V0 (wI i)) (mskOf V1 (wI i))) $$ Hw Hg
  iintro ⟨Hw, Hg⟩
  iapply HK
  · ipureintro; exact fun x => by decide +revert
  isplitl [Hi]; · iexact Hi
  isplitl [Hm]; · iexact Hm
  isplitl [Ht]; · unfold tblPts; iexact Ht
  isplitl [Hg]
  · unfold gidSt gidPts
    rw [gidUpTo_all]
    iexact Hg
  isplitl [Hw]; · iexact Hw
  isplitl [H0]; · iexact H0
  isplitl [HsA]; · iexact HsA
  isplitl [HsB]; · iexact HsB
  isplitl [HsC]; · iexact HsC
  unfold owesPts
  isplitl [HO]
  · iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  · iexact Hmw

end Steps

end Cert.Proof.KernelIdealTile

end
-- ==== Proof.IdealBody.lean ====
/-
  One tile's whole run: from its shares of the host's arrays and its own buffers to its 128 rows of the result.
-/
module

public import proofs.«01_k».proof.Proof.IdealTile

@[expose] public section

noncomputable section

namespace Cert.Proof.KernelIdealTile

open Cert.KernelIdeal Cert.KernelIdeal.Gen Cert.Proof.Pool

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Steps

variable [FloatOps F]

variable (d : Dev nD) (i : grid0.Coords)

/-! ## The result -/

/-- The kernel's result as a function of the host's arrays: row `n` is batch row `n % 128` of tile `n / 128`. -/
def resFn (V0 : S32x32x128.Idx → BitVec 32) (V1 : S32x4096.Idx → BitVec 32) (tb : S100000x128.Idx → F .f32) : S4096x128.Idx → F .f32 := fun x =>
  outN tb (idsOf V0 (Fin.ofNat 32 ((x 0).val / 128))) (mskOf V1 (Fin.ofNat 32 ((x 0).val / 128))) ((x 0).val % 128) (x 1).val

/-- A tile's rows of the result. -/
abbrev resBlk (i : grid0.Coords) : Memref sig .scVector .hbm S128x128 .f32 :=
  resM.slice (Rect.unit (s := S4096x128) (k0_off518 i) S128x128.size (k0_off518_inb i)) (fun _ => rfl)

theorem resBlk_emb (r v : Fin 128) : (resBlk i).view.emb (ix2 r v)
    = ix2 (⟨128 * (wI i).val + r.val, by have := (wI i).isLt; have := r.isLt; omega⟩ : Fin 4096) v := by
  show (Rect.unit (s := S4096x128) (k0_off518 i) S128x128.size (k0_off518_inb i)).emb (ix2 r v) = _
  funext a
  refine Fin.ext ?_
  match a with
  | ⟨0, _⟩ =>
    show k0_off518 i 0 + 1 * r.val = 128 * (2 * (i 1).val + (i 0).val) + r.val
    rw [k0_off518_eq]
    show 256 * (i 1).val + 128 * (i 0).val + 1 * r.val = _
    omega
  | ⟨1, _⟩ =>
    show k0_off518 i 1 + 1 * v.val = v.val
    rw [k0_off518_eq]
    show 0 + 1 * v.val = v.val
    omega

theorem res_written (V0 : S32x32x128.Idx → BitVec 32) (V1 : S32x4096.Idx → BitVec 32) (tb : S100000x128.Idx → F .f32) (f0 : S4096x128.Idx → F .f32)
    (g : S128x128.Idx → F .f32) (hg : ∀ x, g x = outN tb (idsOf V0 (wI i)) (mskOf V1 (wI i)) (x 0).val (x 1).val)
    (x : S4096x128.Idx) (hx : x ∈ (resBlk i).view.set) : (resBlk i).view.write (Elt F) f0 g Finset.univ x = resFn V0 V1 tb x := by
  obtain ⟨y, -, rfl⟩ := Finset.mem_map.mp hx
  obtain ⟨r, v, rfl⟩ : ∃ (r v : Fin 128), y = ix2 r v := ⟨y 0, y 1, eq_ix2 y⟩
  refine (View.write_emb_of_mem (Val := Elt F) (v := (resBlk i).view) f0 g (Finset.mem_univ _)).trans ?_
  rw [resBlk_emb]
  refine (hg _).trans ?_
  have hr := r.isLt
  have hw := (wI i).isLt
  have e0 : (128 * (wI i).val + r.val) / 128 = (wI i).val := by omega
  have e1 : (128 * (wI i).val + r.val) % 128 = r.val := by omega
  show _ = outN tb (idsOf V0 (Fin.ofNat 32 ((128 * (wI i).val + r.val) / 128))) (mskOf V1 (Fin.ofNat 32 ((128 * (wI i).val + r.val) / 128)))
    ((128 * (wI i).val + r.val) % 128) v.val
  rw [e0, e1, show Fin.ofNat 32 (wI i).val = wI i from Fin.ext (Nat.mod_eq_of_lt hw)]

theorem res_once (f0 : S4096x128.Idx → F .f32) (g : S128x128.Idx → F .f32) (x : S4096x128.Idx) :
    (resBlk i).view.writes (Elt F) f0 [⟨Rect.whole S128x128, g⟩] x = (resBlk i).view.write (Elt F) f0 g Finset.univ x :=
  (congrFun (View.write_univ_eq_writes_whole (Val := Elt F) (resBlk i).view f0 [] g) x).symm

/-! ## The row buffer's two slots -/

theorem slot_compl : (Finset.univ : Finset S2x128x128.Idx) \ (slotM 0).view.set = (slotM 1).view.set := by
  ext x
  rw [Finset.mem_sdiff, mem_slot, mem_slot]
  have h : (x 0).val < 2 := (x 0).isLt
  constructor
  · rintro ⟨-, h0⟩
    show (x 0).val = 1
    have h0' : ¬ (x 0).val = 0 := h0
    omega
  · intro h1
    have h1' : (x 0).val = 1 := h1
    exact ⟨Finset.mem_univ _, by show ¬ (x 0).val = 0; omega⟩

theorem rows_split (f : S2x128x128.Idx → F .f32) : ((rowsM).view.loc (V d (cI i) (jI i)) ↦{fullShare} f : sProp 𝕄)
    ⊢ iprop(((rowsM).view.loc (V d (cI i) (jI i)) ↦[(slotM 0).view.set]{fullShare} f) ∗ ((rowsM).view.loc (V d (cI i) (jI i)) ↦[(slotM 1).view.set]{fullShare} f)) := by
  have h : ((rowsM).view.loc (V d (cI i) (jI i)) ↦{fullShare} f : sProp 𝕄)
      ⊢ iprop(((rowsM).view.loc (V d (cI i) (jI i)) ↦[(slotM 0).view.set]{fullShare} f)
        ∗ ((rowsM).view.loc (V d (cI i) (jI i)) ↦[Finset.univ \ (slotM 0).view.set]{fullShare} f)) :=
    (pointsTo_split_subset (Finset.subset_univ (slotM 0).view.set)).1
  rw [slot_compl] at h
  exact h

theorem rows_join (f g : S2x128x128.Idx → F .f32) :
    iprop(((rowsM).view.loc (V d (cI i) (jI i)) ↦[(slotM 0).view.set]{fullShare} f) ∗ ((rowsM).view.loc (V d (cI i) (jI i)) ↦[(slotM 1).view.set]{fullShare} g) : sProp 𝕄)
    ⊢ iprop(∃ h : S2x128x128.Idx → F .f32, (rowsM).view.loc (V d (cI i) (jI i)) ↦{fullShare} h) := by
  have h : iprop(((rowsM).view.loc (V d (cI i) (jI i)) ↦[(slotM 0).view.set]{fullShare} (fun x : S2x128x128.Idx => if (x 0).val = 0 then f x else g x))
        ∗ ((rowsM).view.loc (V d (cI i) (jI i)) ↦[Finset.univ \ (slotM 0).view.set]{fullShare} (fun x : S2x128x128.Idx => if (x 0).val = 0 then f x else g x)) : sProp 𝕄)
      ⊢ iprop((rowsM).view.loc (V d (cI i) (jI i)) ↦{fullShare} (fun x : S2x128x128.Idx => if (x 0).val = 0 then f x else g x)) :=
    (pointsTo_split_subset (Finset.subset_univ (slotM 0).view.set)).2
  rw [slot_compl] at h
  iintro ⟨HA, HB⟩
  iexists _
  iapply h
  isplitl [HA]
  · iapply (Entails.of_eq (pointsTo_congr fun x hx => by
      have hx0 : (x 0).val = 0 := (mem_slot 0 x).mp hx
      show f x = if (x 0).val = 0 then f x else g x
      rw [if_pos hx0])) $$ HA
  · iapply (Entails.of_eq (pointsTo_congr fun x hx => by
      have hx0 : (x 0).val = 1 := (mem_slot 1 x).mp hx
      show g x = if (x 0).val = 0 then f x else g x
      rw [if_neg (by omega)])) $$ HB

/-! ## The tile -/

abbrev sem0At (s : DmaSems sig S_) : sProp 𝕄 := semVal (V d (cI i) (jI i), SemLoc.dma s.sem) 0

/-- What a tile starts from. -/
def tileIn (q : PosShare TreeShare) (V0 : S32x32x128.Idx → BitVec 32) (V1 : S32x4096.Idx → BitVec 32) (tb : S100000x128.Idx → F .f32)
    (f0 : S4096x128.Idx → F .f32) (O : CellTallies nD τ sig (HIx 1)) (W : Waits sig (HIx 1)) : sProp 𝕄 :=
  iprop((∃ fg fw ft, copySt d i q V0 V1 tb O W fg fw ft)
    ∗ (∃ f : S2x128x128.Idx → F .f32, (rowsM).view.loc (V d (cI i) (jI i)) ↦{fullShare} f)
    ∗ (∃ f : S128x128.Idx → F .f32, (outM).view.loc (V d (cI i) (jI i)) ↦{fullShare} f)
    ∗ (∃ f : S128.Idx → F .f32, (cntM).view.loc (V d (cI i) (jI i)) ↦{fullShare} f)
    ∗ sem0At d i cc0_scratch6 ∗ sem0At d i cc0_scratch7 ∗ sem0At d i cc0_scoped3
    ∗ ((resBlk i).view.loc (V d (cI i) (jI i)) ↦[(resBlk i).view.set]{fullShare} f0))

/-- What a tile ends with. -/
def tileOut (q : PosShare TreeShare) (V0 : S32x32x128.Idx → BitVec 32) (V1 : S32x4096.Idx → BitVec 32) (tb : S100000x128.Idx → F .f32)
    (O : CellTallies nD τ sig (HIx 1)) (W : Waits sig (HIx 1)) : sProp 𝕄 :=
  iprop((((idsM).view.loc (V d (cI i) (jI i)) ↦{q} V0) ∗ ((mskM).view.loc (V d (cI i) (jI i)) ↦{q} V1) ∗ ((tblM).view.loc (V d (cI i) (jI i)) ↦{q} tb)
      ∗ ((resBlk i).view.loc (V d (cI i) (jI i)) ↦[(resBlk i).view.set]{fullShare} (resFn V0 V1 tb)))
    ∗ ((∃ f : S32x128.Idx → BitVec 32, (gidM).view.loc (V d (cI i) (jI i)) ↦{fullShare} f) ∗ (∃ f : S4096.Idx → BitVec 32, (mwM).view.loc (V d (cI i) (jI i)) ↦{fullShare} f)
      ∗ (∃ f : S2x128x128.Idx → F .f32, (rowsM).view.loc (V d (cI i) (jI i)) ↦{fullShare} f) ∗ (∃ f : S1x128.Idx → F .f32, (t0M).view.loc (V d (cI i) (jI i)) ↦{fullShare} f)
      ∗ (∃ f : S128x128.Idx → F .f32, (outM).view.loc (V d (cI i) (jI i)) ↦{fullShare} f) ∗ (∃ f : S128.Idx → F .f32, (cntM).view.loc (V d (cI i) (jI i)) ↦{fullShare} f))
    ∗ (sem0At d i cc0_scratch6 ∗ sem0At d i cc0_scratch7 ∗ sem0At d i cc0_scoped0 ∗ sem0At d i cc0_scoped1 ∗ sem0At d i cc0_scoped2 ∗ sem0At d i cc0_scoped3)
    ∗ ∃ W', ⌜∀ p ∈ W', p ∈ W ∨ p.2 = none⌝ ∗ owes (V d (cI i) (jI i)) O W')

/-- What the tile keeps aside while it works. -/
def aside (q : PosShare TreeShare) (V0 : S32x32x128.Idx → BitVec 32) (V1 : S32x4096.Idx → BitVec 32) (f0 : S4096x128.Idx → F .f32) : sProp 𝕄 :=
  iprop(((idsM).view.loc (V d (cI i) (jI i)) ↦{q} V0) ∗ ((mskM).view.loc (V d (cI i) (jI i)) ↦{q} V1)
    ∗ sem0At d i cc0_scoped0 ∗ sem0At d i cc0_scoped1 ∗ sem0At d i cc0_scoped2 ∗ sem0At d i cc0_scoped3
    ∗ ((resBlk i).view.loc (V d (cI i) (jI i)) ↦[(resBlk i).view.set]{fullShare} f0))

abbrev tileOf (q : PosShare TreeShare) (V0 : S32x32x128.Idx → BitVec 32) (V1 : S32x4096.Idx → BitVec 32) (tb : S100000x128.Idx → F .f32)
    (f0 : S4096x128.Idx → F .f32) (O : CellTallies nD τ sig (HIx 1)) (W : Waits sig (HIx 1)) (hR : InTbl (idsOf V0 (wI i)) (mskOf V1 (wI i))) : Tile F where
  d := d
  i := i
  tbl := tb
  ids := idsOf V0 (wI i)
  msk := mskOf V1 (wI i)
  hR := hR
  q := ![q.left, q.right]
  qo := ![fullShare.left, fullShare.right]
  O := O
  W := W
  R := aside d i q V0 V1 f0

theorem tile_enter (q : PosShare TreeShare) (V0 : S32x32x128.Idx → BitVec 32) (V1 : S32x4096.Idx → BitVec 32) (tb : S100000x128.Idx → F .f32)
    (f0 : S4096x128.Idx → F .f32) (O : CellTallies nD τ sig (HIx 1)) (W : Waits sig (HIx 1)) (hR : InTbl (idsOf V0 (wI i)) (mskOf V1 (wI i)))
    {α : Type} {Q : α → sProp 𝕄} {kk : (Σ' (_ : BitVec 32), IVec S16 32) → Pg F (cI i) (jI i) α}
    (h : ∀ v1 v3, IsIota v3 → (tileOf d i q V0 V1 tb f0 O W hR).start ⊢ WP d (cI i) (jI i) (kk ⟨v1, v3⟩) Q) :
    tileIn d i q V0 V1 tb f0 O W ⊢ WP d (cI i) (jI i) (p65 (F := F) i >>= kk) Q := by
  unfold tileIn
  iintro ⟨⟨%fg, %fw, %ft, Hc⟩, ⟨%fr, Hr⟩, ⟨%fo, Ho⟩, ⟨%fc, Hn⟩, S6, S7, S3, Hres⟩
  iapply (wp_copies d i q V0 V1 tb) $$ Hc
  iintro %v1 %v3 %h3 ⟨Hi, Hm, Ht, Hg, Hw, H0, S0, S1, S2, HO⟩
  iapply (h v1 v3 h3)
  unfold Tile.start Tile.idle idlePts
  ihave Hr := (rows_split d i fr) $$ Hr
  icases Hr with ⟨HrA, HrB⟩
  unfold tblPts gidPts
  ihave Ht := (pointsTo_share (PosShare.mem_left_op_right q)).1 $$ Ht
  icases Ht with ⟨HtA, HtB⟩
  ihave Hg := (pointsTo_share (PosShare.mem_left_op_right fullShare)).1 $$ Hg
  icases Hg with ⟨HgA, HgB⟩
  isplitl [HtA HgA HrA S6]
  · isplitl [HtA]; · iexact HtA
    isplitl [HgA]; · iexact HgA
    isplitl [HrA]; · iexists fr; iexact HrA
    iexact S6
  isplitl [HtB HgB HrB S7]
  · isplitl [HtB]; · iexact HtB
    isplitl [HgB]; · iexact HgB
    isplitl [HrB]; · iexists fr; iexact HrB
    iexact S7
  isplitl [HO]; · iexact HO
  isplitl [Hw]; · iexact Hw
  isplitl [Hn]
  · unfold cntSt; iexists fc; isplitr
    · ipureintro; exact fun x hx => absurd hx (Nat.not_lt_zero _)
    · iexact Hn
  isplitl [H0]; · iexact H0
  isplitl [Ho]
  · unfold outPts; iexists fo; isplitr
    · ipureintro; exact fun x hx => absurd hx (Nat.not_lt_zero _)
    · iexact Ho
  iapply (show aside d i q V0 V1 f0 ⊢ (tileOf d i q V0 V1 tb f0 O W hR).R from .rfl)
  unfold aside
  isplitl [Hi]; · iexact Hi
  isplitl [Hm]; · iexact Hm
  isplitl [S0]; · iexact S0
  isplitl [S1]; · iexact S1
  isplitl [S2]; · iexact S2
  isplitl [S3]; · iexact S3
  iexact Hres

abbrev outProg (i : grid0.Coords) : Pg F (cI i) (jI i) PUnit := do
  Prog.lift (.enqueueDma outM (.here (resBlk i)) (.dma cc0_scoped3.sem) (Memref.isWhole_whole _).wordExact (View.wordExact_bits rfl) ⟨Or.inl rfl, trivial⟩)
  Prog.lift (.waitDma2 cc0_scoped3.sem outM (resBlk i) (Memref.isWhole_whole _).wordExact (View.wordExact_bits rfl))
  pure ⟨⟩

theorem still_open (q : PosShare TreeShare) (V0 : S32x32x128.Idx → BitVec 32) (V1 : S32x4096.Idx → BitVec 32) (tb : S100000x128.Idx → F .f32)
    (f0 : S4096x128.Idx → F .f32) (O : CellTallies nD τ sig (HIx 1)) (W : Waits sig (HIx 1)) (hR : InTbl (idsOf V0 (wI i)) (mskOf V1 (wI i))) :
    (tileOf d i q V0 V1 tb f0 O W hR).still 32
    ⊢ iprop(idlePts d (cI i) (jI i) tb (idsOf V0 (wI i)) (mskOf V1 (wI i)) q.left fullShare.left 0 (cc0_scratch6 : DmaSems sig S_).sem
      ∗ idlePts d (cI i) (jI i) tb (idsOf V0 (wI i)) (mskOf V1 (wI i)) q.right fullShare.right 1 (cc0_scratch7 : DmaSems sig S_).sem
      ∗ owesPts d (cI i) (jI i) O W ∗ (mwPts (F := F) d i (mskOf V1 (wI i)) ∗ aside d i q V0 V1 f0) ∗ cntPts d (cI i) (jI i) (cntF (mskOf V1 (wI i)))
      ∗ t0Pts d (cI i) (jI i) (tblN tb 0) ∗ outPts d (cI i) (jI i) (outN tb (idsOf V0 (wI i)) (mskOf V1 (wI i))) (512 * 32)) := by
  unfold Tile.still
  exact .rfl

theorem tile_leave (q : PosShare TreeShare) (V0 : S32x32x128.Idx → BitVec 32) (V1 : S32x4096.Idx → BitVec 32) (tb : S100000x128.Idx → F .f32)
    (f0 : S4096x128.Idx → F .f32) (O : CellTallies nD τ sig (HIx 1)) (W : Waits sig (HIx 1)) (hR : InTbl (idsOf V0 (wI i)) (mskOf V1 (wI i))) :
    (tileOf d i q V0 V1 tb f0 O W hR).still 32 ⊢ WP d (cI i) (jI i) (outProg (F := F) i) fun _ => tileOut d i q V0 V1 tb O W := by
  refine (still_open d i q V0 V1 tb f0 O W hR).trans ?_
  unfold WP outProg
  unfold idlePts aside owesPts outPts tblPts gidPts mwPts cntPts t0Pts
  iintro ⟨⟨HtA, HgA, ⟨%frA, HrA⟩, S6⟩, ⟨HtB, HgB, ⟨%frB, HrB⟩, S7⟩, ⟨⟨%W', %hW, HO⟩, #Hmw⟩, ⟨Hw, Hi, Hm, S0, S1, S2, S3, Hres⟩, Hn, H0, ⟨%fo, %hfo, Ho⟩⟩
  sl_exec
  sl_step
  unfold tileOut
  isplitl [Hi Hm HtA HtB Hres]
  · isplitl [Hi]; · iexact Hi
    isplitl [Hm]; · iexact Hm
    isplitl [HtA HtB]
    · iapply (pointsTo_share (PosShare.mem_left_op_right q)).2
      isplitl [HtA]; · iexact HtA
      iexact HtB
    · iapply (Entails.of_eq (pointsTo_congr fun x hx => (res_once i f0 _ x).trans
        (res_written i V0 V1 tb f0 _ (fun y => hfo y (by
          have h0 : (y 0).val < 128 := (y 0).isLt
          have h1 : (y 1).val < 128 := (y 1).isLt
          omega)) x hx))) $$ Hres
  isplitl [HgA HgB HrA HrB Hw H0 Ho Hn]
  · isplitl [HgA HgB]
    · iexists _
      iapply (pointsTo_share (PosShare.mem_left_op_right fullShare)).2
      isplitl [HgA]; · iexact HgA
      iexact HgB
    isplitl [Hw]; · iexists _; iexact Hw
    isplitl [HrA HrB]
    · iapply (rows_join d i frA frB)
      isplitl [HrA]; · iexact HrA
      iexact HrB
    isplitl [H0]; · iexists _; iexact H0
    isplitl [Ho]; · iexists _; iexact Ho
    iexists _; iexact Hn
  isplitl [S6 S7 S0 S1 S2 S3]
  · isplitl [S6]; · iexact S6
    isplitl [S7]; · iexact S7
    isplitl [S0]; · iexact S0
    isplitl [S1]; · iexact S1
    isplitl [S2]; · iexact S2
    iexact S3
  iexists (insert (SemLoc.dma (cc0_scoped3 : DmaSems sig S_).sem, (default : HIx 1)) W')
  isplitr
  · ipureintro
    intro p hp
    rcases Finset.mem_insert.mp hp with hp | hp
    · exact .inr (hp ▸ rfl)
    · exact hW p hp
  · iexact HO

/-- One tile's run of the kernel. -/
theorem wp_tile (q : PosShare TreeShare) (V0 : S32x32x128.Idx → BitVec 32) (V1 : S32x4096.Idx → BitVec 32) (tb : S100000x128.Idx → F .f32)
    (f0 : S4096x128.Idx → F .f32) (O : CellTallies nD τ sig (HIx 1)) (W : Waits sig (HIx 1)) (hR : InTbl (idsOf V0 (wI i)) (mskOf V1 (wI i))) :
    tileIn d i q V0 V1 tb f0 O W
    ⊢ WP d (cI i) (jI i) (cc0__pool_kernel i tblM (Memref.isWhole_whole _) idsM (Memref.isWhole_whole _) mskM (Memref.isWhole_whole _)
        resM (Memref.isWhole_whole _) gidM (Memref.isWhole_whole _) mwM (Memref.isWhole_whole _) rowsM (Memref.isWhole_whole _)
        t0M (Memref.isWhole_whole _) outM (Memref.isWhole_whole _) cntM (Memref.isWhole_whole _)
        cc0_scratch6 cc0_scratch7 cc0_scoped0 cc0_scoped1 cc0_scoped2 cc0_scoped3) fun _ => tileOut d i q V0 V1 tb O W := by
  rw [cc0__pool_kernel_eq_skeleton]
  exact wp_windows (tileOf d i q V0 V1 tb f0 O W hR) (P := tileIn d i q V0 V1 tb f0 O W) (kk := fun _ => outProg (F := F) i)
    (fun kk' h' => tile_enter d i q V0 V1 tb f0 O W hR h') (fun _ => tile_leave d i q V0 V1 tb f0 O W hR)

end Steps

end Cert.Proof.KernelIdealTile

end
-- ==== Proof.IdealLaunch.lean ====
/-
  The launch of the pooling kernel: the host reshapes the ids and the mask, each of the 32 tiles gets a share of the
  ids, the mask and the table and its own 128 rows of the result, and the parts join again at the end.
-/
module

public import proofs.«01_k».proof.Proof.IdealBody
public import Idealize.ShloMosaic.Lib.SparseCore.Quiescent
public import Idealize.ShloMosaic.Lib.StableHlo.Run
public import Idealize.ShloMosaic.Lib.Pipeline.Kit
public import Idealize.ShloMosaic.Lib.ShareLeaves

@[expose] public section

noncomputable section

namespace Cert.Proof.KernelIdealTile

open Cert.KernelIdeal Cert.KernelIdeal.Gen Cert.Proof.Pool

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The host's arrays -/

variable (m : (ℓ : Loc nD τ sig) → Buf (Elt F) ℓ) (ρ : Dev nD → PrngReg)

abbrev idLoc (d : Dev nD) : Loc nD τ sig := (SparseCore.T d).loc main_arg0
abbrev mkLoc (d : Dev nD) : Loc nD τ sig := (SparseCore.T d).loc main_arg1
abbrev tbLoc (d : Dev nD) : Loc nD τ sig := (SparseCore.T d).loc main_arg2
abbrev id2Loc (d : Dev nD) : Loc nD τ sig := (SparseCore.T d).loc main_v0
abbrev mk2Loc (d : Dev nD) : Loc nD τ sig := (SparseCore.T d).loc main_v1
abbrev rsLoc (d : Dev nD) : Loc nD τ sig := (SparseCore.T d).loc main_v2

/-- The ids and the mask as the host reshapes them. -/
def idsV (d : Dev nD) : S32x32x128.Idx → BitVec 32 := shapeCast S32x32x128 (m (idLoc d) : S4096x32.Idx → BitVec 32) shapeCasts_S4096x32_S32x32x128
def mskV (d : Dev nD) : S32x4096.Idx → BitVec 32 := shapeCast S32x4096 (m (mkLoc d) : S4096x32.Idx → BitVec 32) shapeCasts_S4096x32_S32x4096

/-- What the proof asks of the launch memory: each gathered id names a row of the table. -/
def PreOK : Prop := ∀ (d : Dev nD) (w : Fin 32), InTbl (idsOf (idsV m d) w) (mskOf (mskV m d) w)

theorem rdiv : 32 ∣ S4096x128.size 0 := ⟨128, rfl⟩
abbrev rrow (w : Fin 32) : Rect S4096x128 := Rect.part (s := S4096x128) (a₀ := 0) rdiv w

/-- Tile `w`'s part: its shares of the ids, the mask and the table, and its rows of the result. -/
def tileGo (d : Dev nD) (w : Fin 32) (f : S4096x128.Idx → F .f32) : sProp 𝕄 :=
  iprop((id2Loc d ↦{leaf 5 fullShare w} idsV m d) ∗ (mk2Loc d ↦{leaf 5 fullShare w} mskV m d) ∗ (tbLoc d ↦{leaf 5 fullShare w} m (tbLoc d))
    ∗ (rsLoc d ↦[(rrow w).set]{fullShare} f))

/-- The tile that SparseCore `c` runs on its subcore `s`. -/
abbrev wOf (c : Fin 2) (s : Fin 16) : Fin 32 := ⟨2 * s.val + c.val, by omega⟩

variable [FloatOps F]

def resV (d : Dev nD) : S4096x128.Idx → F .f32 := resFn (idsV m d) (mskV m d) (m (tbLoc d))

def P : (K (F := F)).Pay (nD := nD) (Val := Elt F) (Name := ℕ) (U := UU) where
  st := fun q d c => match q with
    | 0 => bigSep Finset.univ fun i : Fin ((K (F := F)).nSub 0) => tileGo m d (wOf (Fin.cast nCore_zero c) (Fin.cast nSub_zero i)) (m (rsLoc d))
  dn := fun q d c => match q with
    | 0 => bigSep Finset.univ fun i : Fin ((K (F := F)).nSub 0) => tileGo m d (wOf (Fin.cast nCore_zero c) (Fin.cast nSub_zero i)) (resV m d)
  go := fun q d c i => match q with
    | 0 => tileGo m d (wOf (Fin.cast nCore_zero c) (Fin.cast nSub_zero i)) (m (rsLoc d))
  td := fun q d c i => match q with
    | 0 => tileGo m d (wOf (Fin.cast nCore_zero c) (Fin.cast nSub_zero i)) (resV m d)
  x := fun _ _ => iprop(emp)

omit [FloatOps F] in
instance tileGo_storable (d : Dev nD) (w : Fin 32) (f : S4096x128.Idx → F .f32) : BI.Storable (upEmb : UEmb _ 𝕄) (tileGo m d w f) := by
  unfold tileGo; infer_instance

instance P_storable : (P (F := F) m).IsStorable where
  st q d c := match q with
    | 0 => (inferInstance : BI.Storable (upEmb : UEmb _ 𝕄) (bigSep Finset.univ fun i : Fin ((K (F := F)).nSub 0) =>
        tileGo m d (wOf (Fin.cast nCore_zero c) (Fin.cast nSub_zero i)) (m (rsLoc d))))
  dn q d c := match q with
    | 0 => (inferInstance : BI.Storable (upEmb : UEmb _ 𝕄) (bigSep Finset.univ fun i : Fin ((K (F := F)).nSub 0) =>
        tileGo m d (wOf (Fin.cast nCore_zero c) (Fin.cast nSub_zero i)) (resV m d)))
  go q d c i := match q with
    | 0 => tileGo_storable m d (wOf (Fin.cast nCore_zero c) (Fin.cast nSub_zero i)) (m (rsLoc d))
  td q d c i := match q with
    | 0 => tileGo_storable m d (wOf (Fin.cast nCore_zero c) (Fin.cast nSub_zero i)) (resV m d)

/-! ## The whole arrays as the tiles' parts -/

omit [FloatOps F] in
theorem rs_rows (d : Dev nD) (f : S4096x128.Idx → F .f32) :
    (rsLoc d ↦{fullShare} f : sProp 𝕄) = bigSep Finset.univ fun w : Fin 32 => rsLoc d ↦[(rrow w).set]{fullShare} f := by
  rw [← pointsTo_biUnion Finset.univ (ℓ := rsLoc d) (fun w : Fin 32 => (rrow w).set) (fun _ _ _ _ h => Rect.part_disjoint rdiv h), Rect.biUnion_part rdiv]
  try rfl

omit [FloatOps F] in
theorem deal (Φ : Fin 32 → sProp 𝕄) :
    bigSep Finset.univ Φ = bigSep Finset.univ fun c : Fin 2 => bigSep Finset.univ fun s : Fin 16 => Φ (wOf c s) := by
  rw [bigSep_univ_equiv ((Equiv.prodComm (Fin 2) (Fin 16)).trans (finProdFinEquiv : Fin 16 × Fin 2 ≃ Fin 32)) Φ, bigSep_univ_prod]
  refine bigSep_congr fun c _ => bigSep_congr fun s _ => congrArg Φ (Fin.ext ?_)
  show c.val + 2 * s.val = 2 * s.val + c.val
  omega

omit [FloatOps F] in
theorem leaves (ℓ : Loc nD τ sig) (f : Buf (Elt F) ℓ) : (ℓ ↦{fullShare} f : sProp 𝕄) = bigSep Finset.univ fun w : Fin 32 => ℓ ↦{leaf 5 fullShare w} f :=
  pointsTo_leaves Finset.univ f 5 fullShare

omit [FloatOps F] in
theorem whole_tiles (d : Dev nD) (f : S4096x128.Idx → F .f32) :
    iprop((id2Loc d ↦{fullShare} idsV m d) ∗ (mk2Loc d ↦{fullShare} mskV m d) ∗ (tbLoc d ↦{fullShare} m (tbLoc d)) ∗ (rsLoc d ↦{fullShare} f) : sProp 𝕄)
    = bigSep Finset.univ fun c : Fin 2 => bigSep Finset.univ fun s : Fin 16 => tileGo m d (wOf c s) f := by
  rw [← deal (fun w => tileGo m d w f)]
  unfold tileGo
  rw [bigSep_sep', bigSep_sep', bigSep_sep', rs_rows d f]
  refine congrArg₂ (fun A B : sProp 𝕄 => iprop(A ∗ B)) (leaves (id2Loc d) (idsV m d)) ?_
  refine congrArg₂ (fun A B : sProp 𝕄 => iprop(A ∗ B)) (leaves (mk2Loc d) (mskV m d)) ?_
  refine congrArg₂ (fun A B : sProp 𝕄 => iprop(A ∗ B)) (leaves (tbLoc d) (m (tbLoc d))) ?_
  rfl

theorem st0_eq (d : Dev nD) : (bigSep Finset.univ fun c : Fin ((K (F := F)).nCore 0) => (P m).st 0 d c)
    = iprop((id2Loc d ↦{fullShare} idsV m d) ∗ (mk2Loc d ↦{fullShare} mskV m d) ∗ (tbLoc d ↦{fullShare} m (tbLoc d)) ∗ (rsLoc d ↦{fullShare} m (rsLoc d))) :=
  (whole_tiles m d (m (rsLoc d))).symm
theorem dn0_eq (d : Dev nD) : (bigSep Finset.univ fun c : Fin ((K (F := F)).nCore 0) => (P m).dn 0 d c)
    = iprop((id2Loc d ↦{fullShare} idsV m d) ∗ (mk2Loc d ↦{fullShare} mskV m d) ∗ (tbLoc d ↦{fullShare} m (tbLoc d)) ∗ (rsLoc d ↦{fullShare} resV m d)) :=
  (whole_tiles m d (resV m d)).symm

theorem vecSplit : (K (F := F)).VecSplit' (P m) 0 := by
  intro d c
  show (bigSep Finset.univ fun i : Fin ((K (F := F)).nSub 0) => tileGo m d (wOf (Fin.cast nCore_zero c) (Fin.cast nSub_zero i)) (m (rsLoc d)))
    ⊢ |={Set.univ}=> iprop(
      (bigSep Finset.univ fun i : Fin ((K (F := F)).nSub 0) => tileGo m d (wOf (Fin.cast nCore_zero c) (Fin.cast nSub_zero i)) (m (rsLoc d)))
      ∗ ((bigSep Finset.univ fun i : Fin ((K (F := F)).nSub 0) => tileGo m d (wOf (Fin.cast nCore_zero c) (Fin.cast nSub_zero i)) (resV m d))
          -∗ (bigSep Finset.univ fun i : Fin ((K (F := F)).nSub 0) => tileGo m d (wOf (Fin.cast nCore_zero c) (Fin.cast nSub_zero i)) (resV m d))))
  iintro H; imodintro
  isplitl [H]; · iexact H
  iintro H; iexact H

/-! ## A tile's own buffers and semaphores -/

section OneTile

variable (d : Dev nD) (i : grid0.Coords)

omit [FloatOps F] in
theorem set_resBlk : (resBlk i).view.set = (rrow (wI i)).set := by
  have e : Rect.unit (s := S4096x128) (k0_off518 i) S128x128.size (k0_off518_inb i) = rrow (wI i) := by
    unfold rrow Rect.part Rect.block
    congr 1 <;> funext a
    · rw [k0_off518_eq]
      match a with
      | 0 => simp [Shape.partIx, Shape.partSize]; omega
      | 1 => simp [Shape.partIx, Shape.partSize]
    · match a with
      | 0 => simp [Shape.partSize]
      | 1 => simp [Shape.partSize]
  rw [← e]
  show ((View.whole (main_v2_scv : Ref sig .scVector)).slice _).set = _
  rw [View.set_slice]; exact Finset.map_refl

omit [FloatOps F] in
/-- A separating product over a set, with the part at the images of `t` set apart. -/
theorem bigSep_apart {α β : Type} [DecidableEq β] (e : α ↪ β) (t : Finset α) (S : Finset β) (h : ∀ a ∈ t, e a ∈ S) (Φ : β → sProp 𝕄) :
    bigSep S Φ = iprop((bigSep t fun a => Φ (e a)) ∗ bigSep (S \ t.map e) Φ) := by
  have hs : t.map e ⊆ S := fun b hb => by
    obtain ⟨a, ha, rfl⟩ := Finset.mem_map.mp hb
    exact h a ha
  conv_lhs => rw [← Finset.union_sdiff_of_subset hs]
  rw [bigSep_union Finset.disjoint_sdiff, bigSep_map]
  rfl

abbrev tileSems : Finset (SemLoc sig) :=
  {SemLoc.dma (cc0_scratch6 : DmaSems sig S_).sem, SemLoc.dma (cc0_scratch7 : DmaSems sig S_).sem, SemLoc.dma (cc0_scoped0 : DmaSems sig S_).sem,
    SemLoc.dma (cc0_scoped1 : DmaSems sig S_).sem, SemLoc.dma (cc0_scoped2 : DmaSems sig S_).sem, SemLoc.dma (cc0_scoped3 : DmaSems sig S_).sem}

abbrev semAt : SemLoc sig ↪ GSem nD τ sig := ⟨fun s => (V d (cI i) (jI i), s), fun _ _ h => (Prod.mk.inj h).2⟩

omit [FloatOps F] in
theorem ownSems0_tile : (ownSems0 (V d (cI i) (jI i)) : sProp 𝕄)
    = iprop((sem0At d i cc0_scratch6 ∗ sem0At d i cc0_scratch7 ∗ sem0At d i cc0_scoped0 ∗ sem0At d i cc0_scoped1 ∗ sem0At d i cc0_scoped2 ∗ sem0At d i cc0_scoped3)
      ∗ bigSep (ownCells (V d (cI i) (jI i)) \ tileSems.map (semAt d i)) fun g => semVal g 0) := by
  unfold SparseCore.Cfg.ownSems0
  rw [bigSep_apart (semAt d i) tileSems _ (fun s hs => (mem_ownCells (g := (V d (cI i) (jI i), s))).mpr ⟨rfl, by
    show s.isScoped .scVector = true
    revert s; decide⟩)]
  rw [SparseCore.bigSep_insert' (by decide), SparseCore.bigSep_insert' (by decide), SparseCore.bigSep_insert' (by decide),
    SparseCore.bigSep_insert' (by decide), SparseCore.bigSep_insert' (by decide), bigSep_singleton]
  rfl

abbrev tileRefs : Finset (Ref sig .scVector) := {cc0_scratch0, cc0_scratch1, cc0_scratch2, cc0_scratch3, cc0_scratch4, cc0_scratch5}

abbrev refAt : Ref sig .scVector ↪ DevRef τ sig := ⟨fun b => (Proc.scVector (cI i) (jI i)).devRef b, fun _ _ h => Proc.devRef_injective (Proc.scVector (cI i) (jI i)) h⟩

omit [FloatOps F] in
theorem ownBufs_tile : (ownBufs (V d (cI i) (jI i)) : sProp 𝕄)
    = iprop(((∃ f : S32x128.Idx → BitVec 32, (gidM).view.loc (V d (cI i) (jI i)) ↦{fullShare} f) ∗ (∃ f : S4096.Idx → BitVec 32, (mwM).view.loc (V d (cI i) (jI i)) ↦{fullShare} f)
      ∗ (∃ f : S2x128x128.Idx → F .f32, (rowsM).view.loc (V d (cI i) (jI i)) ↦{fullShare} f) ∗ (∃ f : S1x128.Idx → F .f32, (t0M).view.loc (V d (cI i) (jI i)) ↦{fullShare} f)
      ∗ (∃ f : S128x128.Idx → F .f32, (outM).view.loc (V d (cI i) (jI i)) ↦{fullShare} f) ∗ (∃ f : S128.Idx → F .f32, (cntM).view.loc (V d (cI i) (jI i)) ↦{fullShare} f))
      ∗ bigSep (ownRefs (τ := τ) (.scVector (cI i) (jI i)) \ tileRefs.map (refAt i)) fun b => iprop(∃ f, ((d, b) : Loc nD τ sig) ↦{fullShare} f)) := by
  unfold SparseCore.Cfg.ownBufs
  rw [bigSep_apart (refAt i) tileRefs _ (fun b hb => SparseCore.Cfg.mem_ownRefs_of_owner (p := Proc.scVector (cI i) (jI i)) (by
    simp only [tileRefs, Finset.mem_insert, Finset.mem_singleton] at hb
    rcases hb with rfl | rfl | rfl | rfl | rfl | rfl <;> rfl))]
  rw [SparseCore.bigSep_insert' (by decide), SparseCore.bigSep_insert' (by decide), SparseCore.bigSep_insert' (by decide),
    SparseCore.bigSep_insert' (by decide), SparseCore.bigSep_insert' (by decide), bigSep_singleton]
  rfl

/-- One tile's task, from what the launch hands it to what it hands back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileGo m d (wI i) (m (rsLoc d))
        ∗ scopedBufs (V d (cI i) (jI i)) ∗ scopedSems0 (V d (cI i) (jI i)) ∗ owes (V d (cI i) (jI i)) O W)
      ⊢ WP d (cI i) (jI i) (cc0__pool_kernel i tblM (Memref.isWhole_whole _) idsM (Memref.isWhole_whole _) mskM (Memref.isWhole_whole _)
        resM (Memref.isWhole_whole _) gidM (Memref.isWhole_whole _) mwM (Memref.isWhole_whole _) rowsM (Memref.isWhole_whole _)
        t0M (Memref.isWhole_whole _) outM (Memref.isWhole_whole _) cntM (Memref.isWhole_whole _)
        cc0_scratch6 cc0_scratch7 cc0_scoped0 cc0_scoped1 cc0_scoped2 cc0_scoped3)
          fun _ => iprop(tileGo m d (wI i) (resV m d) ∗ scopedBufs (V d (cI i) (jI i)) ∗ scopedSems0 (V d (cI i) (jI i))
            ∗ ∃ W', ⌜∀ p ∈ W', p ∈ W ∨ p.2 = none⌝ ∗ owes (V d (cI i) (jI i)) O W') := by
  rw [(K (F := F)).scopedBufs_V hF d (cI i) (jI i), SparseCore.Cfg.scopedSems0_V (Val := Elt F) d (cI i) (jI i), ownSems0_tile, ownBufs_tile]
  have hrun := wp_tile d i (leaf 5 fullShare (wI i)) (idsV m d) (mskV m d) (m (tbLoc d)) (m (rsLoc d)) O W (hpre d (wI i))
  iintro ⟨#Hlv, -, Hgo, ⟨⟨⟨%fg, Hg⟩, ⟨%fw, Hw⟩, Hr, ⟨%ft, H0⟩, Ho, Hn⟩, Hbufs⟩, ⟨⟨S6, S7, S0, S1, S2, S3⟩, Hsems⟩, HO⟩
  ihave Hmw := (show levAts (K (F := F)).L (K (F := F)).lev ⊢ Transfers.MayWaits (V d (cI i) (jI i)) (default : HIx 1) O from
    (K (F := F)).mayWaits_none (thr := V d (cI i) (jI i)) hO) $$ Hlv
  ihave Hgo := (Entails.of_eq (show tileGo m d (wI i) (m (rsLoc d)) = (iprop(((idsM).view.loc (V d (cI i) (jI i)) ↦{leaf 5 fullShare (wI i)} idsV m d)
    ∗ ((mskM).view.loc (V d (cI i) (jI i)) ↦{leaf 5 fullShare (wI i)} mskV m d) ∗ ((tblM).view.loc (V d (cI i) (jI i)) ↦{leaf 5 fullShare (wI i)} m (tbLoc d))
    ∗ ((resBlk i).view.loc (V d (cI i) (jI i)) ↦[(resBlk i).view.set]{fullShare} m (rsLoc d))) : sProp 𝕄) by rw [set_resBlk]; rfl)) $$ Hgo
  icases Hgo with ⟨Hi, Hm, Ht, Hres⟩
  unfold WP at hrun ⊢
  ihave Hwp := hrun $$ [Hi Hm Ht Hres Hg Hw Hr H0 Ho Hn S6 S7 S0 S1 S2 S3 HO]
  · unfold tileIn copySt
    isplitl [Hi Hm Ht Hg Hw H0 S0 S1 S2 HO]
    · iexists fg; iexists fw; iexists ft
      isplitl [Hi]; · iexact Hi
      isplitl [Hm]; · iexact Hm
      isplitl [Ht]; · iexact Ht
      isplitl [Hg]; · iexact Hg
      isplitl [Hw]; · iexact Hw
      isplitl [H0]; · iexact H0
      isplitl [S0]; · iexact S0
      isplitl [S1]; · iexact S1
      isplitl [S2]; · iexact S2
      isplitl [HO]; · iexact HO
      iexact Hmw
    isplitl [Hr]; · iexact Hr
    isplitl [Ho]; · iexact Ho
    isplitl [Hn]; · iexact Hn
    isplitl [S6]; · iexact S6
    isplitl [S7]; · iexact S7
    isplitl [S3]; · iexact S3
    iexact Hres
  iapply (wp_wand frame _ _) $$ Hwp
  iintro %_ Hout
  unfold tileOut
  icases Hout with ⟨Hgo, Hb, Hs, HO⟩
  isplitl [Hgo]
  · iapply (Entails.of_eq (show tileGo m d (wI i) (resV m d) = (iprop(((idsM).view.loc (V d (cI i) (jI i)) ↦{leaf 5 fullShare (wI i)} idsV m d)
      ∗ ((mskM).view.loc (V d (cI i) (jI i)) ↦{leaf 5 fullShare (wI i)} mskV m d) ∗ ((tblM).view.loc (V d (cI i) (jI i)) ↦{leaf 5 fullShare (wI i)} m (tbLoc d))
      ∗ ((resBlk i).view.loc (V d (cI i) (jI i)) ↦[(resBlk i).view.set]{fullShare} resV m d)) : sProp 𝕄) by rw [set_resBlk]; rfl).symm)
    iexact Hgo
  isplitl [Hb Hbufs]
  · isplitl [Hb]; · iexact Hb
    iexact Hbufs
  isplitl [Hs Hsems]
  · isplitl [Hs]; · iexact Hs
    iexact Hsems
  iexact HO

end OneTile

end Cert.Proof.KernelIdealTile

end
-- ==== Proof.IdealRun.lean ====
/-
  The pooling kernel's whole run: every tile's task, the host's two reshapes and the call, and what memory holds at
  the end.
-/
module

public import proofs.«01_k».proof.Proof.IdealLaunch

@[expose] public section

noncomputable section

namespace Cert.Proof.KernelIdealTile

open Cert.KernelIdeal Cert.KernelIdeal.Gen Cert.Proof.Pool

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The tasks -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__pool_kernel (coordsV c s) tblM (Memref.isWhole_whole _) idsM (Memref.isWhole_whole _) mskM (Memref.isWhole_whole _)
        resM (Memref.isWhole_whole _) gidM (Memref.isWhole_whole _) mwM (Memref.isWhole_whole _) rowsM (Memref.isWhole_whole _)
        t0M (Memref.isWhole_whole _) outM (Memref.isWhole_whole _) cntM (Memref.isWhole_whole _)
        cc0_scratch6 cc0_scratch7 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's program -/

abbrev id' : DevRef τ sig := Proc.devRef .tc main_arg0
abbrev mk' : DevRef τ sig := Proc.devRef .tc main_arg1
abbrev tb' : DevRef τ sig := Proc.devRef .tc main_arg2
abbrev id2' : DevRef τ sig := Proc.devRef .tc main_v0
abbrev mk2' : DevRef τ sig := Proc.devRef .tc main_v1
abbrev rs' : DevRef τ sig := Proc.devRef .tc main_v2
abbrev opIds : HloOp τ sig (Elt F) := StableHlo.reshape main_arg0 main_v0 (rfl : (.i32 : EltTy) = .i32) shapeCasts_S4096x32_S32x32x128
abbrev opMsk : HloOp τ sig (Elt F) := StableHlo.reshape main_arg1 main_v1 (rfl : (.i32 : EltTy) = .i32) shapeCasts_S4096x32_S32x4096
abbrev S6 : Finset (DevRef τ sig) := {id', mk', tb', id2', mk2', rs'}

omit [FloatOps F] in
theorem held_S6 (d : Dev nD) (W : Valuation τ sig (Elt F)) :
    (held (T d) S6 W : sProp 𝕄)
      = iprop((idLoc d ↦{fullShare} W id') ∗ (mkLoc d ↦{fullShare} W mk') ∗ (tbLoc d ↦{fullShare} W tb')
          ∗ (id2Loc d ↦{fullShare} W id2') ∗ (mk2Loc d ↦{fullShare} W mk2') ∗ rsLoc d ↦{fullShare} W rs') := by
  unfold held S6
  rw [SparseCore.bigSep_insert' (by decide), SparseCore.bigSep_insert' (by decide), SparseCore.bigSep_insert' (by decide),
    SparseCore.bigSep_insert' (by decide), SparseCore.bigSep_insert' (by decide), bigSep_singleton]

def V0 (d : Dev nD) : Valuation τ sig (Elt F) := fun b => m (d, b)
def V2 (d : Dev nD) : Valuation τ sig (Elt F) := (opMsk (F := F)).result ((opIds (F := F)).result (V0 m d))

omit [FloatOps F] in
theorem unscoped_held (d : Dev nD) : (unscopedBufs d (fun b => m ((SparseCore.T d).loc b)) : sProp 𝕄) = held (T d) S6 (V0 m d) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton, held_S6]
  rfl

omit [FloatOps F] in
theorem V2_keep (d : Dev nD) (b : DevRef τ sig) (h0 : b ∉ ({id2'} : Finset (DevRef τ sig))) (h1 : b ∉ ({mk2'} : Finset (DevRef τ sig))) : V2 m d b = m (d, b) := by
  unfold V2
  rw [(opMsk (F := F)).result_of_not_mem _ (show b ∉ ({mk2'} : Finset (DevRef τ sig)) from h1),
    (opIds (F := F)).result_of_not_mem _ (show b ∉ ({id2'} : Finset (DevRef τ sig)) from h0)]
  rfl
omit [FloatOps F] in
theorem V2_ids (d : Dev nD) : V2 m d id2' = idsV m d := by
  unfold V2
  rw [(opMsk (F := F)).result_of_not_mem _ (show id2' ∉ ({mk2'} : Finset (DevRef τ sig)) by decide)]
  exact StableHlo.reshape_result _ _ _ _ _ _ _
omit [FloatOps F] in
theorem V2_msk (d : Dev nD) : V2 m d mk2' = mskV m d := by
  unfold V2
  refine (StableHlo.reshape_result _ _ _ _ _ _ _).trans ?_
  rw [(opIds (F := F)).result_of_not_mem _ (show mk' ∉ ({id2'} : Finset (DevRef τ sig)) by decide)]
  rfl

omit [FloatOps F] in
theorem held_V2 (d : Dev nD) :
    (held (T d) S6 ((opMsk (F := F)).result ((opIds (F := F)).result (V0 m d))) : sProp 𝕄)
      = iprop((idLoc d ↦{fullShare} m (idLoc d)) ∗ (mkLoc d ↦{fullShare} m (mkLoc d)) ∗ (tbLoc d ↦{fullShare} m (tbLoc d))
          ∗ (id2Loc d ↦{fullShare} idsV m d) ∗ (mk2Loc d ↦{fullShare} mskV m d) ∗ rsLoc d ↦{fullShare} m (rsLoc d)) := by
  show held (SparseCore.T d) S6 (V2 m d) = _
  rw [held_S6, V2_ids, V2_msk, V2_keep m d id' (by decide) (by decide), V2_keep m d mk' (by decide) (by decide), V2_keep m d tb' (by decide) (by decide),
    V2_keep m d rs' (by decide) (by decide)]

theorem hIds : (opIds (F := F)).bufs ⊆ S6 := show ({id', id2'} : Finset (DevRef τ sig)) ⊆ S6 by decide
theorem hMsk : (opMsk (F := F)).bufs ⊆ S6 := show ({mk', mk2'} : Finset (DevRef τ sig)) ⊆ S6 by decide

/-- What the host's program leaves: the arguments as they were, the result's rows. -/
abbrev FIN (d : Dev nD) : sProp 𝕄 :=
  iprop((idLoc d ↦{fullShare} m (idLoc d)) ∗ (mkLoc d ↦{fullShare} m (mkLoc d)) ∗ (tbLoc d ↦{fullShare} m (tbLoc d)) ∗ (rsLoc d ↦{fullShare} resV m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIds) (S := S6) hIds (V := V0 m d)) $$ [Hb Hheld]
  · isplitl [Hb] <;> iassumption
  iintro ⟨Hb, Hheld⟩
  rw [wp_ret]; imodintro
  iapply (wp_hlo_within 𝒱 (SparseCore.T d) none Set.univ (op := opMsk) (S := S6) hMsk (V := (opIds (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Hid, Hmk, Htb, Hid2, Hmk2, Hrs⟩
  iapply ((K (F := F)).wp_run (D (F := F)) 𝒱 (EH := EH) (P := P m) κ d 0) $$ [Hst Hid Hmk Htb Hid2 Hmk2 Hrs Hb Hts]
  isplitr; · iexact Hctx
  isplitl [Hst]; · iexact Hst
  isplitl [Htb Hid2 Hmk2 Hrs]
  · rw [st0_eq]
    isplitl [Hid2]; · iexact Hid2
    isplitl [Hmk2]; · iexact Hmk2
    isplitl [Htb]; · iexact Htb
    iexact Hrs
  iintro ⟨Hst, Hdn⟩
  ihave Hdn' := (Entails.of_eq (dn0_eq m d)) $$ Hdn
  icases Hdn' with ⟨-, -, Htb, Hrs⟩
  imodintro
  isplitl [Hst]; · iexact Hst
  isplitr [Hb Hts]
  · isplitl [Hid]; · iexact Hid
    isplitl [Hmk]; · iexact Hmk
    isplitl [Htb]; · iexact Htb
    iexact Hrs
  isplitl [Hb] <;> iassumption

def fq (d : Dev nD) (s' : Phys nD τ sig (Elt F)) : Prop :=
  s'.mem.mem (idLoc d) = m (idLoc d) ∧ s'.mem.mem (mkLoc d) = m (mkLoc d) ∧ s'.mem.mem (tbLoc d) = m (tbLoc d) ∧ s'.mem.mem (rsLoc d) = resV m d

set_option maxRecDepth 16384 in
theorem hfin (d : Dev nD) (s' : Phys nD τ sig (Elt F)) : iprop(FIN m d ∗ SI s') ⊢ (⌜fq m d s'⌝ : sProp 𝕄) := by
  iintro ⟨⟨Hid, Hmk, Htb, Hrs⟩, HSI⟩
  ihave H := (persistent_entails_right (SI_pointsTo_agree (st := s') (ℓ := idLoc d) (I := Finset.univ) (q := fullShare) (f := m (idLoc d)))) $$ [HSI Hid]
  · isplitl [HSI] <;> iassumption
  icases H with ⟨%h1, HSI, -⟩
  ihave H := (persistent_entails_right (SI_pointsTo_agree (st := s') (ℓ := mkLoc d) (I := Finset.univ) (q := fullShare) (f := m (mkLoc d)))) $$ [HSI Hmk]
  · isplitl [HSI] <;> iassumption
  icases H with ⟨%h2, HSI, -⟩
  ihave H := (persistent_entails_right (SI_pointsTo_agree (st := s') (ℓ := tbLoc d) (I := Finset.univ) (q := fullShare) (f := m (tbLoc d)))) $$ [HSI Htb]
  · isplitl [HSI] <;> iassumption
  icases H with ⟨%h3, HSI, -⟩
  ihave H := (SI_pointsTo_agree (st := s') (ℓ := rsLoc d) (I := Finset.univ) (q := fullShare) (f := resV m d)) $$ [HSI Hrs]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-! ## The whole run -/

def QC : PUnit × MemSt nD τ sig (Elt F) → Prop := fun r =>
  (∀ c : Dev nD, r.2.mem (idLoc c) = m (idLoc c) ∧ r.2.mem (mkLoc c) = m (mkLoc c) ∧ r.2.mem (tbLoc c) = m (tbLoc c) ∧ r.2.mem (rsLoc c) = resV m c)
    ∧ r.2.sem = fun _ => 0

/-- Every run ends with the arguments unchanged, the result at `resV` and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdealTile

end
-- ==== Proof.PreFacts.lean ====
/-
  What the two preconditions say of single words and floats: every id is below 100000, every mask word is zero or one
  and, for the second precondition, every float of the table is a real number.
-/
module

public import proofs.«01_k».proof.Defs
public import proofs.«01_k».proof.Proof.Gen.Pre_in_range
public import proofs.«01_k».proof.Proof.Gen.Pre_in_range_finite
public import proofs.«01_k».proof.Proof.PoolSpec
public import Idealize.ShloMosaic.Lib.ReduceAll
public import Idealize.ShloMosaic.Lib.ValueIdx

@[expose] public section

noncomputable section

namespace Cert.Proof.Pool

open Idealize.ShloMosaic Idealize.ShloMosaic.ValueIdx

/-- The ids are rows of the table and the mask words are zero or one. -/
structure InRange (ids msk : (⟨2, ![4096, 32]⟩ : Shape).Idx → BitVec 32) : Prop where
  ids_lt : ∀ i, (ids i).toNat < 100000
  msk_le : ∀ i, (msk i).toNat ≤ 1

theorem ofBool_one (b : Bool) : (BitVec.ofBool b = 1#1) = (b = true) := by
  cases b <;> decide

theorem andi_one {a b : BitVec 1} (h : IntOp.andi a b = 1#1) : a = 1#1 ∧ b = 1#1 := by
  revert a b; decide

/-- One element of the precondition's range test, read back. -/
theorem word_range {a b : BitVec 32}
    (h : IntOp.andi (IntOp.andi (IntOp.andi (IntOp.cmpi .sge a 0#32) (IntOp.cmpi .slt a 100000#32)) (IntOp.cmpi .sge b 0#32))
      (IntOp.cmpi .sle b 1#32) = 1#1) : a.toNat < 100000 ∧ b.toNat ≤ 1 := by
  obtain ⟨h, h4⟩ := andi_one h
  obtain ⟨h, h3⟩ := andi_one h
  obtain ⟨h1, h2⟩ := andi_one h
  simp only [IntOp.cmpi, ofBool_one, BitVec.sle_eq_decide, BitVec.slt_eq_decide, decide_eq_true_eq, BitVec.toInt_eq_toNat_cond] at h1 h2 h3 h4
  have := a.isLt
  have := b.isLt
  simp only [BitVec.toNat_ofNat] at h1 h2 h3 h4
  omega

variable {F : FTy → Type} [FloatOps F]

theorem inRange_of_pre {ids msk : (⟨2, ![4096, 32]⟩ : Shape).Idx → BitVec 32} {tb : FVec F ⟨2, ![100000, 128]⟩ .f32}
    (h : Cert.Pre_in_range.fn (F := F) ids msk tb = fun _ => 1#1) : InRange ids msk :=
  ⟨fun i => (word_range (congrFun h i)).1, fun i => (word_range (congrFun h i)).2⟩

instance : Subsingleton Cert.Pre_in_range_finite.S_.Idx := ⟨fun a b => funext fun i => i.elim0⟩

theorem inRange_of_pre_finite {ids msk : (⟨2, ![4096, 32]⟩ : Shape).Idx → BitVec 32} {tb : FVec F ⟨2, ![100000, 128]⟩ .f32}
    (h : Cert.Pre_in_range_finite.fn (F := F) ids msk tb = fun _ => 1#1) : InRange ids msk := by
  have h0 := (andi_one (congrFun h ix0)).1
  have hw := fun i => Host.reduce_andi_all _ _ _ _ _ h0 i
  exact ⟨fun i => (word_range (hw i)).1, fun i => (word_range (hw i)).2⟩

/-- A float below plus infinity in absolute value is a real number. -/
theorem real_of_abs {x : Ideal .f32} (h : FloatOps.cmpf .olt (FloatOps.hostAbsf x) (FloatOps.ofBits .f32 0x7F800000#32) = 1#1) :
    ∃ r : ℝ, x = (r : EReal) := by
  have htop : (FloatOps.ofBits .f32 0x7F800000#32 : Ideal .f32) = (⊤ : EReal) := by simp [Ideal.ofBits, Ideal.ieee]
  rw [htop] at h
  have h' : max (x : EReal) (-x) < ⊤ := by
    have : BitVec.ofBool (decide (max (x : EReal) (-x) < ⊤)) = 1#1 := h
    rw [ofBool_one] at this; exact of_decide_eq_true this
  refine ⟨EReal.toReal x, (EReal.coe_toReal ?_ ?_).symm⟩
  · intro e; rw [e] at h'; simp at h'
  · intro e; rw [e] at h'; simp at h'

theorem real_of_pre_finite {ids msk : (⟨2, ![4096, 32]⟩ : Shape).Idx → BitVec 32} {tb : FVec Ideal ⟨2, ![100000, 128]⟩ .f32}
    (h : Cert.Pre_in_range_finite.fn (F := Ideal) ids msk tb = fun _ => 1#1) (i : (⟨2, ![100000, 128]⟩ : Shape).Idx) :
    ∃ r : ℝ, tb i = (r : EReal) :=
  real_of_abs (Host.reduce_andi_all _ _ _ _ _ (andi_one (congrFun h ix0)).2 i)

theorem bit_cases {b : BitVec 32} (h : b.toNat ≤ 1) : b = 0#32 ∨ b = 1#32 := by
  rcases Nat.le_one_iff_eq_zero_or_eq_one.1 h with e | e
  · exact .inl (BitVec.eq_of_toNat_eq e)
  · exact .inr (BitVec.eq_of_toNat_eq e)

/-- The gathered id of a tile whose ids and mask are in range is a row of the table. -/
theorem gidN_lt {ids : Ids} {msk : Msk} (hi : ∀ x, (ids x).toNat < 100000) (hm : ∀ x, (msk x).toNat ≤ 1) {n : ℕ} (hn : n < 4096) :
    (gidN ids msk n).toNat < 100000 := by
  rw [gidN, idsN, mskN, dif_pos hn, dif_pos hn]
  rcases bit_cases (hm (ix1 ⟨n, hn⟩)) with e | e
  · rw [e, BitVec.mul_zero]; decide
  · rw [e, BitVec.mul_one]; exact hi _

end Cert.Proof.Pool

end
-- ==== Proof.PoolIdeal.lean ====
/-
  A tile's result over the extended reals: for real table entries, ids in range and mask words zero or one, the lane is
  the masked sum of the gathered entries divided by the count, or by one where the count is zero.
-/
module

public import proofs.«01_k».proof.Proof.PreFacts
public import Idealize.ShloMosaic.Lib.IdealHost
public import Mathlib.Algebra.BigOperators.Fin

@[expose] public section

noncomputable section

namespace Cert.Proof.Pool

open Idealize.ShloMosaic Idealize.ShloMosaic.ValueIdx

theorem ofBits_thirtytwo : (FloatOps.ofBits .f32 0x42000000#32 : Ideal .f32) = ((32 : ℝ) : EReal) := by
  show Ideal.ofBits .f32 0x42000000#32 = _
  simp [Ideal.ofBits, Ideal.ieee, -EReal.coe_mul]; norm_num

theorem ofBits_one : (FloatOps.ofBits .f32 0x3F800000#32 : Ideal .f32) = ((1 : ℝ) : EReal) := by
  show Ideal.ofBits .f32 0x3F800000#32 = _
  simp [Ideal.ofBits, Ideal.ieee, -EReal.coe_mul]; norm_num

theorem ofBits_zero : (FloatOps.ofBits .f32 0x00000000#32 : Ideal .f32) = ((0 : ℝ) : EReal) := by
  show Ideal.ofBits .f32 0x00000000#32 = _
  simp [Ideal.ofBits, Ideal.ieee]

/-- The left-to-right sum of real terms is their real sum. -/
theorem sumTo_real {f : ℕ → Ideal .f32} {r : ℕ → ℝ} :
    ∀ n : ℕ, (∀ k, k < n → f k = ((r k : ℝ) : EReal)) → sumTo f n = ((∑ k ∈ Finset.range n, r k : ℝ) : EReal)
  | 0, _ => by rw [sumTo, ofBits_zero, Finset.sum_range_zero]
  | n + 1, h => by
    rw [sumTo, sumTo_real n fun k hk => h k (by omega), h n (by omega), Finset.sum_range_succ, EReal.coe_add]
    rfl

/-- The count word holds the number of ones. -/
theorem cntN_toNat {msk : Msk} (hm : ∀ x, (msk x).toNat ≤ 1) (g : ℕ) :
    ∀ n : ℕ, n ≤ 32 → (cntN msk g n).toNat = ∑ k ∈ Finset.range n, (mskN msk (32 * g + k)).toNat ∧ (cntN msk g n).toNat ≤ n
  | 0, _ => by simp [cntN]
  | n + 1, h => by
    obtain ⟨e, hle⟩ := cntN_toNat hm g n (by omega)
    have h1 : (mskN msk (32 * g + n)).toNat ≤ 1 := by
      unfold mskN; split
      · exact hm _
      · simp
    have hs : (cntN msk g (n + 1)).toNat = (cntN msk g n).toNat + (mskN msk (32 * g + n)).toNat := by
      rw [cntN, BitVec.toNat_add]; omega
    exact ⟨by rw [hs, Finset.sum_range_succ, e], by omega⟩

theorem cntF_real {msk : Msk} (hm : ∀ x, (msk x).toNat ≤ 1) (g : ℕ) :
    (cntF msk g : Ideal .f32) = ((∑ k ∈ Finset.range 32, ((mskN msk (32 * g + k)).toNat : ℝ) : ℝ) : EReal) := by
  obtain ⟨e, hle⟩ := cntN_toNat hm g 32 le_rfl
  have hi : (cntN msk g 32).toInt = ((cntN msk g 32).toNat : ℤ) := by
    rw [BitVec.toInt_eq_toNat_cond, if_pos (by omega)]
  show (((cntN msk g 32).toInt : ℝ) : EReal) = _
  rw [hi, e]
  push_cast
  rfl

/-- A mean in real numbers: taking row 0's entry out once for each word of the mask that is zero leaves the masked sum. -/
theorem masked_sum (a m : ℕ → ℝ) (z : ℝ) (n : ℕ) :
    (∑ k ∈ Finset.range n, (a k * m k + (1 - m k) * z)) - ((n : ℝ) - ∑ k ∈ Finset.range n, m k) * z
      = ∑ k ∈ Finset.range n, a k * m k := by
  rw [Finset.sum_add_distrib, ← Finset.sum_mul, Finset.sum_sub_distrib]
  simp

/-- Lane `h` of batch row `g`'s result, for a table whose lane `h` is real. -/
theorem outN_real {tbl : (⟨2, ![100000, 128]⟩ : Shape).Idx → Ideal .f32} {ids : Ids} {msk : Msk} {g h : ℕ} {R : ℕ → ℝ} (hg : g < 128)
    (hi : ∀ x, (ids x).toNat < 100000) (hm : ∀ x, (msk x).toNat ≤ 1) (hR : ∀ r, r < 100000 → tblN tbl r h = ((R r : ℝ) : EReal)) :
    outN tbl ids msk g h
      = Ideal.div ((∑ k ∈ Finset.range 32, R (idsN ids (32 * g + k)).toNat * ((mskN msk (32 * g + k)).toNat : ℝ) : ℝ) : EReal)
          (max ((∑ k ∈ Finset.range 32, ((mskN msk (32 * g + k)).toNat : ℝ) : ℝ) : EReal) ((1 : ℝ) : EReal)) := by
  have hrow : ∀ k, k < 32 → rowN tbl ids msk (32 * g + k) h
      = ((R (idsN ids (32 * g + k)).toNat * ((mskN msk (32 * g + k)).toNat : ℝ) + (1 - ((mskN msk (32 * g + k)).toNat : ℝ)) * R 0 : ℝ) : EReal) := by
    intro k hk
    have hn : 32 * g + k < 4096 := by omega
    rw [rowN, hR _ (gidN_lt hi hm hn), gidN]
    have h1 : (mskN msk (32 * g + k)).toNat ≤ 1 := by rw [mskN, dif_pos hn]; exact hm _
    rcases bit_cases h1 with e | e
    · rw [e, BitVec.mul_zero]; simp
    · rw [e, BitVec.mul_one]; simp
  have hmax : ∀ c : ℝ, max (c : EReal) ((1 : ℝ) : EReal) = ((max c 1 : ℝ) : EReal) := fun c => by
    rcases le_total c 1 with h | h
    · rw [max_eq_right h, max_eq_right (EReal.coe_le_coe_iff.2 h)]
    · rw [max_eq_left h, max_eq_left (EReal.coe_le_coe_iff.2 h)]
  unfold outN
  rw [sumTo_real 32 hrow, cntF_real hm g, hR 0 (by omega), ofBits_thirtytwo, ofBits_one]
  simp only [Ideal.mulf_def, Ideal.subf_def, Ideal.divf_def, Ideal.maximumf_def]
  rw [hmax, ← EReal.coe_sub, ← EReal.coe_mul, ← EReal.coe_sub]
  have hs := masked_sum (fun k => R (idsN ids (32 * g + k)).toNat) (fun k => ((mskN msk (32 * g + k)).toNat : ℝ)) (R 0) 32
  rw [Nat.cast_ofNat] at hs
  rw [hs]
  have hne : ∀ c : ℝ, ((max c 1 : ℝ) : EReal) ≠ 0 := fun c => by
    have : (0 : ℝ) < max c 1 := lt_of_lt_of_le one_pos (le_max_right _ _)
    exact_mod_cast this.ne'
  rw [Ideal.div, Ideal.div, if_neg (hne _), if_neg (hne _), EReal.coe_one, one_mul]

end Cert.Proof.Pool

end
-- ==== Proof.RefValue.lean ====
/-
  The reference's result, read at one batch row and lane: the masked sum of the table's rows at the ids, divided by the
  count of the mask or by one where it is zero.
-/
module

public import proofs.«01_k».proof.Proof.Gen.ReferenceIdeal
public import proofs.«01_k».proof.Proof.PreFacts
public import Idealize.ShloMosaic.Lib.Pointwise
public import Idealize.ShloMosaic.Lib.ReduceAll

@[expose] public section

noncomputable section

namespace Cert.Proof.Pool

open Idealize.ShloMosaic Cert.ReferenceIdeal Cert.ReferenceIdeal.Gen

/-- The dimension numbers of a gather of whole rows at a rectangle of row numbers. -/
abbrev rowsDims {N H R C : Nat} (wf : GatherDims.WF ⟨2, ![N, H]⟩ ⟨3, ![R, C, 1]⟩ ⟨3, ![R, C, H]⟩ [2] [0] [] [0] [] 2 ![1, H]) :
    GatherDims ⟨2, ![N, H]⟩ ⟨3, ![R, C, 1]⟩ ⟨3, ![R, C, H]⟩ where
  offsetDims := [2]
  collapsedSliceDims := [0]
  operandBatchingDims := []
  startIndicesBatchingDims := []
  startIndexMap := [0]
  indexVectorDim := 2
  sliceSizes := ![1, H]
  wf := wf

/-- The rows of a table gathered at a rectangle of row numbers: entry `(r, c, y)` is lane `y` of the row that the word at `(r, c)` names. -/
theorem gather_rows {α : Type} {N H R C : Nat} (wf : GatherDims.WF ⟨2, ![N, H]⟩ ⟨3, ![R, C, 1]⟩ ⟨3, ![R, C, H]⟩ [2] [0] [] [0] [] 2 ![1, H])
    (x : (⟨2, ![N, H]⟩ : Shape).Idx → α) (idx : IVec ⟨3, ![R, C, 1]⟩ 32) (r : Fin R) (c : Fin C) (y : Fin H) (b : Fin N)
    (hb : (idx (ix3 r c (0 : Fin 1))).toInt = (b.val : ℤ)) :
    Host.gather (rowsDims wf) x idx (ix3 r c y) = x (ix2 b y) := by
  unfold Host.gather
  refine congrArg x (funext fun a => Fin.ext ?_)
  generalize hd : rowsDims wf = d
  have hbat : d.batchCoord (ix3 r c y) a = 0 := d.batchCoord_eq_zero _ _ (by subst hd; exact List.not_mem_nil)
  show d.start (ix3 r c y) idx a + d.batchCoord (ix3 r c y) a + d.offCoord (ix3 r c y) a = _
  rw [hbat]
  match a with
  | ⟨0, _⟩ =>
    have hm : (0 : Fin 2) ∈ d.startIndexMap := by subst hd; exact List.mem_singleton.2 rfl
    have hk : (0 : Fin 2) ∉ d.sKept := fun h => ((d.mem_sKept 0).1 h).1 (by subst hd; exact List.mem_singleton.2 rfl)
    show d.start (ix3 r c y) idx 0 + 0 + d.offCoord (ix3 r c y) 0 = b.val
    rw [d.offCoord_eq_zero _ _ hk]
    unfold GatherDims.start
    rw [dif_pos hm]
    have hsi : d.siIdx (ix3 r c y) ⟨d.startIndexMap.idxOf 0, List.idxOf_lt_length_iff.2 hm⟩ = ix3 r c (0 : Fin 1) := by
      subst hd
      funext b'
      refine Fin.ext ?_
      match b' with
      | ⟨0, _⟩ => rfl
      | ⟨1, _⟩ => rfl
      | ⟨2, _⟩ => rfl
    rw [hsi, hb]
    have hsl : d.sliceSizes 0 = 1 := by subst hd; rfl
    rw [hsl]
    have := b.isLt
    show min ((b.val : ℤ)).toNat (N - 1) + 0 + 0 = b.val
    omega
  | ⟨1, _⟩ =>
    have hm : (1 : Fin 2) ∉ d.startIndexMap := by subst hd; show (1 : Fin 2) ∉ [(0 : Fin 2)]; decide
    have hk : (1 : Fin 2) ∈ d.sKept := (d.mem_sKept 1).2 ⟨by subst hd; show (1 : Fin 2) ∉ [(0 : Fin 2)]; decide, by subst hd; exact List.not_mem_nil⟩
    show d.start (ix3 r c y) idx 1 + 0 + d.offCoord (ix3 r c y) 1 = y.val
    unfold GatherDims.start GatherDims.offCoord
    rw [dif_neg hm, dif_pos hk]
    subst hd
    simp only [Nat.zero_add]
    rfl

section Value

variable (ids msk : IVec S4096x32 32)

/-- The row numbers the reference gathers: a negative id counts from the table's end. -/
def idxR : IVec S4096x32x1 32 :=
  broadcastInDim S4096x32x1 ![0, 1] bcast_S4096x32_S4096x32x1_0_1
    (select (cmpi .slt ids (broadcastInDim S4096x32 ![] bcast_S_S4096x32 (constantI S_ 32 0#32)))
      (addi ids (broadcastInDim S4096x32 ![] bcast_S_S4096x32 (constantI S_ 32 100000#32))) ids)

/-- The bit per word that says its row number is in the table. -/
def okR : IVec S4096x32 1 :=
  Host.reduce IntOp.andi
    (andi (cmpi .sge (idxR ids) (broadcastInDim S4096x32x1 ![] bcast_S_S4096x32x1 (constantI S_ 32 0#32)))
      (cmpi .sle (idxR ids)
        (broadcastInDim S4096x32x1 ![0, 1, 2] bcast_S1x1x1_S4096x32x1_0_1_2 (broadcastInDim S1x1x1 ![2] bcast_S1_S1x1x1_2 (constantI S1 32 99999#32)))))
    (constantI S_ 1 1#1) reducesTo_S4096x32x1_S4096x32_d2 h_S_

variable {F : FTy → Type} [FloatOps F]

/-- The mask as floats. -/
def mskR : FVec F S4096x32x1 .f32 := sitofp .f32 (broadcastInDim S4096x32x1 ![0, 1] bcast_S4096x32_S4096x32x1_0_1 msk)

/-- The gathered rows, with the fill value where a row number is out of the table. -/
def takeR (tb : FVec F S100000x128 .f32) : FVec F S4096x32x128 .f32 :=
  select (broadcastInDim S4096x32x128 ![0, 1] bcast_S4096x32_S4096x32x128_0_1 (okR ids))
    (Host.gather gather_S100000x128_S4096x32x1_S4096x32x128_2_0_n_n_0_2_1128 tb (idxR ids))
    (broadcastInDim S4096x32x128 ![] bcast_S_S4096x32x128 (constant S_ .f32 0x7FC00000#32))

/-- The reference's result. -/
def refR (tb : FVec F S100000x128 .f32) : FVec F S4096x128 .f32 :=
  Host.divf
    (Host.reduceAdd (mulf (takeR ids tb) (broadcastInDim S4096x32x128 ![0, 1, 2] bcast_S4096x32x1_S4096x32x128_0_1_2 (mskR msk)))
      (constant S_ .f32 0x00000000#32) reducesTo_S4096x32x128_S4096x128_d1 h_S_)
    (broadcastInDim S4096x128 ![0, 1] bcast_S4096x1_S4096x128_0_1
      (maximumf (Host.reduceAdd (mskR msk) (constant S_ .f32 0x00000000#32) reducesTo_S4096x32x1_S4096x1_d1 h_S_)
        (broadcastInDim S4096x1 ![] bcast_S_S4096x1 (constant S_ .f32 0x3F800000#32))))

variable {ids msk}

theorem toInt_of_lt {a : BitVec 32} (h : a.toNat < 100000) : a.toInt = (a.toNat : ℤ) := by
  rw [BitVec.toInt_eq_toNat_cond, if_pos (by omega)]

theorem idxR_apply (hi : ∀ i, (ids i).toNat < 100000) (x : S4096x32x1.Idx) : idxR ids x = ids (ix2 (x 0) (x 1)) := by
  unfold idxR
  pointwise
  have h : IntOp.cmpi .slt (ids (ix2 (x 0) (x 1))) 0#32 = 0#1 := by
    simp only [IntOp.cmpi, BitVec.slt_eq_decide, toInt_of_lt (hi _)]
    rw [decide_eq_false (by simp)]
    rfl
  rw [h]
  rfl

theorem okR_apply (hi : ∀ i, (ids i).toNat < 100000) (j : S4096x32.Idx) : okR ids j = 1#1 := by
  refine Host.reduce_andi_one _ _ _ _ j rfl fun x => ?_
  pointwise
  rw [idxR_apply hi]
  have h := hi (ix2 (x 0) (x 1))
  have h1 : IntOp.cmpi .sge (ids (ix2 (x 0) (x 1))) 0#32 = 1#1 := IntOp.cmpi_sge.2 (by rw [toInt_of_lt h]; simp)
  have h2 : IntOp.cmpi .sle (ids (ix2 (x 0) (x 1))) 99999#32 = 1#1 := by
    simp only [IntOp.cmpi, BitVec.sle_eq_decide, toInt_of_lt h]
    rw [decide_eq_true (by rw [toInt_of_lt (by decide)]; simp; omega)]
    rfl
  rw [h1, h2]
  rfl

theorem takeR_apply (hi : ∀ i, (ids i).toNat < 100000) (tb : FVec F S100000x128 .f32) (r : Fin 4096) (c : Fin 32) (y : Fin 128) :
    takeR ids tb (ix3 r c y) = tb (ix2 (⟨(ids (ix2 r c)).toNat, hi _⟩ : Fin 100000) y) := by
  unfold takeR
  pointwise
  rw [okR_apply hi]
  exact gather_rows _ tb (idxR ids) r c y ⟨(ids (ix2 r c)).toNat, hi _⟩ (by rw [idxR_apply hi]; exact toInt_of_lt (hi _))

theorem refR_apply (hi : ∀ i, (ids i).toNat < 100000) (tb : FVec Ideal S100000x128 .f32) (r : Fin 4096) (y : Fin 128) :
    refR ids msk tb (ix2 r y)
      = Ideal.div (∑ k : Fin 32, tb (ix2 (⟨(ids (ix2 r k)).toNat, hi _⟩ : Fin 100000) y) * (((msk (ix2 r k)).toInt : ℝ) : EReal))
          (max (∑ k : Fin 32, (((msk (ix2 r k)).toInt : ℝ) : EReal)) 1) := by
  unfold refR mskR
  pointwise [takeR_apply hi]
  rfl

end Value

end Cert.Proof.Pool

end
-- ==== Proof.PoolValue.lean ====
/-
  The kernel's result is the reference's, over the extended reals: a tile's words are the words of its 128 batch rows in
  order, and there the two results are the same quotient of the same real sums.
-/
module

public import proofs.«01_k».proof.Proof.PoolIdeal
public import proofs.«01_k».proof.Proof.RefValue
public import Idealize.ShloMosaic.Lib.Pointwise.IndexBridge

@[expose] public section

noncomputable section

namespace Cert.Proof.Pool

open Idealize.ShloMosaic

variable {ids msk : (⟨2, ![4096, 32]⟩ : Shape).Idx → BitVec 32}

/-- The ids of tile `w`, out of the ids laid out as 32 rectangles of 32 rows of 128. -/
def tileIds (h : (⟨2, ![4096, 32]⟩ : Shape).ShapeCasts ⟨3, ![32, 32, 128]⟩) (ids : (⟨2, ![4096, 32]⟩ : Shape).Idx → BitVec 32) (w : Fin 32) : Ids :=
  fun x => shapeCast ⟨3, ![32, 32, 128]⟩ ids h (ValueIdx.ix3 w (x 0) (x 1))

/-- The mask words of tile `w`, out of the mask laid out as 32 rows of 4096. -/
def tileMsk (h : (⟨2, ![4096, 32]⟩ : Shape).ShapeCasts ⟨2, ![32, 4096]⟩) (msk : (⟨2, ![4096, 32]⟩ : Shape).Idx → BitVec 32) (w : Fin 32) : Msk :=
  fun x => shapeCast ⟨2, ![32, 4096]⟩ msk h (ValueIdx.ix2 w (x 0))

theorem tileIds_word (h : (⟨2, ![4096, 32]⟩ : Shape).ShapeCasts ⟨3, ![32, 32, 128]⟩) (w : Fin 32) {g k : ℕ} (hg : g < 128) (hk : k < 32) :
    idsN (tileIds h ids w) (32 * g + k) = ids (ix2 (⟨128 * w.val + g, by omega⟩ : Fin 4096) (⟨k, hk⟩ : Fin 32)) := by
  rw [idsN, dif_pos (by omega), tileIds, ← ix3_eq_valueIdx]
  refine congrArg ids (Shape.reshapeEquiv_eq_of_rowMajor _ ?_)
  rw [Shape.rowMajor_val_two, Shape.rowMajor_val_three]
  show (128 * w.val + g) * 32 + k = (w.val * 32 + (32 * g + k) / 128) * 128 + (32 * g + k) % 128
  omega

theorem tileMsk_word (h : (⟨2, ![4096, 32]⟩ : Shape).ShapeCasts ⟨2, ![32, 4096]⟩) (w : Fin 32) {g k : ℕ} (hg : g < 128) (hk : k < 32) :
    mskN (tileMsk h msk w) (32 * g + k) = msk (ix2 (⟨128 * w.val + g, by omega⟩ : Fin 4096) (⟨k, hk⟩ : Fin 32)) := by
  rw [mskN, dif_pos (by omega), tileMsk, ← ix2_eq_valueIdx]
  refine congrArg msk (Shape.reshapeEquiv_eq_of_rowMajor _ ?_)
  rw [Shape.rowMajor_val_two, Shape.rowMajor_val_two]
  show (128 * w.val + g) * 32 + k = w.val * 4096 + (32 * g + k)
  omega

theorem msk_toInt (hr : InRange ids msk) (i : (⟨2, ![4096, 32]⟩ : Shape).Idx) : (msk i).toInt = ((msk i).toNat : ℤ) :=
  toInt_of_lt (by have := hr.msk_le i; omega)

theorem coe_sum (n : ℕ) (f : ℕ → ℝ) (g : Fin n → EReal) (h : ∀ k : Fin n, g k = ((f k.val : ℝ) : EReal)) :
    ((∑ k ∈ Finset.range n, f k : ℝ) : EReal) = ∑ k : Fin n, g k := by
  rw [Finset.sum_range, show g = fun k => ((f k.val : ℝ) : EReal) from funext h]
  exact map_sum (⟨⟨Real.toEReal, EReal.coe_zero⟩, EReal.coe_add⟩ : ℝ →+ EReal) _ _

/-- Batch row `128 w + g`, lane `y`: tile `w`'s result there is the reference's. -/
theorem outN_eq_ref (h₁ : (⟨2, ![4096, 32]⟩ : Shape).ShapeCasts ⟨3, ![32, 32, 128]⟩) (h₂ : (⟨2, ![4096, 32]⟩ : Shape).ShapeCasts ⟨2, ![32, 4096]⟩)
    (hr : InRange ids msk) {tb : (⟨2, ![100000, 128]⟩ : Shape).Idx → Ideal .f32} (ht : ∀ i, ∃ r : ℝ, tb i = (r : EReal)) (w : Fin 32) {g : ℕ}
    (hg : g < 128) (y : Fin 128) :
    outN tb (tileIds h₁ ids w) (tileMsk h₂ msk w) g y.val = refR ids msk tb (ix2 (⟨128 * w.val + g, by omega⟩ : Fin 4096) y) := by
  choose T hT using ht
  have hR : ∀ r, r < 100000 → tblN tb r y.val
      = (((if hh : r < 100000 then T (ix2 (⟨r, hh⟩ : Fin 100000) y) else 0 : ℝ) : ℝ) : EReal) := fun r hlt => by
    rw [tblN, dif_pos ⟨hlt, y.isLt⟩, dif_pos hlt, ← hT, ix2_eq_valueIdx]
  rw [outN_real (ids := tileIds h₁ ids w) (msk := tileMsk h₂ msk w) hg (fun _ => hr.ids_lt _) (fun _ => hr.msk_le _) hR, refR_apply hr.ids_lt]
  refine congrArg₂ Ideal.div (coe_sum 32 _ _ fun k => ?_) (congrArg₂ max (coe_sum 32 _ _ fun k => ?_) EReal.coe_one)
  · rw [tileIds_word h₁ w hg k.isLt, tileMsk_word h₂ w hg k.isLt, dif_pos (hr.ids_lt _), EReal.coe_mul, ← hT, msk_toInt hr]
    rfl
  · rw [tileMsk_word h₂ w hg k.isLt, msk_toInt hr]
    rfl

end Cert.Proof.Pool

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Run
public import proofs.«01_k».proof.Proof.IdealRun
public import proofs.«01_k».proof.Proof.PreFacts
public import proofs.«01_k».proof.Proof.PoolValue
public import Idealize.ShloMosaic.Adequacy
public import Idealize.ShloMosaic.Init

@[expose] public section

noncomputable section

namespace Cert.Proof

open Idealize.ShloMosaic Idealize.SL.Sem Cert.Proof.Pool

attribute [local instance] Cert.Kernel.Gen.facts Cert.KernelIdeal.Gen.facts Cert.ReferenceIdeal.Gen.facts Cert.Pre_in_range.Gen.facts
  Cert.Pre_in_range_finite.Gen.facts

/-- In-range ids and mask words of the kernel's arguments give in-range gathers in every tile. -/
theorem pre_kernel {F : FTy → Type} [FloatOps F] (m : (ℓ : Loc Cert.Kernel.nD Cert.Kernel.τ Cert.Kernel.sig) → Buf (Elt F) ℓ)
    (h : ∀ c, InRange (m (KernelTile.idLoc c)) (m (KernelTile.mkLoc c))) : KernelTile.PreOK m :=
  fun d w n hn => gidN_lt (fun _ => (h d).ids_lt _) (fun _ => (h d).msk_le _) hn

theorem pre_kernelIdeal {F : FTy → Type} [FloatOps F] (m : (ℓ : Loc Cert.KernelIdeal.nD Cert.KernelIdeal.τ Cert.KernelIdeal.sig) → Buf (Elt F) ℓ)
    (h : ∀ c, InRange (m (KernelIdealTile.idLoc c)) (m (KernelIdealTile.mkLoc c))) : KernelIdealTile.PreOK m :=
  fun d w n hn => gidN_lt (fun _ => (h d).ids_lt _) (fun _ => (h d).msk_le _) hn

theorem frame_kernel : Cert.quiescent_Kernel := fun m g hp =>
  (θ_run Cert.Kernel.defs _ _).mono (fun _ h => ⟨fun c => ⟨(h.1 c).1, (h.1 c).2.1, (h.1 c).2.2.1⟩, h.2⟩)
    (KernelTile.run_main m g (pre_kernel m fun c => inRange_of_pre (hp c)))

theorem frame_kernelIdeal : Cert.quiescent_KernelIdeal := fun m g hp =>
  (θ_run Cert.KernelIdeal.defs _ _).mono (fun _ h => ⟨fun c => ⟨(h.1 c).1, (h.1 c).2.1, (h.1 c).2.2.1⟩, h.2⟩)
    (KernelIdealTile.run_main m g (pre_kernelIdeal m fun c => inRange_of_pre (hp c)))

theorem frame_kernelIdeal_finite : Cert.quiescent_KernelIdeal_pre_in_range_finite := fun m g hp =>
  (θ_run Cert.KernelIdeal.defs _ _).mono (fun _ h => ⟨fun c => ⟨(h.1 c).1, (h.1 c).2.1, (h.1 c).2.2.1⟩, h.2⟩)
    (KernelIdealTile.run_main m g (pre_kernelIdeal m fun c => inRange_of_pre_finite (hp c)))

/-- The reference's run leaves its arguments and, declaring no semaphore, every counter at zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem frame_reference_finite : Cert.quiescent_ReferenceIdeal_pre_in_range_finite := fun m g _ => frame_reference m g trivial

/-- The kernel's result array is the reference's. -/
theorem value_eq (m : (ℓ : Loc Cert.KernelIdeal.nD Cert.KernelIdeal.τ Cert.KernelIdeal.sig) → Buf (Elt Ideal) ℓ)
    (hp : Cert.Pre_KernelIdeal_in_range_finite m) (c : Dev Cert.KernelIdeal.nD) :
    KernelIdealTile.resV m c = refR (m (KernelIdealTile.idLoc c)) (m (KernelIdealTile.mkLoc c)) (m (KernelIdealTile.tbLoc c)) := by
  funext x
  have h0 : (x 0).val < 4096 := (x 0).isLt
  have hw : (Fin.ofNat 32 ((x 0).val / 128)).val = (x 0).val / 128 := Nat.mod_eq_of_lt (by omega)
  have hx : x = ix2 (⟨128 * (Fin.ofNat 32 ((x 0).val / 128)).val + (x 0).val % 128, by rw [hw]; omega⟩ : Fin 4096) (x 1 : Fin 128) := by
    refine (eq_ix2 x).trans (congrArg₂ ix2 (Fin.ext ?_) rfl)
    show (x 0).val = 128 * (Fin.ofNat 32 ((x 0).val / 128)).val + (x 0).val % 128
    rw [hw]; omega
  refine (outN_eq_ref _ _ (inRange_of_pre_finite (hp c)) (real_of_pre_finite (hp c)) (Fin.ofNat 32 ((x 0).val / 128))
    (Nat.mod_lt (x 0).val (by decide : 0 < 128)) (x 1)).trans ?_
  exact congrArg (refR (F := Ideal) (m (KernelIdealTile.idLoc c)) (m (KernelIdealTile.mkLoc c)) (m (KernelIdealTile.tbLoc c))) hx.symm

/-- The reference's run, its result named. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => ∀ c : Dev Cert.ReferenceIdeal.nD,
        r.2.mem ((c.tc : Thread Cert.ReferenceIdeal.nD Cert.ReferenceIdeal.τ).loc Cert.ReferenceIdeal.main_v10)
            = refR (F := Ideal) (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2) :=
  Cert.ReferenceIdeal.Value.run m g

theorem ref_congr {ids ids' msk msk' : IVec Cert.ReferenceIdeal.S4096x32 32} {tb tb' : FVec Ideal Cert.ReferenceIdeal.S100000x128 .f32}
    (h0 : ids' = ids) (h1 : msk' = msk) (h2 : tb' = tb) : refR ids' msk' tb' = refR ids msk tb := by
  rw [h0, h1, h2]

theorem algebraic : Cert.algebraic_KernelIdeal_ReferenceIdeal_pre_in_range_finite := fun m g m' g' hp hm =>
  ⟨fun c => KernelIdealTile.resV m c,
    (θ_run Cert.KernelIdeal.defs _ _).mono (fun _ h c => ⟨(h.1 c).2.2.2, (h.1 c).1, (h.1 c).2.1, (h.1 c).2.2.1⟩)
      (KernelIdealTile.run_main m g (pre_kernelIdeal m fun c => inRange_of_pre_finite (hp c))),
    (θ_run Cert.ReferenceIdeal.defs _ _).mono (fun _ h c => ⟨(h c).1.trans ((ref_congr (hm c).1 (hm c).2.1 (hm c).2.2).trans (value_eq m hp c).symm), (h c).2⟩)
      (reference_run m' g')⟩

theorem claim : Cert.Claim := ⟨Cert.Kernel.Gen.facts, Cert.KernelIdeal.Gen.facts, Cert.ReferenceIdeal.Gen.facts, Cert.Pre_in_range.Gen.facts,
  Cert.Pre_in_range_finite.Gen.facts, frame_kernel, frame_kernelIdeal, frame_kernelIdeal_finite, frame_reference, frame_reference_finite,
  trivial, algebraic⟩

end Cert.Proof

end
